-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v54_0)) (v1 : (c : Dev Cert.Kernel3Ideal.nD) → Buf (Elt Ideal) ((c.tc : Thread Cert.Kernel3Ideal.nD Cert.Kernel3Ideal.τ).loc Cert.Kernel3Ideal.main_v54_1)) (v2 : (c : Dev Cert.Kernel3Ideal.nD) → Buf (Elt Ideal) ((c.tc : Thread Cert.Kernel3Ideal.nD Cert.Kernel3Ideal.τ).loc Cert.Kernel3Ideal.main_v59)) (v3 : (c : Dev Cert.Kernel3Ideal.nD) → Buf (Elt Ideal) ((c.tc : Thread Cert.Kernel3Ideal.nD Cert.Kernel3Ideal.τ).loc Cert.Kernel3Ideal.main_v54_4)) (v4 : (c : Dev Cert.Kernel3Ideal.nD) → Buf (Elt Ideal) ((c.tc : Thread Cert.Kernel3Ideal.nD Cert.Kernel3Ideal.τ).loc Cert.Kernel3Ideal.main_v54_5)) (v5 : (c : Dev Cert.Kernel3Ideal.nD) → Buf (Elt Ideal) ((c.tc : Thread Cert.Kernel3Ideal.nD Cert.Kernel3Ideal.τ).loc Cert.Kernel3Ideal.main_v60)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_0) = v0 c
          ∧ r.2.mem ((c.tc : Thread Cert.Kernel3Ideal.nD Cert.Kernel3Ideal.τ).loc Cert.Kernel3Ideal.main_v54_1) = v1 c
          ∧ r.2.mem ((c.tc : Thread Cert.Kernel3Ideal.nD Cert.Kernel3Ideal.τ).loc Cert.Kernel3Ideal.main_v59) = v2 c
          ∧ r.2.mem ((c.tc : Thread Cert.Kernel3Ideal.nD Cert.Kernel3Ideal.τ).loc Cert.Kernel3Ideal.main_v54_4) = v3 c
          ∧ r.2.mem ((c.tc : Thread Cert.Kernel3Ideal.nD Cert.Kernel3Ideal.τ).loc Cert.Kernel3Ideal.main_v54_5) = v4 c
          ∧ r.2.mem ((c.tc : Thread Cert.Kernel3Ideal.nD Cert.Kernel3Ideal.τ).loc Cert.Kernel3Ideal.main_v60) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v176) = v0 c
          ∧ r.2.mem ((c.tc : Thread Cert.Reference3Ideal.nD Cert.Reference3Ideal.τ).loc Cert.Reference3Ideal.main_v178) = v1 c
          ∧ r.2.mem ((c.tc : Thread Cert.Reference3Ideal.nD Cert.Reference3Ideal.τ).loc Cert.Reference3Ideal.main_v180) = v2 c
          ∧ r.2.mem ((c.tc : Thread Cert.Reference3Ideal.nD Cert.Reference3Ideal.τ).loc Cert.Reference3Ideal.main_v182) = v3 c
          ∧ r.2.mem ((c.tc : Thread Cert.Reference3Ideal.nD Cert.Reference3Ideal.τ).loc Cert.Reference3Ideal.main_v184) = v4 c
          ∧ r.2.mem ((c.tc : Thread Cert.Reference3Ideal.nD Cert.Reference3Ideal.τ).loc Cert.Reference3Ideal.main_v186) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1x64 : Shape := ⟨2, ![1, 64]⟩
abbrev S8x8192x8x64 : Shape := ⟨4, ![8, 8192, 8, 64]⟩
abbrev S8x8192x2x64 : Shape := ⟨4, ![8, 8192, 2, 64]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S8x8192x2x64 : S_.BroadcastsInDim S8x8192x2x64 (![] : Fin 0 → Fin S8x8192x2x64.rank)
  reducesTo_S8x8192x2x64_S_d0_1_2_3 : S8x8192x2x64.ReducesTo [0, 1, 2, 3] S_

variable [Facts]

def fn {F : FTy → Type} [FloatOps F] (main_arg0 : FVec F S1x64 .f32) (main_arg1 : FVec F S1x64 .f32) (main_arg2 : FVec F S8x8192x8x64 .f32) (main_arg3 : FVec F S8x8192x2x64 .f32) (main_arg4 : FVec F S8x8192x2x64 .f32) : IVec S_ 1 :=
  let main_v0 : FVec F S8x8192x8x64 .f32 := Host.absf main_arg2
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S8x8192x2x64 .f32 := Host.absf main_arg3
  let main_cst_0 : FVec F S_ .f32 := constant S_ .f32 0x7F800000#32
  let main_v5 : FVec F S8x8192x2x64 .f32 := broadcastInDim S8x8192x2x64 ![] bcast_S_S8x8192x2x64 main_cst_0
  let main_v6 : IVec S8x8192x2x64 1 := cmpf .olt main_v4 main_v5
  let main_c_1 : IVec S_ 1 := constantI S_ 1 1#1
  let main_v7 : IVec S_ 1 := (fun x v => Host.reduce IntOp.andi x v reducesTo_S8x8192x2x64_S_d0_1_2_3 h_S_) main_v6 main_c_1
  let main_v8 : IVec S_ 1 := andi main_v3 main_v7
  main_v8
-- ==== Kernel.lean ====
abbrev S1x64 : Shape := ⟨2, ![1, 64]⟩
abbrev S8x8192x8x64 : Shape := ⟨4, ![8, 8192, 8, 64]⟩
abbrev S8x8192x2x64 : Shape := ⟨4, ![8, 8192, 2, 64]⟩
abbrev S_ : Shape := ⟨0, ![]⟩
abbrev S8x8192x512 : Shape := ⟨3, ![8, 8192, 512]⟩
abbrev S8x16x512x128 : Shape := ⟨4, ![8, 16, 512, 128]⟩
abbrev S8x16x128x512 : Shape := ⟨4, ![8, 16, 128, 512]⟩
abbrev S8x16x16x512 : Shape := ⟨4, ![8, 16, 16, 512]⟩
abbrev S8x16x64x512 : Shape := ⟨4, ![8, 16, 64, 512]⟩
abbrev S8x16x80x512 : Shape := ⟨4, ![8, 16, 80, 512]⟩
abbrev S64 : Shape := ⟨1, ![64]⟩
abbrev S1 : Shape := ⟨1, ![1]⟩
abbrev S1x512x512 : Shape := ⟨3, ![1, 512, 512]⟩
abbrev S1x16x512x128 : Shape := ⟨4, ![1, 16, 512, 128]⟩
abbrev S1x16x80x512 : Shape := ⟨4, ![1, 16, 80, 512]⟩
abbrev S2x128x2048 : Shape := ⟨3, ![2, 128, 2048]⟩
abbrev S2x80x2048 : Shape := ⟨3, ![2, 80, 2048]⟩
abbrev S2x8x2048 : Shape := ⟨3, ![2, 8, 2048]⟩
abbrev S64x512 : Shape := ⟨2, ![64, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x1x512x128 : Shape := ⟨4, ![1, 1, 512, 128]⟩
abbrev S1x128x2048 : Shape := ⟨3, ![1, 128, 2048]⟩
abbrev S128x2048 : Shape := ⟨2, ![128, 2048]⟩
abbrev S512x2048 : Shape := ⟨2, ![512, 2048]⟩
abbrev S1x1x80x512 : Shape := ⟨4, ![1, 1, 80, 512]⟩
abbrev S80x512 : Shape := ⟨2, ![80, 512]⟩
abbrev S80x2048 : Shape := ⟨2, ![80, 2048]⟩
abbrev S1x80x2048 : Shape := ⟨3, ![1, 80, 2048]⟩
abbrev S1x8x2048 : Shape := ⟨3, ![1, 8, 2048]⟩
abbrev S8x2048 : Shape := ⟨2, ![8, 2048]⟩
abbrev S2048 : Shape := ⟨1, ![2048]⟩
abbrev S1x2048 : Shape := ⟨2, ![1, 2048]⟩
abbrev S64x2048 : Shape := ⟨2, ![64, 2048]⟩

abbrev nBuf : Space → Nat
  | .hbm => 40
  | .vmem => 13
  | .smem => 1
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S8x8192x8x64, .f32⟩
  | .hbm, ⟨3, _⟩ => ⟨S8x8192x2x64, .f32⟩
  | .hbm, ⟨4, _⟩ => ⟨S8x8192x2x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x512, .f32⟩
  | .hbm, ⟨10, _⟩ => ⟨S8x8192x512, .f32⟩
  | .hbm, ⟨11, _⟩ => ⟨S8x8192x512, .f32⟩
  | .hbm, ⟨12, _⟩ => ⟨S8x8192x512, .bf16⟩
  | .hbm, ⟨13, _⟩ => ⟨S8x16x512x128, .f32⟩
  | .hbm, ⟨14, _⟩ => ⟨S8x16x512x128, .bf16⟩
  | .hbm, ⟨15, _⟩ => ⟨S8x16x512x128, .f32⟩
  | .hbm, ⟨16, _⟩ => ⟨S8x16x128x512, .f32⟩
  | .hbm, ⟨17, _⟩ => ⟨S_, .f32⟩
  | .hbm, ⟨18, _⟩ => ⟨S8x16x16x512, .f32⟩
  | .hbm, ⟨19, _⟩ => ⟨S8x16x64x512, .f32⟩
  | .hbm, ⟨20, _⟩ => ⟨S8x16x80x512, .f32⟩
  | .hbm, ⟨21, _⟩ => ⟨S8x16x80x512, .bf16⟩
  | .hbm, ⟨22, _⟩ => ⟨S8x16x64x512, .f32⟩
  | .hbm, ⟨23, _⟩ => ⟨S8x16x80x512, .f32⟩
  | .hbm, ⟨24, _⟩ => ⟨S8x16x80x512, .bf16⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .i32⟩
  | .hbm, ⟨39, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x16x512x128, .bf16⟩
  | .local _ .vmem, ⟨3, _⟩ => ⟨S1x16x512x128, .bf16⟩
  | .local _ .vmem, ⟨4, _⟩ => ⟨S1x16x80x512, .bf16⟩
  | .local _ .vmem, ⟨5, _⟩ => ⟨S1x16x80x512, .bf16⟩
  | .local _ .vmem, ⟨6, _⟩ => ⟨S1x16x80x512, .bf16⟩
  | .local _ .vmem, ⟨7, _⟩ => ⟨S1x16x80x512, .bf16⟩
  | .local _ .vmem, ⟨8, _⟩ => ⟨S1x512x512, .bf16⟩
  | .local _ .vmem, ⟨9, _⟩ => ⟨S1x512x512, .bf16⟩
  | .local _ .vmem, ⟨10, _⟩ => ⟨S2x128x2048, .bf16⟩
  | .local _ .vmem, ⟨11, _⟩ => ⟨S2x80x2048, .f32⟩
  | .local _ .vmem, ⟨12, _⟩ => ⟨S2x8x2048, .f32⟩
  | .local _ .smem, ⟨0, _⟩ => ⟨S1, .i32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v28 : Ref sig .tc := ⟨.hbm, 39, rfl⟩
abbrev main_v27 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v27.idx], fun | 0 => main_v27.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_54 : BitVec 32 := 0#32
  let c2_i32 : BitVec 32 := 2#32
  let v117 : BitVec 32 := Scalar.addi c0_i32_54 c2_i32
  let c1_i32_55 : BitVec 32 := 1#32
  ⟨c0_i32_54, v117, c1_i32_55⟩
def k0_off1 (k0_t1 : Fin k0_t1_loop.trips) (c0_i32_57 : BitVec 32) : Fin 4 → Nat :=
  let c0_58 : Index := 0#32
  let c0_i32_54 : BitVec 32 := 0#32
  let c1_i32_55 : BitVec 32 := 1#32
  let arg11 : BitVec 32 := Scf.iv c0_i32_54 c1_i32_55 k0_t1
  let c8_i32 : BitVec 32 := 8#32
  let v118 : BitVec 32 := Scalar.muli arg11 c8_i32
  let v119 : BitVec 32 := Scalar.addi v118 c0_i32_57
  let v120 : Index := Scalar.indexCast v119
  let c0_59 : Index := 0#32
  let c0_60 : Index := 0#32
  ![0, v120.toNat, 0, 0]
def k0_off2 (k0_t1 : Fin k0_t1_loop.trips) (c0_i32_57 : BitVec 32) : Fin 4 → Nat :=
  let c0_65 : Index := 0#32
  let c0_i32_54 : BitVec 32 := 0#32
  let c1_i32_55 : BitVec 32 := 1#32
  let arg11 : BitVec 32 := Scf.iv c0_i32_54 c1_i32_55 k0_t1
  let c8_i32 : BitVec 32 := 8#32
  let v118 : BitVec 32 := Scalar.muli arg11 c8_i32
  let v119 : BitVec 32 := Scalar.addi v118 c0_i32_57
  let v128 : Index := Scalar.indexCast v119
  let c0_66 : Index := 0#32
  let c0_67 : Index := 0#32
  ![0, v128.toNat, 0, 0]
@[reducible] def k0_t2_loop : Scf.Loop 32 :=
  let c0_i32_58 : BitVec 32 := 0#32
  let c16_i32 : BitVec 32 := 16#32
  let v121 : BitVec 32 := Scalar.addi c0_i32_58 c16_i32
  let c1_i32_59 : BitVec 32 := 1#32
  ⟨c0_i32_58, v121, c1_i32_59⟩
def k0_off3 (k0_t2 : Fin k0_t2_loop.trips) : Fin 4 → Nat :=
  let c0_61 : Index := 0#32
  let c0_i32_58 : BitVec 32 := 0#32
  let c1_i32_59 : BitVec 32 := 1#32
  let arg11 : BitVec 32 := Scf.iv c0_i32_58 c1_i32_59 k0_t2
  let v122 : Index := Scalar.indexCast arg11
  let c0_62 : Index := 0#32
  let c0_63 : Index := 0#32
  ![0, v122.toNat, 0, 0]
def k0_off4 (k0_t2 : Fin k0_t2_loop.trips) : Fin 4 → Nat :=
  let c0_75 : Index := 0#32
  let c0_i32_58 : BitVec 32 := 0#32
  let c1_i32_59 : BitVec 32 := 1#32
  let arg11 : BitVec 32 := Scf.iv c0_i32_58 c1_i32_59 k0_t2
  let v146 : Index := Scalar.indexCast arg11
  let c0_76 : Index := 0#32
  let c0_77 : Index := 0#32
  ![0, v146.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x80x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x64 : Shape := ⟨2, ![1, 64]⟩
abbrev S8x8192x8x64 : Shape := ⟨4, ![8, 8192, 8, 64]⟩
abbrev S8x8192x2x64 : Shape := ⟨4, ![8, 8192, 2, 64]⟩
abbrev S8x8192x2x4x64 : Shape := ⟨5, ![8, 8192, 2, 4, 64]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x512 : Shape := ⟨3, ![8, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S8x8192x8x64, .f32⟩
  | .hbm, ⟨3, _⟩ => ⟨S8x8192x2x64, .f32⟩
  | .hbm, ⟨4, _⟩ => ⟨S8x8192x2x64, .f32⟩
  | .hbm, ⟨5, _⟩ => ⟨S8x8192x2x4x64, .f32⟩
  | .hbm, ⟨6, _⟩ => ⟨S8x2x8192x8192x4, .f32⟩
  | .hbm, ⟨7, _⟩ => ⟨S8x2x4x8192x8192, .f32⟩
  | .hbm, ⟨8, _⟩ => ⟨S_, .f32⟩
  | .hbm, ⟨9, _⟩ => ⟨S8x2x4x8192x8192, .f32⟩
  | .hbm, ⟨10, _⟩ => ⟨S8x2x4x8192x8192, .f32⟩
  | .hbm, ⟨11, _⟩ => ⟨S_, .f32⟩
  | .hbm, ⟨12, _⟩ => ⟨S8x2x4x8192, .f32⟩
  | .hbm, ⟨13, _⟩ => ⟨S_, .f32⟩
  | .hbm, ⟨14, _⟩ => ⟨S8x2x4x8192, .f32⟩
  | .hbm, ⟨15, _⟩ => ⟨S8x2x4x8192, .f32⟩
  | .hbm, ⟨16, _⟩ => ⟨S8x2x4x8192x1, .f32⟩
  | .hbm, ⟨17, _⟩ => ⟨S8x2x4x8192x8192, .f32⟩
  | .hbm, ⟨18, _⟩ => ⟨S8x2x4x8192x8192, .f32⟩
  | .hbm, ⟨19, _⟩ => ⟨S8x2x4x8192x8192, .f32⟩
  | .hbm, ⟨20, _⟩ => ⟨S_, .f32⟩
  | .hbm, ⟨21, _⟩ => ⟨S8x2x4x8192, .f32⟩
  | .hbm, ⟨22, _⟩ => ⟨S8x2x4x8192x1, .f32⟩
  | .hbm, ⟨23, _⟩ => ⟨S8x2x4x8192x8192, .f32⟩
  | .hbm, ⟨24, _⟩ => ⟨S8x2x4x8192x8192, .f32⟩
  | .hbm, ⟨25, _⟩ => ⟨S8x2x64x4x8192, .f32⟩
  | .hbm, ⟨26, _⟩ => ⟨S8x8192x2x4x64, .f32⟩
  | .hbm, ⟨27, _⟩ => ⟨S8x8192x512, .f32⟩
  | .hbm, ⟨28, _⟩ => ⟨S8x8192x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S1x8x8192x256 : Shape := ⟨4, ![1, 8, 8192, 256]⟩
abbrev S1x128 : Shape := ⟨2, ![1, 128]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S65536x1024 : Shape := ⟨2, ![65536, 1024]⟩
abbrev S65536x512 : Shape := ⟨2, ![65536, 512]⟩
abbrev S8x8192x256 : Shape := ⟨3, ![8, 8192, 256]⟩
abbrev S65536x256 : Shape := ⟨2, ![65536, 256]⟩
abbrev S128 : Shape := ⟨1, ![128]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩

abbrev nBuf : Space → Nat
  | .hbm => 47
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S1x8x8192x256, .f32⟩
  | .hbm, ⟨6, _⟩ => ⟨S1x128, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S65536x1024, .f32⟩
  | .hbm, ⟨17, _⟩ => ⟨S65536x512, .f32⟩
  | .hbm, ⟨18, _⟩ => ⟨S65536x512, .bf16⟩
  | .hbm, ⟨19, _⟩ => ⟨S65536x512, .f32⟩
  | .hbm, ⟨20, _⟩ => ⟨S65536x512, .bf16⟩
  | .hbm, ⟨21, _⟩ => ⟨S65536x512, .f32⟩
  | .hbm, ⟨22, _⟩ => ⟨S65536x512, .bf16⟩
  | .hbm, ⟨23, _⟩ => ⟨S65536x512, .f32⟩
  | .hbm, ⟨24, _⟩ => ⟨S65536x512, .bf16⟩
  | .hbm, ⟨25, _⟩ => ⟨S8x8192x256, .f32⟩
  | .hbm, ⟨26, _⟩ => ⟨S65536x256, .f32⟩
  | .hbm, ⟨27, _⟩ => ⟨S128, .f32⟩
  | .hbm, ⟨28, _⟩ => ⟨S1x128, .f32⟩
  | .hbm, ⟨29, _⟩ => ⟨S1024x1024, .f32⟩
  | .hbm, ⟨30, _⟩ => ⟨S1024x1024, .bf16⟩
  | .hbm, ⟨31, _⟩ => ⟨S1024, .f32⟩
  | .hbm, ⟨32, _⟩ => ⟨S1x1024, .f32⟩
  | .hbm, ⟨33, _⟩ => ⟨S1024x2816, .f32⟩
  | .hbm, ⟨34, _⟩ => ⟨S1024x2816, .bf16⟩
  | .hbm, ⟨35, _⟩ => ⟨S1024x2816, .f32⟩
  | .hbm, ⟨36, _⟩ => ⟨S1024x2816, .bf16⟩
  | .hbm, ⟨37, _⟩ => ⟨S2816x1024, .f32⟩
  | .hbm, ⟨38, _⟩ => ⟨S2816x1024, .bf16⟩
  | .hbm, ⟨39, _⟩ => ⟨S1024, .f32⟩
  | .hbm, ⟨40, _⟩ => ⟨S1x1024, .f32⟩
  | .hbm, ⟨41, _⟩ => ⟨S1024x1024, .f32⟩
  | .hbm, ⟨42, _⟩ => ⟨S1024x1024, .bf16⟩
  | .hbm, ⟨43, _⟩ => ⟨S256x1024, .f32⟩
  | .hbm, ⟨44, _⟩ => ⟨S256x1024, .bf16⟩
  | .hbm, ⟨45, _⟩ => ⟨S1x1024, .f32⟩
  | .hbm, ⟨46, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S1x128, .f32⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8x8192x1024 : Shape := ⟨3, ![8, 8192, 1024]⟩
abbrev S8x8192x512 : Shape := ⟨3, ![8, 8192, 512]⟩
abbrev S1x8x8192x256 : Shape := ⟨4, ![1, 8, 8192, 256]⟩
abbrev S1x128 : Shape := ⟨2, ![1, 128]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S8x8192x4x128 : Shape := ⟨4, ![8, 8192, 4, 128]⟩
abbrev S128 : Shape := ⟨1, ![128]⟩
abbrev S_ : Shape := ⟨0, ![]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S1024x1024 : Shape := ⟨2, ![1024, 1024]⟩
abbrev S8x8192 : Shape := ⟨2, ![8, 8192]⟩
abbrev S8x8192x1 : Shape := ⟨3, ![8, 8192, 1]⟩
abbrev S1x1x1024 : Shape := ⟨3, ![1, 1, 1024]⟩
abbrev S1024x2816 : Shape := ⟨2, ![1024, 2816]⟩
abbrev S8x8192x2816 : Shape := ⟨3, ![8, 8192, 2816]⟩
abbrev S2816x1024 : Shape := ⟨2, ![2816, 1024]⟩
abbrev S8x8192x256 : Shape := ⟨3, ![8, 8192, 256]⟩
abbrev S256x1024 : Shape := ⟨2, ![256, 1024]⟩
abbrev S65536x1024 : Shape := ⟨2, ![65536, 1024]⟩

abbrev nBuf : Space → Nat
  | .hbm => 134
  | .vmem => 0
  | .smem => 0
  | _ => 0

abbrev hbmTy0_0 (i : Nat) : BufTy := match i % 128 with
  | 0 => ⟨S8x8192x1024, .f32⟩
  | 1 => ⟨S8x8192x512, .f32⟩
  | 2 => ⟨S8x8192x512, .f32⟩
  | 3 => ⟨S8x8192x512, .f32⟩
  | 4 => ⟨S8x8192x512, .f32⟩
  | 5 => ⟨S1x8x8192x256, .f32⟩
  | 6 => ⟨S1x128, .f32⟩
  | 7 => ⟨S1x1024x1024, .f32⟩
  | 8 => ⟨S1x1024, .f32⟩
  | 9 => ⟨S1x1024x2816, .f32⟩
  | 10 => ⟨S1x1024x2816, .f32⟩
  | 11 => ⟨S1x2816x1024, .f32⟩
  | 12 => ⟨S1x1024, .f32⟩
  | 13 => ⟨S1x1024x1024, .f32⟩
  | 14 => ⟨S1x256x1024, .f32⟩
  | 15 => ⟨S1024, .f32⟩
  | 16 => ⟨S8x8192x512, .f32⟩
  | 17 => ⟨S8x8192x4x128, .f32⟩
  | 18 => ⟨S128, .f32⟩
  | 19 => ⟨S8x8192x4x128, .f32⟩
  | 20 => ⟨S_, .f32⟩
  | 21 => ⟨S8x8192x4, .f32⟩
  | 22 => ⟨S8x8192x4x1, .f32⟩
  | 23 => ⟨S_, .f32⟩
  | 24 => ⟨S8x8192x4x1, .f32⟩
  | 25 => ⟨S8x8192x4x1, .f32⟩
  | 26 => ⟨S_, .f32⟩
  | 27 => ⟨S8x8192x4x1, .f32⟩
  | 28 => ⟨S8x8192x4x1, .f32⟩
  | 29 => ⟨S8x8192x4x1, .f32⟩
  | 30 => ⟨S8x8192x4x128, .f32⟩
  | 31 => ⟨S8x8192x4x128, .f32⟩
  | 32 => ⟨S1x1x1x128, .f32⟩
  | 33 => ⟨S8x8192x4x128, .f32⟩
  | 34 => ⟨S8x8192x4x128, .f32⟩
  | 35 => ⟨S8x8192x4x128, .f32⟩
  | 36 => ⟨S8x8192x4x128, .f32⟩
  | 37 => ⟨S8x8192x4x128, .f32⟩
  | 38 => ⟨S_, .f32⟩
  | 39 => ⟨S8x8192x4x128, .f32⟩
  | 40 => ⟨S8x8192x4x128, .f32⟩
  | 41 => ⟨S_, .f32⟩
  | 42 => ⟨S8x8192x4x128, .f32⟩
  | 43 => ⟨S8x8192x4x128, .f32⟩
  | 44 => ⟨S8x8192x4x128, .f32⟩
  | 45 => ⟨S8x8192x4x128, .f32⟩
  | 46 => ⟨S8x8192x512, .f32⟩
  | 47 => ⟨S8x8192x1024, .f32⟩
  | 48 => ⟨S1024x1024, .f32⟩
  | 49 => ⟨S8x8192x1024, .f32⟩
  | 50 => ⟨S8x8192x1024, .f32⟩
  | 51 => ⟨S1024, .f32⟩
  | 52 => ⟨S8x8192x1024, .f32⟩
  | 53 => ⟨S_, .f32⟩
  | 54 => ⟨S8x8192, .f32⟩
  | 55 => ⟨S8x8192x1, .f32⟩
  | 56 => ⟨S_, .f32⟩
  | 57 => ⟨S8x8192x1, .f32⟩
  | 58 => ⟨S8x8192x1, .f32⟩
  | 59 => ⟨S_, .f32⟩
  | 60 => ⟨S8x8192x1, .f32⟩
  | 61 => ⟨S8x8192x1, .f32⟩
  | 62 => ⟨S8x8192x1, .f32⟩
  | 63 => ⟨S8x8192x1024, .f32⟩
  | 64 => ⟨S8x8192x1024, .f32⟩
  | 65 => ⟨S1x1x1024, .f32⟩
  | 66 => ⟨S8x8192x1024, .f32⟩
  | 67 => ⟨S8x8192x1024, .f32⟩
  | 68 => ⟨S1024x2816, .f32⟩
  | 69 => ⟨S8x8192x2816, .f32⟩
  | 70 => ⟨S8x8192x2816, .f32⟩
  | 71 => ⟨S8x8192x2816, .f32⟩
  | 72 => ⟨S_, .f32⟩
  | 73 => ⟨S8x8192x2816, .f32⟩
  | 74 => ⟨S8x8192x2816, .f32⟩
  | 75 => ⟨S_, .f32⟩
  | 76 => ⟨S8x8192x2816, .f32⟩
  | 77 => ⟨S8x8192x2816, .f32⟩
  | 78 => ⟨S8x8192x2816, .f32⟩
  | 79 => ⟨S1024x2816, .f32⟩
  | 80 => ⟨S8x8192x2816, .f32⟩
  | 81 => ⟨S8x8192x2816, .f32⟩
  | 82 => ⟨S2816x1024, .f32⟩
  | 83 => ⟨S8x8192x1024, .f32⟩
  | 84 => ⟨S8x8192x1024, .f32⟩
  | 85 => ⟨S1024, .f32⟩
  | 86 => ⟨S8x8192x1024, .f32⟩
  | 87 => ⟨S_, .f32⟩
  | 88 => ⟨S8x8192, .f32⟩
  | 89 => ⟨S8x8192x1, .f32⟩
  | 90 => ⟨S_, .f32⟩
  | 91 => ⟨S8x8192x1, .f32⟩
  | 92 => ⟨S8x8192x1, .f32⟩
  | 93 => ⟨S_, .f32⟩
  | 94 => ⟨S8x8192x1, .f32⟩
  | 95 => ⟨S8x8192x1, .f32⟩
  | 96 => ⟨S8x8192x1, .f32⟩
  | 97 => ⟨S8x8192x1024, .f32⟩
  | 98 => ⟨S8x8192x1024, .f32⟩
  | 99 => ⟨S1x1x1024, .f32⟩
  | 100 => ⟨S8x8192x1024, .f32⟩
  | 101 => ⟨S8x8192x1024, .f32⟩
  | 102 => ⟨S1024x1024, .f32⟩
  | 103 => ⟨S8x8192x1024, .f32⟩
  | 104 => ⟨S8x8192x1024, .f32⟩
  | 105 => ⟨S8x8192x1024, .f32⟩
  | 106 => ⟨S_, .f32⟩
  | 107 => ⟨S8x8192x1024, .f32⟩
  | 108 => ⟨S8x8192x1024, .f32⟩
  | 109 => ⟨S_, .f32⟩
  | 110 => ⟨S8x8192x1024, .f32⟩
  | 111 => ⟨S8x8192x1024, .f32⟩
  | 112 => ⟨S8x8192x256, .f32⟩
  | 113 => ⟨S256x1024, .f32⟩
  | 114 => ⟨S8x8192x1024, .f32⟩
  | 115 => ⟨S8x8192x1024, .f32⟩
  | 116 => ⟨S8x8192x1024, .f32⟩
  | 117 => ⟨S8x8192x1024, .f32⟩
  | 118 => ⟨S_, .f32⟩
  | 119 => ⟨S8x8192, .f32⟩
  | 120 => ⟨S8x8192x1, .f32⟩
  | 121 => ⟨S_, .f32⟩
  | 122 => ⟨S8x8192x1, .f32⟩
  | 123 => ⟨S8x8192x1, .f32⟩
  | 124 => ⟨S_, .f32⟩
  | 125 => ⟨S8x8192x1, .f32⟩
  | 126 => ⟨S8x8192x1, .f32⟩
  | 127 => ⟨S8x8192x1, .f32⟩
  | _ => ⟨S8x8192x1024, .f32⟩

abbrev hbmTy0_1 (i : Nat) : BufTy := match i % 128 with
  | 0 => ⟨S8x8192x1024, .f32⟩
  | 1 => ⟨S8x8192x1024, .f32⟩
  | 2 => ⟨S1x1x1024, .f32⟩
  | 3 => ⟨S8x8192x1024, .f32⟩
  | 4 => ⟨S8x8192x1024, .f32⟩
  | 5 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_5 : Ref sig .tc := ⟨.hbm, 87, rfl⟩
abbrev main_v49 : Ref sig .tc := ⟨.hbm, 88, rfl⟩
abbrev main_v50 : Ref sig .tc := ⟨.hbm, 89, rfl⟩
abbrev main_cst_6 : Ref sig .tc := ⟨.hbm, 90, rfl⟩
abbrev main_v51 : Ref sig .tc := ⟨.hbm, 91, rfl⟩
abbrev main_v52 : Ref sig .tc := ⟨.hbm, 92, rfl⟩
abbrev main_cst_7 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_8 : Ref sig .tc := ⟨.hbm, 106, rfl⟩
abbrev main_v65 : Ref sig .tc := ⟨.hbm, 107, rfl⟩
abbrev main_v66 : Ref sig .tc := ⟨.hbm, 108, rfl⟩
abbrev main_cst_9 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_10 : Ref sig .tc := ⟨.hbm, 118, rfl⟩
abbrev main_v75 : Ref sig .tc := ⟨.hbm, 119, rfl⟩
abbrev main_v76 : Ref sig .tc := ⟨.hbm, 120, rfl⟩
abbrev main_cst_11 : Ref sig .tc := ⟨.hbm, 121, rfl⟩
abbrev main_v77 : Ref sig .tc := ⟨.hbm, 122, rfl⟩
abbrev main_v78 : Ref sig .tc := ⟨.hbm, 123, rfl⟩
abbrev main_cst_12 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩

abbrev nD : Nat := 1
abbrev τ : Topo := Topo.v7x

variable {F : FTy → Type} [FloatOps F]
-- ==== Kernel3.lean ====
abbrev S8x8192x1024 : Shape := ⟨3, ![8, 8192, 1024]⟩
abbrev S1x1024 : Shape := ⟨2, ![1, 1024]⟩
abbrev S1x1024x2832 : Shape := ⟨3, ![1, 1024, 2832]⟩
abbrev S1x64 : Shape := ⟨2, ![1, 64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x128 : Shape := ⟨2, ![8192, 128]⟩
abbrev S65536x1024 : Shape := ⟨2, ![65536, 1024]⟩
abbrev S1024x2832 : Shape := ⟨2, ![1024, 2832]⟩
abbrev S1024x2944 : Shape := ⟨2, ![1024, 2944]⟩
abbrev S2x64 : Shape := ⟨2, ![2, 64]⟩
abbrev S1x128 : Shape := ⟨2, ![1, 128]⟩
abbrev S1024 : Shape := ⟨1, ![1024]⟩
abbrev S65536x512 : Shape := ⟨2, ![65536, 512]⟩
abbrev S65536x128 : Shape := ⟨2, ![65536, 128]⟩
abbrev S128x80x512 : Shape := ⟨3, ![128, 80, 512]⟩
abbrev S65536x1536 : Shape := ⟨2, ![65536, 1536]⟩
abbrev S512x1024 : Shape := ⟨2, ![512, 1024]⟩
abbrev S512x128 : Shape := ⟨2, ![512, 128]⟩
abbrev S512x512 : Shape := ⟨2, ![512, 512]⟩
abbrev S1x80x512 : Shape := ⟨3, ![1, 80, 512]⟩
abbrev S512x1536 : Shape := ⟨2, ![512, 1536]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S128x512 : Shape := ⟨2, ![128, 512]⟩
abbrev S16x512 : Shape := ⟨2, ![16, 512]⟩
abbrev S64x512 : Shape := ⟨2, ![64, 512]⟩
abbrev S80x512 : Shape := ⟨2, ![80, 512]⟩
abbrev S1024x1536 : Shape := ⟨2, ![1024, 1536]⟩
abbrev S1024x640 : Shape := ⟨2, ![1024, 640]⟩
abbrev S512x640 : Shape := ⟨2, ![512, 640]⟩
abbrev S128x64x512 : Shape := ⟨3, ![128, 64, 512]⟩
abbrev S128x128x512 : Shape := ⟨3, ![128, 128, 512]⟩
abbrev S128x512x128 : Shape := ⟨3, ![128, 512, 128]⟩
abbrev S65536x16 : Shape := ⟨2, ![65536, 16]⟩

abbrev nBuf : Space → Nat
  | .hbm => 78
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2832, .f32⟩
  | .hbm, ⟨3, _⟩ => ⟨S1x64, .f32⟩
  | .hbm, ⟨4, _⟩ => ⟨S1x64, .f32⟩
  | .hbm, ⟨5, _⟩ => ⟨S128, .f32⟩
  | .hbm, ⟨6, _⟩ => ⟨S128x1, .f32⟩
  | .hbm, ⟨7, _⟩ => ⟨S128x64, .f32⟩
  | .hbm, ⟨8, _⟩ => ⟨S8192, .f32⟩
  | .hbm, ⟨9, _⟩ => ⟨S64, .f32⟩
  | .hbm, ⟨10, _⟩ => ⟨S1x64, .f32⟩
  | .hbm, ⟨11, _⟩ => ⟨S128x64, .f32⟩
  | .hbm, ⟨12, _⟩ => ⟨S8192, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S8192x1, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x1, .f32⟩
  | .hbm, ⟨33, _⟩ => ⟨S1x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x128, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x128, .f32⟩
  | .hbm, ⟨47, _⟩ => ⟨S65536x1024, .f32⟩
  | .hbm, ⟨48, _⟩ => ⟨S1024x2832, .f32⟩
  | .hbm, ⟨49, _⟩ => ⟨S1024x2832, .bf16⟩
  | .hbm, ⟨50, _⟩ => ⟨S_, .i32⟩
  | .hbm, ⟨51, _⟩ => ⟨S_, .bf16⟩
  | .hbm, ⟨52, _⟩ => ⟨S1024x2944, .bf16⟩
  | .hbm, ⟨53, _⟩ => ⟨S64, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S64, .f32⟩
  | .hbm, ⟨59, _⟩ => ⟨S1x64, .f32⟩
  | .hbm, ⟨60, _⟩ => ⟨S2x64, .f32⟩
  | .hbm, ⟨61, _⟩ => ⟨S128, .f32⟩
  | .hbm, ⟨62, _⟩ => ⟨S1x128, .f32⟩
  | .hbm, ⟨63, _⟩ => ⟨S1024, .f32⟩
  | .hbm, ⟨64, _⟩ => ⟨S1x1024, .f32⟩
  | .hbm, ⟨65, _⟩ => ⟨S65536x512, .bf16⟩
  | .hbm, ⟨66, _⟩ => ⟨S65536x128, .bf16⟩
  | .hbm, ⟨67, _⟩ => ⟨S128x80x512, .bf16⟩
  | .hbm, ⟨68, _⟩ => ⟨S128x80x512, .bf16⟩
  | .hbm, ⟨69, _⟩ => ⟨S65536x1536, .bf16⟩
  | .hbm, ⟨70, _⟩ => ⟨S65536x512, .bf16⟩
  | .hbm, ⟨71, _⟩ => ⟨S65536x128, .f32⟩
  | .hbm, ⟨72, _⟩ => ⟨S128x64x512, .bf16⟩
  | .hbm, ⟨73, _⟩ => ⟨S128x64x512, .bf16⟩
  | .hbm, ⟨74, _⟩ => ⟨S128x128x512, .bf16⟩
  | .hbm, ⟨75, _⟩ => ⟨S128x512x128, .bf16⟩
  | .hbm, ⟨76, _⟩ => ⟨S65536x128, .bf16⟩
  | .hbm, ⟨77, _⟩ => ⟨S65536x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S1x80x512, .bf16⟩
  | .local _ .vmem, ⟨15, _⟩ => ⟨S1x80x512, .bf16⟩
  | .local _ .vmem, ⟨16, _⟩ => ⟨S1x80x512, .bf16⟩
  | .local _ .vmem, ⟨17, _⟩ => ⟨S1x80x512, .bf16⟩
  | .local _ .vmem, ⟨18, _⟩ => ⟨S512x1536, .bf16⟩
  | .local _ .vmem, ⟨19, _⟩ => ⟨S512x1536, .bf16⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c : Ref sig .tc := ⟨.hbm, 50, rfl⟩
abbrev main_call0_v0 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54_0 : Ref sig .tc := ⟨.hbm, 65, rfl⟩
abbrev main_v54_1 : Ref sig .tc := ⟨.hbm, 66, rfl⟩
abbrev main_v54_2 : Ref sig .tc := ⟨.hbm, 67, rfl⟩
abbrev main_v54_3 : Ref sig .tc := ⟨.hbm, 68, rfl⟩
abbrev main_v54_4 : Ref sig .tc := ⟨.hbm, 69, rfl⟩
abbrev main_v54_5 : Ref sig .tc := ⟨.hbm, 70, rfl⟩
abbrev main_v54_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S8x8192x1024 : Shape := ⟨3, ![8, 8192, 1024]⟩
abbrev S1x1024 : Shape := ⟨2, ![1, 1024]⟩
abbrev S1x1024x2832 : Shape := ⟨3, ![1, 1024, 2832]⟩
abbrev S1x64 : Shape := ⟨2, ![1, 64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S1024x2832 : Shape := ⟨2, ![1024, 2832]⟩
abbrev S8x8192x2832 : Shape := ⟨3, ![8, 8192, 2832]⟩
abbrev S8x8192x512 : Shape := ⟨3, ![8, 8192, 512]⟩
abbrev S8x8192x128 : Shape := ⟨3, ![8, 8192, 128]⟩
abbrev S8x8192x1536 : Shape := ⟨3, ![8, 8192, 1536]⟩
abbrev S8x8192x8 : Shape := ⟨3, ![8, 8192, 8]⟩
abbrev S8x8192x8x64 : Shape := ⟨4, ![8, 8192, 8, 64]⟩
abbrev S8x8192x8x1 : Shape := ⟨4, ![8, 8192, 8, 1]⟩
abbrev S1x1x1x64 : Shape := ⟨4, ![1, 1, 1, 64]⟩
abbrev S8x8192x8x32 : Shape := ⟨4, ![8, 8192, 8, 32]⟩
abbrev S8192x1x16 : Shape := ⟨3, ![8192, 1, 16]⟩
abbrev S8x8192x8x16 : Shape := ⟨4, ![8, 8192, 8, 16]⟩
abbrev S1x8192x1x16 : Shape := ⟨4, ![1, 8192, 1, 16]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x32 : Shape := ⟨4, ![8, 8192, 2, 32]⟩
abbrev S8x8192x2x16 : Shape := ⟨4, ![8, 8192, 2, 16]⟩
abbrev S65536x512 : Shape := ⟨2, ![65536, 512]⟩
abbrev S65536x128 : Shape := ⟨2, ![65536, 128]⟩
abbrev S65536x1536 : Shape := ⟨2, ![65536, 1536]⟩
abbrev S8x8192x16 : Shape := ⟨3, ![8, 8192, 16]⟩
abbrev S65536x16 : Shape := ⟨2, ![65536, 16]⟩

abbrev nBuf : Space → Nat
  | .hbm => 207
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x2832, .f32⟩
  | 3 => ⟨S1x64, .f32⟩
  | 4 => ⟨S1x64, .f32⟩
  | 5 => ⟨S128, .f32⟩
  | 6 => ⟨S128x1, .f32⟩
  | 7 => ⟨S128x64, .f32⟩
  | 8 => ⟨S8192, .f32⟩
  | 9 => ⟨S64, .f32⟩
  | 10 => ⟨S1x64, .f32⟩
  | 11 => ⟨S128x64, .f32⟩
  | 12 => ⟨S8192, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S8192x1, .f32⟩
  | 28 => ⟨S1x16, .f32⟩
  | 29 => ⟨S8192x16, .f32⟩
  | 30 => ⟨S8192x16, .f32⟩
  | 31 => ⟨S8192x16, .f32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S1024, .f32⟩
  | 38 => ⟨S8x8192x1024, .f32⟩
  | 39 => ⟨S_, .f32⟩
  | 40 => ⟨S8x8192, .f32⟩
  | 41 => ⟨S8x8192x1, .f32⟩
  | 42 => ⟨S_, .f32⟩
  | 43 => ⟨S8x8192x1, .f32⟩
  | 44 => ⟨S8x8192x1, .f32⟩
  | 45 => ⟨S_, .f32⟩
  | 46 => ⟨S8x8192x1, .f32⟩
  | 47 => ⟨S8x8192x1, .f32⟩
  | 48 => ⟨S8x8192x1, .f32⟩
  | 49 => ⟨S8x8192x1024, .f32⟩
  | 50 => ⟨S8x8192x1024, .f32⟩
  | 51 => ⟨S1x1x1024, .f32⟩
  | 52 => ⟨S8x8192x1024, .f32⟩
  | 53 => ⟨S8x8192x1024, .f32⟩
  | 54 => ⟨S1024x2832, .f32⟩
  | 55 => ⟨S8x8192x2832, .f32⟩
  | 56 => ⟨S8x8192x512, .f32⟩
  | 57 => ⟨S8x8192x128, .f32⟩
  | 58 => ⟨S8x8192x128, .f32⟩
  | 59 => ⟨S8x8192x1536, .f32⟩
  | 60 => ⟨S8x8192x512, .f32⟩
  | 61 => ⟨S8x8192x8, .f32⟩
  | 62 => ⟨S8x8192x8, .f32⟩
  | 63 => ⟨S8x8192x8x64, .f32⟩
  | 64 => ⟨S64, .f32⟩
  | 65 => ⟨S8x8192x8x64, .f32⟩
  | 66 => ⟨S_, .f32⟩
  | 67 => ⟨S8x8192x8, .f32⟩
  | 68 => ⟨S8x8192x8x1, .f32⟩
  | 69 => ⟨S_, .f32⟩
  | 70 => ⟨S8x8192x8x1, .f32⟩
  | 71 => ⟨S8x8192x8x1, .f32⟩
  | 72 => ⟨S_, .f32⟩
  | 73 => ⟨S8x8192x8x1, .f32⟩
  | 74 => ⟨S8x8192x8x1, .f32⟩
  | 75 => ⟨S8x8192x8x1, .f32⟩
  | 76 => ⟨S8x8192x8x64, .f32⟩
  | 77 => ⟨S8x8192x8x64, .f32⟩
  | 78 => ⟨S1x1x1x64, .f32⟩
  | 79 => ⟨S8x8192x8x64, .f32⟩
  | 80 => ⟨S8x8192x8x64, .f32⟩
  | 81 => ⟨S8x8192x8x32, .f32⟩
  | 82 => ⟨S8192x16, .f32⟩
  | 83 => ⟨S8192x1x16, .f32⟩
  | 84 => ⟨S8192x16, .f32⟩
  | 85 => ⟨S8192x1x16, .f32⟩
  | 86 => ⟨S8x8192x8x16, .f32⟩
  | 87 => ⟨S8x8192x8x16, .f32⟩
  | 88 => ⟨S1x8192x1x16, .f32⟩
  | 89 => ⟨S8x8192x8x16, .f32⟩
  | 90 => ⟨S8x8192x8x16, .f32⟩
  | 91 => ⟨S1x8192x1x16, .f32⟩
  | 92 => ⟨S8x8192x8x16, .f32⟩
  | 93 => ⟨S8x8192x8x16, .f32⟩
  | 94 => ⟨S8x8192x8x16, .f32⟩
  | 95 => ⟨S1x8192x1x16, .f32⟩
  | 96 => ⟨S8x8192x8x16, .f32⟩
  | 97 => ⟨S8x8192x8x16, .f32⟩
  | 98 => ⟨S1x8192x1x16, .f32⟩
  | 99 => ⟨S8x8192x8x16, .f32⟩
  | 100 => ⟨S8x8192x8x16, .f32⟩
  | 101 => ⟨S8x8192x8x16, .f32⟩
  | 102 => ⟨S8x8192x8x32, .f32⟩
  | 103 => ⟨S8x8192x8x32, .f32⟩
  | 104 => ⟨S8192x16, .f32⟩
  | 105 => ⟨S8192x1x16, .f32⟩
  | 106 => ⟨S8192x16, .f32⟩
  | 107 => ⟨S8192x1x16, .f32⟩
  | 108 => ⟨S8x8192x8x16, .f32⟩
  | 109 => ⟨S8x8192x8x16, .f32⟩
  | 110 => ⟨S1x8192x1x16, .f32⟩
  | 111 => ⟨S8x8192x8x16, .f32⟩
  | 112 => ⟨S8x8192x8x16, .f32⟩
  | 113 => ⟨S1x8192x1x16, .f32⟩
  | 114 => ⟨S8x8192x8x16, .f32⟩
  | 115 => ⟨S8x8192x8x16, .f32⟩
  | 116 => ⟨S8x8192x8x16, .f32⟩
  | 117 => ⟨S1x8192x1x16, .f32⟩
  | 118 => ⟨S8x8192x8x16, .f32⟩
  | 119 => ⟨S8x8192x8x16, .f32⟩
  | 120 => ⟨S1x8192x1x16, .f32⟩
  | 121 => ⟨S8x8192x8x16, .f32⟩
  | 122 => ⟨S8x8192x8x16, .f32⟩
  | 123 => ⟨S8x8192x8x16, .f32⟩
  | 124 => ⟨S8x8192x8x32, .f32⟩
  | 125 => ⟨S8x8192x8x64, .f32⟩
  | 126 => ⟨S8x8192x2x64, .f32⟩
  | 127 => ⟨S64, .f32⟩
  | _ => ⟨S8x8192x1024, .f32⟩

abbrev hbmTy0_1 (i : Nat) : BufTy := match i % 128 with
  | 0 => ⟨S8x8192x2x64, .f32⟩
  | 1 => ⟨S_, .f32⟩
  | 2 => ⟨S8x8192x2, .f32⟩
  | 3 => ⟨S8x8192x2x1, .f32⟩
  | 4 => ⟨S_, .f32⟩
  | 5 => ⟨S8x8192x2x1, .f32⟩
  | 6 => ⟨S8x8192x2x1, .f32⟩
  | 7 => ⟨S_, .f32⟩
  | 8 => ⟨S8x8192x2x1, .f32⟩
  | 9 => ⟨S8x8192x2x1, .f32⟩
  | 10 => ⟨S8x8192x2x1, .f32⟩
  | 11 => ⟨S8x8192x2x64, .f32⟩
  | 12 => ⟨S8x8192x2x64, .f32⟩
  | 13 => ⟨S1x1x1x64, .f32⟩
  | 14 => ⟨S8x8192x2x64, .f32⟩
  | 15 => ⟨S8x8192x2x64, .f32⟩
  | 16 => ⟨S8x8192x2x32, .f32⟩
  | 17 => ⟨S8192x16, .f32⟩
  | 18 => ⟨S8192x1x16, .f32⟩
  | 19 => ⟨S8192x16, .f32⟩
  | 20 => ⟨S8192x1x16, .f32⟩
  | 21 => ⟨S8x8192x2x16, .f32⟩
  | 22 => ⟨S8x8192x2x16, .f32⟩
  | 23 => ⟨S1x8192x1x16, .f32⟩
  | 24 => ⟨S8x8192x2x16, .f32⟩
  | 25 => ⟨S8x8192x2x16, .f32⟩
  | 26 => ⟨S1x8192x1x16, .f32⟩
  | 27 => ⟨S8x8192x2x16, .f32⟩
  | 28 => ⟨S8x8192x2x16, .f32⟩
  | 29 => ⟨S8x8192x2x16, .f32⟩
  | 30 => ⟨S1x8192x1x16, .f32⟩
  | 31 => ⟨S8x8192x2x16, .f32⟩
  | 32 => ⟨S8x8192x2x16, .f32⟩
  | 33 => ⟨S1x8192x1x16, .f32⟩
  | 34 => ⟨S8x8192x2x16, .f32⟩
  | 35 => ⟨S8x8192x2x16, .f32⟩
  | 36 => ⟨S8x8192x2x16, .f32⟩
  | 37 => ⟨S8x8192x2x32, .f32⟩
  | 38 => ⟨S8x8192x2x32, .f32⟩
  | 39 => ⟨S8192x16, .f32⟩
  | 40 => ⟨S8192x1x16, .f32⟩
  | 41 => ⟨S8192x16, .f32⟩
  | 42 => ⟨S8192x1x16, .f32⟩
  | 43 => ⟨S8x8192x2x16, .f32⟩
  | 44 => ⟨S8x8192x2x16, .f32⟩
  | 45 => ⟨S1x8192x1x16, .f32⟩
  | 46 => ⟨S8x8192x2x16, .f32⟩
  | 47 => ⟨S8x8192x2x16, .f32⟩
  | 48 => ⟨S1x8192x1x16, .f32⟩
  | 49 => ⟨S8x8192x2x16, .f32⟩
  | 50 => ⟨S8x8192x2x16, .f32⟩
  | 51 => ⟨S8x8192x2x16, .f32⟩
  | 52 => ⟨S1x8192x1x16, .f32⟩
  | 53 => ⟨S8x8192x2x16, .f32⟩
  | 54 => ⟨S8x8192x2x16, .f32⟩
  | 55 => ⟨S1x8192x1x16, .f32⟩
  | 56 => ⟨S8x8192x2x16, .f32⟩
  | 57 => ⟨S8x8192x2x16, .f32⟩
  | 58 => ⟨S8x8192x2x16, .f32⟩
  | 59 => ⟨S8x8192x2x32, .f32⟩
  | 60 => ⟨S8x8192x2x64, .f32⟩
  | 61 => ⟨S_, .f32⟩
  | 62 => ⟨S_, .f32⟩
  | 63 => ⟨S_, .f32⟩
  | 64 => ⟨S_, .f32⟩
  | 65 => ⟨S8x8192x8x64, .f32⟩
  | 66 => ⟨S8x8192x8x64, .f32⟩
  | 67 => ⟨S65536x512, .f32⟩
  | 68 => ⟨S65536x512, .bf16⟩
  | 69 => ⟨S65536x128, .f32⟩
  | 70 => ⟨S65536x128, .bf16⟩
  | 71 => ⟨S65536x128, .f32⟩
  | 72 => ⟨S65536x128, .bf16⟩
  | 73 => ⟨S65536x1536, .f32⟩
  | 74 => ⟨S65536x1536, .bf16⟩
  | 75 => ⟨S65536x512, .f32⟩
  | 76 => ⟨S65536x512, .bf16⟩
  | 77 => ⟨S8x8192x16, .f32⟩
  | 78 => ⟨S65536x16, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_cst_9 : Ref sig .tc := ⟨.hbm, 129, rfl⟩
abbrev main_v114 : Ref sig .tc := ⟨.hbm, 130, rfl⟩
abbrev main_v115 : Ref sig .tc := ⟨.hbm, 131, rfl⟩
abbrev main_cst_10 : Ref sig .tc := ⟨.hbm, 132, rfl⟩
abbrev main_v116 : Ref sig .tc := ⟨.hbm, 133, rfl⟩
abbrev main_v117 : Ref sig .tc := ⟨.hbm, 134, rfl⟩
abbrev main_cst_11 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_cst_12 : Ref sig .tc := ⟨.hbm, 189, rfl⟩
abbrev main_v171 : Ref sig .tc := ⟨.hbm, 190, rfl⟩
abbrev main_cst_13 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩

abbrev nD : Nat := 1
abbrev τ : Topo := Topo.v7x

variable {F : FTy → Type} [FloatOps F]
-- ==== Proof.ShapeAt.lean ====
/-
  Layout operations, matrix products and row reductions read at an index whose coordinates are given one by one, for any
  extents. Every lemma says which entry of the operand an entry of the result is (or which sum of entries), so that a
  kernel body's chain of operations can be read by rewriting.
-/
module

public import Idealize.ShloMosaic.Lib.ValueIdx
public import Idealize.ShloMosaic.Lib.MatmulPlain
public import Idealize.ShloMosaic.Lib.Pipeline.Value
public import Idealize.ShloMosaic.Lib.Pipeline.ValueKit.Tiles

@[expose] public section

noncomputable section

namespace Cert.At

open Idealize.ShloMosaic Idealize.ShloMosaic.ValueIdx
open scoped BigOperators

variable {α : Type} {a b c d : ℕ}

/-- A leading axis of extent one dropped. -/
theorem drop1 (v : (⟨3, ![1, a, b]⟩ : Shape).Idx → α) (h : (⟨3, ![1, a, b]⟩ : Shape).ShapeCasts ⟨2, ![a, b]⟩) (i : Fin a) (j : Fin b) :
    shapeCast ⟨2, ![a, b]⟩ v h (ix2 i j) = v (ix3 0 i j) := by
  refine shapeCast_apply v h _ _ ?_
  rw [Shape.rowMajor_val_three, Shape.rowMajor_val_two]
  show ((0 : ℕ) * a + i.val) * b + j.val = i.val * b + j.val
  rw [Nat.zero_mul, Nat.zero_add]

/-- Two leading axes of extent one dropped. -/
theorem drop2 (v : (⟨4, ![1, 1, a, b]⟩ : Shape).Idx → α) (h : (⟨4, ![1, 1, a, b]⟩ : Shape).ShapeCasts ⟨2, ![a, b]⟩) (i : Fin a) (j : Fin b) :
    shapeCast ⟨2, ![a, b]⟩ v h (ix2 i j) = v (ix4 0 0 i j) := by
  refine shapeCast_apply v h _ _ ?_
  rw [Shape.rowMajor_val_four, Shape.rowMajor_val_two]
  show (((0 : ℕ) * 1 + 0) * a + i.val) * b + j.val = i.val * b + j.val
  simp only [Nat.zero_mul, Nat.zero_add]

/-- A leading axis of extent one added. -/
theorem add1 (v : (⟨2, ![a, b]⟩ : Shape).Idx → α) (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine shapeCast_apply v h _ _ ?_
  rw [Shape.rowMajor_val_three, Shape.rowMajor_val_two]
  have hz : z.val = 0 := by omega
  show i.val * b + j.val = (z.val * a + i.val) * b + j.val
  rw [hz, Nat.zero_mul, Nat.zero_add]

/-- A vector as a one-row matrix. -/
theorem row1 (v : (⟨1, ![b]⟩ : Shape).Idx → α) (h : (⟨1, ![b]⟩ : Shape).ShapeCasts ⟨2, ![1, b]⟩) (z : Fin 1) (j : Fin b) :
    shapeCast ⟨2, ![1, b]⟩ v h (ix2 z j) = v (ix1 j) := by
  refine shapeCast_apply v h _ _ ?_
  rw [Shape.rowMajor_val_two, Shape.rowMajor_val_one]
  have hz : z.val = 0 := by omega
  show j.val = z.val * b + j.val
  rw [hz, Nat.zero_mul, Nat.zero_add]

/-- A vector as a one-column matrix. -/
theorem col1 (v : (⟨1, ![a]⟩ : Shape).Idx → α) (h : (⟨1, ![a]⟩ : Shape).ShapeCasts ⟨2, ![a, 1]⟩) (i : Fin a) (z : Fin 1) :
    shapeCast ⟨2, ![a, 1]⟩ v h (ix2 i z) = v (ix1 i) := by
  refine shapeCast_apply v h _ _ ?_
  rw [Shape.rowMajor_val_two, Shape.rowMajor_val_one]
  have hz : z.val = 0 := by omega
  show i.val = i.val * 1 + z.val
  omega

/-- A one-row matrix repeated down the rows. -/
theorem bcast_row (v : (⟨2, ![1, b]⟩ : Shape).Idx → α) (h : (⟨2, ![1, b]⟩ : Shape).Broadcasts ⟨2, ![a, b]⟩) (i : Fin a) (j : Fin b) :
    broadcastTo ⟨2, ![a, b]⟩ v h (ix2 i j) = v (ix2 0 j) := by
  refine broadcastTo_apply v h _ _ fun x => ?_
  match x with
  | ⟨0, _⟩ => show (0 : ℕ) = if (1 : ℕ) = 1 then 0 else _; rw [if_pos rfl]
  | ⟨1, _⟩ =>
    show j.val = if b = 1 then 0 else j.val
    by_cases hb : b = 1
    · rw [if_pos hb]; have := j.isLt; omega
    · rw [if_neg hb]

/-- A one-column matrix repeated across the columns. -/
theorem bcast_col (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i 0) := by
  refine broadcastTo_apply v h _ _ fun x => ?_
  match x with
  | ⟨0, _⟩ =>
    show i.val = if a = 1 then 0 else i.val
    by_cases hb : a = 1
    · rw [if_pos hb]; have := i.isLt; omega
    · rw [if_neg hb]
  | ⟨1, _⟩ => show (0 : ℕ) = if (1 : ℕ) = 1 then 0 else _; rw [if_pos rfl]

/-- A matrix transposed. -/
theorem transp (v : (⟨2, ![a, b]⟩ : Shape).Idx → α) (h : (⟨2, ![a, b]⟩ : Shape).Transposes [1, 0] ⟨2, ![b, a]⟩) (i : Fin b) (j : Fin a) :
    transpose ⟨2, ![b, a]⟩ [1, 0] v h (ix2 i j) = v (ix2 j i) := by
  refine transpose_apply [1, 0] v h _ _ fun x => ?_
  match x with
  | ⟨0, _⟩ => rfl
  | ⟨1, _⟩ => rfl

/-- A unit-stride cut of a matrix, at any entry whose coordinates are the offsets further on. -/
theorem cut {o p : ℕ} (v : (⟨2, ![a, b]⟩ : Shape).Idx → α) (h : (⟨2, ![a, b]⟩ : Shape).Slices ![o, p] ⟨2, ![c, d]⟩) (i : Fin c) (j : Fin d)
    (i' : Fin a) (j' : Fin b) (hi : i'.val = o + i.val) (hj : j'.val = p + j.val) :
    extractStridedSlice ⟨2, ![c, d]⟩ ![o, p] v h (ix2 i j) = v (ix2 i' j') := by
  refine extractStridedSlice_apply _ v h _ _ fun x => ?_
  match x with
  | ⟨0, _⟩ => exact hi
  | ⟨1, _⟩ => exact hj

/-- Two matrices one above the other: an entry of the upper one. -/
theorem above {e : ℕ} (x₁ : (⟨2, ![a, b]⟩ : Shape).Idx → α) (x₂ : (⟨2, ![c, b]⟩ : Shape).Idx → α)
    (h : Shape.Concatenates [⟨2, ![a, b]⟩, ⟨2, ![c, b]⟩] ⟨2, ![e, b]⟩ 0) (i : Fin e) (j : Fin b) (hi : i.val < a) :
    concatenate ⟨2, ![e, b]⟩ 0 [⟨⟨2, ![a, b]⟩, x₁⟩, ⟨⟨2, ![c, b]⟩, x₂⟩] h (ix2 i j) = x₁ (ix2 ⟨i.val, hi⟩ j) := by
  refine concatenate_pair_apply_left _ x₁ x₂ h _ rfl _ fun x => ?_
  match x with
  | ⟨0, _⟩ => rfl
  | ⟨1, _⟩ => rfl

/-- Two matrices one above the other: an entry of the lower one. -/
theorem below {e : ℕ} (x₁ : (⟨2, ![a, b]⟩ : Shape).Idx → α) (x₂ : (⟨2, ![c, b]⟩ : Shape).Idx → α)
    (h : Shape.Concatenates [⟨2, ![a, b]⟩, ⟨2, ![c, b]⟩] ⟨2, ![e, b]⟩ 0) (i : Fin e) (j : Fin b) (i' : Fin c) (hi : i'.val + a = i.val) :
    concatenate ⟨2, ![e, b]⟩ 0 [⟨⟨2, ![a, b]⟩, x₁⟩, ⟨⟨2, ![c, b]⟩, x₂⟩] h (ix2 i j) = x₂ (ix2 i' j) := by
  refine concatenate_pair_apply_right _ x₁ x₂ h _ rfl rfl _ (fun x hx => ?_) hi
  match x with
  | ⟨0, _⟩ => exact absurd rfl hx
  | ⟨1, _⟩ => rfl

/-- A product onto a zero accumulator, entry by entry. -/
theorem dot {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (q : Fin N) :
    FloatOps.matmul D prec lhs rhs (constant ⟨2, ![M, N]⟩ .f32 0x00000000#32) (ix2 r q) = ∑ k : Fin K, lhs (ix2 r k) * rhs (ix2 k q) := by
  subst hD
  rw [Ideal.matmul_plain_apply, constant_apply, Ideal.ofBits_zero_f32, zero_add]

/-- The sum of a row. -/
theorem rowSum {φ : FTy} (x : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ x acc h hφ hacc (ix1 i) = ∑ k : Fin b, x (ix2 i k) := by
  rw [Ideal.multiReduction_add_single]
  refine Finset.sum_congr rfl fun k _ => congrArg x (funext fun z => Fin.ext ?_)
  rw [Shape.Reduces.lift_val]
  match z with
  | ⟨0, _⟩ => rfl
  | ⟨1, _⟩ => rfl

/-- The largest entry of a column, from the accumulator's value. -/
theorem colMax {φ : FTy} (x : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ x acc h hφ hacc (ix1 j)
      = (Finset.univ : Finset (Fin a)).fold max (Ideal.ofBits φ acc) (fun k => x (ix2 k j)) := by
  rw [Ideal.multiReduction_maximumf_single]
  refine congrArg (fun f => Finset.fold max _ f Finset.univ) (funext fun k => congrArg x (funext fun z => Fin.ext ?_))
  rw [Shape.Reduces.lift_val]
  match z with
  | ⟨0, _⟩ => rfl
  | ⟨1, _⟩ => rfl

end Cert.At

end
-- ==== Proof.AttnBody.lean ====
/-
  The attention kernel's stored values read entry by entry: the query blocks laid out head by head, one key tile's
  contribution to the accumulator of each branch, the running maximum, and the quotient written out.
-/
module

public import proofs.«01_k».proof.Proof.Gen.KernelIdeal.Frame
public import proofs.«01_k».proof.Proof.ShapeAt

@[expose] public section

set_option maxRecDepth 16384

noncomputable section

namespace Cert.Attn

open Cert.KernelIdeal Cert.KernelIdeal.Gen
open Idealize.ShloMosaic Idealize.ShloMosaic.TcCoe Idealize.ShloMosaic.ValueIdx
open scoped BigOperators

/-- The zero pattern of the narrow format is zero. -/
theorem zero_bf16 : Ideal.ofBits .bf16 0x0000#16 = 0 := by simp [Ideal.ofBits, Ideal.ieee]

/-! ## The query blocks -/

/-- Sixty-four transposed lanes of a query block above sixty-four zeros. -/
theorem qt_upper (o : ℕ) (hs : S128x512.Slices ![o, 0] S64x512) (ho : o + 64 ≤ 128) (v : Vec Ideal S1x512x128 .bf16) (z : Fin 1) (l : Fin 128)
    (r : Fin 512) :
    shapeCast S1x128x512 (concatenate S128x512 0 [⟨S64x512, extractStridedSlice S64x512 ![o, 0] (k0_pay21 (F := Ideal) v) hs⟩,
        ⟨S64x512, k0_pay20 (F := Ideal)⟩] concatenates_S64x512_S64x512_S128x512_d0) shapeCasts_S128x512_S1x128x512 (ix3 z l r)
      = if h : l.val < 64 then v (ix3 0 r ⟨o + l.val, by omega⟩) else 0 := by
  rw [At.add1]
  by_cases h : l.val < 64
  · rw [dif_pos h, At.above _ _ _ _ _ h, At.cut _ _ (⟨l.val, h⟩ : Fin 64) r (⟨o + l.val, by omega⟩ : Fin 128) r rfl (Nat.zero_add _).symm]
    unfold k0_pay21
    rw [truncf_apply, At.transp, extf_apply, At.drop1]
  · rw [dif_neg h, At.below _ _ _ _ _ ⟨l.val - 64, by omega⟩ (by show l.val - 64 + 64 = l.val; omega)]
    exact zero_bf16

/-- Sixty-four zeros above sixty-four transposed lanes of a query block. -/
theorem qt_lower (o : ℕ) (hs : S128x512.Slices ![o, 0] S64x512) (ho : o + 64 ≤ 128) (v : Vec Ideal S1x512x128 .bf16) (z : Fin 1) (l : Fin 128)
    (r : Fin 512) :
    shapeCast S1x128x512 (concatenate S128x512 0 [⟨S64x512, k0_pay20 (F := Ideal)⟩,
        ⟨S64x512, extractStridedSlice S64x512 ![o, 0] (k0_pay21 (F := Ideal) v) hs⟩] concatenates_S64x512_S64x512_S128x512_d0)
        shapeCasts_S128x512_S1x128x512 (ix3 z l r)
      = if h : 64 ≤ l.val then v (ix3 0 r ⟨o + (l.val - 64), by omega⟩) else 0 := by
  rw [At.add1]
  by_cases h : 64 ≤ l.val
  · rw [dif_pos h, At.below _ _ _ _ _ ⟨l.val - 64, by omega⟩ (by show l.val - 64 + 64 = l.val; omega),
      At.cut _ _ (⟨l.val - 64, by omega⟩ : Fin 64) r (⟨o + (l.val - 64), by omega⟩ : Fin 128) r rfl (Nat.zero_add _).symm]
    unfold k0_pay21
    rw [truncf_apply, At.transp, extf_apply, At.drop1]
  · rw [dif_neg h, At.above _ _ _ _ _ (by omega)]
    exact zero_bf16

/-- An entry of one stored query tile: a query lane in the half that belongs to its key head, zero in the other half. -/
theorem pay22_apply (v : Vec Ideal S1x512x128 .bf16) (z : Fin 1) (l : Fin 128) (r : Fin 512) : k0_pay22 (F := Ideal) v (ix3 z l r)
    = if h : l.val < 64 then v (ix3 0 r ⟨0 + l.val, by omega⟩) else 0 := qt_upper 0 slices_S128x512_o0_0_S64x512 (by omega) v z l r
/-- An entry of one stored query tile: a query lane in the half that belongs to its key head, zero in the other half. -/
theorem pay23_apply (v : Vec Ideal S1x512x128 .bf16) (z : Fin 1) (l : Fin 128) (r : Fin 512) : k0_pay23 (F := Ideal) v (ix3 z l r)
    = if h : l.val < 64 then v (ix3 0 r ⟨64 + l.val, by omega⟩) else 0 := qt_upper 64 slices_S128x512_o64_0_S64x512 (by omega) v z l r
/-- An entry of one stored query tile: a query lane in the half that belongs to its key head, zero in the other half. -/
theorem pay25_apply (v : Vec Ideal S1x512x128 .bf16) (z : Fin 1) (l : Fin 128) (r : Fin 512) : k0_pay25 (F := Ideal) v (ix3 z l r)
    = if h : l.val < 64 then v (ix3 0 r ⟨0 + l.val, by omega⟩) else 0 := qt_upper 0 slices_S128x512_o0_0_S64x512 (by omega) v z l r
/-- An entry of one stored query tile: a query lane in the half that belongs to its key head, zero in the other half. -/
theorem pay26_apply (v : Vec Ideal S1x512x128 .bf16) (z : Fin 1) (l : Fin 128) (r : Fin 512) : k0_pay26 (F := Ideal) v (ix3 z l r)
    = if h : l.val < 64 then v (ix3 0 r ⟨64 + l.val, by omega⟩) else 0 := qt_upper 64 slices_S128x512_o64_0_S64x512 (by omega) v z l r
/-- An entry of one stored query tile: a query lane in the half that belongs to its key head, zero in the other half. -/
theorem pay28_apply (v : Vec Ideal S1x512x128 .bf16) (z : Fin 1) (l : Fin 128) (r : Fin 512) : k0_pay28 (F := Ideal) k0_pay20 v (ix3 z l r)
    = if h : 64 ≤ l.val then v (ix3 0 r ⟨0 + (l.val - 64), by omega⟩) else 0 := qt_lower 0 slices_S128x512_o0_0_S64x512 (by omega) v z l r
/-- An entry of one stored query tile: a query lane in the half that belongs to its key head, zero in the other half. -/
theorem pay29_apply (v : Vec Ideal S1x512x128 .bf16) (z : Fin 1) (l : Fin 128) (r : Fin 512) : k0_pay29 (F := Ideal) k0_pay20 v (ix3 z l r)
    = if h : 64 ≤ l.val then v (ix3 0 r ⟨64 + (l.val - 64), by omega⟩) else 0 := qt_lower 64 slices_S128x512_o64_0_S64x512 (by omega) v z l r
/-- An entry of one stored query tile: a query lane in the half that belongs to its key head, zero in the other half. -/
theorem pay31_apply (v : Vec Ideal S1x512x128 .bf16) (z : Fin 1) (l : Fin 128) (r : Fin 512) : k0_pay31 (F := Ideal) k0_pay20 v (ix3 z l r)
    = if h : 64 ≤ l.val then v (ix3 0 r ⟨0 + (l.val - 64), by omega⟩) else 0 := qt_lower 0 slices_S128x512_o0_0_S64x512 (by omega) v z l r
/-- An entry of one stored query tile: a query lane in the half that belongs to its key head, zero in the other half. -/
theorem pay32_apply (v : Vec Ideal S1x512x128 .bf16) (z : Fin 1) (l : Fin 128) (r : Fin 512) : k0_pay32 (F := Ideal) k0_pay20 v (ix3 z l r)
    = if h : 64 ≤ l.val then v (ix3 0 r ⟨64 + (l.val - 64), by omega⟩) else 0 := qt_lower 64 slices_S128x512_o64_0_S64x512 (by omega) v z l r

/-! ## One key tile -/

/-- The score of a key of the tile against a column of the query layout. -/
def score (k : Vec Ideal S1x1x512x128 .bf16) (q : Vec Ideal S1x128x2048 .bf16) (s : Fin 512) (c : Fin 2048) : EReal :=
  ∑ l : Fin 128, k (ix4 0 0 s l) * q (ix3 0 l c)

/-- What the branch without a running maximum adds for one key tile. -/
def part (k : Vec Ideal S1x1x512x128 .bf16) (q : Vec Ideal S1x128x2048 .bf16) (v : Vec Ideal S1x1x80x512 .bf16) (r : Fin 80) (c : Fin 2048) : EReal :=
  ∑ s : Fin 512, v (ix4 0 0 r s) * Ideal.exp2 (score k q s c)

/-- The scores of a tile as the body computes them. -/
theorem scores_apply (k : Vec Ideal S1x1x512x128 .bf16) (q : Vec Ideal S1x128x2048 .bf16) (s : Fin 512) (c : Fin 2048) :
    matmul (F := Ideal) dot_S512x128_S128x2048_S512x2048_1_0_0_1_n_n none (shapeCast S512x128 k shapeCasts_S1x1x512x128_S512x128 : FVec Ideal S512x128 .bf16)
      (shapeCast S128x2048 q shapeCasts_S1x128x2048_S128x2048 : FVec Ideal S128x2048 .bf16) (constant S512x2048 .f32 0x00000000#32) (ix2 s c) = score k q s c := by
  refine (At.dot _ rfl none _ _ s c).trans (Finset.sum_congr rfl fun l _ => ?_)
  rw [At.drop2, At.drop1]

/-- A tile's values against a matrix of weights. -/
theorem weigh_apply (v : Vec Ideal S1x1x80x512 .bf16) (w : FVec Ideal S512x2048 .bf16) (r : Fin 80) (c : Fin 2048) :
    matmul (F := Ideal) dot_S80x512_S512x2048_S80x2048_1_0_0_1_n_n none (shapeCast S80x512 v shapeCasts_S1x1x80x512_S80x512 : FVec Ideal S80x512 .bf16) w
      (constant S80x2048 .f32 0x00000000#32) (ix2 r c) = ∑ s : Fin 512, v (ix4 0 0 r s) * w (ix2 s c) := by
  refine (At.dot _ rfl none _ _ r c).trans (Finset.sum_congr rfl fun l _ => ?_)
  rw [At.drop2]

/-- The contribution of one tile as the body computes it. -/
theorem part_apply (k : Vec Ideal S1x1x512x128 .bf16) (q : Vec Ideal S1x128x2048 .bf16) (v : Vec Ideal S1x1x80x512 .bf16) (r : Fin 80) (c : Fin 2048) :
    matmul (F := Ideal) dot_S80x512_S512x2048_S80x2048_1_0_0_1_n_n none (shapeCast S80x512 v shapeCasts_S1x1x80x512_S80x512 : FVec Ideal S80x512 .bf16)
      (truncf .bf16 (exp2 (matmul (F := Ideal) dot_S512x128_S128x2048_S512x2048_1_0_0_1_n_n none
        (shapeCast S512x128 k shapeCasts_S1x1x512x128_S512x128 : FVec Ideal S512x128 .bf16)
        (shapeCast S128x2048 q shapeCasts_S1x128x2048_S128x2048 : FVec Ideal S128x2048 .bf16) (constant S512x2048 .f32 0x00000000#32))) bitsLt_bf16_f32)
      (constant S80x2048 .f32 0x00000000#32) (ix2 r c) = part k q v r c := by
  rw [weigh_apply]
  refine Finset.sum_congr rfl fun s _ => ?_
  rw [← scores_apply k q s c]
  rfl

/-- Two tiles' contributions added. -/
theorem pay3_apply (k q v k' q' v' r c) : k0_pay3 (F := Ideal) k q v k' q' v' (ix2 r c) = part k q v r c + part k' q' v' r c :=
  congrArg₂ (· + ·) (part_apply k q v r c) (part_apply k' q' v' r c)
/-- Two further tiles' contributions added to a sum. -/
theorem pay4_apply (a k q v k' q' v' r c) : k0_pay4 (F := Ideal) a k q v k' q' v' (ix2 r c) = a (ix2 r c) + part k q v r c + part k' q' v' r c :=
  congrArg₂ (· + ·) (congrArg (_ + ·) (part_apply k q v r c)) (part_apply k' q' v' r c)
/-- An entry of a partial sum over key tiles, without a running maximum: the sum of the tiles' parts. -/
theorem pay5_apply (a k q v k' q' v' r c) : k0_pay5 (F := Ideal) a k q v k' q' v' (ix2 r c) = a (ix2 r c) + part k q v r c + part k' q' v' r c :=
  congrArg₂ (· + ·) (congrArg (_ + ·) (part_apply k q v r c)) (part_apply k' q' v' r c)
/-- An entry of a partial sum over key tiles, without a running maximum: the sum of the tiles' parts. -/
theorem pay8_apply (k q v k' q' v' r c) : k0_pay8 (F := Ideal) k q v k' q' v' (ix2 r c) = part k q v r c + part k' q' v' r c :=
  congrArg₂ (· + ·) (part_apply k q v r c) (part_apply k' q' v' r c)
/-- An entry of a partial sum over key tiles, without a running maximum: the sum of the tiles' parts. -/
theorem pay9_apply (a k q v k' q' v' r c) : k0_pay9 (F := Ideal) a k q v k' q' v' (ix2 r c) = a (ix2 r c) + part k q v r c + part k' q' v' r c :=
  congrArg₂ (· + ·) (congrArg (_ + ·) (part_apply k q v r c)) (part_apply k' q' v' r c)
/-- An entry of a partial sum over key tiles, without a running maximum: the sum of the tiles' parts. -/
theorem pay11_apply (a k q v k' q' v' r c) :
    k0_pay11 (F := Ideal) a (k0_pay10 k) q v k' q' v' (ix2 r c) = a (ix2 r c) + part k q v r c + part k' q' v' r c :=
  congrArg₂ (· + ·) (congrArg (_ + ·) (part_apply k q v r c)) (part_apply k' q' v' r c)

/-- The last two tiles of a trip and the accumulator found. -/
theorem pay7_apply (a k q v k' q' v' A) (z : Fin 1) (r : Fin 80) (c : Fin 2048) :
    k0_pay7 (F := Ideal) a (k0_pay6 k) q v k' q' v' A (ix3 z r c) = A (ix3 0 r c) + (a (ix2 r c) + part k q v r c + part k' q' v' r c) := by
  unfold k0_pay7 k0_pay6
  rw [At.add1]
  exact congrArg₂ (· + ·) (At.drop1 _ _ _ _) (congrArg₂ (· + ·) (congrArg (_ + ·) (part_apply k q v r c)) (part_apply k' q' v' r c))
/-- An entry of the accumulator after one iteration without a running maximum: the former entry plus the parts of the iteration's tiles. -/
theorem pay14_apply (a k q v k' q' v' A) (z : Fin 1) (r : Fin 80) (c : Fin 2048) :
    k0_pay14 (F := Ideal) a (k0_pay12 k) (k0_pay13 q) (constant S512x2048 .f32 0x00000000#32) v k' q' v' A (ix3 z r c)
      = A (ix3 0 r c) + (a (ix2 r c) + part k q v r c + part k' q' v' r c) := by
  unfold k0_pay14 k0_pay12 k0_pay13
  rw [At.add1]
  exact congrArg₂ (· + ·) (At.drop1 _ _ _ _) (congrArg₂ (· + ·) (congrArg (_ + ·) (part_apply k q v r c)) (part_apply k' q' v' r c))

/-! ## One key tile with a running maximum -/

/-- The running maximum after a tile. -/
def peak (k : Vec Ideal S1x1x512x128 .bf16) (q : Vec Ideal S1x128x2048 .bf16) (m : Vec Ideal S1x8x2048 .f32) (i : Fin 8) (c : Fin 2048) : EReal :=
  max (m (ix3 0 i c)) ((Finset.univ : Finset (Fin 512)).fold max (Ideal.ofBits .f32 0xFF800000#32) (fun s => score k q s c))

/-- The accumulator after a tile: the old one rescaled, plus the tile's contribution. -/
def shifted (k : Vec Ideal S1x1x512x128 .bf16) (q : Vec Ideal S1x128x2048 .bf16) (m : Vec Ideal S1x8x2048 .f32) (A : Vec Ideal S1x80x2048 .f32)
    (v : Vec Ideal S1x1x80x512 .bf16) (r : Fin 80) (c : Fin 2048) : EReal :=
  Ideal.exp2 (m (ix3 0 0 c) - peak k q m 0 c) * A (ix3 0 r c) + ∑ s : Fin 512, v (ix4 0 0 r s) * Ideal.exp2 (score k q s c - peak k q m 0 c)

/-- An entry of the new running maximum: the larger of the former one and of the tile's scores. -/
theorem pay18_apply (k q m i c) : k0_pay18 (F := Ideal) k q m (ix2 i c) = peak k q m i c := by
  unfold k0_pay18
  rw [maximumf_apply, At.bcast_row, At.row1]
  refine congrArg₂ max (At.drop1 _ _ _ _) ((At.colMax _ _ _ _ _ _).trans <| congrArg (fun f => Finset.fold max _ f Finset.univ) (funext fun s => ?_))
  exact scores_apply k q s c
/-- An entry of the new running maximum: the larger of the former one and of the tile's scores. -/
theorem pay35_apply (k q m) (z : Fin 1) (i : Fin 8) (c : Fin 2048) : k0_pay35 (F := Ideal) (k0_pay18 k q m) (ix3 z i c) = peak k q m i c :=
  (At.add1 _ _ _ _ _).trans (pay18_apply k q m i c)
/-- An entry of the accumulator after one tile with a running maximum: the rescaled former entry plus the tile's shifted part. -/
theorem pay19_apply (k q m A v) (z : Fin 1) (r : Fin 80) (c : Fin 2048) : k0_pay19 (F := Ideal) k q m A v (ix3 z r c) = shifted k q m A v r c := by
  unfold k0_pay19
  rw [At.add1, addf_apply, mulf_apply, At.bcast_row, At.cut _ _ (0 : Fin 1) c (0 : Fin 8) c rfl (Nat.zero_add _).symm, At.drop1, weigh_apply]
  refine congrArg₂ (· + ·) (congrArg (· * _) (congrArg Ideal.exp2 (congrArg₂ (· - ·) (At.drop1 _ _ _ _) (pay18_apply k q m 0 c))))
    (Finset.sum_congr rfl fun s _ => congrArg (_ * ·) (congrArg Ideal.exp2 (congrArg₂ (· - ·) (scores_apply k q s c) ?_)))
  rw [At.bcast_row, At.cut _ _ (0 : Fin 1) c (0 : Fin 8) c rfl (Nat.zero_add _).symm, pay18_apply]
/-- An entry of the new running maximum: the larger of the former one and of the tile's scores. -/
theorem pay40_apply (k q m) (z : Fin 1) (i : Fin 8) (c : Fin 2048) : k0_pay40 (F := Ideal) (k0_pay15 k) q m (ix3 z i c) = peak k q m i c :=
  pay35_apply k q m z i c
/-- An entry of the accumulator after one tile with a running maximum: the rescaled former entry plus the tile's shifted part. -/
theorem pay39_apply (k q m A v) (z : Fin 1) (r : Fin 80) (c : Fin 2048) :
    k0_pay39 (F := Ideal) (k0_pay15 k) q m A v (ix3 z r c) = shifted k q m A v r c := pay19_apply k q m A v z r c

/-! ## The quotient written out -/

/-- One pair of heads of the output block: sixty-four lanes of each. -/
theorem pair_apply (o p : ℕ) (ho : o + 512 ≤ 2048) (hp : p + 512 ≤ 2048) (hs : S64x2048.Slices ![0, o] S64x512) (hs' : S64x2048.Slices ![0, p] S64x512) (A : Vec Ideal S1x80x2048 .f32) (z : Fin 1) (r : Fin 512) (l : Fin 128) :
    shapeCast S1x512x128 (truncf .bf16 (transpose S512x128 [1, 0] (concatenate S128x512 0
        [⟨S64x512, extractStridedSlice S64x512 ![0, o] (k0_pay41 (F := Ideal) A) hs⟩, ⟨S64x512, extractStridedSlice S64x512 ![0, p] (k0_pay41 (F := Ideal) A) hs'⟩]
        concatenates_S64x512_S64x512_S128x512_d0) transposes_S128x512_p1_0_S512x128) bitsLt_bf16_f32) shapeCasts_S512x128_S1x512x128 (ix3 z r l)
      = if h : l.val < 64 then Ideal.div (A (ix3 0 ⟨l.val, by omega⟩ ⟨o + r.val, by omega⟩)) (A (ix3 0 64 ⟨o + r.val, by omega⟩))
        else Ideal.div (A (ix3 0 ⟨l.val - 64, by omega⟩ ⟨p + r.val, by omega⟩)) (A (ix3 0 64 ⟨p + r.val, by omega⟩)) := by
  have hq : ∀ (i : Fin 64) (j : Fin 2048), k0_pay41 (F := Ideal) A (ix2 i j) = Ideal.div (A (ix3 0 ⟨i.val, by omega⟩ j)) (A (ix3 0 64 j)) := by
    intro i j
    unfold k0_pay41
    rw [divf_apply, At.cut _ _ i j (⟨i.val, by omega⟩ : Fin 80) j (Nat.zero_add _).symm (Nat.zero_add _).symm, At.drop1, At.bcast_row,
      At.cut (o := 64) (p := 0) _ _ (0 : Fin 1) j (64 : Fin 80) j rfl (Nat.zero_add _).symm, At.drop1]
  rw [At.add1, truncf_apply, At.transp]
  by_cases h : l.val < 64
  · rw [dif_pos h, At.above _ _ _ _ _ h, At.cut _ _ (⟨l.val, h⟩ : Fin 64) r (⟨l.val, h⟩ : Fin 64) (⟨o + r.val, by omega⟩ : Fin 2048) (Nat.zero_add _).symm rfl, hq]
  · rw [dif_neg h, At.below _ _ _ _ _ ⟨l.val - 64, by omega⟩ (by show l.val - 64 + 64 = l.val; omega),
      At.cut _ _ (⟨l.val - 64, by omega⟩ : Fin 64) r (⟨l.val - 64, by omega⟩ : Fin 64) (⟨p + r.val, by omega⟩ : Fin 2048) (Nat.zero_add _).symm rfl, hq]

/-- The pair of heads `o` columns on: the value every output store has. -/
def pairOut (o p : ℕ) (ho : o + 512 ≤ 2048) (hp : p + 512 ≤ 2048) (A : Vec Ideal S1x80x2048 .f32) (r : Fin 512) (l : Fin 128) : EReal :=
  if h : l.val < 64 then Ideal.div (A (ix3 0 ⟨l.val, by omega⟩ ⟨o + r.val, by omega⟩)) (A (ix3 0 64 ⟨o + r.val, by omega⟩))
    else Ideal.div (A (ix3 0 ⟨l.val - 64, by omega⟩ ⟨p + r.val, by omega⟩)) (A (ix3 0 64 ⟨p + r.val, by omega⟩))

/-- An entry of one stored output tile: numerator over denominator, for a pair of neighbouring heads. -/
theorem pay42_apply (A) (z : Fin 1) (r : Fin 512) (l : Fin 128) :
    k0_pay42 (F := Ideal) A (ix3 z r l) = pairOut 0 512 (by omega) (by omega) A r l := pair_apply 0 512 (by omega) (by omega) slices_S64x2048_o0_0_S64x512 slices_S64x2048_o0_512_S64x512 A z r l
/-- An entry of one stored output tile: numerator over denominator, for a pair of neighbouring heads. -/
theorem pay43_apply (A) (z : Fin 1) (r : Fin 512) (l : Fin 128) :
    k0_pay43 (F := Ideal) A (ix3 z r l) = pairOut 1024 1536 (by omega) (by omega) A r l := pair_apply 1024 1536 (by omega) (by omega) slices_S64x2048_o0_1024_S64x512 slices_S64x2048_o0_1536_S64x512 A z r l
/-- An entry of one stored output tile: numerator over denominator, for a pair of neighbouring heads. -/
theorem pay1_apply (A) (z : Fin 1) (r : Fin 512) (l : Fin 128) :
    k0_pay1 (F := Ideal) (k0_pay45 A) (ix3 z r l) = pairOut 0 512 (by omega) (by omega) A r l := pair_apply 0 512 (by omega) (by omega) slices_S64x2048_o0_0_S64x512 slices_S64x2048_o0_512_S64x512 A z r l
/-- An entry of one stored output tile: numerator over denominator, for a pair of neighbouring heads. -/
theorem pay2_apply (A) (z : Fin 1) (r : Fin 512) (l : Fin 128) :
    k0_pay2 (F := Ideal) (k0_pay44 A) (ix3 z r l) = pairOut 1024 1536 (by omega) (by omega) A r l := pair_apply 1024 1536 (by omega) (by omega) slices_S64x2048_o0_1024_S64x512 slices_S64x2048_o0_1536_S64x512 A z r l

end Cert.Attn

end
-- ==== Proof.Softmax.lean ====
/-
  Weighted means over the extended reals, as the attention kernel and its reference compute them: with finite positive
  weights, a mean may be taken with the weights normalised first (softmax) or with one division at the end, and the
  weights may carry any common positive factor. The values averaged are arbitrary extended reals.
-/
module

public import Idealize.ShloMosaic.PureOps
public import Idealize.ShloMosaic.Lib.ValueIdx

@[expose] public section

noncomputable section

open Idealize.ShloMosaic
open scoped BigOperators

namespace Cert.Softmax

/-- A finite nonnegative factor goes through a finite sum of extended reals. -/
theorem sum_mul_coe {ι : Type*} (S : Finset ι) (f : ι → EReal) (c : ℝ) (hc : 0 ≤ c) :
    (∑ s ∈ S, f s) * (c : EReal) = ∑ s ∈ S, f s * (c : EReal) := by
  classical
  induction S using Finset.induction_on with
  | empty => simp
  | insert a S ha ih =>
    rw [Finset.sum_insert ha, Finset.sum_insert ha, EReal.right_distrib_of_nonneg_of_ne_top
      (by exact_mod_cast hc) (EReal.coe_ne_top c), ih]

/-- A finite sum of reals, read in the extended reals. -/
theorem coe_sum {ι : Type*} (S : Finset ι) (f : ι → ℝ) : ((∑ s ∈ S, f s : ℝ) : EReal) = ∑ s ∈ S, (f s : EReal) := by
  classical
  induction S using Finset.induction_on with
  | empty => simp
  | insert a S ha ih => rw [Finset.sum_insert ha, Finset.sum_insert ha, EReal.coe_add, ih]

/-- One division at the end is the mean with normalised weights. -/
theorem div_eq_mean {ι : Type*} [Fintype ι] [Nonempty ι] (v : ι → EReal) (w : ι → ℝ) (hw : ∀ s, 0 < w s) :
    Ideal.div (∑ s, v s * (w s : EReal)) (∑ s, (1 : EReal) * (w s : EReal))
      = ∑ s, ((w s / ∑ t, w t : ℝ) : EReal) * v s := by
  have hW : 0 < ∑ t, w t := Finset.sum_pos (fun s _ => hw s) Finset.univ_nonempty
  simp only [one_mul]
  rw [← coe_sum, Ideal.div_coe hW.ne', sum_mul_coe _ _ _ (by positivity)]
  refine Finset.sum_congr rfl fun s _ => ?_
  rw [mul_assoc, ← EReal.coe_mul, mul_comm, mul_one_div]

/-- A common positive factor of the weights does not change the normalised weights. -/
theorem weight_scale {ι : Type*} [Fintype ι] (w u : ι → ℝ) (c : ℝ) (hc : 0 < c) (h : ∀ s, w s = c * u s) (s : ι) :
    w s / ∑ t, w t = u s / ∑ t, u t := by
  simp only [h]
  rw [← Finset.mul_sum, mul_div_mul_left _ _ hc.ne']

/-- The softmax weight of finite scores, shifted by any finite number, is the plain quotient of exponentials. -/
theorem softmax_weight {ι : Type*} [Fintype ι] [Nonempty ι] (x : ι → ℝ) (μ : ℝ) (s : ι) :
    Ideal.div (((Real.exp (x s - μ)) : ℝ) : EReal) (∑ t, ((Real.exp (x t - μ) : ℝ) : EReal))
      = ((Real.exp (x s) / ∑ t, Real.exp (x t) : ℝ) : EReal) := by
  have hW : 0 < ∑ t, Real.exp (x t - μ) := Finset.sum_pos (fun s _ => Real.exp_pos _) Finset.univ_nonempty
  rw [← coe_sum, Ideal.div_coe hW.ne', ← EReal.coe_mul, mul_one_div]
  refine congrArg _ (weight_scale (fun t => Real.exp (x t - μ)) (fun t => Real.exp (x t)) (Real.exp (-μ)) (Real.exp_pos _)
    (fun t => ?_) s)
  rw [← Real.exp_add]; congr 1; ring

/-- A power of two of a score in base-two units is the exponential of the score, up to the shift's factor. -/
theorem two_rpow_eq (y μ : ℝ) : (2 : ℝ) ^ (y - μ) = (2 : ℝ) ^ (-μ) * Real.exp (y * Real.log 2) := by
  rw [Real.rpow_def_of_pos two_pos, Real.rpow_def_of_pos two_pos, ← Real.exp_add]
  congr 1; ring

/-- THE LAW OF BOTH BRANCHES: numerators and denominators accumulated with weights `2 ^ (y s − μ)` divide to the softmax
    mean of the scores `x s = y s · log 2`. -/
theorem div_two_rpow {ι : Type*} [Fintype ι] [Nonempty ι] (v : ι → EReal) (y : ι → ℝ) (μ : ℝ) :
    Ideal.div (∑ s, v s * (((2 : ℝ) ^ (y s - μ) : ℝ) : EReal)) (∑ s, (1 : EReal) * (((2 : ℝ) ^ (y s - μ) : ℝ) : EReal))
      = ∑ s, ((Real.exp (y s * Real.log 2) / ∑ t, Real.exp (y t * Real.log 2) : ℝ) : EReal) * v s := by
  rw [div_eq_mean v _ fun s => Real.rpow_pos_of_pos two_pos _]
  refine Finset.sum_congr rfl fun s _ => ?_
  rw [weight_scale (fun s => (2 : ℝ) ^ (y s - μ)) (fun t => Real.exp (y t * Real.log 2)) _
    (Real.rpow_pos_of_pos two_pos (-μ)) (fun t => two_rpow_eq _ _) s]

/-- Rescaling an accumulated sum from shift `μ` to shift `μ'`. -/
theorem rescale {ι : Type*} (S : Finset ι) (v : ι → EReal) (y : ι → ℝ) (μ μ' : ℝ) :
    (((2 : ℝ) ^ (μ - μ') : ℝ) : EReal) * ∑ s ∈ S, v s * (((2 : ℝ) ^ (y s - μ) : ℝ) : EReal)
      = ∑ s ∈ S, v s * (((2 : ℝ) ^ (y s - μ') : ℝ) : EReal) := by
  rw [mul_comm, sum_mul_coe _ _ _ (Real.rpow_pos_of_pos two_pos _).le]
  refine Finset.sum_congr rfl fun s _ => ?_
  rw [mul_assoc, ← EReal.coe_mul, ← Real.rpow_add two_pos]
  congr 3; ring

end Cert.Softmax

end
-- ==== Proof.Online.lean ====
/-
  A weighted sum over the keys accumulated tile by tile against a running maximum: whatever real maximum the sum ends up
  shifted by, it is the sum over all keys of value times a power of two, up to that one shift.
-/
module

public import proofs.«01_k».proof.Proof.AttnBody
public import proofs.«01_k».proof.Proof.Softmax

@[expose] public section

noncomputable section

namespace Cert.Online

open Idealize.ShloMosaic
open scoped BigOperators

/-- The keys of the tiles before tile `n`. -/
def before (n : ℕ) : Finset (Fin 16 × Fin 512) := Finset.univ.filter fun p => p.1.val < n

/-- A sum over the tiles before `n + 1` is the sum over those before `n` and the one over tile `n`. -/
theorem sum_before_succ (f : Fin 16 × Fin 512 → EReal) (n : Fin 16) :
    ∑ p ∈ before (n.val + 1), f p = ∑ p ∈ before n.val, f p + ∑ s, f (n, s) := by
  unfold before
  rw [Finset.sum_filter, Finset.sum_filter, Fintype.sum_prod_type, Fintype.sum_prod_type]
  have h : ∀ i : Fin 16, (∑ s : Fin 512, if i.val < n.val + 1 then f (i, s) else 0)
      = (∑ s : Fin 512, if i.val < n.val then f (i, s) else 0) + if n = i then ∑ s, f (n, s) else 0 := by
    intro i
    rcases lt_trichotomy i.val n.val with hlt | heq | hgt
    · have hne : n ≠ i := fun e => by rw [e] at hlt; exact lt_irrefl _ hlt
      simp only [if_pos hlt, if_pos (Nat.lt_succ_of_lt hlt), if_neg hne, add_zero]
    · have he : n = i := Fin.ext heq.symm
      subst he
      simp
    · have hne : n ≠ i := fun e => by rw [e] at hgt; exact lt_irrefl _ hgt
      simp only [if_neg (not_lt.mpr hgt.le), if_neg (show ¬ i.val < n.val + 1 by omega), if_neg hne, add_zero]
  rw [Finset.sum_congr rfl fun i _ => h i, Finset.sum_add_distrib, Finset.sum_ite_eq, if_pos (Finset.mem_univ n)]

/-- No tile lies before tile zero. -/
theorem sum_before_zero (f : Fin 16 × Fin 512 → EReal) : ∑ p ∈ before 0, f p = 0 := by
  unfold before
  rw [Finset.sum_filter]
  exact Finset.sum_eq_zero fun p _ => if_neg (Nat.not_lt_zero _)

/-- Every tile lies before tile sixteen. -/
theorem before_all : before 16 = Finset.univ := by
  unfold before
  exact Finset.filter_true_of_mem fun p _ => p.1.isLt

/-- A maximum of finitely many reals and of a start that is no `+∞` is a real once there is a real in it. -/
theorem fold_max_real {ι : Type*} [DecidableEq ι] (S : Finset ι) (b : EReal) (f : ι → ℝ) (hb : b = ⊥) (hS : S.Nonempty) :
    ∃ μ : ℝ, S.fold max b (fun s => (f s : EReal)) = μ := by
  subst hb
  induction hS using Finset.Nonempty.cons_induction with
  | singleton a => exact ⟨f a, by rw [Finset.fold_singleton]; exact max_bot_right _⟩
  | cons a s h hs ih =>
    obtain ⟨μ, hμ⟩ := ih
    exact ⟨max (f a) μ, by rw [Finset.fold_cons, hμ]; exact (EReal.coe_strictMono.monotone.map_max (a := _) (b := _)).symm⟩

/-- The word of the running maximum's start is `-∞`. -/
theorem ofBits_neg_inf : Ideal.ofBits .f32 0xFF800000#32 = (⊥ : EReal) := by
  simp [Ideal.ofBits, Ideal.ieee]

/-- The state of a running sum against a running maximum, after the tiles before `n`: nothing yet, or everything so far
    shifted by a real. -/
def Upto {ρ : Type*} (v : ρ → Fin 16 × Fin 512 → EReal) (y : Fin 16 × Fin 512 → ℝ) (n : ℕ) (m : EReal) (a : ρ → EReal) : Prop :=
  (n = 0 ∧ m = ⊥ ∧ ∀ r, a r = 0) ∨ ∃ μ : ℝ, m = μ ∧ ∀ r, a r = ∑ p ∈ before n, v r p * (((2 : ℝ) ^ (y p - μ) : ℝ) : EReal)

/-- A tile's sum of values times `2` to shifted real scores. -/
theorem tile_sum (v : Fin 512 → EReal) (y : Fin 512 → ℝ) (μ : ℝ) (w : Fin 512 → EReal) (hw : ∀ s, w s = (y s : EReal)) :
    ∑ s, v s * Ideal.exp2 (w s - (μ : EReal)) = ∑ s, v s * (((2 : ℝ) ^ (y s - μ) : ℝ) : EReal) :=
  Finset.sum_congr rfl fun s _ => by rw [hw s, ← EReal.coe_sub, Ideal.exp2_coe]; rfl

/-- One tile more keeps the state. -/
theorem Upto.step {ρ : Type*} (v : ρ → Fin 16 × Fin 512 → EReal) (y : Fin 16 × Fin 512 → ℝ) (n : Fin 16) (m : EReal) (a : ρ → EReal)
    (h : Upto v y n.val m a) (w : Fin 512 → EReal) (hw : ∀ s, w s = (y (n, s) : EReal)) (m' : EReal)
    (hm' : m' = max m ((Finset.univ : Finset (Fin 512)).fold max (Ideal.ofBits .f32 0xFF800000#32) w)) (a' : ρ → EReal)
    (ha' : ∀ r, a' r = Ideal.exp2 (m - m') * a r + ∑ s, v r (n, s) * Ideal.exp2 (w s - m')) :
    Upto v y (n.val + 1) m' a' := by
  obtain ⟨t, ht⟩ := fold_max_real (Finset.univ : Finset (Fin 512)) _ (fun s => y (n, s)) ofBits_neg_inf Finset.univ_nonempty
  rw [show w = fun s => ((y (n, s) : ℝ) : EReal) from funext hw, ht] at hm'
  rcases h with ⟨h0, rfl, hz⟩ | ⟨μ, rfl, hs⟩
  · right
    refine ⟨t, hm'.trans (max_bot_left _), fun r => ?_⟩
    rw [ha' r, hz r, mul_zero, zero_add, sum_before_succ, h0, sum_before_zero, zero_add, show m' = ((t : ℝ) : EReal) from hm'.trans (max_bot_left _)]
    exact tile_sum (fun s => v r (n, s)) (fun s => y (n, s)) t w hw
  · right
    have hmm : m' = ((max μ t : ℝ) : EReal) := hm'.trans (EReal.coe_strictMono.monotone.map_max (a := _) (b := _)).symm
    refine ⟨max μ t, hmm, fun r => ?_⟩
    rw [ha' r, hs r, sum_before_succ, hmm, ← EReal.coe_sub, Ideal.exp2_coe]
    exact congrArg₂ (· + ·) (Cert.Softmax.rescale _ _ y μ (max μ t)) (tile_sum (fun s => v r (n, s)) (fun s => y (n, s)) _ w hw)

end Cert.Online

end
-- ==== Proof.AttnLoop.lean ====
/-
  The attention kernel's two key loops as running sums: what one trip leaves in the accumulator, and what is there after any
  number of trips.
-/
module

public import proofs.«01_k».proof.Proof.AttnBody
public import proofs.«01_k».proof.Proof.Online
public import Idealize.ShloMosaic.Lib.WritesUnit

@[expose] public section

set_option maxRecDepth 16384

noncomputable section

namespace Cert.Attn

open Cert.KernelIdeal Cert.KernelIdeal.Gen
open Idealize.ShloMosaic Idealize.ShloMosaic.TcCoe Idealize.ShloMosaic.Tactic Idealize.ShloMosaic.ValueIdx
open scoped BigOperators

/-! ## Tiles of the resident arrays -/

/-- Key tile `n`. -/
def kT (K : Vec Ideal S1x16x512x128 .bf16) (n : Fin 16) : Vec Ideal S1x1x512x128 .bf16 := fun x => K (ix4 0 n (x 2) (x 3))
/-- Value tile `n` with its rows of ones. -/
def vT (V : Vec Ideal S1x16x80x512 .bf16) (n : Fin 16) : Vec Ideal S1x1x80x512 .bf16 := fun x => V (ix4 0 n (x 2) (x 3))
/-- The query layout of group `g`. -/
def qT (Q : Vec Ideal S2x128x2048 .bf16) (g : Fin 2) : Vec Ideal S1x128x2048 .bf16 := fun x => Q (ix3 g (x 1) (x 2))
/-- The accumulator of group `g`. -/
def aT (A : Vec Ideal S2x80x2048 .f32) (g : Fin 2) : Vec Ideal S1x80x2048 .f32 := fun x => A (ix3 g (x 1) (x 2))
/-- The running maximum of group `g`. -/
def mT (M : Vec Ideal S2x8x2048 .f32) (g : Fin 2) : Vec Ideal S1x8x2048 .f32 := fun x => M (ix3 g (x 1) (x 2))

/-- A load of one tile of the keys reads the entries at that tile's index. -/
theorem ld_k (K : Vec Ideal S1x16x512x128 .bf16) (off : Fin 4 → ℕ) (inb) (n : Fin 16) (h : off = ![0, n.val, 0, 0]) :
    View.ld K (Rect.unit (s := S1x16x512x128) off S1x1x512x128.size inb) = kT K n := by
  subst h
  funext x
  refine View.ld_unit_apply_of K _ _ inb x _ fun a => ?_
  match a with
  | ⟨0, _⟩ => have h0 : (x 0).val < 1 := (x 0).isLt; show (0 : ℕ) = 0 + (x 0).val; omega
  | ⟨1, _⟩ => have h0 : (x 1).val < 1 := (x 1).isLt; show n.val = n.val + (x 1).val; omega
  | ⟨2, _⟩ => exact (Nat.zero_add _).symm
  | ⟨3, _⟩ => exact (Nat.zero_add _).symm
/-- A load of one tile of the values reads the entries at that tile's index. -/
theorem ld_v (K : Vec Ideal S1x16x80x512 .bf16) (off : Fin 4 → ℕ) (inb) (n : Fin 16) (h : off = ![0, n.val, 0, 0]) :
    View.ld K (Rect.unit (s := S1x16x80x512) off S1x1x80x512.size inb) = vT K n := by
  subst h
  funext x
  refine View.ld_unit_apply_of K _ _ inb x _ fun a => ?_
  match a with
  | ⟨0, _⟩ => have h0 : (x 0).val < 1 := (x 0).isLt; show (0 : ℕ) = 0 + (x 0).val; omega
  | ⟨1, _⟩ => have h0 : (x 1).val < 1 := (x 1).isLt; show n.val = n.val + (x 1).val; omega
  | ⟨2, _⟩ => exact (Nat.zero_add _).symm
  | ⟨3, _⟩ => exact (Nat.zero_add _).symm
/-- A load of one tile of the queries reads the entries at that tile's index. -/
theorem ld_q (K : Vec Ideal S2x128x2048 .bf16) (off : Fin 3 → ℕ) (inb) (n : Fin 2) (h : off = ![n.val, 0, 0]) :
    View.ld K (Rect.unit (s := S2x128x2048) off S1x128x2048.size inb) = qT K n := by
  subst h
  funext x
  refine View.ld_unit_apply_of K _ _ inb x _ fun a => ?_
  match a with
  | ⟨0, _⟩ => have h0 : (x 0).val < 1 := (x 0).isLt; show n.val = n.val + (x 0).val; omega
  | ⟨1, _⟩ => exact (Nat.zero_add _).symm
  | ⟨2, _⟩ => exact (Nat.zero_add _).symm
/-- A load of one tile of the accumulator reads the entries at that tile's index. -/
theorem ld_a (K : Vec Ideal S2x80x2048 .f32) (off : Fin 3 → ℕ) (inb) (n : Fin 2) (h : off = ![n.val, 0, 0]) :
    View.ld K (Rect.unit (s := S2x80x2048) off S1x80x2048.size inb) = aT K n := by
  subst h
  funext x
  refine View.ld_unit_apply_of K _ _ inb x _ fun a => ?_
  match a with
  | ⟨0, _⟩ => have h0 : (x 0).val < 1 := (x 0).isLt; show n.val = n.val + (x 0).val; omega
  | ⟨1, _⟩ => exact (Nat.zero_add _).symm
  | ⟨2, _⟩ => exact (Nat.zero_add _).symm
/-- A load of one tile of the running maximum reads the entries at that tile's index. -/
theorem ld_m (K : Vec Ideal S2x8x2048 .f32) (off : Fin 3 → ℕ) (inb) (n : Fin 2) (h : off = ![n.val, 0, 0]) :
    View.ld K (Rect.unit (s := S2x8x2048) off S1x8x2048.size inb) = mT K n := by
  subst h
  funext x
  refine View.ld_unit_apply_of K _ _ inb x _ fun a => ?_
  match a with
  | ⟨0, _⟩ => have h0 : (x 0).val < 1 := (x 0).isLt; show n.val = n.val + (x 0).val; omega
  | ⟨1, _⟩ => exact (Nat.zero_add _).symm
  | ⟨2, _⟩ => exact (Nat.zero_add _).symm

/-- The first loop has two trips. -/
theorem trips1 : k0_t1_loop.trips = 2 := by decide +kernel
/-- The second loop has sixteen trips. -/
theorem trips2 : k0_t2_loop.trips = 16 := by decide +kernel

/-- The tile a step of the first loop reads. -/
def tile1 (k : Fin k0_t1_loop.trips) (j : Fin 8) : Fin 16 := ⟨8 * k.val + j.val, by have := k.isLt.trans_eq trips1; omega⟩
/-- The offset of a tile's load is the tile's index. -/
theorem off1_eq : ∀ (k : Fin k0_t1_loop.trips) (j : Fin 8), k0_off1 k (BitVec.ofNat 32 j.val) = ![0, (tile1 k j).val, 0, 0] := by decide +kernel
/-- The offset of a tile's load is the tile's index. -/
theorem off2_eq : ∀ (k : Fin k0_t1_loop.trips) (j : Fin 8), k0_off2 k (BitVec.ofNat 32 j.val) = ![0, (tile1 k j).val, 0, 0] := by decide +kernel

/-- The tile a trip of the second loop reads. -/
def tile2 (k : Fin k0_t2_loop.trips) : Fin 16 := ⟨k.val, k.isLt.trans_eq trips2⟩
/-- The offset of a tile's load is the tile's index. -/
theorem off3_eq : ∀ (k : Fin k0_t2_loop.trips), k0_off3 k = ![0, (tile2 k).val, 0, 0] := by decide +kernel
/-- The offset of a tile's load is the tile's index. -/
theorem off4_eq : ∀ (k : Fin k0_t2_loop.trips), k0_off4 k = ![0, (tile2 k).val, 0, 0] := by decide +kernel

variable (𝒱 : Variants) (c : Dev nD) (bd : Option 𝒱.V) (i : grid0.Coords) (arg2 : Memref sig .tc .smem S1 .i32) (harg2 : arg2.IsWhole) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole) (v65 : Elt Ideal .i32) (c1_i32 : BitVec 32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty)

/-- Two stores of a group's plane each, read back: the newest over group one. -/
theorem read_planes1 (f : BufTy.Contents (Elt Ideal) arg9.view.ty) (o1 o0 : Fin 3 → ℕ) (h1 : o1 = ![1, 0, 0]) (h0 : o0 = ![0, 0, 0])
    (inb1 : ∀ a, o1 a + S1x80x2048.size a ≤ S2x80x2048.size a) (inb0 : ∀ a, o0 a + S1x80x2048.size a ≤ S2x80x2048.size a) (p1 p0 : Vec Ideal S1x80x2048 .f32) (L : List (View.Piece (Elt Ideal) S2x80x2048 .f32)) (g : Fin 2) (r : Fin 80) (q : Fin 2048) :
    arg9.view.read (Elt Ideal) (arg9.view.writes (Elt Ideal) f (⟨Rect.unit (s := S2x80x2048) o1 S1x80x2048.size inb1, p1⟩ :: ⟨Rect.unit (s := S2x80x2048) o0 S1x80x2048.size inb0, p0⟩ :: L)) (ix3 g r q)
      = if g = 1 then p1 (ix3 0 r q) else p0 (ix3 0 r q) := by
  obtain rfl | rfl : g = 0 ∨ g = 1 := by omega
  · rw [if_neg (by decide), View.read_writes_cons_unit_of_not_mem _ _ inb1 _ _ _ h1 (0 : Fin 3) (Or.inl Nat.zero_lt_one)]
    refine View.read_writes_cons_unit_of_mem arg9.view f inb0 _ _ (ix3 0 r q) (ix3 0 r q) h0 fun a => ?_
    match a with
    | ⟨0, _⟩ => rfl
    | ⟨1, _⟩ => exact (Nat.zero_add _).symm
    | ⟨2, _⟩ => exact (Nat.zero_add _).symm
  · rw [if_pos rfl]
    refine View.read_writes_cons_unit_of_mem arg9.view f inb1 _ _ (ix3 1 r q) (ix3 0 r q) h1 fun a => ?_
    match a with
    | ⟨0, _⟩ => rfl
    | ⟨1, _⟩ => exact (Nat.zero_add _).symm
    | ⟨2, _⟩ => exact (Nat.zero_add _).symm
/-- Two stores of a group's plane each, read back: the newest over group one. -/
theorem read_planes2 (f : BufTy.Contents (Elt Ideal) arg10.view.ty) (o1 o0 : Fin 3 → ℕ) (h1 : o1 = ![1, 0, 0]) (h0 : o0 = ![0, 0, 0])
    (inb1 : ∀ a, o1 a + S1x8x2048.size a ≤ S2x8x2048.size a) (inb0 : ∀ a, o0 a + S1x8x2048.size a ≤ S2x8x2048.size a) (p1 p0 : Vec Ideal S1x8x2048 .f32) (L : List (View.Piece (Elt Ideal) S2x8x2048 .f32)) (g : Fin 2) (r : Fin 8) (q : Fin 2048) :
    arg10.view.read (Elt Ideal) (arg10.view.writes (Elt Ideal) f (⟨Rect.unit (s := S2x8x2048) o1 S1x8x2048.size inb1, p1⟩ :: ⟨Rect.unit (s := S2x8x2048) o0 S1x8x2048.size inb0, p0⟩ :: L)) (ix3 g r q)
      = if g = 1 then p1 (ix3 0 r q) else p0 (ix3 0 r q) := by
  obtain rfl | rfl : g = 0 ∨ g = 1 := by omega
  · rw [if_neg (by decide), View.read_writes_cons_unit_of_not_mem _ _ inb1 _ _ _ h1 (0 : Fin 3) (Or.inl Nat.zero_lt_one)]
    refine View.read_writes_cons_unit_of_mem arg10.view f inb0 _ _ (ix3 0 r q) (ix3 0 r q) h0 fun a => ?_
    match a with
    | ⟨0, _⟩ => rfl
    | ⟨1, _⟩ => exact (Nat.zero_add _).symm
    | ⟨2, _⟩ => exact (Nat.zero_add _).symm
  · rw [if_pos rfl]
    refine View.read_writes_cons_unit_of_mem arg10.view f inb1 _ _ (ix3 1 r q) (ix3 0 r q) h1 fun a => ?_
    match a with
    | ⟨0, _⟩ => rfl
    | ⟨1, _⟩ => exact (Nat.zero_add _).symm
    | ⟨2, _⟩ => exact (Nat.zero_add _).symm

/-- One key tile's part, its operands loaded from the resident arrays. -/
theorem part_loaded {s4 s8 s5 : Space} (a4 : Memref sig .tc s4 S1x16x512x128 .bf16) (a8 : Memref sig .tc s8 S2x128x2048 .bf16) (a5 : Memref sig .tc s5 S1x16x80x512 .bf16)
    (X4 : BufTy.Contents (Elt Ideal) a4.view.ty) (X8 : BufTy.Contents (Elt Ideal) a8.view.ty) (X5 : BufTy.Contents (Elt Ideal) a5.view.ty)
    (o4 : Fin 4 → ℕ) (o8 : Fin 3 → ℕ) (o5 : Fin 4 → ℕ) (i4 i8 i5) (n : Fin 16) (g : Fin 2) (h4 : o4 = ![0, n.val, 0, 0]) (h8 : o8 = ![g.val, 0, 0]) (h5 : o5 = ![0, n.val, 0, 0]) (r : Fin 80) (q : Fin 2048) :
    part (View.readAt (Elt Ideal) a4.view (Rect.unit (s := S1x16x512x128) o4 S1x1x512x128.size i4).toLoadRect X4)
        (View.readAt (Elt Ideal) a8.view (Rect.unit (s := S2x128x2048) o8 S1x128x2048.size i8).toLoadRect X8)
        (View.readAt (Elt Ideal) a5.view (Rect.unit (s := S1x16x80x512) o5 S1x1x80x512.size i5).toLoadRect X5) r q
      = part (kT (a4.view.read (Elt Ideal) X4) n) (qT (a8.view.read (Elt Ideal) X8) g) (vT (a5.view.read (Elt Ideal) X5) n) r q := by
  rw [View.readAt_eq_ld, View.readAt_eq_ld, View.readAt_eq_ld, ld_k _ _ _ n h4, ld_q _ _ _ g h8, ld_v _ _ _ n h5]

/-- One trip of the first loop adds eight key tiles' parts to each group's accumulator. -/
theorem trip1 (k : Fin k0_t1_loop.trips) (f : BufTy.Contents (Elt Ideal) arg9.view.ty) (g : Fin 2) (r : Fin 80) (q : Fin 2048) :
    arg9.view.read (Elt Ideal) (arg9.view.writes (Elt Ideal) f (tripL_k0_t1 (F := Ideal) 𝒱 c bd i arg2 harg2 arg3 harg3 arg4 harg4 arg5 harg5 arg6 harg6 arg7 harg7 arg8 harg8 arg9 harg9 arg10 harg10 v65 c1_i32 X_arg4 X_arg5 X_arg6 X_arg8 k f)) (ix3 g r q)
      = arg9.view.read (Elt Ideal) f (ix3 g r q) + ∑ j : Fin 8, part (kT (arg4.view.read (Elt Ideal) X_arg4) (tile1 k j)) (qT (arg8.view.read (Elt Ideal) X_arg8) g)
          (vT (if g = 1 then arg6.view.read (Elt Ideal) X_arg6 else arg5.view.read (Elt Ideal) X_arg5) (tile1 k j)) r q := by
  unfold tripL_k0_t1 trip_k0_t1
  dsimp only
  sl_unfold_words
  refine (read_planes1 _ _ _ _ rfl rfl _ _ _ _ _ g r q).trans ?_
  rw [pay14_apply, pay11_apply, pay9_apply, pay8_apply, pay7_apply, pay5_apply, pay4_apply, pay3_apply, Fin.sum_univ_eight]
  obtain rfl | rfl : g = 0 ∨ g = 1 := by omega
  · rw [if_neg (by decide), if_neg (by decide)]
    refine congrArg₂ (· + ·) ?_ (congrArg₂ (· + ·) (congrArg₂ (· + ·) (congrArg₂ (· + ·) (congrArg₂ (· + ·) (congrArg₂ (· + ·) (congrArg₂ (· + ·) (congrArg₂ (· + ·) (part_loaded _ _ _ _ _ _ _ _ _ _ _ _ (tile1 k 0) 0 (off1_eq k 0) rfl (off2_eq k 0) r q) (part_loaded _ _ _ _ _ _ _ _ _ _ _ _ (tile1 k 1) 0 (off1_eq k 1) rfl (off2_eq k 1) r q)) (part_loaded _ _ _ _ _ _ _ _ _ _ _ _ (tile1 k 2) 0 (off1_eq k 2) rfl (off2_eq k 2) r q)) (part_loaded _ _ _ _ _ _ _ _ _ _ _ _ (tile1 k 3) 0 (off1_eq k 3) rfl (off2_eq k 3) r q)) (part_loaded _ _ _ _ _ _ _ _ _ _ _ _ (tile1 k 4) 0 (off1_eq k 4) rfl (off2_eq k 4) r q)) (part_loaded _ _ _ _ _ _ _ _ _ _ _ _ (tile1 k 5) 0 (off1_eq k 5) rfl (off2_eq k 5) r q)) (part_loaded _ _ _ _ _ _ _ _ _ _ _ _ (tile1 k 6) 0 (off1_eq k 6) rfl (off2_eq k 6) r q)) (part_loaded _ _ _ _ _ _ _ _ _ _ _ _ (tile1 k 7) 0 (off1_eq k 7) rfl (off2_eq k 7) r q))
    exact congrFun (ld_a (arg9.view.read (Elt Ideal) f) _ _ (0 : Fin 2) rfl) _
  · rw [if_pos rfl, if_pos rfl]
    refine congrArg₂ (· + ·) ?_ (congrArg₂ (· + ·) (congrArg₂ (· + ·) (congrArg₂ (· + ·) (congrArg₂ (· + ·) (congrArg₂ (· + ·) (congrArg₂ (· + ·) (congrArg₂ (· + ·) (part_loaded _ _ _ _ _ _ _ _ _ _ _ _ (tile1 k 0) 1 (off1_eq k 0) rfl (off2_eq k 0) r q) (part_loaded _ _ _ _ _ _ _ _ _ _ _ _ (tile1 k 1) 1 (off1_eq k 1) rfl (off2_eq k 1) r q)) (part_loaded _ _ _ _ _ _ _ _ _ _ _ _ (tile1 k 2) 1 (off1_eq k 2) rfl (off2_eq k 2) r q)) (part_loaded _ _ _ _ _ _ _ _ _ _ _ _ (tile1 k 3) 1 (off1_eq k 3) rfl (off2_eq k 3) r q)) (part_loaded _ _ _ _ _ _ _ _ _ _ _ _ (tile1 k 4) 1 (off1_eq k 4) rfl (off2_eq k 4) r q)) (part_loaded _ _ _ _ _ _ _ _ _ _ _ _ (tile1 k 5) 1 (off1_eq k 5) rfl (off2_eq k 5) r q)) (part_loaded _ _ _ _ _ _ _ _ _ _ _ _ (tile1 k 6) 1 (off1_eq k 6) rfl (off2_eq k 6) r q)) (part_loaded _ _ _ _ _ _ _ _ _ _ _ _ (tile1 k 7) 1 (off1_eq k 7) rfl (off2_eq k 7) r q))
    exact congrFun (ld_a (arg9.view.read (Elt Ideal) f) _ _ (1 : Fin 2) rfl) _

/-- One trip of the second loop: the accumulator rescaled to the new running maximum, the key tile's part added. -/
theorem trip2_acc (k : Fin k0_t2_loop.trips) (f : BufTy.Contents (Elt Ideal) arg9.view.ty) (f' : BufTy.Contents (Elt Ideal) arg10.view.ty) (g : Fin 2) (r : Fin 80) (q : Fin 2048) :
    arg9.view.read (Elt Ideal) (arg9.view.writes (Elt Ideal) f (tripL_k0_t2 (F := Ideal) 𝒱 c bd i arg2 harg2 arg3 harg3 arg4 harg4 arg5 harg5 arg6 harg6 arg7 harg7 arg8 harg8 arg9 harg9 arg10 harg10 v65 c1_i32 X_arg4 X_arg5 X_arg6 X_arg8 k f f').1) (ix3 g r q)
      = shifted (kT (arg4.view.read (Elt Ideal) X_arg4) (tile2 k)) (qT (arg8.view.read (Elt Ideal) X_arg8) g) (mT (arg10.view.read (Elt Ideal) f') g) (aT (arg9.view.read (Elt Ideal) f) g)
          (vT (if g = 1 then arg6.view.read (Elt Ideal) X_arg6 else arg5.view.read (Elt Ideal) X_arg5) (tile2 k)) r q := by
  unfold tripL_k0_t2 trip_k0_t2
  dsimp only
  sl_unfold_words
  refine (read_planes1 _ _ _ _ rfl rfl _ _ _ _ _ g r q).trans ?_
  rw [pay19_apply, pay39_apply]
  simp only [View.readAt_eq_ld]
  obtain rfl | rfl : g = 0 ∨ g = 1 := by omega
  · rw [if_neg (by decide), if_neg (by decide)]
    congr 1
    · exact ld_k _ _ _ _ (off3_eq k)
    · exact ld_q _ _ _ 0 rfl
    · exact ld_m _ _ _ 0 rfl
    · exact ld_a _ _ _ 0 rfl
    · exact ld_v _ _ _ _ (off4_eq k)
  · rw [if_pos rfl, if_pos rfl]
    congr 1
    · exact ld_k _ _ _ _ (off3_eq k)
    · exact ld_q _ _ _ 1 rfl
    · exact ld_m _ _ _ 1 rfl
    · exact ld_a _ _ _ 1 rfl
    · exact ld_v _ _ _ _ (off4_eq k)

/-- One trip of the second loop: the running maximum. -/
theorem trip2_max (k : Fin k0_t2_loop.trips) (f : BufTy.Contents (Elt Ideal) arg9.view.ty) (f' : BufTy.Contents (Elt Ideal) arg10.view.ty) (g : Fin 2) (r : Fin 8) (q : Fin 2048) :
    arg10.view.read (Elt Ideal) (arg10.view.writes (Elt Ideal) f' (tripL_k0_t2 (F := Ideal) 𝒱 c bd i arg2 harg2 arg3 harg3 arg4 harg4 arg5 harg5 arg6 harg6 arg7 harg7 arg8 harg8 arg9 harg9 arg10 harg10 v65 c1_i32 X_arg4 X_arg5 X_arg6 X_arg8 k f f').2) (ix3 g r q)
      = peak (kT (arg4.view.read (Elt Ideal) X_arg4) (tile2 k)) (qT (arg8.view.read (Elt Ideal) X_arg8) g) (mT (arg10.view.read (Elt Ideal) f') g) r q := by
  unfold tripL_k0_t2 trip_k0_t2
  dsimp only
  sl_unfold_words
  refine (read_planes2 _ _ _ _ rfl rfl _ _ _ _ _ g r q).trans ?_
  rw [pay35_apply, pay40_apply]
  simp only [View.readAt_eq_ld]
  obtain rfl | rfl : g = 0 ∨ g = 1 := by omega
  · rw [if_neg (by decide)]
    congr 1
    · exact ld_k _ _ _ _ (off3_eq k)
    · exact ld_q _ _ _ 0 rfl
    · exact ld_m _ _ _ 0 rfl
  · rw [if_pos rfl]
    congr 1
    · exact ld_k _ _ _ _ (off3_eq k)
    · exact ld_q _ _ _ 1 rfl
    · exact ld_m _ _ _ 1 rfl

/-- The accumulator after one trip more of the first loop. -/
theorem step1 (G : BufTy.Contents (Elt Ideal) arg9.view.ty) (g : Fin 2) (r : Fin 80) (q : Fin 2048) (n : ℕ) (h : n < k0_t1_loop.trips) :
    arg9.view.read (Elt Ideal) (arg9.view.writes (Elt Ideal) G (pb_k0_t1 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G (n + 1))) (ix3 g r q)
      = arg9.view.read (Elt Ideal) (arg9.view.writes (Elt Ideal) G (pb_k0_t1 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G n)) (ix3 g r q)
        + ∑ j : Fin 8, part (kT (arg4.view.read (Elt Ideal) X_arg4) (tile1 ⟨n, h⟩ j)) (qT (arg8.view.read (Elt Ideal) X_arg8) g)
          (vT (if g = 1 then arg6.view.read (Elt Ideal) X_arg6 else arg5.view.read (Elt Ideal) X_arg5) (tile1 ⟨n, h⟩ j)) r q := by
  rw [pb_k0_t1_succ (F := Ideal) 𝒱 c bd i arg2 harg2 arg3 harg3 arg4 harg4 arg5 harg5 arg6 harg6 arg7 harg7 arg8 harg8 arg9 harg9 arg10 harg10 v65 c1_i32 X_arg4 X_arg5 X_arg6 X_arg8 G ⟨n, h⟩, View.writes_append, trip1]

/-- What the first loop leaves: each group's accumulator with every key tile's part added. -/
theorem loop1 (G : BufTy.Contents (Elt Ideal) arg9.view.ty) (g : Fin 2) (r : Fin 80) (q : Fin 2048) :
    arg9.view.read (Elt Ideal) (arg9.view.writes (Elt Ideal) G (pb_k0_t1 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G k0_t1_loop.trips)) (ix3 g r q)
      = arg9.view.read (Elt Ideal) G (ix3 g r q) + ∑ n : Fin 16, part (kT (arg4.view.read (Elt Ideal) X_arg4) n) (qT (arg8.view.read (Elt Ideal) X_arg8) g)
          (vT (if g = 1 then arg6.view.read (Elt Ideal) X_arg6 else arg5.view.read (Elt Ideal) X_arg5) n) r q := by
  have h0 : 0 < k0_t1_loop.trips := by rw [trips1]; decide
  have h1 : 0 + 1 < k0_t1_loop.trips := by rw [trips1]; decide
  rw [show k0_t1_loop.trips = 0 + 1 + 1 from trips1, step1 𝒱 c bd i arg2 harg2 arg3 harg3 arg4 harg4 arg5 harg5 arg6 harg6 arg7 harg7 arg8 harg8 arg9 harg9 arg10 harg10 v65 c1_i32 X_arg4 X_arg5 X_arg6 X_arg8 G g r q (0 + 1) h1,
    step1 𝒱 c bd i arg2 harg2 arg3 harg3 arg4 harg4 arg5 harg5 arg6 harg6 arg7 harg7 arg8 harg8 arg9 harg9 arg10 harg10 v65 c1_i32 X_arg4 X_arg5 X_arg6 X_arg8 G g r q 0 h0,
    show pb_k0_t1 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G 0 = [] from rfl, View.writes_nil, add_assoc]
  refine congrArg (_ + ·) ?_
  refine Eq.trans ?_ (Fin.sum_univ_add (a := 8) (b := 8) (fun n : Fin 16 => part (kT (arg4.view.read (Elt Ideal) X_arg4) n) (qT (arg8.view.read (Elt Ideal) X_arg8) g)
          (vT (if g = 1 then arg6.view.read (Elt Ideal) X_arg6 else arg5.view.read (Elt Ideal) X_arg5) n) r q)).symm
  refine congrArg₂ (· + ·) (Finset.sum_congr rfl fun j _ => ?_) (Finset.sum_congr rfl fun j _ => ?_)
  · rw [show tile1 ⟨0, h0⟩ j = Fin.castAdd 8 j from Fin.ext (Nat.zero_add _)]
  · rw [show tile1 ⟨0 + 1, h1⟩ j = Fin.natAdd 8 j from Fin.ext rfl]

/-- The first loop from a zero accumulator, with real scores: the sums over all keys, unshifted. -/
theorem loop1_total (G : BufTy.Contents (Elt Ideal) arg9.view.ty) (g : Fin 2) (q : Fin 2048) (hG : ∀ r, arg9.view.read (Elt Ideal) G (ix3 g r q) = (0 : EReal))
    (y : Fin 16 × Fin 512 → ℝ) (hy : ∀ n s, score (kT (arg4.view.read (Elt Ideal) X_arg4) n) (qT (arg8.view.read (Elt Ideal) X_arg8) g) s q = (y (n, s) : EReal)) :
    ∃ μ : ℝ, ∀ r, arg9.view.read (Elt Ideal) (arg9.view.writes (Elt Ideal) G (pb_k0_t1 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G k0_t1_loop.trips)) (ix3 g r q)
      = ∑ p : Fin 16 × Fin 512, (if g = 1 then arg6.view.read (Elt Ideal) X_arg6 else arg5.view.read (Elt Ideal) X_arg5) (ix4 0 p.1 r p.2) * (((2 : ℝ) ^ (y p - μ) : ℝ) : EReal) := by
  refine ⟨0, fun r => ?_⟩
  rw [loop1, hG r, zero_add, Fintype.sum_prod_type]
  refine Finset.sum_congr rfl fun n _ => Finset.sum_congr rfl fun s _ => ?_
  rw [hy n s, Ideal.exp2_coe, sub_zero]
  rfl

/-- What the second loop has after its trips before `n`: the sums over those tiles' keys, shifted by the running maximum. -/
theorem loop2_upto (G : BufTy.Contents (Elt Ideal) arg9.view.ty) (G' : BufTy.Contents (Elt Ideal) arg10.view.ty) (g : Fin 2) (q : Fin 2048)
    (hG : ∀ r, arg9.view.read (Elt Ideal) G (ix3 g r q) = (0 : EReal)) (hG' : arg10.view.read (Elt Ideal) G' (ix3 g 0 q) = (⊥ : EReal))
    (y : Fin 16 × Fin 512 → ℝ) (hy : ∀ n s, score (kT (arg4.view.read (Elt Ideal) X_arg4) n) (qT (arg8.view.read (Elt Ideal) X_arg8) g) s q = (y (n, s) : EReal)) (n : ℕ) (hn : n ≤ 16) :
    Cert.Online.Upto (fun r p => (if g = 1 then arg6.view.read (Elt Ideal) X_arg6 else arg5.view.read (Elt Ideal) X_arg5) (ix4 0 p.1 r p.2)) y n
      (arg10.view.read (Elt Ideal) (arg10.view.writes (Elt Ideal) G' (pb_k0_t2 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G G' n).2) (ix3 g 0 q))
      (fun r => arg9.view.read (Elt Ideal) (arg9.view.writes (Elt Ideal) G (pb_k0_t2 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G G' n).1) (ix3 g r q)) := by
  induction n with
  | zero =>
    left
    rw [show pb_k0_t2 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G G' 0 = ([], []) from rfl]
    exact ⟨rfl, hG', hG⟩
  | succ n ih =>
    have hlt : n < k0_t2_loop.trips := by rw [trips2]; omega
    have hs := pb_k0_t2_succ (F := Ideal) 𝒱 c bd i arg2 harg2 arg3 harg3 arg4 harg4 arg5 harg5 arg6 harg6 arg7 harg7 arg8 harg8 arg9 harg9 arg10 harg10 v65 c1_i32 X_arg4 X_arg5 X_arg6 X_arg8 G G' ⟨n, hlt⟩
    rw [hs]
    have ih' := ih (by omega)
    refine Cert.Online.Upto.step _ y (tile2 ⟨n, hlt⟩) _ _ ih'
      (fun s => score (kT (arg4.view.read (Elt Ideal) X_arg4) (tile2 ⟨n, hlt⟩)) (qT (arg8.view.read (Elt Ideal) X_arg8) g) s q) (hy _) _ ?_ _ fun r => ?_
    · dsimp only
      rw [View.writes_append, trip2_max]
      rfl
    · dsimp only
      rw [View.writes_append, View.writes_append, trip2_acc, trip2_max]
      rfl

/-- The second loop from a zero accumulator and a maximum of `-∞`, with real scores: the sums over all keys, up to one shift. -/
theorem loop2_total (G : BufTy.Contents (Elt Ideal) arg9.view.ty) (G' : BufTy.Contents (Elt Ideal) arg10.view.ty) (g : Fin 2) (q : Fin 2048)
    (hG : ∀ r, arg9.view.read (Elt Ideal) G (ix3 g r q) = (0 : EReal)) (hG' : arg10.view.read (Elt Ideal) G' (ix3 g 0 q) = (⊥ : EReal))
    (y : Fin 16 × Fin 512 → ℝ) (hy : ∀ n s, score (kT (arg4.view.read (Elt Ideal) X_arg4) n) (qT (arg8.view.read (Elt Ideal) X_arg8) g) s q = (y (n, s) : EReal)) :
    ∃ μ : ℝ, ∀ r, arg9.view.read (Elt Ideal) (arg9.view.writes (Elt Ideal) G (pb_k0_t2 (F := Ideal) 𝒱 c bd i arg2 harg2 arg3 harg3 arg4 harg4 arg5 harg5 arg6 harg6 arg7 harg7 arg8 harg8 arg9 harg9 arg10 harg10 v65 c1_i32 X_arg4 X_arg5 X_arg6 X_arg8 G G' k0_t2_loop.trips).1) (ix3 g r q)
      = ∑ p : Fin 16 × Fin 512, (if g = 1 then arg6.view.read (Elt Ideal) X_arg6 else arg5.view.read (Elt Ideal) X_arg5) (ix4 0 p.1 r p.2) * (((2 : ℝ) ^ (y p - μ) : ℝ) : EReal) := by
  rcases loop2_upto 𝒱 c bd i arg2 harg2 arg3 harg3 arg4 harg4 arg5 harg5 arg6 harg6 arg7 harg7 arg8 harg8 arg9 harg9 arg10 harg10 v65 c1_i32 X_arg4 X_arg5 X_arg6 X_arg8 G G' g q hG hG' y hy k0_t2_loop.trips (le_of_eq trips2) with ⟨h, _⟩ | ⟨μ, _, h⟩
  · exact absurd (h.symm.trans trips2) (by decide)
  · refine ⟨μ, fun r => (h r).trans ?_⟩
    rw [trips2, Cert.Online.before_all]

end Cert.Attn

end
-- ==== Proof.AttnBlock.lean ====
/-
  One block of the attention kernel's output: the scratch layout of its queries, the two loops from their starts, the
  quotient, and the four stores, read as softmax sums over the keys.
-/
module

public import proofs.«01_k».proof.Proof.AttnLoop

@[expose] public section

set_option maxRecDepth 16384

noncomputable section

namespace Cert.Attn

open Cert.KernelIdeal Cert.KernelIdeal.Gen
open Idealize.ShloMosaic Idealize.ShloMosaic.TcCoe Idealize.ShloMosaic.Tactic Idealize.ShloMosaic.ValueIdx
open scoped BigOperators

/-! ## The softmax sum -/

/-- The softmax (to base `2`) of the scores `y`, weighing row `d` of the values. -/
def att (v : Fin 80 → Fin 16 × Fin 512 → EReal) (y : Fin 16 × Fin 512 → ℝ) (d : Fin 80) : EReal :=
  ∑ p, ((Real.exp (y p * Real.log 2) / ∑ t, Real.exp (y t * Real.log 2) : ℝ) : EReal) * v d p

/-- A row of the accumulator over its row of ones is the softmax sum, whatever the shift. -/
theorem quotient (A : Fin 80 → EReal) (v : Fin 80 → Fin 16 × Fin 512 → EReal) (y : Fin 16 × Fin 512 → ℝ)
    (h : ∃ μ : ℝ, ∀ r, A r = ∑ p, v r p * (((2 : ℝ) ^ (y p - μ) : ℝ) : EReal)) (h1 : ∀ p, v 64 p = 1) (d : Fin 80) :
    Ideal.div (A d) (A 64) = att v y d := by
  obtain ⟨μ, hμ⟩ := h
  rw [hμ d, hμ 64]
  simp only [h1]
  exact Cert.Softmax.div_two_rpow (v d) y μ

/-- A pair of heads written out, from accumulators that are sums up to a shift. -/
theorem pairOut_att (o p : ℕ) (ho : o + 512 ≤ 2048) (hp : p + 512 ≤ 2048) (A : Vec Ideal S1x80x2048 .f32) (v : Fin 80 → Fin 16 × Fin 512 → EReal)
    (y : Fin 2048 → Fin 16 × Fin 512 → ℝ) (h : ∀ q, ∃ μ : ℝ, ∀ r, A (ix3 0 r q) = ∑ t, v r t * (((2 : ℝ) ^ (y q t - μ) : ℝ) : EReal)) (h1 : ∀ t, v 64 t = 1)
    (r : Fin 512) (l : Fin 128) (q : Fin 2048) (d : Fin 80) (hd : d.val = l.val % 64) (hq : q.val = (if l.val < 64 then o else p) + r.val) :
    pairOut o p ho hp A r l = att v (y q) d := by
  unfold pairOut
  by_cases hl : l.val < 64
  · rw [dif_pos hl]
    rw [if_pos hl] at hq
    rw [show (⟨l.val, by omega⟩ : Fin 80) = d from Fin.ext (by show l.val = d.val; omega), show (⟨o + r.val, by omega⟩ : Fin 2048) = q from Fin.ext hq.symm]
    exact quotient (fun r => A (ix3 0 r q)) v (y q) (h q) h1 d
  · rw [dif_neg hl]
    rw [if_neg hl] at hq
    rw [show (⟨l.val - 64, by omega⟩ : Fin 80) = d from Fin.ext (by show l.val - 64 = d.val; omega), show (⟨p + r.val, by omega⟩ : Fin 2048) = q from Fin.ext hq.symm]
    exact quotient (fun r => A (ix3 0 r q)) v (y q) (h q) h1 d

/-! ## The query scratch -/

/-- The layout of a query block's eight heads: group `g`'s four heads side by side along the columns, each in the group's
    half of the lanes, zero in the other half. -/
def lay (x0 : Vec Ideal S1x512x512 .bf16) : Vec Ideal S2x128x2048 .bf16 := fun z =>
  if h : 64 * (z 0).val ≤ (z 1).val ∧ (z 1).val < 64 * (z 0).val + 64 then
    x0 (ix3 0 (⟨(z 2).val % 512, Nat.mod_lt _ (by decide)⟩ : Fin 512)
      (⟨(4 * (z 0).val + (z 2).val / 512) * 64 + ((z 1).val - 64 * (z 0).val),
        by have h0 : (z 0).val < 2 := (z 0).isLt; have h2 : (z 2).val < 2048 := (z 2).isLt; omega⟩ : Fin 512))
  else 0

variable (arg8 : Memref sig .tc .vmem S2x128x2048 .bf16)

/-- After the eight stores of the query tiles, key head 0 reads, in the columns of its query head 0, the tile stored there. -/
theorem read_tiles_0_0 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 0 l ⟨0 + r.val, by omega⟩) = w00 (ix3 0 l r) := by
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (2 : Fin 3) (Or.inl (by show 0 + r.val < 1536; omega))]
  rw [View.read_writes_cons_unit_of_not_mem arg8.view f _ _ _ _ rfl (2 : Fin 3) (Or.inl (by show 0 + r.val < 1024; omega))]
  rw [View.read_writes_cons_unit_of_not_mem arg8.view f _ _ _ _ rfl (2 : Fin 3) (Or.inl (by show 0 + r.val < 512; omega))]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 0 reads, in the columns of its query head 1, the tile stored there. -/
theorem read_tiles_0_1 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 0 l ⟨512 + r.val, by omega⟩) = w01 (ix3 0 l r) := by
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (2 : Fin 3) (Or.inl (by show 512 + r.val < 1536; omega))]
  rw [View.read_writes_cons_unit_of_not_mem arg8.view f _ _ _ _ rfl (2 : Fin 3) (Or.inl (by show 512 + r.val < 1024; omega))]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 0 reads, in the columns of its query head 2, the tile stored there. -/
theorem read_tiles_0_2 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 0 l ⟨1024 + r.val, by omega⟩) = w02 (ix3 0 l r) := by
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (2 : Fin 3) (Or.inl (by show 1024 + r.val < 1536; omega))]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 0 reads, in the columns of its query head 3, the tile stored there. -/
theorem read_tiles_0_3 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 0 l ⟨1536 + r.val, by omega⟩) = w03 (ix3 0 l r) := by
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  rw [View.read_writes_cons_unit_of_not_mem arg8.view f _ _ _ _ rfl (0 : Fin 3) (Or.inl Nat.zero_lt_one)]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 1 reads, in the columns of its query head 0, the tile stored there. -/
theorem read_tiles_1_0 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 1 l ⟨0 + r.val, by omega⟩) = w10 (ix3 0 l r) := by
  rw [View.read_writes_cons_unit_of_not_mem arg8.view f _ _ _ _ rfl (2 : Fin 3) (Or.inl (by show 0 + r.val < 1536; omega))]
  rw [View.read_writes_cons_unit_of_not_mem arg8.view f _ _ _ _ rfl (2 : Fin 3) (Or.inl (by show 0 + r.val < 1024; omega))]
  rw [View.read_writes_cons_unit_of_not_mem arg8.view f _ _ _ _ rfl (2 : Fin 3) (Or.inl (by show 0 + r.val < 512; omega))]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 1 reads, in the columns of its query head 1, the tile stored there. -/
theorem read_tiles_1_1 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 1 l ⟨512 + r.val, by omega⟩) = w11 (ix3 0 l r) := by
  rw [View.read_writes_cons_unit_of_not_mem arg8.view f _ _ _ _ rfl (2 : Fin 3) (Or.inl (by show 512 + r.val < 1536; omega))]
  rw [View.read_writes_cons_unit_of_not_mem arg8.view f _ _ _ _ rfl (2 : Fin 3) (Or.inl (by show 512 + r.val < 1024; omega))]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 1 reads, in the columns of its query head 2, the tile stored there. -/
theorem read_tiles_1_2 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 1 l ⟨1024 + r.val, by omega⟩) = w12 (ix3 0 l r) := by
  rw [View.read_writes_cons_unit_of_not_mem arg8.view f _ _ _ _ rfl (2 : Fin 3) (Or.inl (by show 1024 + r.val < 1536; omega))]
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl
/-- After the eight stores of the query tiles, key head 1 reads, in the columns of its query head 3, the tile stored there. -/
theorem read_tiles_1_3 (f : BufTy.Contents (Elt Ideal) arg8.view.ty) (w13 w12 w11 w10 w03 w02 w01 w00 : Vec Ideal S1x128x512 .bf16) (l : Fin 128) (r : Fin 512) :
    arg8.view.read (Elt Ideal) (arg8.view.writes (Elt Ideal) f [⟨Rect.unit (s := S2x128x2048) ![1, 0, 1536] S1x128x512.size inb_S2x128x2048_S1x128x512_1_0_1536, w13⟩,
        ⟨Rect.unit (s := S2x128x2048) ![1, 0, 1024] S1x128x512.size inb_S2x128x2048_S1x128x512_1_0_1024, w12⟩,
        ⟨Rect.unit (s := S2x128x2048) ![1, 0, 512] S1x128x512.size inb_S2x128x2048_S1x128x512_1_0_512, w11⟩,
        ⟨Rect.unit (s := S2x128x2048) ![1, 0, 0] S1x128x512.size inb_S2x128x2048_S1x128x512_1_0_0, w10⟩,
        ⟨Rect.unit (s := S2x128x2048) ![0, 0, 1536] S1x128x512.size inb_S2x128x2048_S1x128x512_0_0_1536, w03⟩,
        ⟨Rect.unit (s := S2x128x2048) ![0, 0, 1024] S1x128x512.size inb_S2x128x2048_S1x128x512_0_0_1024, w02⟩,
        ⟨Rect.unit (s := S2x128x2048) ![0, 0, 512] S1x128x512.size inb_S2x128x2048_S1x128x512_0_0_512, w01⟩,
        ⟨Rect.unit (s := S2x128x2048) ![0, 0, 0] S1x128x512.size inb_S2x128x2048_S1x128x512_0_0_0, w00⟩]) (ix3 1 l ⟨1536 + r.val, by omega⟩) = w13 (ix3 0 l r) := by
  refine View.read_writes_cons_unit_of_mem arg8.view f _ _ _ _ (ix3 0 l r) rfl fun a => ?_
  match a with
  | ⟨0, _⟩ => rfl
  | ⟨1, _⟩ => exact (Nat.zero_add _).symm
  | ⟨2, _⟩ => rfl

variable (arg3 : Memref sig .tc .vmem S1x512x512 .bf16) (harg3 : arg3.IsWhole)

/-- A query tile loaded from its block. -/
theorem load_q (x0 : Vec Ideal S1x512x512 .bf16) (o : ℕ) (inb) (r : Fin 512) (l : Fin 128) (c : Fin 512) (hc : c.val = o + l.val) :
    View.readAt (Elt Ideal) arg3.view (Rect.unit (s := S1x512x512) ![0, 0, o] S1x512x128.size inb).toLoadRect (harg3.unread x0) (ix3 0 r l) = x0 (ix3 0 r c) := by
  rw [View.readAt_eq_ld, harg3.read_unread]
  refine View.ld_unit_apply_of x0 _ _ inb _ _ fun a => ?_
  match a with
  | ⟨0, _⟩ => rfl
  | ⟨1, _⟩ => exact (Nat.zero_add _).symm
  | ⟨2, _⟩ => exact hc

/-- The lanes of group zero's layout at a head's columns. -/
theorem lay_zero (x0 : Vec Ideal S1x512x512 .bf16) (j : ℕ) (hj : j < 4) (l : Fin 128) (r : Fin 512) :
    lay x0 (ix3 0 l ⟨512 * j + r.val, by omega⟩) = if h : l.val < 64 then x0 (ix3 0 r ⟨64 * j + l.val, by omega⟩) else 0 := by
  unfold lay
  by_cases h : l.val < 64
  · have hc : 64 * (0 : ℕ) ≤ l.val ∧ l.val < 64 * 0 + 64 := ⟨by omega, by omega⟩
    rw [dif_pos h]
    refine (dif_pos hc).trans (congrArg x0 ?_)
    refine congrArg₂ (ix3 0) (Fin.ext ?_) (Fin.ext ?_)
    · show (512 * j + r.val) % 512 = r.val
      omega
    · show (4 * 0 + (512 * j + r.val) / 512) * 64 + (l.val - 64 * 0) = 64 * j + l.val
      omega
  · have hc : ¬ (64 * (0 : ℕ) ≤ l.val ∧ l.val < 64 * 0 + 64) := by omega
    rw [dif_neg h]
    exact dif_neg hc

/-- The lanes of group one's layout at a head's columns. -/
theorem lay_one (x0 : Vec Ideal S1x512x512 .bf16) (j : ℕ) (hj : j < 4) (l : Fin 128) (r : Fin 512) :
    lay x0 (ix3 1 l ⟨512 * j + r.val, by omega⟩) = if h : 64 ≤ l.val then x0 (ix3 0 r ⟨256 + 64 * j + (l.val - 64), by omega⟩) else 0 := by
  unfold lay
  by_cases h : 64 ≤ l.val
  · have hc : 64 * (1 : ℕ) ≤ l.val ∧ l.val < 64 * 1 + 64 := ⟨by omega, by omega⟩
    rw [dif_pos h]
    refine (dif_pos hc).trans (congrArg x0 ?_)
    refine congrArg₂ (ix3 0) (Fin.ext ?_) (Fin.ext ?_)
    · show (512 * j + r.val) % 512 = r.val
      omega
    · show (4 * 1 + (512 * j + r.val) / 512) * 64 + (l.val - 64 * 1) = 256 + 64 * j + (l.val - 64)
      omega
  · have hc : ¬ (64 * (1 : ℕ) ≤ l.val ∧ l.val < 64 * 1 + 64) := by omega
    rw [dif_neg h]
    exact dif_neg hc

/-- Columns split into a head and a row. -/
theorem col_split (q : Fin 2048) : ∃ (j : Fin 4) (r : Fin 512), q = ⟨512 * j.val + r.val, by omega⟩ :=
  ⟨⟨q.val / 512, by omega⟩, ⟨q.val % 512, by omega⟩, Fin.ext (by show q.val = 512 * (q.val / 512) + q.val % 512; omega)⟩

/-- The eight stores into the query scratch, at an entry. -/
theorem read_lay_at (x0 : Vec Ideal S1x512x512 .bf16) (f : BufTy.Contents (Elt Ideal) arg8.view.ty) (g : Fin 2) (l : Fin 128) (q : Fin 2048) :
    arg8.view.read (Elt Ideal) (arg8.view.writes (Elt Ideal) f [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (ix3 g l q) = lay x0 (ix3 g l q) := by
  obtain ⟨j, r, rfl⟩ := col_split q
  obtain rfl | rfl : g = 0 ∨ g = 1 := by omega
  · refine Eq.trans ?_ (lay_zero x0 j.val j.isLt l r).symm
    obtain rfl | rfl | rfl | rfl : j = 0 ∨ j = 1 ∨ j = 2 ∨ j = 3 := by omega
    · refine (read_tiles_0_0 arg8 f _ _ _ _ _ _ _ _ l r).trans ((pay22_apply _ 0 l r).trans ?_)
      by_cases h : l.val < 64
      · rw [dif_pos h, dif_pos h]
        exact load_q arg3 harg3 x0 0 _ r _ _ (by show 64 * 0 + l.val = 0 + (0 + l.val); omega)
      · rw [dif_neg h, dif_neg h]
    · refine (read_tiles_0_1 arg8 f _ _ _ _ _ _ _ _ l r).trans ((pay23_apply _ 0 l r).trans ?_)
      by_cases h : l.val < 64
      · rw [dif_pos h, dif_pos h]
        exact load_q arg3 harg3 x0 0 _ r _ _ (by show 64 * 1 + l.val = 0 + (64 + l.val); omega)
      · rw [dif_neg h, dif_neg h]
    · refine (read_tiles_0_2 arg8 f _ _ _ _ _ _ _ _ l r).trans ((pay25_apply _ 0 l r).trans ?_)
      by_cases h : l.val < 64
      · rw [dif_pos h, dif_pos h]
        exact load_q arg3 harg3 x0 128 _ r _ _ (by show 64 * 2 + l.val = 128 + (0 + l.val); omega)
      · rw [dif_neg h, dif_neg h]
    · refine (read_tiles_0_3 arg8 f _ _ _ _ _ _ _ _ l r).trans ((pay26_apply _ 0 l r).trans ?_)
      by_cases h : l.val < 64
      · rw [dif_pos h, dif_pos h]
        exact load_q arg3 harg3 x0 128 _ r _ _ (by show 64 * 3 + l.val = 128 + (64 + l.val); omega)
      · rw [dif_neg h, dif_neg h]
  · refine Eq.trans ?_ (lay_one x0 j.val j.isLt l r).symm
    obtain rfl | rfl | rfl | rfl : j = 0 ∨ j = 1 ∨ j = 2 ∨ j = 3 := by omega
    · refine (read_tiles_1_0 arg8 f _ _ _ _ _ _ _ _ l r).trans ((pay28_apply _ 0 l r).trans ?_)
      by_cases h : 64 ≤ l.val
      · rw [dif_pos h, dif_pos h]
        exact load_q arg3 harg3 x0 256 _ r _ _ (by show 256 + 64 * 0 + (l.val - 64) = 256 + (0 + (l.val - 64)); omega)
      · rw [dif_neg h, dif_neg h]
    · refine (read_tiles_1_1 arg8 f _ _ _ _ _ _ _ _ l r).trans ((pay29_apply _ 0 l r).trans ?_)
      by_cases h : 64 ≤ l.val
      · rw [dif_pos h, dif_pos h]
        exact load_q arg3 harg3 x0 256 _ r _ _ (by show 256 + 64 * 1 + (l.val - 64) = 256 + (64 + (l.val - 64)); omega)
      · rw [dif_neg h, dif_neg h]
    · refine (read_tiles_1_2 arg8 f _ _ _ _ _ _ _ _ l r).trans ((pay31_apply _ 0 l r).trans ?_)
      by_cases h : 64 ≤ l.val
      · rw [dif_pos h, dif_pos h]
        exact load_q arg3 harg3 x0 384 _ r _ _ (by show 256 + 64 * 2 + (l.val - 64) = 384 + (0 + (l.val - 64)); omega)
      · rw [dif_neg h, dif_neg h]
    · refine (read_tiles_1_3 arg8 f _ _ _ _ _ _ _ _ l r).trans ((pay32_apply _ 0 l r).trans ?_)
      by_cases h : 64 ≤ l.val
      · rw [dif_pos h, dif_pos h]
        exact load_q arg3 harg3 x0 384 _ r _ _ (by show 256 + 64 * 3 + (l.val - 64) = 384 + (64 + (l.val - 64)); omega)
      · rw [dif_neg h, dif_neg h]

/-- The eight stores into the query scratch leave the layout of the block. -/
theorem read_lay (x0 : Vec Ideal S1x512x512 .bf16) (f : BufTy.Contents (Elt Ideal) arg8.view.ty) :
    arg8.view.read (Elt Ideal) (arg8.view.writes (Elt Ideal) f [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) = lay x0 := by
  funext z
  rw [eq_ix3 z]
  exact read_lay_at arg8 arg3 harg3 x0 f (z 0) (z 1) (z 2)

/-! ## The four stores of the output block -/

/-- After the four stores of the output block, its lane column 0 holds the tile stored there. -/
theorem read_out_0 (f : BufTy.Contents (Elt Ideal) VO0_4.ty) (w3 w2 w1 w0 : Vec Ideal S1x512x128 .bf16) (r : Fin 512) (l : Fin 128) :
    VO0_4.read (Elt Ideal) (VO0_4.writes (Elt Ideal) f [⟨Rect.unit (s := S1x512x512) ![0, 0, 384] S1x512x128.size inb_S1x512x512_S1x512x128_0_0_384, w3⟩, ⟨Rect.unit (s := S1x512x512) ![0, 0, 256] S1x512x128.size inb_S1x512x512_S1x512x128_0_0_256, w2⟩, ⟨Rect.unit (s := S1x512x512) ![0, 0, 128] S1x512x128.size inb_S1x512x512_S1x512x128_0_0_128, w1⟩, ⟨Rect.unit (s := S1x512x512) ![0, 0, 0] S1x512x128.size inb_S1x512x512_S1x512x128_0_0_0, w0⟩]) (ix3 0 r ⟨0 + l.val, by omega⟩) = w0 (ix3 0 r l) := by
  rw [View.read_writes_cons_unit_of_not_mem VO0_4 f _ _ _ _ rfl (2 : Fin 3) (Or.inl (by show 0 + l.val < 384; omega))]
  rw [View.read_writes_cons_unit_of_not_mem VO0_4 f _ _ _ _ rfl (2 : Fin 3) (Or.inl (by show 0 + l.val < 256; omega))]
  rw [View.read_writes_cons_unit_of_not_mem VO0_4 f _ _ _ _ rfl (2 : Fin 3) (Or.inl (by show 0 + l.val < 128; omega))]
  refine View.read_writes_cons_unit_of_mem VO0_4 f _ _ _ _ (ix3 0 r l) rfl fun a => ?_
  match a with
  | ⟨0, _⟩ => rfl
  | ⟨1, _⟩ => exact (Nat.zero_add _).symm
  | ⟨2, _⟩ => rfl
/-- After the four stores of the output block, its lane column 1 holds the tile stored there. -/
theorem read_out_1 (f : BufTy.Contents (Elt Ideal) VO0_4.ty) (w3 w2 w1 w0 : Vec Ideal S1x512x128 .bf16) (r : Fin 512) (l : Fin 128) :
    VO0_4.read (Elt Ideal) (VO0_4.writes (Elt Ideal) f [⟨Rect.unit (s := S1x512x512) ![0, 0, 384] S1x512x128.size inb_S1x512x512_S1x512x128_0_0_384, w3⟩, ⟨Rect.unit (s := S1x512x512) ![0, 0, 256] S1x512x128.size inb_S1x512x512_S1x512x128_0_0_256, w2⟩, ⟨Rect.unit (s := S1x512x512) ![0, 0, 128] S1x512x128.size inb_S1x512x512_S1x512x128_0_0_128, w1⟩, ⟨Rect.unit (s := S1x512x512) ![0, 0, 0] S1x512x128.size inb_S1x512x512_S1x512x128_0_0_0, w0⟩]) (ix3 0 r ⟨128 + l.val, by omega⟩) = w1 (ix3 0 r l) := by
  rw [View.read_writes_cons_unit_of_not_mem VO0_4 f _ _ _ _ rfl (2 : Fin 3) (Or.inl (by show 128 + l.val < 384; omega))]
  rw [View.read_writes_cons_unit_of_not_mem VO0_4 f _ _ _ _ rfl (2 : Fin 3) (Or.inl (by show 128 + l.val < 256; omega))]
  refine View.read_writes_cons_unit_of_mem VO0_4 f _ _ _ _ (ix3 0 r l) rfl fun a => ?_
  match a with
  | ⟨0, _⟩ => rfl
  | ⟨1, _⟩ => exact (Nat.zero_add _).symm
  | ⟨2, _⟩ => rfl
/-- After the four stores of the output block, its lane column 2 holds the tile stored there. -/
theorem read_out_2 (f : BufTy.Contents (Elt Ideal) VO0_4.ty) (w3 w2 w1 w0 : Vec Ideal S1x512x128 .bf16) (r : Fin 512) (l : Fin 128) :
    VO0_4.read (Elt Ideal) (VO0_4.writes (Elt Ideal) f [⟨Rect.unit (s := S1x512x512) ![0, 0, 384] S1x512x128.size inb_S1x512x512_S1x512x128_0_0_384, w3⟩, ⟨Rect.unit (s := S1x512x512) ![0, 0, 256] S1x512x128.size inb_S1x512x512_S1x512x128_0_0_256, w2⟩, ⟨Rect.unit (s := S1x512x512) ![0, 0, 128] S1x512x128.size inb_S1x512x512_S1x512x128_0_0_128, w1⟩, ⟨Rect.unit (s := S1x512x512) ![0, 0, 0] S1x512x128.size inb_S1x512x512_S1x512x128_0_0_0, w0⟩]) (ix3 0 r ⟨256 + l.val, by omega⟩) = w2 (ix3 0 r l) := by
  rw [View.read_writes_cons_unit_of_not_mem VO0_4 f _ _ _ _ rfl (2 : Fin 3) (Or.inl (by show 256 + l.val < 384; omega))]
  refine View.read_writes_cons_unit_of_mem VO0_4 f _ _ _ _ (ix3 0 r l) rfl fun a => ?_
  match a with
  | ⟨0, _⟩ => rfl
  | ⟨1, _⟩ => exact (Nat.zero_add _).symm
  | ⟨2, _⟩ => rfl
/-- After the four stores of the output block, its lane column 3 holds the tile stored there. -/
theorem read_out_3 (f : BufTy.Contents (Elt Ideal) VO0_4.ty) (w3 w2 w1 w0 : Vec Ideal S1x512x128 .bf16) (r : Fin 512) (l : Fin 128) :
    VO0_4.read (Elt Ideal) (VO0_4.writes (Elt Ideal) f [⟨Rect.unit (s := S1x512x512) ![0, 0, 384] S1x512x128.size inb_S1x512x512_S1x512x128_0_0_384, w3⟩, ⟨Rect.unit (s := S1x512x512) ![0, 0, 256] S1x512x128.size inb_S1x512x512_S1x512x128_0_0_256, w2⟩, ⟨Rect.unit (s := S1x512x512) ![0, 0, 128] S1x512x128.size inb_S1x512x512_S1x512x128_0_0_128, w1⟩, ⟨Rect.unit (s := S1x512x512) ![0, 0, 0] S1x512x128.size inb_S1x512x512_S1x512x128_0_0_0, w0⟩]) (ix3 0 r ⟨384 + l.val, by omega⟩) = w3 (ix3 0 r l) := by
  refine View.read_writes_cons_unit_of_mem VO0_4 f _ _ _ _ (ix3 0 r l) rfl fun a => ?_
  match a with
  | ⟨0, _⟩ => rfl
  | ⟨1, _⟩ => exact (Nat.zero_add _).symm
  | ⟨2, _⟩ => rfl

/-! ## The accumulators -/

/-- A group's accumulator loaded after stores over a first fill. -/
theorem load_acc (arg9 : Memref sig .tc .vmem S2x80x2048 .f32) (L : List (View.Piece (Elt Ideal) S2x80x2048 .f32)) (p : View.Piece (Elt Ideal) S2x80x2048 .f32) (off : Fin 3 → ℕ) (inb) (g : Fin 2) (h : off = ![g.val, 0, 0]) :
    arg9.view.readCov (L ++ [p]) (Rect.unit (s := S2x80x2048) off S1x80x2048.size inb).toLoadRect
      = aT (arg9.view.read (Elt Ideal) (arg9.view.writes (Elt Ideal) (arg9.view.writes (Elt Ideal) arg9.view.junk [p]) L)) g := by
  unfold View.readCov
  rw [View.writes_append, View.readAt_eq_ld, ld_a _ _ _ g h]

/-- The accumulator's fill is zero. -/
theorem fill_acc (arg9 : Memref sig .tc .vmem S2x80x2048 .f32) (f : BufTy.Contents (Elt Ideal) arg9.view.ty) (z : S2x80x2048.Idx) :
    arg9.view.read (Elt Ideal) (arg9.view.writes (Elt Ideal) f [⟨Rect.unit (s := S2x80x2048) ![0, 0, 0] S2x80x2048.size inb_S2x80x2048_S2x80x2048_0_0_0, k0_pay33 (F := Ideal)⟩]) z = (0 : EReal) := by
  refine (View.read_writes_cons_unit_of_mem arg9.view f _ _ _ z z rfl fun a => ?_).trans ?_
  · match a with
    | ⟨0, _⟩ => exact (Nat.zero_add _).symm
    | ⟨1, _⟩ => exact (Nat.zero_add _).symm
    | ⟨2, _⟩ => exact (Nat.zero_add _).symm
  · exact Ideal.ofBits_zero_f32

/-- The running maximum's fill is `-∞`. -/
theorem fill_max (arg10 : Memref sig .tc .vmem S2x8x2048 .f32) (f : BufTy.Contents (Elt Ideal) arg10.view.ty) (z : S2x8x2048.Idx) :
    arg10.view.read (Elt Ideal) (arg10.view.writes (Elt Ideal) f [⟨Rect.unit (s := S2x8x2048) ![0, 0, 0] S2x8x2048.size inb_S2x8x2048_S2x8x2048_0_0_0, k0_pay34 (F := Ideal)⟩]) z = (⊥ : EReal) := by
  refine (View.read_writes_cons_unit_of_mem arg10.view f _ _ _ z z rfl fun a => ?_).trans ?_
  · match a with
    | ⟨0, _⟩ => exact (Nat.zero_add _).symm
    | ⟨1, _⟩ => exact (Nat.zero_add _).symm
    | ⟨2, _⟩ => exact (Nat.zero_add _).symm
  · exact Cert.Online.ofBits_neg_inf

/-- Group 0's accumulator after the loop of case B: sums over all keys up to one shift a column. -/
theorem acc_B0 (c : Dev nD) (i : grid0.Coords) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole)
    (x0 : Vec Ideal S1x512x512 .bf16) (x1 : Vec Ideal S1x16x512x128 .bf16) (x2 : Vec Ideal S1x16x80x512 .bf16) (x3 : Vec Ideal S1x16x80x512 .bf16) (xt0 : TbBuf0 (F := Ideal) c tbM0_0) (hc0 : cond0_0 i (tbM0_0.view.readAt (Elt Ideal) (Rect.unit (s := S1) ![0] S1.size inb_S1_S1_0).toLoadRect xt0 (Shape.Idx.first (numel1_S1.symm ▸ Nat.one_pos)))) (hc1 : ¬cond0_1 i (tbM0_0.view.readAt (Elt Ideal) (Rect.unit (s := S1) ![0] S1.size inb_S1_S1_0).toLoadRect xt0 (Shape.Idx.first (numel1_S1.symm ▸ Nat.one_pos)))) (y : Fin 2 → Fin 2048 → Fin 16 × Fin 512 → ℝ) (hy : ∀ g q n s, score (kT x1 n) (qT (lay x0) g) s q = (y g q (n, s) : EReal))
    (h2 : ∀ p : Fin 16 × Fin 512, x2 (ix4 0 p.1 64 p.2) = (1 : EReal)) (h3 : ∀ p : Fin 16 × Fin 512, x3 (ix4 0 p.1 64 p.2) = (1 : EReal)) (v65 : Elt Ideal .i32) (c1 : BitVec 32) (q : Fin 2048) :
    ∃ μ : ℝ, ∀ r, arg9.view.read (Elt Ideal) (arg9.view.writes (Elt Ideal) (arg9.view.writes (Elt Ideal) arg9.view.junk [⟨Rect.unit (s := S2x80x2048) ![0, 0, 0] S2x80x2048.size inb_S2x80x2048_S2x80x2048_0_0_0, k0_pay33 (F := Ideal)⟩])
        (pb_k0_t1 (F := Ideal) Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) k0_t1_loop.trips)) (ix3 0 r q)
      = ∑ p : Fin 16 × Fin 512, x2 (ix4 0 p.1 r p.2) * (((2 : ℝ) ^ (y 0 q p - μ) : ℝ) : EReal) := by
  have T := loop1_total Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) 0 q (fun r => fill_acc arg9 _ _) (y 0 q)
    (fun n s => by rw [harg4.read_unread, read_lay arg8 arg3 harg3 x0]; exact hy 0 q n s)
  rw [harg5.read_unread, harg6.read_unread] at T
  exact T

/-- Group 1's accumulator after the loop of case B: sums over all keys up to one shift a column. -/
theorem acc_B1 (c : Dev nD) (i : grid0.Coords) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole)
    (x0 : Vec Ideal S1x512x512 .bf16) (x1 : Vec Ideal S1x16x512x128 .bf16) (x2 : Vec Ideal S1x16x80x512 .bf16) (x3 : Vec Ideal S1x16x80x512 .bf16) (xt0 : TbBuf0 (F := Ideal) c tbM0_0) (hc0 : cond0_0 i (tbM0_0.view.readAt (Elt Ideal) (Rect.unit (s := S1) ![0] S1.size inb_S1_S1_0).toLoadRect xt0 (Shape.Idx.first (numel1_S1.symm ▸ Nat.one_pos)))) (hc1 : ¬cond0_1 i (tbM0_0.view.readAt (Elt Ideal) (Rect.unit (s := S1) ![0] S1.size inb_S1_S1_0).toLoadRect xt0 (Shape.Idx.first (numel1_S1.symm ▸ Nat.one_pos)))) (y : Fin 2 → Fin 2048 → Fin 16 × Fin 512 → ℝ) (hy : ∀ g q n s, score (kT x1 n) (qT (lay x0) g) s q = (y g q (n, s) : EReal))
    (h2 : ∀ p : Fin 16 × Fin 512, x2 (ix4 0 p.1 64 p.2) = (1 : EReal)) (h3 : ∀ p : Fin 16 × Fin 512, x3 (ix4 0 p.1 64 p.2) = (1 : EReal)) (v65 : Elt Ideal .i32) (c1 : BitVec 32) (q : Fin 2048) :
    ∃ μ : ℝ, ∀ r, arg9.view.read (Elt Ideal) (arg9.view.writes (Elt Ideal) (arg9.view.writes (Elt Ideal) arg9.view.junk [⟨Rect.unit (s := S2x80x2048) ![0, 0, 0] S2x80x2048.size inb_S2x80x2048_S2x80x2048_0_0_0, k0_pay33 (F := Ideal)⟩])
        (pb_k0_t1 (F := Ideal) Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) k0_t1_loop.trips)) (ix3 1 r q)
      = ∑ p : Fin 16 × Fin 512, x3 (ix4 0 p.1 r p.2) * (((2 : ℝ) ^ (y 1 q p - μ) : ℝ) : EReal) := by
  have T := loop1_total Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) 1 q (fun r => fill_acc arg9 _ _) (y 1 q)
    (fun n s => by rw [harg4.read_unread, read_lay arg8 arg3 harg3 x0]; exact hy 1 q n s)
  rw [harg5.read_unread, harg6.read_unread] at T
  exact T

/-- Case B's output block: each of its eight heads' lanes is the softmax sum of that head. -/
theorem block_B (c : Dev nD) (i : grid0.Coords) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole)
    (x0 : Vec Ideal S1x512x512 .bf16) (x1 : Vec Ideal S1x16x512x128 .bf16) (x2 : Vec Ideal S1x16x80x512 .bf16) (x3 : Vec Ideal S1x16x80x512 .bf16) (xt0 : TbBuf0 (F := Ideal) c tbM0_0) (hc0 : cond0_0 i (tbM0_0.view.readAt (Elt Ideal) (Rect.unit (s := S1) ![0] S1.size inb_S1_S1_0).toLoadRect xt0 (Shape.Idx.first (numel1_S1.symm ▸ Nat.one_pos)))) (hc1 : ¬cond0_1 i (tbM0_0.view.readAt (Elt Ideal) (Rect.unit (s := S1) ![0] S1.size inb_S1_S1_0).toLoadRect xt0 (Shape.Idx.first (numel1_S1.symm ▸ Nat.one_pos)))) (y : Fin 2 → Fin 2048 → Fin 16 × Fin 512 → ℝ) (hy : ∀ g q n s, score (kT x1 n) (qT (lay x0) g) s q = (y g q (n, s) : EReal))
    (h2 : ∀ p : Fin 16 × Fin 512, x2 (ix4 0 p.1 64 p.2) = (1 : EReal)) (h3 : ∀ p : Fin 16 × Fin 512, x3 (ix4 0 p.1 64 p.2) = (1 : EReal)) (g : Fin 2) (cc : Fin 2) (r : Fin 512) (l : Fin 128) (c' : Fin 512) (hc' : c'.val = 256 * g.val + 128 * cc.val + l.val) (q : Fin 2048) (hq : q.val = 1024 * cc.val + 512 * (l.val / 64) + r.val) (d : Fin 80) (hd : d.val = l.val % 64) :
    out0_B_4 c i arg3 harg3 arg4 harg4 arg5 harg5 arg6 harg6 arg7 harg7 arg8 harg8 arg9 harg9 arg10 harg10 x0 x1 x2 x3 xt0 hc0 hc1 (ix3 0 r c') = att (fun d p => (if g = 1 then x3 else x2) (ix4 0 p.1 d p.2)) (y g q) d := by
  have e : ∀ p : ℕ, (if l.val < 64 then p else p + 512) = p + 512 * (l.val / 64) := by
    intro p
    split <;> omega
  unfold out0_B_4 kernelRun0_B
  dsimp only
  sl_unfold_words
  obtain rfl | rfl : g = 0 ∨ g = 1 := by omega
  · rw [if_neg (by decide)]
    obtain rfl | rfl : cc = 0 ∨ cc = 1 := by omega
    · rw [show c' = ⟨0 + l.val, by omega⟩ from Fin.ext (hc'.trans (by show 256 * 0 + 128 * 0 + l.val = 0 + l.val; omega))]
      refine (read_out_0 _ _ _ _ _ r l).trans ((pay42_apply _ 0 r l).trans ?_)
      refine pairOut_att 0 512 _ _ _ _ (y 0) (fun q => ?_) h2 r l q d hd (hq.trans ((show 1024 * 0 + 512 * (l.val / 64) + r.val = 0 + 512 * (l.val / 64) + r.val by omega).trans (congrArg (· + r.val) (e 0).symm)))
      obtain ⟨μ, hμ⟩ := acc_B0 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (0 : Fin 2) rfl) (ix3 0 r' q)
    · rw [show c' = ⟨128 + l.val, by omega⟩ from Fin.ext (hc'.trans (by show 256 * 0 + 128 * 1 + l.val = 128 + l.val; omega))]
      refine (read_out_1 _ _ _ _ _ r l).trans ((pay43_apply _ 0 r l).trans ?_)
      refine pairOut_att 1024 1536 _ _ _ _ (y 0) (fun q => ?_) h2 r l q d hd (hq.trans ((show 1024 * 1 + 512 * (l.val / 64) + r.val = 1024 + 512 * (l.val / 64) + r.val by omega).trans (congrArg (· + r.val) (e 1024).symm)))
      obtain ⟨μ, hμ⟩ := acc_B0 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (0 : Fin 2) rfl) (ix3 0 r' q)
  · rw [if_pos rfl]
    obtain rfl | rfl : cc = 0 ∨ cc = 1 := by omega
    · rw [show c' = ⟨256 + l.val, by omega⟩ from Fin.ext (hc'.trans (by show 256 * 1 + 128 * 0 + l.val = 256 + l.val; omega))]
      refine (read_out_2 _ _ _ _ _ r l).trans ((pay1_apply _ 0 r l).trans ?_)
      refine pairOut_att 0 512 _ _ _ _ (y 1) (fun q => ?_) h3 r l q d hd (hq.trans ((show 1024 * 0 + 512 * (l.val / 64) + r.val = 0 + 512 * (l.val / 64) + r.val by omega).trans (congrArg (· + r.val) (e 0).symm)))
      obtain ⟨μ, hμ⟩ := acc_B1 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (1 : Fin 2) rfl) (ix3 0 r' q)
    · rw [show c' = ⟨384 + l.val, by omega⟩ from Fin.ext (hc'.trans (by show 256 * 1 + 128 * 1 + l.val = 384 + l.val; omega))]
      refine (read_out_3 _ _ _ _ _ r l).trans ((pay2_apply _ 0 r l).trans ?_)
      refine pairOut_att 1024 1536 _ _ _ _ (y 1) (fun q => ?_) h3 r l q d hd (hq.trans ((show 1024 * 1 + 512 * (l.val / 64) + r.val = 1024 + 512 * (l.val / 64) + r.val by omega).trans (congrArg (· + r.val) (e 1024).symm)))
      obtain ⟨μ, hμ⟩ := acc_B1 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (1 : Fin 2) rfl) (ix3 0 r' q)

/-- Group 0's accumulator after the loop of case C: sums over all keys up to one shift a column. -/
theorem acc_C0 (c : Dev nD) (i : grid0.Coords) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole)
    (x0 : Vec Ideal S1x512x512 .bf16) (x1 : Vec Ideal S1x16x512x128 .bf16) (x2 : Vec Ideal S1x16x80x512 .bf16) (x3 : Vec Ideal S1x16x80x512 .bf16) (xt0 : TbBuf0 (F := Ideal) c tbM0_0) (hc0 : ¬cond0_0 i (tbM0_0.view.readAt (Elt Ideal) (Rect.unit (s := S1) ![0] S1.size inb_S1_S1_0).toLoadRect xt0 (Shape.Idx.first (numel1_S1.symm ▸ Nat.one_pos)))) (hc1 : cond0_1 i (tbM0_0.view.readAt (Elt Ideal) (Rect.unit (s := S1) ![0] S1.size inb_S1_S1_0).toLoadRect xt0 (Shape.Idx.first (numel1_S1.symm ▸ Nat.one_pos)))) (y : Fin 2 → Fin 2048 → Fin 16 × Fin 512 → ℝ) (hy : ∀ g q n s, score (kT x1 n) (qT (lay x0) g) s q = (y g q (n, s) : EReal))
    (h2 : ∀ p : Fin 16 × Fin 512, x2 (ix4 0 p.1 64 p.2) = (1 : EReal)) (h3 : ∀ p : Fin 16 × Fin 512, x3 (ix4 0 p.1 64 p.2) = (1 : EReal)) (v65 : Elt Ideal .i32) (c1 : BitVec 32) (q : Fin 2048) :
    ∃ μ : ℝ, ∀ r, arg9.view.read (Elt Ideal) (arg9.view.writes (Elt Ideal) (arg9.view.writes (Elt Ideal) arg9.view.junk [⟨Rect.unit (s := S2x80x2048) ![0, 0, 0] S2x80x2048.size inb_S2x80x2048_S2x80x2048_0_0_0, k0_pay33 (F := Ideal)⟩])
        (pb_k0_t2 (F := Ideal) Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) (arg10.view.writes (Elt Ideal) arg10.view.junk [⟨Rect.unit (s := S2x8x2048) ![0, 0, 0] S2x8x2048.size inb_S2x8x2048_S2x8x2048_0_0_0, k0_pay34 (F := Ideal)⟩]) k0_t2_loop.trips).1) (ix3 0 r q)
      = ∑ p : Fin 16 × Fin 512, x2 (ix4 0 p.1 r p.2) * (((2 : ℝ) ^ (y 0 q p - μ) : ℝ) : EReal) := by
  have T := loop2_total Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) (arg10.view.writes (Elt Ideal) arg10.view.junk [⟨Rect.unit (s := S2x8x2048) ![0, 0, 0] S2x8x2048.size inb_S2x8x2048_S2x8x2048_0_0_0, k0_pay34 (F := Ideal)⟩]) 0 q (fun r => fill_acc arg9 _ _) (fill_max arg10 _ _) (y 0 q)
    (fun n s => by rw [harg4.read_unread, read_lay arg8 arg3 harg3 x0]; exact hy 0 q n s)
  rw [harg5.read_unread, harg6.read_unread] at T
  exact T

/-- Group 1's accumulator after the loop of case C: sums over all keys up to one shift a column. -/
theorem acc_C1 (c : Dev nD) (i : grid0.Coords) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole)
    (x0 : Vec Ideal S1x512x512 .bf16) (x1 : Vec Ideal S1x16x512x128 .bf16) (x2 : Vec Ideal S1x16x80x512 .bf16) (x3 : Vec Ideal S1x16x80x512 .bf16) (xt0 : TbBuf0 (F := Ideal) c tbM0_0) (hc0 : ¬cond0_0 i (tbM0_0.view.readAt (Elt Ideal) (Rect.unit (s := S1) ![0] S1.size inb_S1_S1_0).toLoadRect xt0 (Shape.Idx.first (numel1_S1.symm ▸ Nat.one_pos)))) (hc1 : cond0_1 i (tbM0_0.view.readAt (Elt Ideal) (Rect.unit (s := S1) ![0] S1.size inb_S1_S1_0).toLoadRect xt0 (Shape.Idx.first (numel1_S1.symm ▸ Nat.one_pos)))) (y : Fin 2 → Fin 2048 → Fin 16 × Fin 512 → ℝ) (hy : ∀ g q n s, score (kT x1 n) (qT (lay x0) g) s q = (y g q (n, s) : EReal))
    (h2 : ∀ p : Fin 16 × Fin 512, x2 (ix4 0 p.1 64 p.2) = (1 : EReal)) (h3 : ∀ p : Fin 16 × Fin 512, x3 (ix4 0 p.1 64 p.2) = (1 : EReal)) (v65 : Elt Ideal .i32) (c1 : BitVec 32) (q : Fin 2048) :
    ∃ μ : ℝ, ∀ r, arg9.view.read (Elt Ideal) (arg9.view.writes (Elt Ideal) (arg9.view.writes (Elt Ideal) arg9.view.junk [⟨Rect.unit (s := S2x80x2048) ![0, 0, 0] S2x80x2048.size inb_S2x80x2048_S2x80x2048_0_0_0, k0_pay33 (F := Ideal)⟩])
        (pb_k0_t2 (F := Ideal) Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) (arg10.view.writes (Elt Ideal) arg10.view.junk [⟨Rect.unit (s := S2x8x2048) ![0, 0, 0] S2x8x2048.size inb_S2x8x2048_S2x8x2048_0_0_0, k0_pay34 (F := Ideal)⟩]) k0_t2_loop.trips).1) (ix3 1 r q)
      = ∑ p : Fin 16 × Fin 512, x3 (ix4 0 p.1 r p.2) * (((2 : ℝ) ^ (y 1 q p - μ) : ℝ) : EReal) := by
  have T := loop2_total Variants.none c none i tbM0_0 htbM0_0 arg3 harg3 arg4 harg4 arg5 harg5 arg6 harg6 arg7 harg7 arg8 harg8 arg9 harg9 arg10 harg10 v65 c1 (harg4.unread x1) (harg5.unread x2) (harg6.unread x3) (arg8.view.writes (Elt Ideal) arg8.view.junk [⟨Rect.unit (s := S2x128x2048) ![1, 0, 1536] S1x128x512.size inb_S2x128x2048_S1x128x512_1_0_1536, k0_pay32 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 1024] S1x128x512.size inb_S2x128x2048_S1x128x512_1_0_1024, k0_pay31 k0_pay20 (View.readAt (Elt Ideal) arg3.view (Rect.unit (s := S1x512x512) ![0, 0, 384] S1x512x128.size inb_S1x512x512_S1x512x128_0_0_384).toLoadRect (harg3.unread x0))⟩,
        ⟨Rect.unit (s := S2x128x2048) ![1, 0, 512] S1x128x512.size inb_S2x128x2048_S1x128x512_1_0_512, k0_pay29 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![1, 0, 0] S1x128x512.size inb_S2x128x2048_S1x128x512_1_0_0, k0_pay28 k0_pay20 (View.readAt (Elt Ideal) arg3.view (Rect.unit (s := S1x512x512) ![0, 0, 256] S1x512x128.size inb_S1x512x512_S1x512x128_0_0_256).toLoadRect (harg3.unread x0))⟩,
        ⟨Rect.unit (s := S2x128x2048) ![0, 0, 1536] S1x128x512.size inb_S2x128x2048_S1x128x512_0_0_1536, k0_pay26 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 1024] S1x128x512.size inb_S2x128x2048_S1x128x512_0_0_1024, k0_pay25 (View.readAt (Elt Ideal) arg3.view (Rect.unit (s := S1x512x512) ![0, 0, 128] S1x512x128.size inb_S1x512x512_S1x512x128_0_0_128).toLoadRect (harg3.unread x0))⟩,
        ⟨Rect.unit (s := S2x128x2048) ![0, 0, 512] S1x128x512.size inb_S2x128x2048_S1x128x512_0_0_512, k0_pay23 (View.readAt (Elt Ideal) arg3.view (Rect.unit (s := S1x512x512) ![0, 0, 0] S1x512x128.size inb_S1x512x512_S1x512x128_0_0_0).toLoadRect (harg3.unread x0))⟩,
        ⟨Rect.unit (s := S2x128x2048) ![0, 0, 0] S1x128x512.size inb_S2x128x2048_S1x128x512_0_0_0, k0_pay22 (View.readAt (Elt Ideal) arg3.view (Rect.unit (s := S1x512x512) ![0, 0, 0] S1x512x128.size inb_S1x512x512_S1x512x128_0_0_0).toLoadRect (harg3.unread x0))⟩]) (arg9.view.writes (Elt Ideal) arg9.view.junk [⟨Rect.unit (s := S2x80x2048) ![0, 0, 0] S2x80x2048.size inb_S2x80x2048_S2x80x2048_0_0_0, k0_pay33 (F := Ideal)⟩]) (arg10.view.writes (Elt Ideal) arg10.view.junk [⟨Rect.unit (s := S2x8x2048) ![0, 0, 0] S2x8x2048.size inb_S2x8x2048_S2x8x2048_0_0_0, k0_pay34 (F := Ideal)⟩]) 1 q (fun r => fill_acc arg9 _ _) (fill_max arg10 _ _) (y 1 q)
    (fun n s => by rw [harg4.read_unread, read_lay arg8 arg3 harg3 x0]; exact hy 1 q n s)
  rw [harg5.read_unread, harg6.read_unread] at T
  exact T

/-- Case C's output block: each of its eight heads' lanes is the softmax sum of that head. -/
theorem block_C (c : Dev nD) (i : grid0.Coords) (arg3 : Memref sig .tc .vmem S1x512x512 .bf16) (harg3 : arg3.IsWhole) (arg4 : Memref sig .tc .vmem S1x16x512x128 .bf16) (harg4 : arg4.IsWhole) (arg5 : Memref sig .tc .vmem S1x16x80x512 .bf16) (harg5 : arg5.IsWhole) (arg6 : Memref sig .tc .vmem S1x16x80x512 .bf16) (harg6 : arg6.IsWhole) (arg7 : Memref sig .tc .vmem S1x512x512 .bf16) (harg7 : arg7.IsWhole) (arg8 : Memref sig .tc .vmem S2x128x2048 .bf16) (harg8 : arg8.IsWhole) (arg9 : Memref sig .tc .vmem S2x80x2048 .f32) (harg9 : arg9.IsWhole) (arg10 : Memref sig .tc .vmem S2x8x2048 .f32) (harg10 : arg10.IsWhole)
    (x0 : Vec Ideal S1x512x512 .bf16) (x1 : Vec Ideal S1x16x512x128 .bf16) (x2 : Vec Ideal S1x16x80x512 .bf16) (x3 : Vec Ideal S1x16x80x512 .bf16) (xt0 : TbBuf0 (F := Ideal) c tbM0_0) (hc0 : ¬cond0_0 i (tbM0_0.view.readAt (Elt Ideal) (Rect.unit (s := S1) ![0] S1.size inb_S1_S1_0).toLoadRect xt0 (Shape.Idx.first (numel1_S1.symm ▸ Nat.one_pos)))) (hc1 : cond0_1 i (tbM0_0.view.readAt (Elt Ideal) (Rect.unit (s := S1) ![0] S1.size inb_S1_S1_0).toLoadRect xt0 (Shape.Idx.first (numel1_S1.symm ▸ Nat.one_pos)))) (y : Fin 2 → Fin 2048 → Fin 16 × Fin 512 → ℝ) (hy : ∀ g q n s, score (kT x1 n) (qT (lay x0) g) s q = (y g q (n, s) : EReal))
    (h2 : ∀ p : Fin 16 × Fin 512, x2 (ix4 0 p.1 64 p.2) = (1 : EReal)) (h3 : ∀ p : Fin 16 × Fin 512, x3 (ix4 0 p.1 64 p.2) = (1 : EReal)) (g : Fin 2) (cc : Fin 2) (r : Fin 512) (l : Fin 128) (c' : Fin 512) (hc' : c'.val = 256 * g.val + 128 * cc.val + l.val) (q : Fin 2048) (hq : q.val = 1024 * cc.val + 512 * (l.val / 64) + r.val) (d : Fin 80) (hd : d.val = l.val % 64) :
    out0_C_4 c i arg3 harg3 arg4 harg4 arg5 harg5 arg6 harg6 arg7 harg7 arg8 harg8 arg9 harg9 arg10 harg10 x0 x1 x2 x3 xt0 hc0 hc1 (ix3 0 r c') = att (fun d p => (if g = 1 then x3 else x2) (ix4 0 p.1 d p.2)) (y g q) d := by
  have e : ∀ p : ℕ, (if l.val < 64 then p else p + 512) = p + 512 * (l.val / 64) := by
    intro p
    split <;> omega
  unfold out0_C_4 kernelRun0_C
  dsimp only
  sl_unfold_words
  obtain rfl | rfl : g = 0 ∨ g = 1 := by omega
  · rw [if_neg (by decide)]
    obtain rfl | rfl : cc = 0 ∨ cc = 1 := by omega
    · rw [show c' = ⟨0 + l.val, by omega⟩ from Fin.ext (hc'.trans (by show 256 * 0 + 128 * 0 + l.val = 0 + l.val; omega))]
      refine (read_out_0 _ _ _ _ _ r l).trans ((pay42_apply _ 0 r l).trans ?_)
      refine pairOut_att 0 512 _ _ _ _ (y 0) (fun q => ?_) h2 r l q d hd (hq.trans ((show 1024 * 0 + 512 * (l.val / 64) + r.val = 0 + 512 * (l.val / 64) + r.val by omega).trans (congrArg (· + r.val) (e 0).symm)))
      obtain ⟨μ, hμ⟩ := acc_C0 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (0 : Fin 2) rfl) (ix3 0 r' q)
    · rw [show c' = ⟨128 + l.val, by omega⟩ from Fin.ext (hc'.trans (by show 256 * 0 + 128 * 1 + l.val = 128 + l.val; omega))]
      refine (read_out_1 _ _ _ _ _ r l).trans ((pay43_apply _ 0 r l).trans ?_)
      refine pairOut_att 1024 1536 _ _ _ _ (y 0) (fun q => ?_) h2 r l q d hd (hq.trans ((show 1024 * 1 + 512 * (l.val / 64) + r.val = 1024 + 512 * (l.val / 64) + r.val by omega).trans (congrArg (· + r.val) (e 1024).symm)))
      obtain ⟨μ, hμ⟩ := acc_C0 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (0 : Fin 2) rfl) (ix3 0 r' q)
  · rw [if_pos rfl]
    obtain rfl | rfl : cc = 0 ∨ cc = 1 := by omega
    · rw [show c' = ⟨256 + l.val, by omega⟩ from Fin.ext (hc'.trans (by show 256 * 1 + 128 * 0 + l.val = 256 + l.val; omega))]
      refine (read_out_2 _ _ _ _ _ r l).trans ((pay1_apply _ 0 r l).trans ?_)
      refine pairOut_att 0 512 _ _ _ _ (y 1) (fun q => ?_) h3 r l q d hd (hq.trans ((show 1024 * 0 + 512 * (l.val / 64) + r.val = 0 + 512 * (l.val / 64) + r.val by omega).trans (congrArg (· + r.val) (e 0).symm)))
      obtain ⟨μ, hμ⟩ := acc_C1 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (1 : Fin 2) rfl) (ix3 0 r' q)
    · rw [show c' = ⟨384 + l.val, by omega⟩ from Fin.ext (hc'.trans (by show 256 * 1 + 128 * 1 + l.val = 384 + l.val; omega))]
      refine (read_out_3 _ _ _ _ _ r l).trans ((pay2_apply _ 0 r l).trans ?_)
      refine pairOut_att 1024 1536 _ _ _ _ (y 1) (fun q => ?_) h3 r l q d hd (hq.trans ((show 1024 * 1 + 512 * (l.val / 64) + r.val = 1024 + 512 * (l.val / 64) + r.val by omega).trans (congrArg (· + r.val) (e 1024).symm)))
      obtain ⟨μ, hμ⟩ := acc_C1 c i arg3 harg3 arg4 harg4 arg5 harg5 arg6 harg6 arg7 harg7 arg8 harg8 arg9 harg9 arg10 harg10 x0 x1 x2 x3 xt0 hc0 hc1 y hy h2 h3 (tbM0_0.view.readAt (Elt Ideal) (Rect.unit (s := S1) ![0] S1.size inb_S1_S1_0).toLoadRect xt0 (Shape.Idx.first (numel1_S1.symm ▸ Nat.one_pos))) 1#32 q
      refine ⟨μ, fun r' => Eq.trans ?_ (hμ r')⟩
      exact congrFun (load_acc arg9 _ _ _ _ (1 : Fin 2) rfl) (ix3 0 r' q)

end Cert.Attn

end
-- ==== Proof.AttnHost.lean ====
/-
  The arrays that the attention call is given, entry by entry, as the host prepares them: the scaled queries, the keys in
  tiles, the values transposed in tiles over rows of ones, and the flag, which is zero or one.
-/
module

public import proofs.«01_k».proof.Proof.Gen.KernelIdeal.Frame
public import Idealize.ShloMosaic.Lib.ValueIdx
public import Idealize.ShloMosaic.Lib.StableHlo.Run
public import Idealize.ShloMosaic.Lib.Pipeline.Value
public import Idealize.ShloMosaic.Lib.Claim
public import Idealize.ShloMosaic.PureOps.Ideal.Laws

@[expose] public section

set_option maxRecDepth 16384

noncomputable section

namespace Cert.AttnHost

open Cert.KernelIdeal Cert.KernelIdeal.Gen
open Idealize.ShloMosaic Idealize.ShloMosaic.TcCoe Idealize.ShloMosaic.ValueIdx Idealize.ShloMosaic.StableHlo Idealize.SL.Sem
open scoped BigOperators

variable (m : (ℓ : Loc nD τ sig) → Buf (Elt Ideal) ℓ) (c : Dev nD)

/-- The queries, keys and values as launched. -/
abbrev qA : S8x8192x8x64.Idx → EReal := m ((c : Thread nD τ).loc main_arg2)
/-- The keys, the fourth argument. -/
abbrev kA : S8x8192x2x64.Idx → EReal := m ((c : Thread nD τ).loc main_arg3)
/-- The values, the fifth argument. -/
abbrev vA : S8x8192x2x64.Idx → EReal := m ((c : Thread nD τ).loc main_arg4)

set_option maxHeartbeats 2000000 in
/-- The prepared queries: scaled by one eighth over the logarithm of two. -/
theorem queries : (V (F := Ideal) m c main_v5 : S8x8192x512.Idx → EReal)
    = truncf .bf16 (mulf (shapeCast S8x8192x512 (qA m c) shapeCasts_S8x8192x8x64_S8x8192x512)
        (broadcastInDim S8x8192x512 ![] bcast_S_S8x8192x512 (Host.divf (F := Ideal) (constant S_ .f32 0x3E000000#32) (Host.log (constant S_ .f32 0x40000000#32))))) bitsLt_bf16_f32 := by
  show StableHlo.after hostOps0 (fun b => m (c, b)) (Proc.devRef .tc main_v5) = _
  after_results <;> rfl

set_option maxHeartbeats 2000000 in
/-- The prepared keys. -/
theorem keys : (V (F := Ideal) m c main_v7 : S8x16x512x128.Idx → EReal)
    = (truncf .bf16 (shapeCast S8x16x512x128 (kA m c) shapeCasts_S8x8192x2x64_S8x16x512x128 : FVec Ideal S8x16x512x128 .f32) bitsLt_bf16_f32 : FVec Ideal S8x16x512x128 .bf16) := by
  show StableHlo.after hostOps0 (fun b => m (c, b)) (Proc.devRef .tc main_v7) = _
  after_results <;> rfl

/-- The values in tiles, transposed. -/
abbrev vt : FVec Ideal S8x16x128x512 .f32 :=
  transpose S8x16x128x512 [0, 1, 3, 2] (shapeCast S8x16x512x128 (vA m c) shapeCasts_S8x8192x2x64_S8x16x512x128 : FVec Ideal S8x16x512x128 .f32) transposes_S8x16x512x128_S8x16x128x512_0_1_3_2

/-- The rows of ones. -/
abbrev one : FVec Ideal S8x16x16x512 .f32 := broadcastInDim S8x16x16x512 ![] bcast_S_S8x16x16x512 (constant S_ .f32 0x3F800000#32)

set_option maxHeartbeats 2000000 in
/-- The prepared values of the first key head. -/
theorem valuesA : (V (F := Ideal) m c main_v13 : S8x16x80x512.Idx → EReal)
    = (truncf .bf16 (concatenate S8x16x80x512 2 [⟨S8x16x64x512, extractStridedSlice S8x16x64x512 ![0, 0, 0, 0] (vt m c) slices_S8x16x128x512_S8x16x64x512_0_0_0_0⟩, ⟨S8x16x16x512, one⟩] concatenates_S8x16x64x512_S8x16x16x512_S8x16x80x512_d2 : FVec Ideal S8x16x80x512 .f32) bitsLt_bf16_f32 : FVec Ideal S8x16x80x512 .bf16) := by
  show StableHlo.after hostOps0 (fun b => m (c, b)) (Proc.devRef .tc main_v13) = _
  after_results <;> rfl

set_option maxHeartbeats 2000000 in
/-- The prepared values of the second key head. -/
theorem valuesB : (V (F := Ideal) m c main_v16 : S8x16x80x512.Idx → EReal)
    = (truncf .bf16 (concatenate S8x16x80x512 2 [⟨S8x16x64x512, extractStridedSlice S8x16x64x512 ![0, 0, 64, 0] (vt m c) slices_S8x16x128x512_S8x16x64x512_0_0_64_0⟩, ⟨S8x16x16x512, one⟩] concatenates_S8x16x64x512_S8x16x16x512_S8x16x80x512_d2 : FVec Ideal S8x16x80x512 .f32) bitsLt_bf16_f32 : FVec Ideal S8x16x80x512 .bf16) := by
  show StableHlo.after hostOps0 (fun b => m (c, b)) (Proc.devRef .tc main_v16) = _
  after_results <;> rfl

set_option maxHeartbeats 2000000 in
/-- The flag is a truth value widened to a word. -/
theorem flag : ∃ x : S_.Idx → BitVec 1, (V (F := Ideal) m c main_v27 : S1.Idx → BitVec 32) = shapeCast S1 (extui 32 x natLt_1_32) shapeCasts_S_S1 := by
  refine ⟨(V (F := Ideal) m c main_v25 : S_.Idx → BitVec 1), ?_⟩
  show StableHlo.after hostOps0 (fun b => m (c, b)) (Proc.devRef .tc main_v27) = shapeCast S1 (extui 32 (StableHlo.after hostOps0 (fun b => m (c, b)) (Proc.devRef .tc main_v25) : S_.Idx → BitVec 1) natLt_1_32) shapeCasts_S_S1
  after_results <;> rfl

/-- The scale. -/
def κ : ℝ := 1 / 8 / Real.log 2

/-- The host's scale is one eighth divided by the logarithm of two. -/
theorem scale_val (z : S_.Idx) : Host.divf (F := Ideal) (constant S_ .f32 0x3E000000#32) (Host.log (constant S_ .f32 0x40000000#32)) z = (κ : EReal) := by
  have h2 : Ideal.ofBits .f32 0x40000000#32 = ((2 : ℝ) : EReal) := by
    simp [Ideal.ofBits, Ideal.ieee]
    rw [← EReal.coe_mul]
    norm_num
  have h8 : Ideal.ofBits .f32 0x3E000000#32 = ((1 / 8 : ℝ) : EReal) := by
    simp [Ideal.ofBits, Ideal.ieee]
    norm_num
    rw [← EReal.coe_mul]
    norm_num
  show Ideal.div (Ideal.ofBits .f32 0x3E000000#32) (Ideal.log (Ideal.ofBits .f32 0x40000000#32)) = _
  rw [h2, h8]
  have hl : Ideal.log ((2 : ℝ) : EReal) = ((Real.log 2 : ℝ) : EReal) := by
    rw [Ideal.log_coe, if_neg (by norm_num)]
  rw [hl, Ideal.div_coe (Real.log_pos one_lt_two).ne', ← EReal.coe_mul]
  unfold κ
  rw [mul_one_div]

/-- An entry of the prepared queries. -/
theorem query_at (b : Fin 8) (t : Fin 8192) (col : Fin 512) (h : Fin 8) (d : Fin 64) (hc : col.val = h.val * 64 + d.val) :
    (V (F := Ideal) m c main_v5 : S8x8192x512.Idx → EReal) (ix3 b t col) = qA m c (ix4 b t h d) * (κ : EReal) := by
  rw [queries]
  show shapeCast S8x8192x512 (qA m c) shapeCasts_S8x8192x8x64_S8x8192x512 (ix3 b t col) * broadcastInDim S8x8192x512 ![] bcast_S_S8x8192x512 (Host.divf (F := Ideal) (constant S_ .f32 0x3E000000#32) (Host.log (constant S_ .f32 0x40000000#32))) (ix3 b t col) = _
  rw [broadcastInDim_apply _ bcast_S_S8x8192x512 _ (ix3 b t col) (fun a => a.elim0) (fun a => a.elim0), scale_val,
    shapeCast_apply (qA m c) shapeCasts_S8x8192x8x64_S8x8192x512 (ix3 b t col) (ix4 b t h d) ?_]
  rw [Shape.rowMajor_val_four, Shape.rowMajor_val_three]
  show ((b.val * 8192 + t.val) * 8 + h.val) * 64 + d.val = (b.val * 8192 + t.val) * 512 + col.val
  omega

/-- An entry of the prepared keys. -/
theorem key_at (b : Fin 8) (n : Fin 16) (s : Fin 512) (l : Fin 128) (t : Fin 8192) (g : Fin 2) (d : Fin 64)
    (ht : t.val = 512 * n.val + s.val) (hl : l.val = 64 * g.val + d.val) :
    (V (F := Ideal) m c main_v7 : S8x16x512x128.Idx → EReal) (ix4 b n s l) = kA m c (ix4 b t g d) := by
  rw [keys]
  show shapeCast S8x16x512x128 (kA m c) shapeCasts_S8x8192x2x64_S8x16x512x128 (ix4 b n s l) = _
  refine shapeCast_apply (kA m c) shapeCasts_S8x8192x2x64_S8x16x512x128 (ix4 b n s l) (ix4 b t g d) ?_
  rw [Shape.rowMajor_val_four, Shape.rowMajor_val_four]
  show ((b.val * 8192 + t.val) * 2 + g.val) * 64 + d.val = ((b.val * 16 + n.val) * 512 + s.val) * 128 + l.val
  omega

/-- An entry of the transposed values. -/
theorem vt_at (b : Fin 8) (n : Fin 16) (s : Fin 512) (l : Fin 128) (t : Fin 8192) (g : Fin 2) (d : Fin 64)
    (ht : t.val = 512 * n.val + s.val) (hl : l.val = 64 * g.val + d.val) : vt m c (ix4 b n l s) = vA m c (ix4 b t g d) := by
  unfold vt
  rw [transpose_apply [0, 1, 3, 2] _ transposes_S8x16x512x128_S8x16x128x512_0_1_3_2 (ix4 b n l s) (ix4 b n s l) (fun z => by
    match z with | ⟨0, _⟩ => rfl | ⟨1, _⟩ => rfl | ⟨2, _⟩ => rfl | ⟨3, _⟩ => rfl)]
  refine shapeCast_apply (vA m c) shapeCasts_S8x8192x2x64_S8x16x512x128 (ix4 b n s l) (ix4 b t g d) ?_
  rw [Shape.rowMajor_val_four, Shape.rowMajor_val_four]
  show ((b.val * 8192 + t.val) * 2 + g.val) * 64 + d.val = ((b.val * 16 + n.val) * 512 + s.val) * 128 + l.val
  omega

/-- Four-axis arrays joined along the third axis: an entry of the first. -/
theorem join_left {α : Type} {a b p q r e : ℕ} (x₁ : (⟨4, ![a, b, p, r]⟩ : Shape).Idx → α) (x₂ : (⟨4, ![a, b, q, r]⟩ : Shape).Idx → α)
    (h : Shape.Concatenates [⟨4, ![a, b, p, r]⟩, ⟨4, ![a, b, q, r]⟩] ⟨4, ![a, b, e, r]⟩ 2) (i : Fin a) (j : Fin b) (k : Fin e) (l : Fin r) (k' : Fin p) (hk : k'.val = k.val) :
    concatenate ⟨4, ![a, b, e, r]⟩ 2 [⟨⟨4, ![a, b, p, r]⟩, x₁⟩, ⟨⟨4, ![a, b, q, r]⟩, x₂⟩] h (ix4 i j k l) = x₁ (ix4 i j k' l) := by
  refine concatenate_pair_apply_left _ x₁ x₂ h _ rfl _ fun x => ?_
  match x with
  | ⟨0, _⟩ => rfl
  | ⟨1, _⟩ => rfl
  | ⟨2, _⟩ => exact hk
  | ⟨3, _⟩ => rfl

/-- Four-axis arrays joined along the third axis: an entry of the second. -/
theorem join_right {α : Type} {a b p q r e : ℕ} (x₁ : (⟨4, ![a, b, p, r]⟩ : Shape).Idx → α) (x₂ : (⟨4, ![a, b, q, r]⟩ : Shape).Idx → α)
    (h : Shape.Concatenates [⟨4, ![a, b, p, r]⟩, ⟨4, ![a, b, q, r]⟩] ⟨4, ![a, b, e, r]⟩ 2) (i : Fin a) (j : Fin b) (k : Fin e) (l : Fin r) (k' : Fin q) (hk : k'.val + p = k.val) :
    concatenate ⟨4, ![a, b, e, r]⟩ 2 [⟨⟨4, ![a, b, p, r]⟩, x₁⟩, ⟨⟨4, ![a, b, q, r]⟩, x₂⟩] h (ix4 i j k l) = x₂ (ix4 i j k' l) := by
  refine concatenate_pair_apply_right _ x₁ x₂ h _ rfl rfl _ (fun x hx => ?_) hk
  match x with
  | ⟨0, _⟩ => rfl
  | ⟨1, _⟩ => rfl
  | ⟨2, _⟩ => exact absurd rfl hx
  | ⟨3, _⟩ => rfl

/-- A row of ones. -/
theorem one_at (z : S8x16x16x512.Idx) : one z = (1 : EReal) := by
  unfold one
  rw [broadcastInDim_apply _ bcast_S_S8x16x16x512 _ z (fun a => a.elim0) (fun a => a.elim0)]
  show Ideal.ofBits .f32 0x3F800000#32 = 1
  simp [Ideal.ofBits, Ideal.ieee]
  rw [← EReal.coe_mul]
  norm_num

/-- An entry of the prepared values of the first key head. -/
theorem valueA_at (b : Fin 8) (n : Fin 16) (s : Fin 512) (t : Fin 8192) (d' : Fin 80) (d : Fin 64) (ht : t.val = 512 * n.val + s.val) (hd : d'.val = d.val) :
    (V (F := Ideal) m c main_v13 : S8x16x80x512.Idx → EReal) (ix4 b n d' s) = vA m c (ix4 b t 0 d) := by
  rw [valuesA]
  refine (join_left _ _ concatenates_S8x16x64x512_S8x16x16x512_S8x16x80x512_d2 b n d' s d hd.symm).trans ?_
  refine (extractStridedSlice_apply _ _ slices_S8x16x128x512_S8x16x64x512_0_0_0_0 (ix4 b n d s) (ix4 b n (⟨d.val, by omega⟩ : Fin 128) s) (fun z => ?_)).trans ?_
  · match z with
    | ⟨0, _⟩ => show b.val = 0 + b.val; omega
    | ⟨1, _⟩ => show n.val = 0 + n.val; omega
    | ⟨2, _⟩ => show d.val = 0 + d.val; omega
    | ⟨3, _⟩ => show s.val = 0 + s.val; omega
  · exact vt_at m c b n s _ t 0 d ht (by show d.val = 64 * 0 + d.val; omega)

/-- An entry of the prepared values of the second key head. -/
theorem valueB_at (b : Fin 8) (n : Fin 16) (s : Fin 512) (t : Fin 8192) (d' : Fin 80) (d : Fin 64) (ht : t.val = 512 * n.val + s.val) (hd : d'.val = d.val) :
    (V (F := Ideal) m c main_v16 : S8x16x80x512.Idx → EReal) (ix4 b n d' s) = vA m c (ix4 b t 1 d) := by
  rw [valuesB]
  refine (join_left _ _ concatenates_S8x16x64x512_S8x16x16x512_S8x16x80x512_d2 b n d' s d hd.symm).trans ?_
  refine (extractStridedSlice_apply _ _ slices_S8x16x128x512_S8x16x64x512_0_0_64_0 (ix4 b n d s) (ix4 b n (⟨64 + d.val, by omega⟩ : Fin 128) s) (fun z => ?_)).trans ?_
  · match z with
    | ⟨0, _⟩ => show b.val = 0 + b.val; omega
    | ⟨1, _⟩ => show n.val = 0 + n.val; omega
    | ⟨2, _⟩ => show 64 + d.val = 64 + d.val; rfl
    | ⟨3, _⟩ => show s.val = 0 + s.val; omega
  · exact vt_at m c b n s _ t 1 d ht (by show 64 + d.val = 64 * 1 + d.val; omega)

/-- Row sixty-four of the prepared values is a row of ones. -/
theorem onesA_at (b : Fin 8) (n : Fin 16) (s : Fin 512) : (V (F := Ideal) m c main_v13 : S8x16x80x512.Idx → EReal) (ix4 b n 64 s) = (1 : EReal) := by
  rw [valuesA]
  exact (join_right (extractStridedSlice S8x16x64x512 ![0, 0, 0, 0] (vt m c) slices_S8x16x128x512_S8x16x64x512_0_0_0_0) one concatenates_S8x16x64x512_S8x16x16x512_S8x16x80x512_d2 b n 64 s 0 rfl).trans (one_at _)

/-- The first row under the second head's values holds ones. -/
theorem onesB_at (b : Fin 8) (n : Fin 16) (s : Fin 512) : (V (F := Ideal) m c main_v16 : S8x16x80x512.Idx → EReal) (ix4 b n 64 s) = (1 : EReal) := by
  rw [valuesB]
  exact (join_right (extractStridedSlice S8x16x64x512 ![0, 0, 64, 0] (vt m c) slices_S8x16x128x512_S8x16x64x512_0_0_64_0) one concatenates_S8x16x64x512_S8x16x16x512_S8x16x80x512_d2 b n 64 s 0 rfl).trans (one_at _)

/-- The flag is zero or one. -/
theorem flag_at (i : S1.Idx) : (V (F := Ideal) m c main_v27 : S1.Idx → BitVec 32) i = 0#32 ∨ (V (F := Ideal) m c main_v27 : S1.Idx → BitVec 32) i = 1#32 := by
  obtain ⟨x, hx⟩ := flag m c
  rw [hx, shapeCast_apply _ shapeCasts_S_S1 i (fun a => a.elim0) (by
    rw [Shape.rowMajor_val_one]
    have h0 : (i 0).val < 1 := (i 0).isLt
    have := (S_.rowMajor (fun a => a.elim0)).isLt
    have e : S_.numel = 1 := by decide
    omega)]
  show (x _).setWidth 32 = 0#32 ∨ (x _).setWidth 32 = 1#32
  generalize x _ = w
  revert w
  decide

end Cert.AttnHost

end
-- ==== Proof.RefAttn.lean ====
/-
  The reference's attention read entry by entry: at finite queries and keys every entry is the softmax-weighted sum of the
  values, the scores being the products of a query with the keys, divided by eight.
-/
module

public import proofs.«01_k».proof.Proof.Gen.ReferenceIdeal.Read
public import proofs.«01_k».proof.Proof.Softmax
public import proofs.«01_k».proof.Proof.Online
public import Idealize.ShloMosaic.Lib.KernelVsHost
public import Idealize.ShloMosaic.Lib.ValueIdx

@[expose] public section

set_option maxRecDepth 16384

noncomputable section

namespace Cert.RefAttn

open Cert.ReferenceIdeal Cert.ReferenceIdeal.Gen Cert.ReferenceIdeal.Read
open Idealize.ShloMosaic Idealize.ShloMosaic.TcCoe Idealize.ShloMosaic.ValueIdx
open scoped BigOperators

/-- The score of a query row with one key: their product over the lanes, times one eighth. -/
def sc (qr : S8x8192x8x64.Idx → ℝ) (kr : S8x8192x2x64.Idx → ℝ) (b : Fin 8) (g : Fin 2) (j : Fin 4) (t s : Fin 8192) : ℝ :=
  (∑ l : Fin 64, kr (ix4 b s g l) * qr (ix4 b t (⟨4 * g.val + j.val, by omega⟩ : Fin 8) l)) * (1 / 8)

/-- The word of the score's factor is one eighth. -/
theorem ofBits_eighth : Ideal.ofBits .f32 0x3E000000#32 = ((1 / 8 : ℝ) : EReal) := by
  simp [Ideal.ofBits, Ideal.ieee]
  norm_num
  rw [← EReal.coe_mul]
  norm_num

variable (q : (⟨S8x8192x8x64, .f32⟩ : BufTy).Contents (Elt Ideal)) (k v : (⟨S8x8192x2x64, .f32⟩ : BufTy).Contents (Elt Ideal))
variable (qr : S8x8192x8x64.Idx → ℝ) (kr : S8x8192x2x64.Idx → ℝ)

/-- The queries regrouped by key head. -/
theorem v0_at (b : Fin 8) (t : Fin 8192) (g : Fin 2) (j : Fin 4) (l : Fin 64) :
    val_main_v0 (F := Ideal) q (ix5 b t g j l) = q (ix4 b t (⟨4 * g.val + j.val, by omega⟩ : Fin 8) l) := by
  rw [val_main_v0_apply]
  refine congrArg q (funext fun a => Fin.ext ?_)
  match a with
  | ⟨0, _⟩ => show ((((b.val * 8192 + t.val) * 2 + g.val) * 4 + j.val) * 64 + l.val) / 4194304 = b.val; omega
  | ⟨1, _⟩ => show ((((b.val * 8192 + t.val) * 2 + g.val) * 4 + j.val) * 64 + l.val) / 512 % 8192 = t.val; omega
  | ⟨2, _⟩ => show ((((b.val * 8192 + t.val) * 2 + g.val) * 4 + j.val) * 64 + l.val) / 64 % 8 = 4 * g.val + j.val; omega
  | ⟨3, _⟩ => show ((((b.val * 8192 + t.val) * 2 + g.val) * 4 + j.val) * 64 + l.val) % 64 = l.val; omega

/-- The scaled scores. -/
theorem v4_at (hq : ∀ i, q i = (qr i : EReal)) (hk : ∀ i, k i = (kr i : EReal)) (b : Fin 8) (g : Fin 2) (j : Fin 4) (t s : Fin 8192) :
    val_main_v4 (F := Ideal) q k (ix5 b g j t s) = ((sc qr kr b g j t s : ℝ) : EReal) := by
  rw [val_main_v4_apply, val_main_v2_apply, val_main_v1_apply, val_main_v3_apply, val_main_cst_apply]
  have e : ∀ l : Fin 64, k (lidx_main_v1 (idx_main_v2 (ix5 b g j t s)) l) * val_main_v0 (F := Ideal) q (ridx_main_v1 (idx_main_v2 (ix5 b g j t s)) l)
      = ((kr (ix4 b s g l) * qr (ix4 b t (⟨4 * g.val + j.val, by omega⟩ : Fin 8) l) : ℝ) : EReal) := by
    intro l
    rw [show lidx_main_v1 (idx_main_v2 (ix5 b g j t s)) l = ix4 b s g l from funext fun a => Fin.ext (by
        match a with | ⟨0, _⟩ => rfl | ⟨1, _⟩ => rfl | ⟨2, _⟩ => rfl | ⟨3, _⟩ => rfl),
      show ridx_main_v1 (idx_main_v2 (ix5 b g j t s)) l = ix5 b t g j l from funext fun a => Fin.ext (by
        match a with | ⟨0, _⟩ => rfl | ⟨1, _⟩ => rfl | ⟨2, _⟩ => rfl | ⟨3, _⟩ => rfl | ⟨4, _⟩ => rfl),
      v0_at, hk, hq, ← EReal.coe_mul]
  rw [Finset.sum_congr rfl fun l _ => e l, ← Cert.Softmax.coe_sum]
  show ((_ : ℝ) : EReal) * Ideal.ofBits .f32 0x3E000000#32 = _
  rw [ofBits_eighth, ← EReal.coe_mul]
  rfl

/-- The largest entry along the last of five axes, for any extents. -/
theorem lastMax {a b c d e : ℕ} {u : Shape} (x : FVec Ideal ⟨5, ![a, b, c, d, e]⟩ .f32) (w : BitVec 32)
    (h : (⟨5, ![a, b, c, d, e]⟩ : Shape).ReducesTo [4] ⟨4, ![a, b, c, d]⟩) (hu : 0 < u.numel)
    (h' : (⟨5, ![a, b, c, d, e]⟩ : Shape).Reduces [4] ⟨4, ![a, b, c, d]⟩) (hφ : FKind.Formats .f32) (hacc : w = FKind.maximumf.neutral .f32 hφ)
    (i : Fin a) (j : Fin b) (k : Fin c) (l : Fin d) :
    Host.reduce FloatOps.maximumf x (constant u .f32 w) h hu (ix4 i j k l)
      = (Finset.univ : Finset (Fin e)).fold max (Ideal.ofBits .f32 w) (fun s => x (ix5 i j k l s)) := by
  rw [hostReduce_maximumf_eq_multiReduction x w h hu h' hφ hacc, Ideal.multiReduction_maximumf_single]
  refine congrArg (fun f => Finset.fold max _ f Finset.univ) (funext fun s => congrArg x (funext fun z => Fin.ext ?_))
  rw [Shape.Reduces.lift_val]
  match z with
  | ⟨0, _⟩ => rfl
  | ⟨1, _⟩ => rfl
  | ⟨2, _⟩ => rfl
  | ⟨3, _⟩ => rfl
  | ⟨4, _⟩ => rfl

/-- The row maximum is a real number. -/
theorem v5_at (hq : ∀ i, q i = (qr i : EReal)) (hk : ∀ i, k i = (kr i : EReal)) (b : Fin 8) (g : Fin 2) (j : Fin 4) (t : Fin 8192) :
    ∃ μ : ℝ, val_main_v5 (F := Ideal) q k (ix4 b g j t) = (μ : EReal) := by
  obtain ⟨μ, hμ⟩ := Cert.Online.fold_max_real (Finset.univ : Finset (Fin 8192)) _ (fun s => sc qr kr b g j t s) Cert.Online.ofBits_neg_inf Finset.univ_nonempty
  refine ⟨μ, Eq.trans ?_ hμ⟩
  unfold val_main_v5 val_main_cst_0
  refine (lastMax _ _ _ _ (by decide) (by decide) (by decide) b g j t).trans ?_
  exact congrArg (fun f => Finset.fold max _ f Finset.univ) (funext fun s => v4_at q k qr kr hq hk b g j t s)

/-- The softmax weights. -/
theorem v15_at (hq : ∀ i, q i = (qr i : EReal)) (hk : ∀ i, k i = (kr i : EReal)) (b : Fin 8) (g : Fin 2) (j : Fin 4) (t s : Fin 8192) :
    val_main_v15 (F := Ideal) q k (ix5 b g j t s)
      = ((Real.exp (sc qr kr b g j t s) / ∑ u, Real.exp (sc qr kr b g j t u) : ℝ) : EReal) := by
  obtain ⟨μ, hμ⟩ := v5_at q k qr kr hq hk b g j t
  have e7 : val_main_v7 (F := Ideal) q k (ix4 b g j t) = (μ : EReal) := by
    rw [val_main_v7_apply, val_main_v6_apply, val_main_cst_1_apply, hμ]
    show max (Ideal.ofBits .f32 0xFF800000#32) (μ : EReal) = μ
    rw [Cert.Online.ofBits_neg_inf]
    exact max_bot_left _
  have e11 : ∀ s, val_main_v11 (F := Ideal) q k (ix5 b g j t s) = ((Real.exp (sc qr kr b g j t s - μ) : ℝ) : EReal) := by
    intro s
    rw [val_main_v11_apply, val_main_v10_apply, v4_at q k qr kr hq hk, val_main_v9_apply, val_main_v8_apply,
      show idx_main_v8 (idx_main_v9 (ix5 b g j t s)) = ix4 b g j t from funext fun a => Fin.ext (by
        match a with | ⟨0, _⟩ => rfl | ⟨1, _⟩ => rfl | ⟨2, _⟩ => rfl | ⟨3, _⟩ => rfl), e7]
    show Ideal.exp (((sc qr kr b g j t s : ℝ) : EReal) - (μ : EReal)) = _
    rw [← EReal.coe_sub]
    rfl
  rw [val_main_v15_apply, e11, val_main_v14_apply, val_main_v13_apply,
    show idx_main_v13 (idx_main_v14 (ix5 b g j t s)) = ix4 b g j t from funext fun a => Fin.ext (by
      match a with | ⟨0, _⟩ => rfl | ⟨1, _⟩ => rfl | ⟨2, _⟩ => rfl | ⟨3, _⟩ => rfl),
    val_main_v12_apply, val_main_cst_2_apply]
  have e12 : ∀ u : Fin 8192, val_main_v11 (F := Ideal) q k (idx_main_v12 (ix4 b g j t) u) = ((Real.exp (sc qr kr b g j t u - μ) : ℝ) : EReal) := by
    intro u
    rw [show idx_main_v12 (ix4 b g j t) u = ix5 b g j t u from funext fun a => Fin.ext (by
      match a with | ⟨0, _⟩ => rfl | ⟨1, _⟩ => rfl | ⟨2, _⟩ => rfl | ⟨3, _⟩ => rfl | ⟨4, _⟩ => rfl), e11]
  rw [Finset.sum_congr rfl fun u _ => e12 u]
  show Ideal.div _ (Ideal.ofBits .f32 0x00000000#32 + _) = _
  rw [Ideal.ofBits_zero_f32, zero_add]
  exact Cert.Softmax.softmax_weight (fun u => sc qr kr b g j t u) μ s

/-- The reference's result, entry by entry. -/
theorem result_at (hq : ∀ i, q i = (qr i : EReal)) (hk : ∀ i, k i = (kr i : EReal)) (b : Fin 8) (t : Fin 8192) (g : Fin 2) (j : Fin 4) (d : Fin 64)
    (c : Fin 512) (hc : c.val = (4 * g.val + j.val) * 64 + d.val) :
    val_main_v19 (F := Ideal) q k v (ix3 b t c)
      = ∑ s : Fin 8192, ((Real.exp (sc qr kr b g j t s) / ∑ u, Real.exp (sc qr kr b g j t u) : ℝ) : EReal) * v (ix4 b s g d) := by
  rw [val_main_v19_apply]
  show val_main_v18 (F := Ideal) q k v (ix3 b t c) = _
  rw [val_main_v18_apply, show idx_main_v18 (ix3 b t c) = ix5 b t g j d from funext fun a => Fin.ext (by
      match a with
      | ⟨0, _⟩ => show ((b.val * 8192 + t.val) * 512 + c.val) / 4194304 = b.val; omega
      | ⟨1, _⟩ => show ((b.val * 8192 + t.val) * 512 + c.val) / 512 % 8192 = t.val; omega
      | ⟨2, _⟩ => show ((b.val * 8192 + t.val) * 512 + c.val) / 256 % 2 = g.val; omega
      | ⟨3, _⟩ => show ((b.val * 8192 + t.val) * 512 + c.val) / 64 % 4 = j.val; omega
      | ⟨4, _⟩ => show ((b.val * 8192 + t.val) * 512 + c.val) % 64 = d.val; omega),
    val_main_v17_apply, val_main_v16_apply]
  refine Finset.sum_congr rfl fun s _ => ?_
  rw [show lidx_main_v16 (idx_main_v17 (ix5 b t g j d)) s = ix4 b s g d from funext fun a => Fin.ext (by
        match a with | ⟨0, _⟩ => rfl | ⟨1, _⟩ => rfl | ⟨2, _⟩ => rfl | ⟨3, _⟩ => rfl),
    show ridx_main_v16 (idx_main_v17 (ix5 b t g j d)) s = ix5 b g j t s from funext fun a => Fin.ext (by
      match a with | ⟨0, _⟩ => rfl | ⟨1, _⟩ => rfl | ⟨2, _⟩ => rfl | ⟨3, _⟩ => rfl | ⟨4, _⟩ => rfl),
    v15_at q k qr kr hq hk, mul_comm]

end Cert.RefAttn

end
-- ==== Proof.AttnValue.lean ====
/-
  What the attention call leaves in its result array: block by block the softmax average of the values, which is what the
  reference computes. The queries and keys are finite; the values are arbitrary.
-/
module

public import proofs.«01_k».proof.Proof.AttnBlock
public import proofs.«01_k».proof.Proof.AttnHost
public import proofs.«01_k».proof.Proof.RefAttn
public import Idealize.ShloMosaic.Lib.Pipeline.Value

@[expose] public section

set_option maxRecDepth 16384

noncomputable section

namespace Cert.AttnValue

open Cert.KernelIdeal Cert.KernelIdeal.Gen Cert.AttnHost Cert.Attn
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg) (hO : Ok m) (c : Dev nD)

/-- The position numbered `(n, s)` in tiles of 512 is position `512 n + s`. -/
def tile : Fin 16 × Fin 512 ≃ Fin 8192 where
  toFun p := ⟨512 * p.1.val + p.2.val, by omega⟩
  invFun t := (⟨t.val / 512, by omega⟩, ⟨t.val % 512, Nat.mod_lt _ (by decide)⟩)
  left_inv p := by
    refine Prod.ext (Fin.ext ?_) (Fin.ext ?_)
    · show (512 * p.1.val + p.2.val) / 512 = p.1.val
      omega
    · show (512 * p.1.val + p.2.val) % 512 = p.2.val
      omega
  right_inv t := Fin.ext (by
    show 512 * (t.val / 512) + t.val % 512 = t.val
    omega)

/-! ## Grid points and blocks -/

/-- The grid step's batch is its number over 16, its query block the remainder. -/
theorem coords_val : ∀ t : Fin grid0.N, ((grid0.coords t) 0).val = t.val / 16 ∧ ((grid0.coords t) 1).val = t.val % 16 := by decide +kernel

/-- The batch of a grid point. -/
def bat (t : Fin grid0.N) : Fin 8 := ⟨t.val / 16, by have := t.isLt; have e : grid0.N = 128 := N_0; omega⟩
/-- The query tile of a grid point. -/
def qt (t : Fin grid0.N) : Fin 16 := ⟨t.val % 16, Nat.mod_lt _ (by decide)⟩
/-- The query position of row `r` of a grid point's block. -/
def pos (t : Fin grid0.N) (r : Fin 512) : Fin 8192 := ⟨512 * (qt t).val + r.val, by omega⟩

/-- The queries' block at a grid step. -/
theorem map0 (t : Fin grid0.N) : cc0_transform_0 (grid0.coords t) = ![t.val / 16, t.val % 16, 0] := by
  revert t
  decide +kernel
/-- The keys' block at a grid step. -/
theorem map1 (t : Fin grid0.N) : cc0_transform_1 (grid0.coords t) = ![t.val / 16, 0, 0, 0] := by
  revert t
  decide +kernel
/-- The block of the first head's values at a grid step. -/
theorem map2 (t : Fin grid0.N) : cc0_transform_2 (grid0.coords t) = ![t.val / 16, 0, 0, 0] := by
  revert t
  decide +kernel
/-- The block of the second head's values at a grid step. -/
theorem map3 (t : Fin grid0.N) : cc0_transform_3 (grid0.coords t) = ![t.val / 16, 0, 0, 0] := by
  revert t
  decide +kernel
/-- The output's block at a grid step. -/
theorem map4 (t : Fin grid0.N) : cc0_transform_4 (grid0.coords t) = ![t.val / 16, t.val % 16, 0] := by
  revert t
  decide +kernel

/-- Input block 0 of a grid point. -/
def xb0 (t : Fin grid0.N) : S1x512x512.Idx → EReal := iblk m hO c 0 t
/-- Input block 1 of a grid point. -/
def xb1 (t : Fin grid0.N) : S1x16x512x128.Idx → EReal := iblk m hO c 1 t
/-- Input block 2 of a grid point. -/
def xb2 (t : Fin grid0.N) : S1x16x80x512.Idx → EReal := iblk m hO c 2 t
/-- Input block 3 of a grid point. -/
def xb3 (t : Fin grid0.N) : S1x16x80x512.Idx → EReal := iblk m hO c 3 t

/-- The query block of a grid point. -/
theorem block0 (t : Fin grid0.N) (r l : Fin 512) :
    xb0 m hO c t (ix3 0 r l) = (V (F := Ideal) m c main_v5 : S8x8192x512.Idx → EReal) (ix3 (bat t) (pos t r) l) := by
  show (V (F := Ideal) m c main_v5 : S8x8192x512.Idx → EReal) ((((cfgM m hO).win 0).blk t).view.emb (ix3 0 r l)) = _
  refine congrArg _ (funext fun a => Fin.ext ?_)
  match a with
  | ⟨0, _⟩ => show cc0_transform_0 (grid0.coords t) 0 * 1 + 1 * 0 = t.val / 16; rw [map0]; show t.val / 16 * 1 + 1 * 0 = _; omega
  | ⟨1, _⟩ => show cc0_transform_0 (grid0.coords t) 1 * 512 + 1 * r.val = 512 * (t.val % 16) + r.val; rw [map0]; show t.val % 16 * 512 + 1 * r.val = _; omega
  | ⟨2, _⟩ => show cc0_transform_0 (grid0.coords t) 2 * 512 + 1 * l.val = l.val; rw [map0]; show 0 * 512 + 1 * l.val = _; omega

/-- The key block of a grid point. -/
theorem block1 (t : Fin grid0.N) (n : Fin 16) (s : Fin 512) (l : Fin 128) :
    xb1 m hO c t (ix4 0 n s l) = (V (F := Ideal) m c main_v7 : S8x16x512x128.Idx → EReal) (ix4 (bat t) n s l) := by
  show (V (F := Ideal) m c main_v7 : S8x16x512x128.Idx → EReal) ((((cfgM m hO).win 1).blk t).view.emb (ix4 0 n s l)) = _
  refine congrArg _ (funext fun a => Fin.ext ?_)
  match a with
  | ⟨0, _⟩ => show cc0_transform_1 (grid0.coords t) 0 * 1 + 1 * 0 = t.val / 16; rw [map1]; show t.val / 16 * 1 + 1 * 0 = _; omega
  | ⟨1, _⟩ => show cc0_transform_1 (grid0.coords t) 1 * 16 + 1 * n.val = n.val; rw [map1]; show 0 * 16 + 1 * n.val = _; omega
  | ⟨2, _⟩ => show cc0_transform_1 (grid0.coords t) 2 * 512 + 1 * s.val = s.val; rw [map1]; show 0 * 512 + 1 * s.val = _; omega
  | ⟨3, _⟩ => show cc0_transform_1 (grid0.coords t) 3 * 128 + 1 * l.val = l.val; rw [map1]; show 0 * 128 + 1 * l.val = _; omega

/-- The value block of the first key head. -/
theorem block2 (t : Fin grid0.N) (n : Fin 16) (d : Fin 80) (s : Fin 512) :
    xb2 m hO c t (ix4 0 n d s) = (V (F := Ideal) m c main_v13 : S8x16x80x512.Idx → EReal) (ix4 (bat t) n d s) := by
  show (V (F := Ideal) m c main_v13 : S8x16x80x512.Idx → EReal) ((((cfgM m hO).win 2).blk t).view.emb (ix4 0 n d s)) = _
  refine congrArg _ (funext fun a => Fin.ext ?_)
  match a with
  | ⟨0, _⟩ => show cc0_transform_2 (grid0.coords t) 0 * 1 + 1 * 0 = t.val / 16; rw [map2]; show t.val / 16 * 1 + 1 * 0 = _; omega
  | ⟨1, _⟩ => show cc0_transform_2 (grid0.coords t) 1 * 16 + 1 * n.val = n.val; rw [map2]; show 0 * 16 + 1 * n.val = _; omega
  | ⟨2, _⟩ => show cc0_transform_2 (grid0.coords t) 2 * 80 + 1 * d.val = d.val; rw [map2]; show 0 * 80 + 1 * d.val = _; omega
  | ⟨3, _⟩ => show cc0_transform_2 (grid0.coords t) 3 * 512 + 1 * s.val = s.val; rw [map2]; show 0 * 512 + 1 * s.val = _; omega

/-- The value block of the second key head. -/
theorem block3 (t : Fin grid0.N) (n : Fin 16) (d : Fin 80) (s : Fin 512) :
    xb3 m hO c t (ix4 0 n d s) = (V (F := Ideal) m c main_v16 : S8x16x80x512.Idx → EReal) (ix4 (bat t) n d s) := by
  show (V (F := Ideal) m c main_v16 : S8x16x80x512.Idx → EReal) ((((cfgM m hO).win 3).blk t).view.emb (ix4 0 n d s)) = _
  refine congrArg _ (funext fun a => Fin.ext ?_)
  match a with
  | ⟨0, _⟩ => show cc0_transform_3 (grid0.coords t) 0 * 1 + 1 * 0 = t.val / 16; rw [map3]; show t.val / 16 * 1 + 1 * 0 = _; omega
  | ⟨1, _⟩ => show cc0_transform_3 (grid0.coords t) 1 * 16 + 1 * n.val = n.val; rw [map3]; show 0 * 16 + 1 * n.val = _; omega
  | ⟨2, _⟩ => show cc0_transform_3 (grid0.coords t) 2 * 80 + 1 * d.val = d.val; rw [map3]; show 0 * 80 + 1 * d.val = _; omega
  | ⟨3, _⟩ => show cc0_transform_3 (grid0.coords t) 3 * 512 + 1 * s.val = s.val; rw [map3]; show 0 * 512 + 1 * s.val = _; omega

/-! ## Scores -/

variable (qr : S8x8192x8x64.Idx → ℝ) (kr : S8x8192x2x64.Idx → ℝ)

/-- The real score, in powers of two. -/
def yy (t : Fin grid0.N) (g : Fin 2) (q : Fin 2048) (p : Fin 16 × Fin 512) : ℝ :=
  ∑ l : Fin 64, kr (ix4 (bat t) (tile p) g l) * (qr (ix4 (bat t) (pos t ⟨q.val % 512, Nat.mod_lt _ (by decide)⟩) (⟨4 * g.val + q.val / 512, by omega⟩ : Fin 8) l) * κ)

/-- The score in powers of two is the reference's score over the logarithm of two. -/
theorem yy_sc (t : Fin grid0.N) (g : Fin 2) (q : Fin 2048) (p : Fin 16 × Fin 512) (j : Fin 4) (r : Fin 512) (hq : q.val = 512 * j.val + r.val) :
    yy qr kr t g q p * Real.log 2 = Cert.RefAttn.sc qr kr (bat t) g j (pos t r) (tile p) := by
  have h2 : Real.log 2 ≠ 0 := (Real.log_pos one_lt_two).ne'
  unfold yy Cert.RefAttn.sc
  rw [Finset.sum_mul, Finset.sum_mul]
  refine Finset.sum_congr rfl fun l _ => ?_
  rw [show (⟨q.val % 512, Nat.mod_lt _ (by decide)⟩ : Fin 512) = r from Fin.ext (by show q.val % 512 = r.val; omega),
    show (⟨4 * g.val + q.val / 512, by omega⟩ : Fin 8) = ⟨4 * g.val + j.val, by omega⟩ from Fin.ext (by show 4 * g.val + q.val / 512 = 4 * g.val + j.val; omega)]
  unfold κ
  field_simp

/-- A sum over 128 lanes that vanishes outside group `g`'s 64. -/
theorem lanes (g : Fin 2) (f : Fin 128 → EReal) (h : ∀ l : Fin 128, ¬(64 * g.val ≤ l.val ∧ l.val < 64 * g.val + 64) → f l = 0) :
    ∑ l, f l = ∑ d : Fin 64, f (⟨64 * g.val + d.val, by omega⟩ : Fin 128) := by
  have e : ∑ l : Fin 128, f l = ∑ d : Fin 64, f (Fin.castAdd 64 d) + ∑ d : Fin 64, f (Fin.natAdd 64 d) := Fin.sum_univ_add (a := 64) (b := 64) f
  rw [e]
  obtain rfl | rfl : g = 0 ∨ g = 1 := by omega
  · rw [Finset.sum_eq_zero (s := Finset.univ) (f := fun d : Fin 64 => f (Fin.natAdd 64 d)) fun d _ => h _ (by show ¬(64 * 0 ≤ 64 + d.val ∧ 64 + d.val < 64 * 0 + 64); omega), add_zero]
    exact Finset.sum_congr rfl fun d _ => congrArg f (Fin.ext (by show d.val = 64 * 0 + d.val; omega))
  · rw [Finset.sum_eq_zero (s := Finset.univ) (f := fun d : Fin 64 => f (Fin.castAdd 64 d)) fun d _ => h _ (by show ¬(64 * 1 ≤ d.val ∧ d.val < 64 * 1 + 64); omega), zero_add]
    exact Finset.sum_congr rfl fun d _ => congrArg f (Fin.ext (by show 64 + d.val = 64 * 1 + d.val; omega))

variable (hq : ∀ i, qA m c i = (qr i : EReal)) (hk : ∀ i, kA m c i = (kr i : EReal))

include hq hk in
/-- The kernel's score of a block is the real score. -/
theorem score_block (t : Fin grid0.N) (g : Fin 2) (q : Fin 2048) (n : Fin 16) (s : Fin 512) :
    score (kT (xb1 m hO c t) n) (qT (lay (xb0 m hO c t)) g) s q = (yy qr kr t g q (n, s) : EReal) := by
  show ∑ l : Fin 128, xb1 m hO c t (ix4 0 n s l) * lay (xb0 m hO c t) (ix3 g l q) = _
  rw [lanes g _ (fun l hl => by
    rw [show lay (xb0 m hO c t) (ix3 g l q) = (0 : EReal) from dif_neg hl]
    exact mul_zero _)]
  unfold yy
  rw [Cert.Softmax.coe_sum]
  refine Finset.sum_congr rfl fun d _ => ?_
  have hl : lay (xb0 m hO c t) (ix3 g (⟨64 * g.val + d.val, by omega⟩ : Fin 128) q)
      = xb0 m hO c t (ix3 0 (⟨q.val % 512, Nat.mod_lt _ (by decide)⟩ : Fin 512) (⟨(4 * g.val + q.val / 512) * 64 + d.val, by omega⟩ : Fin 512)) := by
    refine (dif_pos (show 64 * g.val ≤ 64 * g.val + d.val ∧ 64 * g.val + d.val < 64 * g.val + 64 by omega)).trans ?_
    refine congrArg _ (congrArg (ix3 0 _) (Fin.ext ?_))
    show (4 * g.val + q.val / 512) * 64 + (64 * g.val + d.val - 64 * g.val) = (4 * g.val + q.val / 512) * 64 + d.val
    omega
  rw [hl, block0, block1, query_at m c _ _ _ (⟨4 * g.val + q.val / 512, by omega⟩ : Fin 8) d rfl, key_at m c (bat t) n s _ (tile (n, s)) g d rfl rfl, hq, hk, EReal.coe_mul, EReal.coe_mul]

/-! ## The value of a block -/

/-- The reference's result, as the contents of the result array. -/
abbrev result : S8x8192x512.Idx → EReal := Cert.ReferenceIdeal.Read.val_main_v19 (F := Ideal) (qA m c) (kA m c) (vA m c)

include hq hk in
/-- The softmax average of a block is the reference's entry. -/
theorem att_ref (t : Fin grid0.N) (r c' : Fin 512) (g cc : Fin 2) (l : Fin 128) (hc' : c'.val = 256 * g.val + 128 * cc.val + l.val)
    (q : Fin 2048) (hq' : q.val = 1024 * cc.val + 512 * (l.val / 64) + r.val) (d : Fin 80) (hd : d.val = l.val % 64) :
    att (fun d p => (if g = 1 then xb3 m hO c t else xb2 m hO c t) (ix4 0 p.1 d p.2)) (yy qr kr t g q) d
      = result m c (ix3 (bat t) (pos t r) c') := by
  unfold result
  rw [Cert.RefAttn.result_at (qA m c) (kA m c) (vA m c) qr kr hq hk (bat t) (pos t r) g (⟨2 * cc.val + l.val / 64, by omega⟩ : Fin 4) (⟨l.val % 64, by omega⟩ : Fin 64) c'
    (by show c'.val = (4 * g.val + (2 * cc.val + l.val / 64)) * 64 + l.val % 64; omega)]
  unfold att
  have hy : ∀ p, yy qr kr t g q p * Real.log 2 = Cert.RefAttn.sc qr kr (bat t) g (⟨2 * cc.val + l.val / 64, by omega⟩ : Fin 4) (pos t r) (tile p) :=
    fun p => yy_sc qr kr t g q p _ r (by show q.val = 512 * (2 * cc.val + l.val / 64) + r.val; omega)
  rw [← Equiv.sum_comp tile]
  refine Finset.sum_congr rfl fun p _ => ?_
  rw [hy, Finset.sum_congr rfl fun u _ => congrArg Real.exp (hy u), Equiv.sum_comp tile (fun u => Real.exp (Cert.RefAttn.sc qr kr (bat t) g (⟨2 * cc.val + l.val / 64, by omega⟩ : Fin 4) (pos t r) u))]
  refine congrArg _ ?_
  obtain rfl | rfl : g = 0 ∨ g = 1 := by omega
  · exact (block2 m hO c t p.1 d p.2).trans (valueA_at m c (bat t) p.1 p.2 (tile p) d _ rfl hd)
  · exact (block3 m hO c t p.1 d p.2).trans (valueB_at m c (bat t) p.1 p.2 (tile p) d _ rfl hd)

/-- The flag as the body reads it. -/
abbrev word : BitVec 32 := tbM0_0.view.readAt (Elt Ideal) (Rect.unit (s := S1) ![0] S1.size inb_S1_S1_0).toLoadRect (tbl m 0) (Shape.Idx.first (numel1_S1.symm ▸ Nat.one_pos))

/-- The prefetched flag is zero or one. -/
theorem word_cases : word m = 0#32 ∨ word m = 1#32 := by
  exact flag_at m 0 _

/-- With flag one the branch without a running maximum is taken, and only that. -/
theorem cond_one (i : grid0.Coords) (w : BitVec 32) (h : w = 1#32) : cond0_0 i w ∧ ¬cond0_1 i w := by
  subst h
  unfold cond0_0 cond0_1
  decide

/-- With flag zero the branch with a running maximum is taken, and only that. -/
theorem cond_zero (i : grid0.Coords) (w : BitVec 32) (h : w = 0#32) : ¬cond0_0 i w ∧ cond0_1 i w := by
  subst h
  unfold cond0_0 cond0_1
  decide

include hq hk in
/-- What a grid point computes, entry by entry. -/
theorem outs_at (t : Fin grid0.N) (r c' : Fin 512) : outsAt0 m hO c t (ix3 0 r c') = result m c (ix3 (bat t) (pos t r) c') := by
  have h2 : ∀ p : Fin 16 × Fin 512, xb2 m hO c t (ix4 0 p.1 64 p.2) = (1 : EReal) := fun p => (block2 m hO c t p.1 64 p.2).trans (onesA_at m c _ _ _)
  have h3 : ∀ p : Fin 16 × Fin 512, xb3 m hO c t (ix4 0 p.1 64 p.2) = (1 : EReal) := fun p => (block3 m hO c t p.1 64 p.2).trans (onesB_at m c _ _ _)
  have hg : c'.val = 256 * (⟨c'.val / 256, by omega⟩ : Fin 2).val + 128 * (⟨c'.val % 256 / 128, by omega⟩ : Fin 2).val + (⟨c'.val % 128, by omega⟩ : Fin 128).val := by
    show c'.val = 256 * (c'.val / 256) + 128 * (c'.val % 256 / 128) + c'.val % 128
    omega
  rw [← att_ref m hO c qr kr hq hk t r c' ⟨c'.val / 256, by omega⟩ ⟨c'.val % 256 / 128, by omega⟩ ⟨c'.val % 128, by omega⟩ hg
    ⟨1024 * (c'.val % 256 / 128) + 512 * (c'.val % 128 / 64) + r.val, by omega⟩ rfl ⟨c'.val % 128 % 64, by omega⟩ rfl]
  rcases word_cases m with hw | hw
  · obtain ⟨h0, h1⟩ := cond_zero (grid0.coords t) (word m) hw
    rw [outsAt0_C m hO c t h0 h1]
    exact block_C c (grid0.coords t) _ _ _ _ _ _ _ _ _ _ _ _ _ _ _ _ _ _ _ _ _ h0 h1 (yy qr kr t) (score_block m hO c qr kr hq hk t) h2 h3 _ _ r _ c' hg _ rfl _ rfl
  · obtain ⟨h0, h1⟩ := cond_one (grid0.coords t) (word m) hw
    rw [outsAt0_B m hO c t h0 h1]
    exact block_B c (grid0.coords t) _ _ _ _ _ _ _ _ _ _ _ _ _ _ _ _ _ _ _ _ _ h0 h1 (yy qr kr t) (score_block m hO c qr kr hq hk t) h2 h3 _ _ r _ c' hg _ rfl _ rfl

/-! ## The result array -/

include hq hk in
/-- What a grid point writes back is its block of the reference's result. -/
theorem flushed_eq (t : Fin grid0.N) :
    (dats m hO 0 c).flushed 4 t = (((cfgM m hO).win 4).blk t).view.read (Elt Ideal) (result m c) := by
  show ((cfgM m hO).win 4).cut (grid0.coords t) ((dats m hO 0 c).after 4 t) = _
  rw [after0_4]
  refine funext fun (z : S1x512x512.Idx) => ?_
  obtain ⟨z0, r, c', rfl⟩ : ∃ (z0 : Fin 1) (r c' : Fin 512), z = ix3 z0 r c' := ⟨z 0, z 1, z 2, eq_ix3 z⟩
  show outsAt0 m hO c t (ix3 z0 r c') = result m c ((((cfgM m hO).win 4).blk t).view.emb (ix3 z0 r c'))
  obtain rfl : z0 = 0 := Subsingleton.elim _ _
  rw [outs_at m hO c qr kr hq hk t r c']
  refine congrArg (result m c) ?_
  funext a
  apply Fin.ext
  match a with
  | ⟨0, _⟩ => show t.val / 16 = cc0_transform_4 (grid0.coords t) 0 * 1 + 1 * 0; rw [map4]; show _ = t.val / 16 * 1 + 1 * 0; omega
  | ⟨1, _⟩ => show 512 * (t.val % 16) + r.val = cc0_transform_4 (grid0.coords t) 1 * 512 + 1 * r.val; rw [map4]; show _ = t.val % 16 * 512 + 1 * r.val; omega
  | ⟨2, _⟩ => show c'.val = cc0_transform_4 (grid0.coords t) 2 * 512 + 1 * c'.val; rw [map4]; show _ = 0 * 512 + 1 * c'.val; omega

/-- Where a box of the result array lies. -/
theorem mem_box (off size : Fin 3 → ℕ) (inb) (i : main_v28.ty.Idx) (h : ∀ a, off a ≤ (i a).val ∧ (i a).val < off a + size a) :
    i ∈ ((View.whole main_v28).slice (Rect.unit (s := main_v28.ty.shape) off size inb)).set := by
  rw [View.set_slice_whole, Rect.mem_set_unit]
  exact h

include hq hk in
/-- After the run the result array is the reference's result. -/
theorem final : (dats m hO 0 c).arrAt 4 (cfgM m hO).N = result m c :=
  (dats m hO 0 c).arrAt_eq_of_cover 4 (result m c) (fun t _ => flushed_eq m hO c qr kr hq hk t) fun (i : S8x8192x512.Idx) => by
    have h0 : (i 0 : Nat) < 8 := (i 0).isLt
    have h1 : (i 1 : Nat) < 8192 := (i 1).isLt
    have h2 : (i 2 : Nat) < 512 := (i 2).isLt
    have e : grid0.N = 128 := N_0
    obtain ⟨t, ht⟩ : ∃ t : Fin grid0.N, t.val = 16 * (i 0 : Nat) + (i 1 : Nat) / 512 := ⟨⟨16 * (i 0 : Nat) + (i 1 : Nat) / 512, by omega⟩, rfl⟩
    refine ⟨t, flush0_4 _ _, ?_⟩
    refine mem_box _ _ _ i fun a => ?_
    match a with
    | ⟨0, _⟩ =>
      show cc0_transform_4 (grid0.coords t) 0 * 1 ≤ (i 0 : Nat) ∧ (i 0 : Nat) < cc0_transform_4 (grid0.coords t) 0 * 1 + 1
      rw [map4]
      show t.val / 16 * 1 ≤ (i 0 : Nat) ∧ (i 0 : Nat) < t.val / 16 * 1 + 1
      omega
    | ⟨1, _⟩ =>
      show cc0_transform_4 (grid0.coords t) 1 * 512 ≤ (i 1 : Nat) ∧ (i 1 : Nat) < cc0_transform_4 (grid0.coords t) 1 * 512 + 512
      rw [map4]
      show t.val % 16 * 512 ≤ (i 1 : Nat) ∧ (i 1 : Nat) < t.val % 16 * 512 + 512
      omega
    | ⟨2, _⟩ =>
      show cc0_transform_4 (grid0.coords t) 2 * 512 ≤ (i 2 : Nat) ∧ (i 2 : Nat) < cc0_transform_4 (grid0.coords t) 2 * 512 + 512
      rw [map4]
      show 0 * 512 ≤ (i 2 : Nat) ∧ (i 2 : Nat) < 0 * 512 + 512
      omega

end Cert.AttnValue

end
-- ==== Proof.AttnClaim.lean ====
/-
  The attention call's claims: it runs and keeps its arguments, its idealization is its own text, and on finite queries
  and keys it ends with what the reference ends with.
-/
module

public import proofs.«01_k».proof.Defs
public import proofs.«01_k».proof.Proof.Gen.Kernel.Frame
public import proofs.«01_k».proof.Proof.Gen.ReferenceIdeal.Run
public import proofs.«01_k».proof.Proof.Gen.ReferenceIdeal.Read
public import proofs.«01_k».proof.Proof.Gen.Pre_finite
public import proofs.«01_k».proof.Proof.AttnValue
public import Idealize.ShloMosaic.Lib.ReduceAll
public import Idealize.ShloMosaic.Lib.Claim

@[expose] public section

noncomputable section

namespace Cert.AttnClaim

open Cert.KernelIdeal Cert.KernelIdeal.Gen Cert.AttnHost
open Idealize.ShloMosaic Idealize.ShloMosaic.TcCoe Idealize.ShloMosaic.ValueIdx Idealize.SL.Sem

/-! ## Finite arguments -/

/-- The scalar shape of the precondition has one index. -/
instance : Subsingleton Cert.Pre_finite.S_.Idx := ⟨fun a b => funext fun x => x.elim0⟩

/-- An extended real whose absolute value is below the top is real. -/
theorem real_of_abs (x : EReal) (h : max x (-x) < ⊤) : x = ((x.toReal : ℝ) : EReal) := by
  refine (EReal.coe_toReal ?_ ?_).symm
  · rintro rfl
    simp at h
  · rintro rfl
    simp at h

/-- The word of an infinite float is the top. -/
theorem top_word : Ideal.ofBits .f32 0x7F800000#32 = ⊤ := by
  simp [Ideal.ofBits, Ideal.ieee]

/-- A comparison of an absolute value with infinity that came out true. -/
theorem real_of_cmp {s : Shape} (x : FVec Ideal s .f32) (hb : Cert.Pre_finite.S_.BroadcastsInDim s ![])
    (i : s.Idx) (h : cmpf .olt (Host.absf x) (broadcastInDim s ![] hb (constant Cert.Pre_finite.S_ .f32 0x7F800000#32)) i = 1#1) :
    x i = (((x i : EReal).toReal : ℝ) : EReal) := by
  refine real_of_abs _ ?_
  have h' : Ideal.cmp .olt (max (x i) (-(x i))) (Ideal.ofBits .f32 0x7F800000#32) = 1#1 := h
  rw [top_word] at h'
  by_contra hc
  rw [show Ideal.cmp .olt (max (x i) (-(x i))) ⊤ = 0#1 from by simp [Ideal.cmp, hc]] at h'
  exact absurd h' (by decide)

variable (m : (ℓ : Loc nD τ sig) → Buf (Elt Ideal) ℓ)

/-- The precondition makes every query and key real. -/
theorem reals (h : Cert.Pre_KernelIdeal_finite (hPre_finite := Cert.Pre_finite.Gen.facts) m) (c : Dev nD) :
    (∀ i, qA m c i = ((qA m c i).toReal : EReal)) ∧ ∀ i, kA m c i = ((kA m c i).toReal : EReal) := by
  have h1 := congrFun (h c) (fun a => a.elim0)
  dsimp only [Cert.Pre_finite.fn] at h1
  obtain ⟨hq, hk⟩ := IntOp.andi_eq_one.1 h1
  exact ⟨fun i => real_of_cmp _ _ i (Host.reduce_andi_all _ _ _ _ _ hq i), fun i => real_of_cmp _ _ i (Host.reduce_andi_all _ _ _ _ _ hk i)⟩

/-! ## Runs -/

/-- The call's run, read: the result array at the reference's result, the arguments as launched. -/
theorem run_value (ρ : Dev nD → PrngReg) (h : Cert.Pre_KernelIdeal_finite (hPre_finite := Cert.Pre_finite.Gen.facts) m) :
    θ_run (defs (F := Ideal)) (onTc (τ := τ) (main (F := Ideal))) ⟨m, fun _ => 0, ρ⟩ (fun r => ∀ c : Dev nD,
      r.2.mem ((c.tc : Thread nD τ).loc main_v28) = Cert.AttnValue.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO : Ok m := trivial
  refine (θ_run defs _ _).mono (fun _ hr c => ⟨?_, hr.1 c⟩) (θ_run_and (unchanged m ρ hO) (run_main m ρ hO))
  exact ((hr.2 c).1 4).trans (Cert.AttnValue.final m hO c (fun i => (qA m c i).toReal) (fun i => (kA m c i).toReal) (reals m h c).1 (reals m h c).2)

/-- The call's frame. -/
theorem frame_k : Cert.quiescent_Kernel (hKernel := Cert.Kernel.Gen.facts) := fun m ρ _ => Cert.Kernel.Gen.frame m ρ trivial
/-- The frame of its idealization. -/
theorem frame_ki : Cert.quiescent_KernelIdeal (hKernelIdeal := Cert.KernelIdeal.Gen.facts) := fun m ρ _ => Cert.KernelIdeal.Gen.frame m ρ trivial
/-- The frame of its idealization on finite arguments. -/
theorem frame_kip : Cert.quiescent_KernelIdeal_pre_finite (hKernelIdeal := Cert.KernelIdeal.Gen.facts) (hPre_finite := Cert.Pre_finite.Gen.facts) :=
  fun m ρ _ => Cert.KernelIdeal.Gen.frame m ρ trivial
/-- The reference's frame. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)
/-- The reference's frame on finite arguments. -/
theorem frame_rp : Cert.quiescent_ReferenceIdeal_pre_finite (hReferenceIdeal := Cert.ReferenceIdeal.Gen.facts) (hPre_finite := Cert.Pre_finite.Gen.facts) :=
  fun m ρ _ => frame_r m ρ trivial

/-- The attention call and the reference end with equal results. -/
theorem value : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m ρ m' ρ' hp hagree
  refine ⟨fun c => Cert.AttnValue.result m c, run_value m ρ hp, ?_⟩
  refine (θ_run Cert.ReferenceIdeal.defs _ _).mono (fun r h c => ⟨?_, (h c).2⟩) (Cert.ReferenceIdeal.Value.run (F := Ideal) m' ρ')
  refine (h c).1.trans ((Cert.ReferenceIdeal.Read.val_main_v19_eq (F := Ideal) _ _ _).trans ?_)
  obtain ⟨-, -, h2, h3, h4⟩ := hagree c
  rw [h2, h3, h4]

end Cert.AttnClaim

end
-- ==== Proof.PostSpec.lean ====
/-
  One token after the token mixers, as functions of its rows: the root-mean-square norm, the gate, the mixed row, the
  SwiGLU residual, the per-layer embedding and the last norm. And how a block of tokens computes the norm, the gate and one
  chunk of the SwiGLU, read at an entry, for any extents.
-/
module

public import proofs.«01_k».proof.Proof.ShapeAt
public import Idealize.ShloMosaic.PureOps.Ideal.Laws

@[expose] public section

noncomputable section

namespace Cert.Post

open Idealize.ShloMosaic Idealize.ShloMosaic.ValueIdx
open scoped BigOperators

/-! ## The mathematics of one token -/

/-- The word of 128. -/
abbrev n128 : EReal := Ideal.ofBits .f32 0x43000000#32
/-- The word of 1024. -/
abbrev n1024 : EReal := Ideal.ofBits .f32 0x44800000#32
/-- The norm's small constant. -/
abbrev eps : EReal := Ideal.ofBits .f32 0x358637BD#32
/-- The word of one. -/
abbrev one : EReal := Ideal.ofBits .f32 0x3F800000#32

/-- The root-mean-square norm of a row, times its gain. -/
def rms {n : ℕ} (d : EReal) (f g : Fin n → EReal) (j : Fin n) : EReal :=
  f j * Ideal.rsqrt (Ideal.div (∑ k, f k * f k) d + eps) * g j

/-- The logistic function as both programs write it. -/
def sig (x : EReal) : EReal := Ideal.div one (one + Ideal.exp (-x))

/-- A row times a matrix. -/
def mat {K N : ℕ} (f : Fin K → EReal) (w : Fin K → Fin N → EReal) (j : Fin N) : EReal := ∑ k, f k * w k j

/-- The DeltaNet row: each head of 128 normed, and gated. -/
def headed (o z : Fin 512 → EReal) (g : Fin 128 → EReal) (c : Fin 512) : EReal :=
  rms n128 (fun k : Fin 128 => o ⟨128 * (c.val / 128) + k.val, by omega⟩) g ⟨c.val % 128, Nat.mod_lt _ (by decide)⟩ * (z c * sig (z c))

/-- The attention row followed by the DeltaNet row. -/
def mixed (a d : Fin 512 → EReal) (j : Fin 1024) : EReal := if h : j.val < 512 then a ⟨j.val, h⟩ else d ⟨j.val - 512, by omega⟩

/-- A residual plus a row times a matrix. -/
def res {K N : ℕ} (x : Fin N → EReal) (f : Fin K → EReal) (w : Fin K → Fin N → EReal) (j : Fin N) : EReal := x j + mat f w j

/-- The SwiGLU's inner row. -/
def act {K N : ℕ} (f : Fin K → EReal) (wg wu : Fin K → Fin N → EReal) (j : Fin N) : EReal := mat f wg j * sig (mat f wg j) * mat f wu j

/-- The per-layer embedding, gated by the residual. -/
def ple (h gain : Fin 1024 → EReal) (wpg : Fin 1024 → Fin 1024 → EReal) (p : Fin 256 → EReal) (wp : Fin 256 → Fin 1024 → EReal) (j : Fin 1024) : EReal :=
  h j + sig (mat (rms n1024 h gain) wpg j) * mat p wp j

/-- The residual after the out-projection. -/
def hid1 (x : Fin 1024 → EReal) (a o z : Fin 512 → EReal) (g : Fin 128 → EReal) (wo : Fin 1024 → Fin 1024 → EReal) : Fin 1024 → EReal :=
  res x (mixed a (headed o z g)) wo

/-- The residual after the SwiGLU. -/
def hid2 (h gain : Fin 1024 → EReal) (wg wu : Fin 1024 → Fin 2816 → EReal) (wd : Fin 2816 → Fin 1024 → EReal) : Fin 1024 → EReal :=
  res h (act (rms n1024 h gain) wg wu) wd

/-- Everything after the token mixers, for one token. -/
def token (x : Fin 1024 → EReal) (a o z : Fin 512 → EReal) (p : Fin 256 → EReal) (g : Fin 128 → EReal) (wo : Fin 1024 → Fin 1024 → EReal)
    (gf : Fin 1024 → EReal) (wg wu : Fin 1024 → Fin 2816 → EReal) (wd : Fin 2816 → Fin 1024 → EReal) (gp : Fin 1024 → EReal)
    (wpg : Fin 1024 → Fin 1024 → EReal) (wp : Fin 256 → Fin 1024 → EReal) (gl : Fin 1024 → EReal) : Fin 1024 → EReal :=
  rms n1024 (ple (hid2 (hid1 x a o z g wo) gf wg wu wd) gp wpg p wp) gl

/-! ## The chunks of the SwiGLU -/

/-- Entry `f` of chunk `n`. -/
def chunk (n : Fin 11) (f : Fin 256) : Fin 2816 := ⟨256 * n.val + f.val, by omega⟩

/-- Chunks and entries against positions. -/
def chunks : Fin 11 × Fin 256 ≃ Fin 2816 where
  toFun p := chunk p.1 p.2
  invFun t := (⟨t.val / 256, by omega⟩, ⟨t.val % 256, Nat.mod_lt _ (by decide)⟩)
  left_inv p := by
    refine Prod.ext (Fin.ext ?_) (Fin.ext ?_)
    · show (256 * p.1.val + p.2.val) / 256 = p.1.val
      omega
    · show (256 * p.1.val + p.2.val) % 256 = p.2.val
      omega
  right_inv t := Fin.ext (by
    show 256 * (t.val / 256) + t.val % 256 = t.val
    omega)

/-- What chunk `n` adds to entry `j`. -/
def part (f : Fin 1024 → EReal) (wg wu : Fin 1024 → Fin 2816 → EReal) (wd : Fin 2816 → Fin 1024 → EReal) (j : Fin 1024) (n : Fin 11) : EReal :=
  ∑ k : Fin 256, act f (fun i k => wg i (chunk n k)) (fun i k => wu i (chunk n k)) k * wd (chunk n k) j

/-- The eleven chunks added one after the other are the whole product. -/
theorem parts_sum (h : EReal) (f : Fin 1024 → EReal) (wg wu : Fin 1024 → Fin 2816 → EReal) (wd : Fin 2816 → Fin 1024 → EReal) (j : Fin 1024) :
    h + part f wg wu wd j 0 + part f wg wu wd j 1 + part f wg wu wd j 2 + part f wg wu wd j 3 + part f wg wu wd j 4 + part f wg wu wd j 5
      + part f wg wu wd j 6 + part f wg wu wd j 7 + part f wg wu wd j 8 + part f wg wu wd j 9 + part f wg wu wd j 10
      = h + mat (act f wg wu) wd j := by
  have e : mat (act f wg wu) wd j = ∑ n : Fin 11, part f wg wu wd j n := by
    unfold mat
    rw [← Equiv.sum_comp chunks, Fintype.sum_prod_type]
    rfl
  rw [e]
  simp only [Fin.sum_univ_castSucc, Fin.sum_univ_zero, zero_add, ← add_assoc]
  rfl

/-! ## A block of tokens -/

variable {a b : ℕ}

/-- A block's norm, at an entry. -/
theorem rms_at (n : BitVec 32) (x : FVec Ideal ⟨2, ![a, b]⟩ .f32) (g : FVec Ideal ⟨2, ![1, b]⟩ .f32) (h : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hg : (⟨2, ![1, b]⟩ : Shape).Broadcasts ⟨2, ![a, b]⟩) (r : Fin a) (j : Fin b) :
    mulf (mulf x (broadcastTo ⟨2, ![a, b]⟩ (rsqrt (addf (divf (shapeCast ⟨2, ![a, 1]⟩ (multiReduction .add [1] ⟨1, ![a]⟩ (mulf x x) 0x00000000#32 h (.inl rfl) rfl) hc)
        (broadcast ⟨2, ![a, 1]⟩ (Scalar.ofBits (F := Ideal) .f32 n))) (broadcast ⟨2, ![a, 1]⟩ (Scalar.ofBits (F := Ideal) .f32 0x358637BD#32)))) hb))
        (broadcastTo ⟨2, ![a, b]⟩ g hg) (ix2 r j)
      = rms (Ideal.ofBits .f32 n) (fun k => x (ix2 r k)) (fun k => g (ix2 0 k)) j := by
  rw [mulf_apply, mulf_apply, At.bcast_col, At.bcast_row]
  exact congrArg (fun y => x (ix2 r j) * Ideal.rsqrt (Ideal.div y (Ideal.ofBits .f32 n) + eps) * g (ix2 0 j))
    ((At.col1 _ hc r 0).trans (At.rowSum (mulf x x) _ h _ _ r))

/-- A block's gate, at an entry. -/
theorem sig_at {s : Shape} (x : FVec Ideal s .f32) (i : s.Idx) :
    divf (broadcast s (Scalar.ofBits (F := Ideal) .f32 0x3F800000#32)) (addf (broadcast s (Scalar.ofBits (F := Ideal) .f32 0x3F800000#32))
      (exp (subf (broadcast s (Scalar.ofBits (F := Ideal) .f32 0x00000000#32)) x))) i = sig (x i) := by
  show Ideal.div one (one + Ideal.exp (Ideal.ofBits .f32 0x00000000#32 - x i)) = _
  rw [Ideal.ofBits_zero_f32, zero_sub]
  rfl

/-- A product of two blocks, at an entry. -/
theorem mat_at {M K N : ℕ} {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (q : Fin N) :
    matmul D none lhs rhs (constant ⟨2, ![M, N]⟩ .f32 0x00000000#32) (ix2 r q) = mat (fun k => lhs (ix2 r k)) (fun k j => rhs (ix2 k j)) q :=
  At.dot D hD none lhs rhs r q

end Cert.Post

end
-- ==== Proof.PostBlock.lean ====
/-
  What the call after the token mixers computes for a block of 512 tokens, entry by entry: the mathematics of one token, at
  the rows of the block. The SwiGLU comes in eleven chunks of 256 that are added one after the other.
-/
module

public import proofs.«01_k».proof.Proof.PostSpec
public import proofs.«01_k».proof.Proof.Gen.Kernel2Ideal.Frame

@[expose] public section

set_option maxRecDepth 16384

noncomputable section

namespace Cert.PostBlock

open Cert.Kernel2Ideal Cert.Kernel2Ideal.Gen Cert.Post
open Idealize.ShloMosaic Idealize.ShloMosaic.TcCoe Idealize.ShloMosaic.ValueIdx
open scoped BigOperators

/-! ## One head -/

/-- The gate of a block. -/
def gateF (s : Shape) (x : FVec Ideal s .f32) : FVec Ideal s .f32 :=
  divf (broadcast s (Scalar.ofBits (F := Ideal) .f32 0x3F800000#32)) (addf (broadcast s (Scalar.ofBits (F := Ideal) .f32 0x3F800000#32))
    (exp (subf (broadcast s (Scalar.ofBits (F := Ideal) .f32 0x00000000#32)) x)))

/-- A head's norm and gate, as the body computes them. -/
def headF (x z : FVec Ideal S512x128 .f32) (g : FVec Ideal S1x128 .f32) : FVec Ideal S512x128 .bf16 :=
  truncf .bf16 (mulf (mulf (mulf x (broadcastTo S512x128 (rsqrt (addf (divf (shapeCast S512x1 (multiReduction .add [1] S512 (mulf x x) 0x00000000#32 reduces_S512x128_S512 (.inl rfl) rfl) shapeCasts_S512_S512x1)
      (broadcast S512x1 (Scalar.ofBits (F := Ideal) .f32 0x43000000#32))) (broadcast S512x1 (Scalar.ofBits (F := Ideal) .f32 0x358637BD#32)))) broadcasts_S512x1_S512x128))
      (broadcastTo S512x128 g broadcasts_S1x128_S512x128)) (mulf z (gateF S512x128 z))) bitsLt_bf16_f32

/-- A head at an entry. -/
theorem headF_at (x z : FVec Ideal S512x128 .f32) (g : FVec Ideal S1x128 .f32) (r : Fin 512) (l : Fin 128) :
    headF x z g (ix2 r l) = rms n128 (fun k => x (ix2 r k)) (fun k => g (ix2 0 k)) l * (z (ix2 r l) * sig (z (ix2 r l))) :=
  congrArg₂ (· * ·) (rms_at 0x43000000#32 x g reduces_S512x128_S512 shapeCasts_S512_S512x1 broadcasts_S512x1_S512x128 broadcasts_S1x128_S512x128 r l)
    (congrArg (z (ix2 r l) * ·) (sig_at z (ix2 r l)))

/-- Head `n` of a block at an entry is the gated normed row there. -/
theorem head_at (n : Fin 4) (p : ℕ) (hp : p = 128 * n.val) (hs : S512x512.Slices ![0, p] S512x128) (x z : FVec Ideal S512x512 .f32) (g : FVec Ideal S1x128 .f32)
    (r : Fin 512) (l : Fin 128) (c : Fin 512) (hc : c.val = p + l.val) :
    headF (extractStridedSlice S512x128 ![0, p] x hs) (extractStridedSlice S512x128 ![0, p] z hs) (shapeCast S1x128 g shapeCasts_S1x128_S1x128) (ix2 r l)
      = headed (fun k => x (ix2 r k)) (fun k => z (ix2 r k)) (fun k => g (ix2 0 k)) c := by
  rw [headF_at, shapeCast_self, At.cut z hs r l r c (Nat.zero_add _).symm hc]
  refine congrArg (· * _) ?_
  rw [show (⟨c.val % 128, Nat.mod_lt _ (by decide)⟩ : Fin 128) = l from Fin.ext (by show c.val % 128 = l.val; omega)]
  refine congrArg (fun f => rms n128 f _ l) (funext fun k => ?_)
  exact At.cut x hs r k r _ (Nat.zero_add _).symm (by show 128 * (c.val / 128) + k.val = p + k.val; omega)

/-- The attention block and the four heads side by side. -/
theorem join_at (p0 : FVec Ideal S512x512 .bf16) (p1 p2 p3 p4 : FVec Ideal S512x128 .bf16) (d : Fin 512 → EReal) (r : Fin 512) (j : Fin 1024)
    (h1 : ∀ (l : Fin 128) (c : Fin 512), c.val = 0 + l.val → p1 (ix2 r l) = d c) (h2 : ∀ (l : Fin 128) (c : Fin 512), c.val = 128 + l.val → p2 (ix2 r l) = d c)
    (h3 : ∀ (l : Fin 128) (c : Fin 512), c.val = 256 + l.val → p3 (ix2 r l) = d c) (h4 : ∀ (l : Fin 128) (c : Fin 512), c.val = 384 + l.val → p4 (ix2 r l) = d c) :
    concatenate S512x1024 1 [⟨S512x512, p0⟩, ⟨S512x128, p1⟩, ⟨S512x128, p2⟩, ⟨S512x128, p3⟩, ⟨S512x128, p4⟩]
        concatenates_S512x512_S512x128_S512x128_S512x128_S512x128_S512x1024_d1 (ix2 r j)
      = mixed (fun k => p0 (ix2 r k)) d j := by
  have hj := j.isLt
  unfold mixed
  by_cases h : j.val < 512
  · rw [dif_pos h]
    exact concatenate_apply_piece (t := S512x1024) 1 _ _ (ix2 r j) 0 (by show 0 < 5; omega) S512x512 p0 rfl rfl 0 rfl (ix2 r ⟨j.val, h⟩)
      (fun b hb => by match b with | ⟨0, _⟩ => rfl | ⟨1, _⟩ => exact absurd rfl hb) (Nat.zero_add _)
  · rw [dif_neg h]
    by_cases g1 : j.val < 640
    · refine Eq.trans (concatenate_apply_piece (t := S512x1024) 1 _ _ (ix2 r j) 1 (by show 1 < 5; omega) S512x128 p1 rfl rfl 512 rfl (ix2 r ⟨j.val - 512, by omega⟩)
        (fun b hb => by match b with | ⟨0, _⟩ => rfl | ⟨1, _⟩ => exact absurd rfl hb) (by show 512 + (j.val - 512) = j.val; omega)) ?_
      exact h1 _ _ (by show j.val - 512 = 0 + (j.val - 512); omega)
    by_cases g2 : j.val < 768
    · refine Eq.trans (concatenate_apply_piece (t := S512x1024) 1 _ _ (ix2 r j) 2 (by show 2 < 5; omega) S512x128 p2 rfl rfl 640 rfl (ix2 r ⟨j.val - 640, by omega⟩)
        (fun b hb => by match b with | ⟨0, _⟩ => rfl | ⟨1, _⟩ => exact absurd rfl hb) (by show 640 + (j.val - 640) = j.val; omega)) ?_
      exact h2 _ _ (by show j.val - 512 = 128 + (j.val - 640); omega)
    by_cases g3 : j.val < 896
    · refine Eq.trans (concatenate_apply_piece (t := S512x1024) 1 _ _ (ix2 r j) 3 (by show 3 < 5; omega) S512x128 p3 rfl rfl 768 rfl (ix2 r ⟨j.val - 768, by omega⟩)
        (fun b hb => by match b with | ⟨0, _⟩ => rfl | ⟨1, _⟩ => exact absurd rfl hb) (by show 768 + (j.val - 768) = j.val; omega)) ?_
      exact h3 _ _ (by show j.val - 512 = 256 + (j.val - 768); omega)
    refine Eq.trans (concatenate_apply_piece (t := S512x1024) 1 _ _ (ix2 r j) 4 (by show 4 < 5; omega) S512x128 p4 rfl rfl 896 rfl (ix2 r ⟨j.val - 896, by omega⟩)
      (fun b hb => by match b with | ⟨0, _⟩ => rfl | ⟨1, _⟩ => exact absurd rfl hb) (by show 896 + (j.val - 896) = j.val; omega)) ?_
    exact h4 _ _ (by show j.val - 512 = 384 + (j.val - 896); omega)

/-! ## The out-projection -/

/-- The third head, which the body spreads over two parts. -/
theorem third (v6 v9 : FVec Ideal S512x512 .f32) (g : FVec Ideal S1x128 .f32) :
    truncf .bf16 (mulf (k0_pay10 (F := Ideal) v6 g) (mulf (k0_pay9 (F := Ideal) v9) (k0_pay11 (F := Ideal) v9))) bitsLt_bf16_f32
      = headF (extractStridedSlice S512x128 ![0, 256] v6 slices_S512x512_o0_256_S512x128) (extractStridedSlice S512x128 ![0, 256] v9 slices_S512x512_o0_256_S512x128) (shapeCast S1x128 g shapeCasts_S1x128_S1x128) := rfl

/-- The residual after the out-projection, as a sum of a block and a product. -/
theorem pay12_eq (v6 v9 : FVec Ideal S512x512 .f32) (v11 : FVec Ideal S512x512 .bf16) (v37 v63 : FVec Ideal S512x128 .bf16) (g g' : Vec Ideal S1x128 .f32)
    (x : Vec Ideal S512x1024 .f32) (w : Vec Ideal S1024x1024 .bf16) :
    k0_pay12 (F := Ideal) v6 v9 v11 v37 v63 (k0_pay9 (F := Ideal) v9) (k0_pay10 (F := Ideal) v6 g) (k0_pay11 (F := Ideal) v9) g' x w
      = addf (shapeCast S512x1024 x shapeCasts_S512x1024_S512x1024) (matmul dot_S512x1024_S1024x1024_S512x1024_1_0_0_1_n_n none
          (concatenate S512x1024 1 [⟨S512x512, v11⟩, ⟨S512x128, v37⟩, ⟨S512x128, v63⟩,
            ⟨S512x128, headF (extractStridedSlice S512x128 ![0, 256] v6 slices_S512x512_o0_256_S512x128) (extractStridedSlice S512x128 ![0, 256] v9 slices_S512x512_o0_256_S512x128) (shapeCast S1x128 g shapeCasts_S1x128_S1x128)⟩,
            ⟨S512x128, headF (extractStridedSlice S512x128 ![0, 384] v6 slices_S512x512_o0_384_S512x128) (extractStridedSlice S512x128 ![0, 384] v9 slices_S512x512_o0_384_S512x128) (shapeCast S1x128 g' shapeCasts_S1x128_S1x128)⟩]
            concatenates_S512x512_S512x128_S512x128_S512x128_S512x128_S512x1024_d1) (shapeCast S1024x1024 w shapeCasts_S1024x1024_S1024x1024 : FVec Ideal S1024x1024 .bf16) (constant S512x1024 .f32 0x00000000#32)) := rfl

/-- The first head. -/
theorem pay5_eq (v0 v3 v7 : Vec Ideal S512x512 .bf16) (g : Vec Ideal S1x128 .f32) :
    k0_pay5 (F := Ideal) v0 v3 v7 g = headF (extractStridedSlice S512x128 ![0, 0] (k0_pay2 (F := Ideal) v0 v3) slices_S512x512_o0_0_S512x128)
      (extractStridedSlice S512x128 ![0, 0] (k0_pay3 (F := Ideal) v7) slices_S512x512_o0_0_S512x128) (shapeCast S1x128 g shapeCasts_S1x128_S1x128) := rfl

/-- The second head. -/
theorem pay8_eq (v0 v3 v7 : Vec Ideal S512x512 .bf16) (g : Vec Ideal S1x128 .f32) :
    k0_pay8 (F := Ideal) (k0_pay6 (F := Ideal) v7) (k0_pay7 (F := Ideal) v0 v3) g = headF (extractStridedSlice S512x128 ![0, 128] (k0_pay2 (F := Ideal) v0 v3) slices_S512x512_o0_128_S512x128)
      (extractStridedSlice S512x128 ![0, 128] (k0_pay3 (F := Ideal) v7) slices_S512x512_o0_128_S512x128) (shapeCast S1x128 g shapeCasts_S1x128_S1x128) := rfl

/-- The two scans' outputs added. -/
theorem pay2_eq (v0 v3 : Vec Ideal S512x512 .bf16) : k0_pay2 (F := Ideal) v0 v3 = fun i => (v0 i + v3 i : EReal) := by
  unfold k0_pay2
  rw [shapeCast_self, shapeCast_self]
  rfl

/-- The gate's input. -/
theorem pay3_eq (v7 : Vec Ideal S512x512 .bf16) : k0_pay3 (F := Ideal) v7 = v7 := by
  unfold k0_pay3
  rw [shapeCast_self]
  rfl

/-- The attention's output. -/
theorem pay4_eq (v : Vec Ideal S512x512 .bf16) : k0_pay4 (F := Ideal) v = v := by
  unfold k0_pay4
  rw [shapeCast_self]

/-- A load of a whole block reads it. -/
theorem ld_whole {a b : ℕ} {e : EltTy} (x : Vec Ideal ⟨2, ![a, b]⟩ e) (inb) :
    View.ld x (Rect.unit (s := ⟨2, ![a, b]⟩) ![0, 0] (⟨2, ![a, b]⟩ : Shape).size inb) = x :=
  View.ld_unit_zero (funext fun z => by match z with | ⟨0, _⟩ => rfl | ⟨1, _⟩ => rfl) inb x

/-! ## One chunk -/

/-- A chunk of the SwiGLU, as the body computes it. -/
def chunkF (hn : FVec Ideal S512x1024 .bf16) (wg wu : Vec Ideal S1024x256 .bf16) (wd : Vec Ideal S256x1024 .bf16) : FVec Ideal S512x1024 .f32 :=
  matmul dot_S512x256_S256x1024_S512x1024_1_0_0_1_n_n none (truncf .bf16 (mulf (mulf
      (matmul dot_S512x1024_S1024x256_S512x256_1_0_0_1_n_n none hn (shapeCast S1024x256 wg shapeCasts_S1024x256_S1024x256 : FVec Ideal S1024x256 .bf16) (constant S512x256 .f32 0x00000000#32))
      (gateF S512x256 (matmul dot_S512x1024_S1024x256_S512x256_1_0_0_1_n_n none hn (shapeCast S1024x256 wg shapeCasts_S1024x256_S1024x256 : FVec Ideal S1024x256 .bf16) (constant S512x256 .f32 0x00000000#32))))
      (matmul dot_S512x1024_S1024x256_S512x256_1_0_0_1_n_n none hn (shapeCast S1024x256 wu shapeCasts_S1024x256_S1024x256 : FVec Ideal S1024x256 .bf16) (constant S512x256 .f32 0x00000000#32))) bitsLt_bf16_f32)
    (shapeCast S256x1024 wd shapeCasts_S256x1024_S256x1024 : FVec Ideal S256x1024 .bf16) (constant S512x1024 .f32 0x00000000#32)

/-- A chunk at an entry. -/
theorem chunkF_at (hn : FVec Ideal S512x1024 .bf16) (wg wu : Vec Ideal S1024x256 .bf16) (wd : Vec Ideal S256x1024 .bf16) (r : Fin 512) (j : Fin 1024) :
    chunkF hn wg wu wd (ix2 r j) = ∑ k : Fin 256, act (fun i => hn (ix2 r i)) (fun i k => wg (ix2 i k)) (fun i k => wu (ix2 i k)) k * wd (ix2 k j) := by
  unfold chunkF
  rw [shapeCast_self, shapeCast_self, shapeCast_self]
  refine (mat_at _ rfl _ _ r j).trans (Finset.sum_congr rfl fun k _ => congrArg (· * _) ?_)
  refine congrArg₂ (· * ·) (congrArg₂ (· * ·) (mat_at _ rfl hn _ r k) ?_) (mat_at _ rfl hn _ r k)
  exact (sig_at _ (ix2 r k)).trans (congrArg sig (mat_at _ rfl hn _ r k))

/-- A chunk of the block's weights. -/
theorem chunk_at (n : Fin 11) (o : ℕ) (ho : o = 256 * n.val) (hn : FVec Ideal S512x1024 .bf16) (x9 x10 : Vec Ideal S1024x2816 .bf16) (x11 : Vec Ideal S2816x1024 .bf16)
    (i1 : ∀ a, (![0, o] : Fin 2 → ℕ) a + S1024x256.size a ≤ S1024x2816.size a) (i2 : ∀ a, (![o, 0] : Fin 2 → ℕ) a + S256x1024.size a ≤ S2816x1024.size a) (r : Fin 512) (j : Fin 1024) :
    chunkF hn (View.ld x9 (Rect.unit (s := S1024x2816) ![0, o] S1024x256.size i1)) (View.ld x10 (Rect.unit (s := S1024x2816) ![0, o] S1024x256.size i1))
        (View.ld x11 (Rect.unit (s := S2816x1024) ![o, 0] S256x1024.size i2)) (ix2 r j)
      = part (fun i => hn (ix2 r i)) (fun i k => x9 (ix2 i k)) (fun i k => x10 (ix2 i k)) (fun k j => x11 (ix2 k j)) j n := by
  have e : ∀ (x : Vec Ideal S1024x2816 .bf16) (i : Fin 1024) (k : Fin 256), View.ld x (Rect.unit (s := S1024x2816) ![0, o] S1024x256.size i1) (ix2 i k) = x (ix2 i (chunk n k)) := fun x i k =>
    View.ld_unit_apply_of x _ _ i1 _ _ fun a => by
      match a with
      | ⟨0, _⟩ => show i.val = 0 + i.val; omega
      | ⟨1, _⟩ => show 256 * n.val + k.val = o + k.val; omega
  have e' : ∀ (k : Fin 256), View.ld x11 (Rect.unit (s := S2816x1024) ![o, 0] S256x1024.size i2) (ix2 k j) = x11 (ix2 (chunk n k) j) := fun k =>
    View.ld_unit_apply_of x11 _ _ i2 _ _ fun a => by
      match a with
      | ⟨0, _⟩ => show 256 * n.val + k.val = o + k.val; omega
      | ⟨1, _⟩ => show j.val = 0 + j.val; omega
  refine (chunkF_at hn _ _ _ r j).trans (Finset.sum_congr rfl fun k _ => ?_)
  refine congrArg₂ (· * ·) ?_ (e' k)
  exact congrArg₂ (fun f g => act (fun i => hn (ix2 r i)) f g k) (funext fun i => funext fun k => e x9 i k) (funext fun i => funext fun k => e x10 i k)

variable (hn : FVec Ideal S512x1024 .bf16) (v : FVec Ideal S512x1024 .f32) (a b a' b' : Vec Ideal S1024x256 .bf16) (c c' : Vec Ideal S256x1024 .bf16)

/-- Chunk 0. -/
theorem pay16_eq (g : FVec Ideal S1x1024 .f32) (s : FVec Ideal S512x1 .f32) :
    k0_pay16 (F := Ideal) v g s a b c = addf v (chunkF (k0_pay15 (F := Ideal) v g s) a b c) := rfl
/-- Chunks 1 and 2. -/
theorem pay20_eq (u : FVec Ideal S512x1024 .f32) (g : FVec Ideal S1x1024 .f32) (s : FVec Ideal S512x1 .f32) :
    k0_pay20 (F := Ideal) (k0_pay15 (F := Ideal) u g s) v (k0_pay17 (F := Ideal) u g s a) (k0_pay18 (F := Ideal) u g s b) (k0_pay19 (F := Ideal) u g s a) c a' b' c'
      = addf (addf v (chunkF (k0_pay15 (F := Ideal) u g s) a b c)) (chunkF (k0_pay15 (F := Ideal) u g s) a' b' c') := rfl
/-- Chunks 3 and 4. -/
theorem pay24_eq : k0_pay24 (F := Ideal) hn v (k0_pay21 (F := Ideal) hn a) (k0_pay22 (F := Ideal) hn b) (k0_pay23 (F := Ideal) hn a) c a' b' c'
    = addf (addf v (chunkF hn a b c)) (chunkF hn a' b' c') := rfl
/-- Chunks 5 and 6. -/
theorem pay27_eq : k0_pay27 (F := Ideal) hn v (k0_pay25 (F := Ideal) hn a) (k0_pay26 (F := Ideal) b) (constant S512x256 .f32 0x00000000#32) c a' b' c'
    = addf (addf v (chunkF hn a b c)) (chunkF hn a' b' c') := rfl
/-- Chunks 7 and 8. -/
theorem pay29_eq : k0_pay29 (F := Ideal) hn v (k0_pay28 (F := Ideal) hn a) b c a' b' c' = addf (addf v (chunkF hn a b c)) (chunkF hn a' b' c') := rfl
/-- Chunk 9. -/
theorem pay30_eq : k0_pay30 (F := Ideal) hn v a b c = addf v (chunkF hn a b c) := rfl
/-- Chunk 10. -/
theorem pay31_eq : k0_pay31 (F := Ideal) hn a b c = chunkF hn a b c := rfl

/-! ## Norms of width 1024 -/

/-- A norm of width 1024, as the body computes it. -/
def normF (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))) broadcasts_S512x1_S512x1024))
      (broadcastTo S512x1024 g broadcasts_S1x1024_S512x1024)

/-- It at an entry. -/
theorem normF_at (x : FVec Ideal S512x1024 .f32) (g : FVec Ideal S1x1024 .f32) (r : Fin 512) (j : Fin 1024) :
    normF x g (ix2 r j) = rms n1024 (fun k => x (ix2 r k)) (fun k => g (ix2 0 k)) j :=
  rms_at 0x44800000#32 x g reduces_S512x1024_S512 shapeCasts_S512_S512x1 broadcasts_S512x1_S512x1024 broadcasts_S1x1024_S512x1024 r j

/-- The norm before the SwiGLU. -/
theorem pay15_eq (v6 v9 : FVec Ideal S512x512 .f32) (v11 : FVec Ideal S512x512 .bf16) (v37 v63 : FVec Ideal S512x128 .bf16) (v64 v79 v86 : FVec Ideal S512x128 .f32) (g' : Vec Ideal S1x128 .f32)
    (x : Vec Ideal S512x1024 .f32) (w : Vec Ideal S1024x1024 .bf16) (g : Vec Ideal S1x1024 .f32) :
    k0_pay15 (F := Ideal) (k0_pay12 (F := Ideal) v6 v9 v11 v37 v63 v64 v79 v86 g' x w) (k0_pay13 (F := Ideal) g) (k0_pay14 (F := Ideal) v6 v9 v11 v37 v63 v64 v79 v86 g' x w)
      = truncf .bf16 (normF (k0_pay12 (F := Ideal) v6 v9 v11 v37 v63 v64 v79 v86 g' x w) (shapeCast S1x1024 g shapeCasts_S1x1024_S1x1024)) bitsLt_bf16_f32 := rfl

/-- The per-layer embedding, as the body computes it. -/
theorem pay32_eq (v337 v356 : FVec Ideal S512x1024 .f32) (g : Vec Ideal S1x1024 .f32) (w : Vec Ideal S1024x1024 .bf16) (p : Vec Ideal S512x256 .f32) (wp : Vec Ideal S256x1024 .bf16) :
    k0_pay32 (F := Ideal) v337 v356 g w p wp
      = addf (addf v337 v356) (mulf (gateF S512x1024 (matmul dot_S512x1024_S1024x1024_S512x1024_1_0_0_1_n_n none
          (truncf .bf16 (normF (addf v337 v356) (shapeCast S1x1024 g shapeCasts_S1x1024_S1x1024)) bitsLt_bf16_f32) (shapeCast S1024x1024 w shapeCasts_S1024x1024_S1024x1024 : FVec Ideal S1024x1024 .bf16) (constant S512x1024 .f32 0x00000000#32)))
        (matmul dot_S512x256_S256x1024_S512x1024_1_0_0_1_n_n none (truncf .bf16 (shapeCast S512x256 p shapeCasts_S512x256_S512x256 : FVec Ideal S512x256 .f32) bitsLt_bf16_f32)
          (shapeCast S256x1024 wp shapeCasts_S256x1024_S256x1024 : FVec Ideal S256x1024 .bf16) (constant S512x1024 .f32 0x00000000#32))) := rfl

/-- It at an entry. -/
theorem pay32_at (v337 v356 : FVec Ideal S512x1024 .f32) (g : Vec Ideal S1x1024 .f32) (w : Vec Ideal S1024x1024 .bf16) (p : Vec Ideal S512x256 .f32) (wp : Vec Ideal S256x1024 .bf16)
    (r : Fin 512) (j : Fin 1024) : k0_pay32 (F := Ideal) v337 v356 g w p wp (ix2 r j)
      = ple (fun k => (v337 (ix2 r k) + v356 (ix2 r k) : EReal)) (fun k => g (ix2 0 k)) (fun i k => w (ix2 i k)) (fun k => p (ix2 r k)) (fun i k => wp (ix2 i k)) j := by
  rw [pay32_eq, shapeCast_self, shapeCast_self, shapeCast_self, shapeCast_self]
  refine congrArg (_ + ·) (congrArg₂ (· * ·) ((sig_at _ (ix2 r j)).trans (congrArg sig ((mat_at _ rfl _ _ r j).trans ?_))) (mat_at _ rfl _ _ r j))
  exact congrArg (fun f => mat f _ j) (funext fun k => normF_at _ g r k)

/-- The last norm. -/
theorem pay1_eq (v337 v356 : FVec Ideal S512x1024 .f32) (g : Vec Ideal S1x1024 .f32) (w : Vec Ideal S1024x1024 .bf16) (p : Vec Ideal S512x256 .f32) (wp : Vec Ideal S256x1024 .bf16)
    (g' : Vec Ideal S1x1024 .f32) :
    k0_pay1 (F := Ideal) (k0_pay32 (F := Ideal) v337 v356 g w p wp) (k0_pay33 (F := Ideal) g') (k0_pay34 (F := Ideal) v337 v356 g w p wp) (k0_pay35 (F := Ideal))
      = normF (k0_pay32 (F := Ideal) v337 v356 g w p wp) (shapeCast S1x1024 g' shapeCasts_S1x1024_S1x1024) := rfl

/-! ## The block -/

variable (x0 : Vec Ideal S512x1024 .f32) (x1 : Vec Ideal S512x512 .bf16) (x2 : Vec Ideal S512x512 .bf16) (x3 : Vec Ideal S512x512 .bf16) (x4 : Vec Ideal S512x512 .bf16) (x5 : Vec Ideal S512x256 .f32) (x6 : Vec Ideal S1x128 .f32) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (x13 : Vec Ideal S1024x1024 .bf16) (x14 : Vec Ideal S256x1024 .bf16) (x15 : Vec Ideal S1x1024 .f32)

/-- The residual after the out-projection, at an entry. -/
theorem pay44_at (r : Fin 512) (j : Fin 1024) : (k0_pay44 (F := Ideal) x0 x1 x2 x3 x4 x5 x6 x7 x8 x9 x10 x11 x12 x13 x14 x15) (ix2 r j)
    = hid1 (fun k => x0 (ix2 r k)) (fun k => x1 (ix2 r k)) (fun k => (x2 (ix2 r k) + x3 (ix2 r k) : EReal)) (fun k => x4 (ix2 r k)) (fun k => x6 (ix2 0 k)) (fun i k => x7 (ix2 i k)) j := by
  unfold k0_pay44 k0_pay43 k0_pay42 k0_pay41 k0_pay40 k0_pay39 k0_pay38 k0_pay37 k0_pay36
  rw [ld_whole x0, ld_whole x1, ld_whole x2, ld_whole x3, ld_whole x4, ld_whole x6, ld_whole x7, pay12_eq, pay5_eq, pay8_eq, pay4_eq, pay3_eq, pay2_eq, shapeCast_self x0, shapeCast_self x7]
  refine congrArg (x0 (ix2 r j) + ·) ((mat_at _ rfl _ _ r j).trans (congrArg (fun f => mat f (fun i k => x7 (ix2 i k)) j) (funext fun k => ?_)))
  exact join_at x1 _ _ _ _ _ r k (fun l c hc => head_at 0 0 rfl _ _ _ x6 r l c hc) (fun l c hc => head_at 1 128 rfl _ _ _ x6 r l c hc)
    (fun l c hc => head_at 2 256 rfl _ _ _ x6 r l c hc) (fun l c hc => head_at 3 384 rfl _ _ _ x6 r l c hc)

/-- The norm before the SwiGLU, at an entry. -/
theorem pay47_at (r : Fin 512) (j : Fin 1024) : (k0_pay47 (F := Ideal) x0 x1 x2 x3 x4 x5 x6 x7 x8 x9 x10 x11 x12 x13 x14 x15) (ix2 r j) = rms n1024 (fun k => (k0_pay44 (F := Ideal) x0 x1 x2 x3 x4 x5 x6 x7 x8 x9 x10 x11 x12 x13 x14 x15) (ix2 r k)) (fun k => x8 (ix2 0 k)) j := by
  have e : (k0_pay47 (F := Ideal) x0 x1 x2 x3 x4 x5 x6 x7 x8 x9 x10 x11 x12 x13 x14 x15) = truncf .bf16 (normF (k0_pay44 (F := Ideal) x0 x1 x2 x3 x4 x5 x6 x7 x8 x9 x10 x11 x12 x13 x14 x15) (shapeCast S1x1024 (View.ld x8 r0_4) shapeCasts_S1x1024_S1x1024)) bitsLt_bf16_f32 := by
    unfold k0_pay47 k0_pay46 k0_pay45
    exact pay15_eq _ _ _ _ _ _ _ _ _ _ _ _
  rw [e, ld_whole x8, shapeCast_self x8]
  exact normF_at _ x8 r j

/-- The residual after the SwiGLU, at an entry. -/
theorem swiglu_at (r : Fin 512) (j : Fin 1024) : ((k0_pay48 (F := Ideal) x0 x1 x2 x3 x4 x5 x6 x7 x8 x9 x10 x11 x12 x13 x14 x15) (ix2 r j) + (k0_pay49 (F := Ideal) x0 x1 x2 x3 x4 x5 x6 x7 x8 x9 x10 x11 x12 x13 x14 x15) (ix2 r j) : EReal)
    = hid2 (fun k => (k0_pay44 (F := Ideal) x0 x1 x2 x3 x4 x5 x6 x7 x8 x9 x10 x11 x12 x13 x14 x15) (ix2 r k)) (fun k => x8 (ix2 0 k)) (fun i k => x9 (ix2 i k)) (fun i k => x10 (ix2 i k)) (fun i k => x11 (ix2 i k)) j := by
  have hn : (fun k => (k0_pay47 (F := Ideal) x0 x1 x2 x3 x4 x5 x6 x7 x8 x9 x10 x11 x12 x13 x14 x15) (ix2 r k)) = rms n1024 (fun k => (k0_pay44 (F := Ideal) x0 x1 x2 x3 x4 x5 x6 x7 x8 x9 x10 x11 x12 x13 x14 x15) (ix2 r k)) (fun k => x8 (ix2 0 k)) := funext fun k => pay47_at x0 x1 x2 x3 x4 x5 x6 x7 x8 x9 x10 x11 x12 x13 x14 x15 r k
  have e48 : (k0_pay48 (F := Ideal) x0 x1 x2 x3 x4 x5 x6 x7 x8 x9 x10 x11 x12 x13 x14 x15) = (addf (addf (addf (addf (addf (addf (addf (addf (addf (addf (k0_pay44 (F := Ideal) x0 x1 x2 x3 x4 x5 x6 x7 x8 x9 x10 x11 x12 x13 x14 x15) (chunkF (k0_pay47 (F := Ideal) x0 x1 x2 x3 x4 x5 x6 x7 x8 x9 x10 x11 x12 x13 x14 x15) (View.ld x9 r0_5) (View.ld x10 r0_5) (View.ld x11 r0_6))) (chunkF (k0_pay47 (F := Ideal) x0 x1 x2 x3 x4 x5 x6 x7 x8 x9 x10 x11 x12 x13 x14 x15) (View.ld x9 r0_7) (View.ld x10 r0_7) (View.ld x11 r0_8))) (chunkF (k0_pay47 (F := Ideal) x0 x1 x2 x3 x4 x5 x6 x7 x8 x9 x10 x11 x12 x13 x14 x15) (View.ld x9 r0_9) (View.ld x10 r0_9) (View.ld x11 r0_10))) (chunkF (k0_pay47 (F := Ideal) x0 x1 x2 x3 x4 x5 x6 x7 x8 x9 x10 x11 x12 x13 x14 x15) (View.ld x9 r0_11) (View.ld x10 r0_11) (View.ld x11 r0_12))) (chunkF (k0_pay47 (F := Ideal) x0 x1 x2 x3 x4 x5 x6 x7 x8 x9 x10 x11 x12 x13 x14 x15) (View.ld x9 r0_13) (View.ld x10 r0_13) (View.ld x11 r0_14))) (chunkF (k0_pay47 (F := Ideal) x0 x1 x2 x3 x4 x5 x6 x7 x8 x9 x10 x11 x12 x13 x14 x15) (View.ld x9 r0_15) (View.ld x10 r0_15) (View.ld x11 r0_16))) (chunkF (k0_pay47 (F := Ideal) x0 x1 x2 x3 x4 x5 x6 x7 x8 x9 x10 x11 x12 x13 x14 x15) (View.ld x9 r0_17) (View.ld x10 r0_17) (View.ld x11 r0_18))) (chunkF (k0_pay47 (F := Ideal) x0 x1 x2 x3 x4 x5 x6 x7 x8 x9 x10 x11 x12 x13 x14 x15) (View.ld x9 r0_19) (View.ld x10 r0_19) (View.ld x11 r0_20))) (chunkF (k0_pay47 (F := Ideal) x0 x1 x2 x3 x4 x5 x6 x7 x8 x9 x10 x11 x12 x13 x14 x15) (View.ld x9 r0_21) (View.ld x10 r0_21) (View.ld x11 r0_22))) (chunkF (k0_pay47 (F := Ideal) x0 x1 x2 x3 x4 x5 x6 x7 x8 x9 x10 x11 x12 x13 x14 x15) (View.ld x9 r0_23) (View.ld x10 r0_23) (View.ld x11 r0_24))) := by
    unfold k0_pay48
    rw [pay30_eq, pay29_eq, pay27_eq, pay24_eq]
    refine congrArg (fun y => addf (addf (addf (addf (addf (addf (addf y _) _) _) _) _) _) _) ?_
    unfold k0_pay47
    rw [pay20_eq, pay16_eq]
  have e49 : (k0_pay49 (F := Ideal) x0 x1 x2 x3 x4 x5 x6 x7 x8 x9 x10 x11 x12 x13 x14 x15) = (chunkF (k0_pay47 (F := Ideal) x0 x1 x2 x3 x4 x5 x6 x7 x8 x9 x10 x11 x12 x13 x14 x15) (View.ld x9 r0_25) (View.ld x10 r0_25) (View.ld x11 r0_26)) := by
    unfold k0_pay49
    rw [pay31_eq]
  rw [e48, e49]
  have h : hid2 (fun k => (k0_pay44 (F := Ideal) x0 x1 x2 x3 x4 x5 x6 x7 x8 x9 x10 x11 x12 x13 x14 x15) (ix2 r k)) (fun k => x8 (ix2 0 k)) (fun i k => x9 (ix2 i k)) (fun i k => x10 (ix2 i k)) (fun i k => x11 (ix2 i k)) j
      = (k0_pay44 (F := Ideal) x0 x1 x2 x3 x4 x5 x6 x7 x8 x9 x10 x11 x12 x13 x14 x15) (ix2 r j) + mat (act (rms n1024 (fun k => (k0_pay44 (F := Ideal) x0 x1 x2 x3 x4 x5 x6 x7 x8 x9 x10 x11 x12 x13 x14 x15) (ix2 r k)) (fun k => x8 (ix2 0 k))) (fun i k => x9 (ix2 i k)) (fun i k => x10 (ix2 i k))) (fun i k => x11 (ix2 i k)) j := rfl
  rw [h, ← hn, ← parts_sum]
  generalize (k0_pay47 (F := Ideal) x0 x1 x2 x3 x4 x5 x6 x7 x8 x9 x10 x11 x12 x13 x14 x15) = H
  generalize (k0_pay44 (F := Ideal) x0 x1 x2 x3 x4 x5 x6 x7 x8 x9 x10 x11 x12 x13 x14 x15) = G
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg (G (ix2 r j) + ·) (chunk_at 0 0 rfl H x9 x10 x11 _ _ r j)) (chunk_at 1 256 rfl H x9 x10 x11 _ _ r j)) (chunk_at 2 512 rfl H x9 x10 x11 _ _ r j)) (chunk_at 3 768 rfl H x9 x10 x11 _ _ r j)) (chunk_at 4 1024 rfl H x9 x10 x11 _ _ r j)) (chunk_at 5 1280 rfl H x9 x10 x11 _ _ r j)) (chunk_at 6 1536 rfl H x9 x10 x11 _ _ r j)) (chunk_at 7 1792 rfl H x9 x10 x11 _ _ r j)) (chunk_at 8 2048 rfl H x9 x10 x11 _ _ r j)) (chunk_at 9 2304 rfl H x9 x10 x11 _ _ r j)) (chunk_at 10 2560 rfl H x9 x10 x11 _ _ r j)

/-- A block of the result, at an entry. -/
theorem out_at (r : Fin 512) (j : Fin 1024) : out0_16 (F := Ideal) x0 x1 x2 x3 x4 x5 x6 x7 x8 x9 x10 x11 x12 x13 x14 x15 (ix2 r j)
    = token (fun k => x0 (ix2 r k)) (fun k => x1 (ix2 r k)) (fun k => (x2 (ix2 r k) + x3 (ix2 r k) : EReal)) (fun k => x4 (ix2 r k)) (fun k => x5 (ix2 r k)) (fun k => x6 (ix2 0 k))
        (fun i k => x7 (ix2 i k)) (fun k => x8 (ix2 0 k)) (fun i k => x9 (ix2 i k)) (fun i k => x10 (ix2 i k)) (fun i k => x11 (ix2 i k)) (fun k => x12 (ix2 0 k))
        (fun i k => x13 (ix2 i k)) (fun i k => x14 (ix2 i k)) (fun k => x15 (ix2 0 k)) j := by
  unfold out0_16
  rw [View.canon_cons_unit_zero (funext fun z => by match z with | ⟨0, _⟩ => rfl | ⟨1, _⟩ => rfl), pay1_eq, ld_whole x12, ld_whole x13, ld_whole x5, ld_whole x14, ld_whole x15, shapeCast_self]
  refine (normF_at _ x15 r j).trans ?_
  refine congrArg (fun f => rms n1024 f _ j) (funext fun k => (pay32_at _ _ x12 x13 x5 x14 r k).trans ?_)
  refine congrArg (fun f => ple f _ _ _ _ k) (funext fun i => (swiglu_at x0 x1 x2 x3 x4 x5 x6 x7 x8 x9 x10 x11 x12 x13 x14 x15 r i).trans ?_)
  exact congrArg (fun f => hid2 f _ _ _ _ i) (funext fun l => pay44_at x0 x1 x2 x3 x4 x5 x6 x7 x8 x9 x10 x11 x12 x13 x14 x15 r l)

end Cert.PostBlock

end
-- ==== Proof.PostRef.lean ====
/-
  The reference after the token mixers read entry by entry: every entry of its result is the mathematics of one token at the
  rows of that token.
-/
module

public import proofs.«01_k».proof.Proof.PostSpec
public import proofs.«01_k».proof.Proof.Gen.Reference2Ideal.Read
public import Idealize.ShloMosaic.Lib.KernelVsHost
public import Idealize.ShloMosaic.Lib.ValueIdx

@[expose] public section

set_option maxRecDepth 16384

noncomputable section

namespace Cert.PostRef

open Cert.Reference2Ideal Cert.Reference2Ideal.Gen Cert.Reference2Ideal.Read Cert.Post
open Idealize.ShloMosaic Idealize.ShloMosaic.TcCoe Idealize.ShloMosaic.ValueIdx
open scoped BigOperators

variable (x0 : (⟨S8x8192x1024, .f32⟩ : BufTy).Contents (Elt Ideal)) (x1 : (⟨S8x8192x512, .f32⟩ : BufTy).Contents (Elt Ideal)) (x2 : (⟨S8x8192x512, .f32⟩ : BufTy).Contents (Elt Ideal)) (x3 : (⟨S8x8192x512, .f32⟩ : BufTy).Contents (Elt Ideal)) (x4 : (⟨S8x8192x512, .f32⟩ : BufTy).Contents (Elt Ideal)) (x5 : (⟨S1x8x8192x256, .f32⟩ : BufTy).Contents (Elt Ideal)) (x6 : (⟨S1x128, .f32⟩ : BufTy).Contents (Elt Ideal)) (x7 : (⟨S1x1024x1024, .f32⟩ : BufTy).Contents (Elt Ideal)) (x8 : (⟨S1x1024, .f32⟩ : BufTy).Contents (Elt Ideal)) (x9 : (⟨S1x1024x2816, .f32⟩ : BufTy).Contents (Elt Ideal)) (x10 : (⟨S1x1024x2816, .f32⟩ : BufTy).Contents (Elt Ideal)) (x11 : (⟨S1x2816x1024, .f32⟩ : BufTy).Contents (Elt Ideal)) (x12 : (⟨S1x1024, .f32⟩ : BufTy).Contents (Elt Ideal)) (x13 : (⟨S1x1024x1024, .f32⟩ : BufTy).Contents (Elt Ideal)) (x14 : (⟨S1x256x1024, .f32⟩ : BufTy).Contents (Elt Ideal)) (x15 : (⟨S1024, .f32⟩ : BufTy).Contents (Elt Ideal))

/-- The summed scans, by head. -/
theorem v1_at (b : Fin 8) (s : Fin 8192) (h : Fin 4) (l : Fin 128) :
    val_main_v1 (F := Ideal) x2 x3 (ix4 b s h l) = (x2 (ix3 b s (⟨128 * h.val + l.val, by omega⟩ : Fin 512)) + x3 (ix3 b s (⟨128 * h.val + l.val, by omega⟩ : Fin 512)) : EReal) := by
  rw [val_main_v1_apply, val_main_v0_apply, show idx_main_v1 (ix4 b s h l) = ix3 b s (⟨128 * h.val + l.val, by omega⟩ : Fin 512) from funext fun a => Fin.ext (by match a with | ⟨0, _⟩ => show (((b.val * 8192 + s.val) * 4 + h.val) * 128 + l.val) / 4194304 = b.val; omega | ⟨1, _⟩ => show (((b.val * 8192 + s.val) * 4 + h.val) * 128 + l.val) / 512 % 8192 = s.val; omega | ⟨2, _⟩ => show (((b.val * 8192 + s.val) * 4 + h.val) * 128 + l.val) % 512 = 128 * h.val + l.val; omega)]
  rfl

/-- The gate, by head. -/
theorem v17_at (b : Fin 8) (s : Fin 8192) (h : Fin 4) (l : Fin 128) (c : Fin 512) (hc : c.val = 128 * h.val + l.val) :
    val_main_v17 (F := Ideal) x4 (ix4 b s h l) = (x4 (ix3 b s c) * sig (x4 (ix3 b s c)) : EReal) := by
  rw [val_main_v17_apply, val_main_call0_v5_apply, val_main_call0_v4_apply, val_main_call0_v3_apply, val_main_call0_v2_apply, val_main_call0_v1_apply, val_main_call0_v0_apply, val_main_v16_apply, show idx_main_v16 (ix4 b s h l) = ix3 b s c from funext fun a => Fin.ext (by match a with | ⟨0, _⟩ => show (((b.val * 8192 + s.val) * 4 + h.val) * 128 + l.val) / 4194304 = b.val; omega | ⟨1, _⟩ => show (((b.val * 8192 + s.val) * 4 + h.val) * 128 + l.val) / 512 % 8192 = s.val; omega | ⟨2, _⟩ => show (((b.val * 8192 + s.val) * 4 + h.val) * 128 + l.val) % 512 = c.val; omega)]
  rfl

/-- The head's norm. -/
theorem v15_at (b : Fin 8) (s : Fin 8192) (h : Fin 4) (l : Fin 128) :
    val_main_v15 (F := Ideal) x2 x3 x6 (ix4 b s h l) = rms n128 (fun k => val_main_v1 (F := Ideal) x2 x3 (ix4 b s h k)) (fun k => x6 (ix2 0 k)) l := by
  rw [val_main_v15_apply, val_main_v12_apply, val_main_v11_apply, val_main_v10_apply, val_main_v9_apply, val_main_v7_apply, val_main_v8_apply, val_main_v6_apply, val_main_v5_apply, val_main_v4_apply, val_main_v14_apply, val_main_v13_apply, val_main_v2_apply, val_main_cst_apply,
    show idx_main_v2 (idx_main_v13 (idx_main_v14 (ix4 b s h l))) = ix2 (0 : Fin 1) l from funext fun a => Fin.ext (by match a with | ⟨0, _⟩ => rfl | ⟨1, _⟩ => show l.val % 128 = l.val; omega),
    Finset.sum_congr rfl fun k _ => (congrArg (val_main_v3 (F := Ideal) x2 x3) (show idx_main_v4 (idx_main_v5 (idx_main_v11 (ix4 b s h l))) k = ix4 b s h k from funext fun a => Fin.ext (by match a with | ⟨0, _⟩ => rfl | ⟨1, _⟩ => rfl | ⟨2, _⟩ => rfl | ⟨3, _⟩ => rfl))).trans (val_main_v3_apply x2 x3 (ix4 b s h k))]
  generalize val_main_v1 (F := Ideal) x2 x3 = y
  show y (ix4 b s h l) * Ideal.rsqrt (Ideal.div (Ideal.ofBits .f32 0x00000000#32 + ∑ k, y (ix4 b s h k) * y (ix4 b s h k)) n128 + eps) * _ = _
  rw [Ideal.ofBits_zero_f32, zero_add]
  rfl

/-- The DeltaNet row. -/
theorem v19_at (b : Fin 8) (s : Fin 8192) (c : Fin 512) :
    val_main_v19 (F := Ideal) x2 x3 x4 x6 (ix3 b s c) = headed (fun k => (x2 (ix3 b s k) + x3 (ix3 b s k) : EReal)) (fun k => x4 (ix3 b s k)) (fun k => x6 (ix2 0 k)) c := by
  rw [val_main_v19_apply, show idx_main_v19 (ix3 b s c) = ix4 b s (⟨c.val / 128, by omega⟩ : Fin 4) (⟨c.val % 128, Nat.mod_lt _ (by decide)⟩ : Fin 128) from funext fun a => Fin.ext (by match a with | ⟨0, _⟩ => show ((b.val * 8192 + s.val) * 512 + c.val) / 4194304 = b.val; omega | ⟨1, _⟩ => show ((b.val * 8192 + s.val) * 512 + c.val) / 512 % 8192 = s.val; omega | ⟨2, _⟩ => show ((b.val * 8192 + s.val) * 512 + c.val) / 128 % 4 = c.val / 128; omega | ⟨3, _⟩ => show ((b.val * 8192 + s.val) * 512 + c.val) % 128 = c.val % 128; omega),
    val_main_v18_apply, v15_at, v17_at x4 b s _ _ c (by show c.val = 128 * (c.val / 128) + c.val % 128; omega)]
  refine congrArg (· * _) (congrArg (fun f => rms n128 f _ _) (funext fun k => ?_))
  exact v1_at x2 x3 b s _ k

/-- The attention row followed by the DeltaNet row. -/
theorem v20_at (b : Fin 8) (s : Fin 8192) (j : Fin 1024) :
    val_main_v20 (F := Ideal) x1 x2 x3 x4 x6 (ix3 b s j) = mixed (fun k => x1 (ix3 b s k)) (headed (fun k => (x2 (ix3 b s k) + x3 (ix3 b s k) : EReal)) (fun k => x4 (ix3 b s k)) (fun k => x6 (ix2 0 k))) j := by
  have hj := j.isLt
  unfold mixed val_main_v20
  by_cases h : j.val < 512
  · rw [dif_pos h]
    exact concatenate_apply_piece (t := S8x8192x1024) 2 _ _ (ix3 b s j) 0 (by show 0 < 2; omega) S8x8192x512 x1 rfl rfl 0 rfl (ix3 b s ⟨j.val, h⟩)
      (fun b hb => by match b with | ⟨0, _⟩ => rfl | ⟨1, _⟩ => rfl | ⟨2, _⟩ => exact absurd rfl hb) (Nat.zero_add _)
  · rw [dif_neg h]
    refine Eq.trans (concatenate_apply_piece (t := S8x8192x1024) 2 _ _ (ix3 b s j) 1 (by show 1 < 2; omega) S8x8192x512 (val_main_v19 (F := Ideal) x2 x3 x4 x6) rfl rfl 512 rfl (ix3 b s ⟨j.val - 512, by omega⟩)
      (fun b hb => by match b with | ⟨0, _⟩ => rfl | ⟨1, _⟩ => rfl | ⟨2, _⟩ => exact absurd rfl hb) (by show 512 + (j.val - 512) = j.val; omega)) ?_
    exact v19_at x2 x3 x4 x6 b s _

/-- The out-projection. -/
theorem v22_at (b : Fin 8) (s : Fin 8192) (j : Fin 1024) :
    val_main_v22 (F := Ideal) x1 x2 x3 x4 x6 x7 (ix3 b s j) = mat (fun k => val_main_v20 (F := Ideal) x1 x2 x3 x4 x6 (ix3 b s k)) (fun i k => x7 (ix3 0 i k)) j := by
  rw [val_main_v22_apply]
  refine Finset.sum_congr rfl fun k _ => ?_
  rw [val_main_v21_apply, show lidx_main_v22 (ix3 b s j) k = ix3 b s k from funext fun a => Fin.ext (by match a with | ⟨0, _⟩ => rfl | ⟨1, _⟩ => rfl | ⟨2, _⟩ => rfl),
    show idx_main_v21 (ridx_main_v22 (ix3 b s j) k) = ix3 (0 : Fin 1) k j from funext fun a => Fin.ext (by match a with | ⟨0, _⟩ => rfl | ⟨1, _⟩ => show (k.val * 1024 + j.val) / 1024 % 1024 = k.val; omega | ⟨2, _⟩ => show (k.val * 1024 + j.val) % 1024 = j.val; omega)]

/-- The residual after the out-projection. -/
theorem v23_at (b : Fin 8) (s : Fin 8192) (j : Fin 1024) :
    val_main_v23 (F := Ideal) x0 x1 x2 x3 x4 x6 x7 (ix3 b s j) = hid1 (fun k => x0 (ix3 b s k)) (fun k => x1 (ix3 b s k)) (fun k => (x2 (ix3 b s k) + x3 (ix3 b s k) : EReal)) (fun k => x4 (ix3 b s k)) (fun k => x6 (ix2 0 k)) (fun i k => x7 (ix3 0 i k)) j := by
  rw [val_main_v23_apply, v22_at]
  exact congrArg (x0 (ix3 b s j) + ·) (congrArg (fun f => mat f _ j) (funext fun k => v20_at x1 x2 x3 x4 x6 b s k))

/-- The norm before the SwiGLU. -/
theorem v37_at (b : Fin 8) (s : Fin 8192) (j : Fin 1024) :
    val_main_v37 (F := Ideal) x0 x1 x2 x3 x4 x6 x7 x8 (ix3 b s j) = rms n1024 (fun k => val_main_v23 (F := Ideal) x0 x1 x2 x3 x4 x6 x7 (ix3 b s k)) (fun k => x8 (ix2 0 k)) j := by
  rw [val_main_v37_apply, val_main_v34_apply, val_main_v33_apply, val_main_v32_apply, val_main_v31_apply, val_main_v29_apply, val_main_v30_apply, val_main_v28_apply, val_main_v27_apply, val_main_v26_apply, val_main_v36_apply, val_main_v35_apply, val_main_v24_apply, val_main_cst_2_apply,
    show idx_main_v24 (idx_main_v35 (idx_main_v36 (ix3 b s j))) = ix2 (0 : Fin 1) j from funext fun a => Fin.ext (by match a with | ⟨0, _⟩ => rfl | ⟨1, _⟩ => show j.val % 1024 = j.val; omega),
    Finset.sum_congr rfl fun k _ => (congrArg (val_main_v25 (F := Ideal) x0 x1 x2 x3 x4 x6 x7) (show idx_main_v26 (idx_main_v27 (idx_main_v33 (ix3 b s j))) k = ix3 b s k from funext fun a => Fin.ext (by match a with | ⟨0, _⟩ => rfl | ⟨1, _⟩ => rfl | ⟨2, _⟩ => rfl))).trans (val_main_v25_apply x0 x1 x2 x3 x4 x6 x7 (ix3 b s k))]
  generalize val_main_v23 (F := Ideal) x0 x1 x2 x3 x4 x6 x7 = y
  show y (ix3 b s j) * Ideal.rsqrt (Ideal.div (Ideal.ofBits .f32 0x00000000#32 + ∑ k, y (ix3 b s k) * y (ix3 b s k)) n1024 + eps) * _ = _
  rw [Ideal.ofBits_zero_f32, zero_add]
  rfl

/-- The SwiGLU's gate. -/
theorem v39_at (b : Fin 8) (s : Fin 8192) (j : Fin 2816) :
    val_main_v39 (F := Ideal) x0 x1 x2 x3 x4 x6 x7 x8 x9 (ix3 b s j) = mat (fun k => val_main_v37 (F := Ideal) x0 x1 x2 x3 x4 x6 x7 x8 (ix3 b s k)) (fun i k => x9 (ix3 0 i k)) j := by
  rw [val_main_v39_apply]
  refine Finset.sum_congr rfl fun k _ => ?_
  rw [val_main_v38_apply, show lidx_main_v39 (ix3 b s j) k = ix3 b s k from funext fun a => Fin.ext (by match a with | ⟨0, _⟩ => rfl | ⟨1, _⟩ => rfl | ⟨2, _⟩ => rfl),
    show idx_main_v38 (ridx_main_v39 (ix3 b s j) k) = ix3 (0 : Fin 1) k j from funext fun a => Fin.ext (by match a with | ⟨0, _⟩ => rfl | ⟨1, _⟩ => show (k.val * 2816 + j.val) / 2816 % 1024 = k.val; omega | ⟨2, _⟩ => show (k.val * 2816 + j.val) % 2816 = j.val; omega)]

/-- The SwiGLU's up-projection. -/
theorem v42_at (b : Fin 8) (s : Fin 8192) (j : Fin 2816) :
    val_main_v42 (F := Ideal) x0 x1 x2 x3 x4 x6 x7 x8 x10 (ix3 b s j) = mat (fun k => val_main_v37 (F := Ideal) x0 x1 x2 x3 x4 x6 x7 x8 (ix3 b s k)) (fun i k => x10 (ix3 0 i k)) j := by
  rw [val_main_v42_apply]
  refine Finset.sum_congr rfl fun k _ => ?_
  rw [val_main_v41_apply, show lidx_main_v42 (ix3 b s j) k = ix3 b s k from funext fun a => Fin.ext (by match a with | ⟨0, _⟩ => rfl | ⟨1, _⟩ => rfl | ⟨2, _⟩ => rfl),
    show idx_main_v41 (ridx_main_v42 (ix3 b s j) k) = ix3 (0 : Fin 1) k j from funext fun a => Fin.ext (by match a with | ⟨0, _⟩ => rfl | ⟨1, _⟩ => show (k.val * 2816 + j.val) / 2816 % 1024 = k.val; omega | ⟨2, _⟩ => show (k.val * 2816 + j.val) % 2816 = j.val; omega)]

/-- The SwiGLU's inner row. -/
theorem v43_at (b : Fin 8) (s : Fin 8192) (j : Fin 2816) :
    val_main_v43 (F := Ideal) x0 x1 x2 x3 x4 x6 x7 x8 x9 x10 (ix3 b s j) = act (fun k => val_main_v37 (F := Ideal) x0 x1 x2 x3 x4 x6 x7 x8 (ix3 b s k)) (fun i k => x9 (ix3 0 i k)) (fun i k => x10 (ix3 0 i k)) j := by
  rw [val_main_v43_apply, val_main_v40_apply, val_main_call1_v5_apply, val_main_call1_v4_apply, val_main_call1_v3_apply, val_main_call1_v2_apply, val_main_call1_v1_apply, val_main_call1_v0_apply, v39_at, v42_at]
  rfl

/-- The down-projection. -/
theorem v45_at (b : Fin 8) (s : Fin 8192) (j : Fin 1024) :
    val_main_v45 (F := Ideal) x0 x1 x2 x3 x4 x6 x7 x8 x9 x10 x11 (ix3 b s j) = mat (fun k => val_main_v43 (F := Ideal) x0 x1 x2 x3 x4 x6 x7 x8 x9 x10 (ix3 b s k)) (fun i k => x11 (ix3 0 i k)) j := by
  rw [val_main_v45_apply]
  refine Finset.sum_congr rfl fun k _ => ?_
  rw [val_main_v44_apply, show lidx_main_v45 (ix3 b s j) k = ix3 b s k from funext fun a => Fin.ext (by match a with | ⟨0, _⟩ => rfl | ⟨1, _⟩ => rfl | ⟨2, _⟩ => rfl),
    show idx_main_v44 (ridx_main_v45 (ix3 b s j) k) = ix3 (0 : Fin 1) k j from funext fun a => Fin.ext (by match a with | ⟨0, _⟩ => rfl | ⟨1, _⟩ => show (k.val * 1024 + j.val) / 1024 % 2816 = k.val; omega | ⟨2, _⟩ => show (k.val * 1024 + j.val) % 1024 = j.val; omega)]

/-- The residual after the SwiGLU. -/
theorem v46_at (b : Fin 8) (s : Fin 8192) (j : Fin 1024) :
    val_main_v46 (F := Ideal) x0 x1 x2 x3 x4 x6 x7 x8 x9 x10 x11 (ix3 b s j) = hid2 (fun k => val_main_v23 (F := Ideal) x0 x1 x2 x3 x4 x6 x7 (ix3 b s k)) (fun k => x8 (ix2 0 k)) (fun i k => x9 (ix3 0 i k)) (fun i k => x10 (ix3 0 i k)) (fun i k => x11 (ix3 0 i k)) j := by
  rw [val_main_v46_apply, v45_at]
  refine congrArg (val_main_v23 (F := Ideal) x0 x1 x2 x3 x4 x6 x7 (ix3 b s j) + ·) (congrArg (fun f => mat f _ j) (funext fun k => (v43_at x0 x1 x2 x3 x4 x6 x7 x8 x9 x10 b s k).trans ?_))
  exact congrArg (fun f => act f _ _ k) (funext fun i => v37_at x0 x1 x2 x3 x4 x6 x7 x8 b s i)

/-- The norm before the per-layer embedding. -/
theorem v60_at (b : Fin 8) (s : Fin 8192) (j : Fin 1024) :
    val_main_v60 (F := Ideal) x0 x1 x2 x3 x4 x6 x7 x8 x9 x10 x11 x12 (ix3 b s j) = rms n1024 (fun k => val_main_v46 (F := Ideal) x0 x1 x2 x3 x4 x6 x7 x8 x9 x10 x11 (ix3 b s k)) (fun k => x12 (ix2 0 k)) j := by
  rw [val_main_v60_apply, val_main_v57_apply, val_main_v56_apply, val_main_v55_apply, val_main_v54_apply, val_main_v52_apply, val_main_v53_apply, val_main_v51_apply, val_main_v50_apply, val_main_v49_apply, val_main_v59_apply, val_main_v58_apply, val_main_v47_apply, val_main_cst_5_apply,
    show idx_main_v47 (idx_main_v58 (idx_main_v59 (ix3 b s j))) = ix2 (0 : Fin 1) j from funext fun a => Fin.ext (by match a with | ⟨0, _⟩ => rfl | ⟨1, _⟩ => show j.val % 1024 = j.val; omega),
    Finset.sum_congr rfl fun k _ => (congrArg (val_main_v48 (F := Ideal) x0 x1 x2 x3 x4 x6 x7 x8 x9 x10 x11) (show idx_main_v49 (idx_main_v50 (idx_main_v56 (ix3 b s j))) k = ix3 b s k from funext fun a => Fin.ext (by match a with | ⟨0, _⟩ => rfl | ⟨1, _⟩ => rfl | ⟨2, _⟩ => rfl))).trans (val_main_v48_apply x0 x1 x2 x3 x4 x6 x7 x8 x9 x10 x11 (ix3 b s k))]
  generalize val_main_v46 (F := Ideal) x0 x1 x2 x3 x4 x6 x7 x8 x9 x10 x11 = y
  show y (ix3 b s j) * Ideal.rsqrt (Ideal.div (Ideal.ofBits .f32 0x00000000#32 + ∑ k, y (ix3 b s k) * y (ix3 b s k)) n1024 + eps) * _ = _
  rw [Ideal.ofBits_zero_f32, zero_add]
  rfl

/-- The per-layer embedding's gate. -/
theorem v62_at (b : Fin 8) (s : Fin 8192) (j : Fin 1024) :
    val_main_v62 (F := Ideal) x0 x1 x2 x3 x4 x6 x7 x8 x9 x10 x11 x12 x13 (ix3 b s j) = mat (fun k => val_main_v60 (F := Ideal) x0 x1 x2 x3 x4 x6 x7 x8 x9 x10 x11 x12 (ix3 b s k)) (fun i k => x13 (ix3 0 i k)) j := by
  rw [val_main_v62_apply]
  refine Finset.sum_congr rfl fun k _ => ?_
  rw [val_main_v61_apply, show lidx_main_v62 (ix3 b s j) k = ix3 b s k from funext fun a => Fin.ext (by match a with | ⟨0, _⟩ => rfl | ⟨1, _⟩ => rfl | ⟨2, _⟩ => rfl),
    show idx_main_v61 (ridx_main_v62 (ix3 b s j) k) = ix3 (0 : Fin 1) k j from funext fun a => Fin.ext (by match a with | ⟨0, _⟩ => rfl | ⟨1, _⟩ => show (k.val * 1024 + j.val) / 1024 % 1024 = k.val; omega | ⟨2, _⟩ => show (k.val * 1024 + j.val) % 1024 = j.val; omega)]

/-- The per-layer embedding of one token. -/
theorem v69_at (b : Fin 8) (s : Fin 8192) (k : Fin 256) : val_main_v69 (F := Ideal) x5 (ix3 b s k) = x5 (ix4 0 b s k) := by
  rw [val_main_v69_apply, show idx_main_v69 (ix3 b s k) = ix4 (0 : Fin 1) b s k from funext fun a => Fin.ext (by match a with | ⟨0, _⟩ => rfl | ⟨1, _⟩ => show ((b.val * 8192 + s.val) * 256 + k.val) / 2097152 % 8 = b.val; omega | ⟨2, _⟩ => show ((b.val * 8192 + s.val) * 256 + k.val) / 256 % 8192 = s.val; omega | ⟨3, _⟩ => show ((b.val * 8192 + s.val) * 256 + k.val) % 256 = k.val; omega)]

/-- Its projection. -/
theorem v71_at (b : Fin 8) (s : Fin 8192) (j : Fin 1024) :
    val_main_v71 (F := Ideal) x5 x14 (ix3 b s j) = mat (fun k => val_main_v69 (F := Ideal) x5 (ix3 b s k)) (fun i k => x14 (ix3 0 i k)) j := by
  rw [val_main_v71_apply]
  refine Finset.sum_congr rfl fun k _ => ?_
  rw [val_main_v70_apply, show lidx_main_v71 (ix3 b s j) k = ix3 b s k from funext fun a => Fin.ext (by match a with | ⟨0, _⟩ => rfl | ⟨1, _⟩ => rfl | ⟨2, _⟩ => rfl),
    show idx_main_v70 (ridx_main_v71 (ix3 b s j) k) = ix3 (0 : Fin 1) k j from funext fun a => Fin.ext (by match a with | ⟨0, _⟩ => rfl | ⟨1, _⟩ => show (k.val * 1024 + j.val) / 1024 % 256 = k.val; omega | ⟨2, _⟩ => show (k.val * 1024 + j.val) % 1024 = j.val; omega)]

/-- The residual after the per-layer embedding. -/
theorem v73_at (b : Fin 8) (s : Fin 8192) (j : Fin 1024) :
    val_main_v73 (F := Ideal) x0 x1 x2 x3 x4 x5 x6 x7 x8 x9 x10 x11 x12 x13 x14 (ix3 b s j) = ple (fun k => val_main_v46 (F := Ideal) x0 x1 x2 x3 x4 x6 x7 x8 x9 x10 x11 (ix3 b s k)) (fun k => x12 (ix2 0 k)) (fun i k => x13 (ix3 0 i k)) (fun k => x5 (ix4 0 b s k)) (fun i k => x14 (ix3 0 i k)) j := by
  rw [val_main_v73_apply, val_main_v72_apply, val_main_v68_apply, val_main_v67_apply, val_main_v66_apply, val_main_v65_apply, val_main_v64_apply, val_main_v63_apply, v62_at, v71_at]
  refine congrArg (val_main_v46 (F := Ideal) x0 x1 x2 x3 x4 x6 x7 x8 x9 x10 x11 (ix3 b s j) + ·) (congrArg₂ (· * ·) (congrArg sig (congrArg (fun f => mat f _ j) (funext fun k => v60_at x0 x1 x2 x3 x4 x6 x7 x8 x9 x10 x11 x12 b s k)))
    (congrArg (fun f => mat f _ j) (funext fun k => v69_at x5 b s k)))

/-- The last norm. -/
theorem v86_at (b : Fin 8) (s : Fin 8192) (j : Fin 1024) :
    val_main_v86 (F := Ideal) x0 x1 x2 x3 x4 x5 x6 x7 x8 x9 x10 x11 x12 x13 x14 x15 (ix3 b s j) = rms n1024 (fun k => val_main_v73 (F := Ideal) x0 x1 x2 x3 x4 x5 x6 x7 x8 x9 x10 x11 x12 x13 x14 (ix3 b s k)) (fun k => x15 (ix1 k)) j := by
  rw [val_main_v86_apply, val_main_v83_apply, val_main_v82_apply, val_main_v81_apply, val_main_v80_apply, val_main_v78_apply, val_main_v79_apply, val_main_v77_apply, val_main_v76_apply, val_main_v75_apply, val_main_v85_apply, val_main_v84_apply, val_main_cst_10_apply,
    show idx_main_v84 (idx_main_v85 (ix3 b s j)) = ix1 j from funext fun a => Fin.ext (by match a with | ⟨0, _⟩ => rfl),
    Finset.sum_congr rfl fun k _ => (congrArg (val_main_v74 (F := Ideal) x0 x1 x2 x3 x4 x5 x6 x7 x8 x9 x10 x11 x12 x13 x14) (show idx_main_v75 (idx_main_v76 (idx_main_v82 (ix3 b s j))) k = ix3 b s k from funext fun a => Fin.ext (by match a with | ⟨0, _⟩ => rfl | ⟨1, _⟩ => rfl | ⟨2, _⟩ => rfl))).trans (val_main_v74_apply x0 x1 x2 x3 x4 x5 x6 x7 x8 x9 x10 x11 x12 x13 x14 (ix3 b s k))]
  generalize val_main_v73 (F := Ideal) x0 x1 x2 x3 x4 x5 x6 x7 x8 x9 x10 x11 x12 x13 x14 = y
  show y (ix3 b s j) * Ideal.rsqrt (Ideal.div (Ideal.ofBits .f32 0x00000000#32 + ∑ k, y (ix3 b s k) * y (ix3 b s k)) n1024 + eps) * _ = _
  rw [Ideal.ofBits_zero_f32, zero_add]
  rfl

/-- The reference's result at an entry. -/
theorem result_at (b : Fin 8) (s : Fin 8192) (j : Fin 1024) (t : Fin 65536) (ht : t.val = 8192 * b.val + s.val) :
    val_main_v87 (F := Ideal) x0 x1 x2 x3 x4 x5 x6 x7 x8 x9 x10 x11 x12 x13 x14 x15 (ix2 t j) = token (fun k => x0 (ix3 b s k)) (fun k => x1 (ix3 b s k)) (fun k => (x2 (ix3 b s k) + x3 (ix3 b s k) : EReal)) (fun k => x4 (ix3 b s k)) (fun k => x5 (ix4 0 b s k)) (fun k => x6 (ix2 0 k))
        (fun i k => x7 (ix3 0 i k)) (fun k => x8 (ix2 0 k)) (fun i k => x9 (ix3 0 i k)) (fun i k => x10 (ix3 0 i k)) (fun i k => x11 (ix3 0 i k)) (fun k => x12 (ix2 0 k))
        (fun i k => x13 (ix3 0 i k)) (fun i k => x14 (ix3 0 i k)) (fun k => x15 (ix1 k)) j := by
  rw [val_main_v87_apply, show idx_main_v87 (ix2 t j) = ix3 b s j from funext fun a => Fin.ext (by match a with | ⟨0, _⟩ => show (t.val * 1024 + j.val) / 8388608 = b.val; omega | ⟨1, _⟩ => show (t.val * 1024 + j.val) / 1024 % 8192 = s.val; omega | ⟨2, _⟩ => show (t.val * 1024 + j.val) % 1024 = j.val; omega), v86_at]
  refine congrArg (fun f => rms n1024 f _ j) (funext fun k => (v73_at x0 x1 x2 x3 x4 x5 x6 x7 x8 x9 x10 x11 x12 x13 x14 b s k).trans ?_)
  refine congrArg (fun f => ple f _ _ _ _ k) (funext fun i => (v46_at x0 x1 x2 x3 x4 x6 x7 x8 x9 x10 x11 b s i).trans ?_)
  exact congrArg (fun f => hid2 f _ _ _ _ i) (funext fun l => v23_at x0 x1 x2 x3 x4 x6 x7 b s l)

end Cert.PostRef

end
-- ==== Proof.PostValue.lean ====
/-
  What the call after the token mixers leaves in its result array: block by block the mathematics of one token at the rows
  that the host prepares, which is what the reference computes. The arguments are arbitrary.
-/
module

public import proofs.«01_k».proof.Proof.PostBlock
public import proofs.«01_k».proof.Proof.PostRef
public import Idealize.ShloMosaic.Lib.StableHlo.Run
public import Idealize.ShloMosaic.Lib.Pipeline.Value
public import Idealize.ShloMosaic.Lib.Claim

@[expose] public section

set_option maxRecDepth 16384

noncomputable section

namespace Cert.PostValue

open Cert.Kernel2Ideal Cert.Kernel2Ideal.Gen Cert.Post
open Idealize.ShloMosaic Idealize.ShloMosaic.TcCoe Idealize.ShloMosaic.ValueIdx Idealize.SL.Sem
open Idealize.ShloMosaic.Pipeline (Dat)
open scoped BigOperators

/-! ## Reshapes of the host -/

/-- Batches laid out one after the other. -/
theorem rows {n : ℕ} {α : Type} (v : (⟨3, ![8, 8192, n]⟩ : Shape).Idx → α) (h : (⟨3, ![8, 8192, n]⟩ : Shape).ShapeCasts ⟨2, ![65536, n]⟩)
    (t : Fin 65536) (j : Fin n) (b : Fin 8) (s : Fin 8192) (ht : t.val = 8192 * b.val + s.val) : shapeCast ⟨2, ![65536, n]⟩ v h (ix2 t j) = v (ix3 b s j) := by
  refine shapeCast_apply v h _ _ ?_
  rw [Shape.rowMajor_val_three, Shape.rowMajor_val_two]
  show (b.val * 8192 + s.val) * n + j.val = t.val * n + j.val
  rw [ht, mul_comm 8192]

/-- A leading axis of extent one dropped, of four axes. -/
theorem drop_four {p q r : ℕ} {α : Type} (v : (⟨4, ![1, p, q, r]⟩ : Shape).Idx → α) (h : (⟨4, ![1, p, q, r]⟩ : Shape).ShapeCasts ⟨3, ![p, q, r]⟩)
    (i : Fin p) (j : Fin q) (k : Fin r) : shapeCast ⟨3, ![p, q, r]⟩ v h (ix3 i j k) = v (ix4 0 i j k) := by
  refine shapeCast_apply v h _ _ ?_
  rw [Shape.rowMajor_val_four, Shape.rowMajor_val_three]
  show ((0 * p + i.val) * q + j.val) * r + k.val = (i.val * q + j.val) * r + k.val
  rw [zero_mul, zero_add]

/-- A row given to the call as a matrix of one row. -/
theorem as_row {n : ℕ} {α : Type} (v : (⟨1, ![n]⟩ : Shape).Idx → α) (h : (⟨1, ![n]⟩ : Shape).BroadcastsInDim ⟨2, ![1, n]⟩ ![1]) (z : Fin 1) (j : Fin n) :
    broadcastInDim ⟨2, ![1, n]⟩ ![1] h v (ix2 z j) = v (ix1 j) := by
  refine broadcastInDim_apply _ h v _ _ fun a => ?_
  match a with
  | ⟨0, _⟩ =>
    show j.val = if n = 1 then 0 else j.val
    have := j.isLt
    split <;> omega

/-- A matrix of one row as a row. -/
theorem of_row {n : ℕ} {α : Type} (v : (⟨2, ![1, n]⟩ : Shape).Idx → α) (h : (⟨2, ![1, n]⟩ : Shape).ShapeCasts ⟨1, ![n]⟩) (j : Fin n) :
    shapeCast ⟨1, ![n]⟩ v h (ix1 j) = v (ix2 0 j) := by
  refine shapeCast_apply v h _ _ ?_
  rw [Shape.rowMajor_val_two, Shape.rowMajor_val_one]
  show 0 * n + j.val = j.val
  rw [zero_mul, zero_add]

/-! ## The arrays that the host prepares -/

variable (m : (ℓ : Loc nD τ sig) → Buf (Elt Ideal) ℓ) (c : Dev nD)

/-- The input as launched. -/
abbrev a0 : S8x8192x1024.Idx → EReal := m ((c : Thread nD τ).loc main_arg0)
/-- The attention output as launched. -/
abbrev a1 : S8x8192x512.Idx → EReal := m ((c : Thread nD τ).loc main_arg1)
/-- The forward scan as launched. -/
abbrev a2 : S8x8192x512.Idx → EReal := m ((c : Thread nD τ).loc main_arg2)
/-- The backward scan as launched. -/
abbrev a3 : S8x8192x512.Idx → EReal := m ((c : Thread nD τ).loc main_arg3)
/-- The gate as launched. -/
abbrev a4 : S8x8192x512.Idx → EReal := m ((c : Thread nD τ).loc main_arg4)
/-- The per-layer embedding as launched. -/
abbrev a5 : S1x8x8192x256.Idx → EReal := m ((c : Thread nD τ).loc main_arg5)
/-- The head gain as launched. -/
abbrev a6 : S1x128.Idx → EReal := m ((c : Thread nD τ).loc main_arg6)
/-- The out-projection as launched. -/
abbrev a7 : S1x1024x1024.Idx → EReal := m ((c : Thread nD τ).loc main_arg7)
/-- The gain before the SwiGLU as launched. -/
abbrev a8 : S1x1024.Idx → EReal := m ((c : Thread nD τ).loc main_arg8)
/-- The gate projection as launched. -/
abbrev a9 : S1x1024x2816.Idx → EReal := m ((c : Thread nD τ).loc main_arg9)
/-- The up-projection as launched. -/
abbrev a10 : S1x1024x2816.Idx → EReal := m ((c : Thread nD τ).loc main_arg10)
/-- The down-projection as launched. -/
abbrev a11 : S1x2816x1024.Idx → EReal := m ((c : Thread nD τ).loc main_arg11)
/-- The gain before the per-layer embedding as launched. -/
abbrev a12 : S1x1024.Idx → EReal := m ((c : Thread nD τ).loc main_arg12)
/-- The per-layer embedding's gate as launched. -/
abbrev a13 : S1x1024x1024.Idx → EReal := m ((c : Thread nD τ).loc main_arg13)
/-- Its projection as launched. -/
abbrev a14 : S1x256x1024.Idx → EReal := m ((c : Thread nD τ).loc main_arg14)
/-- The last gain as launched. -/
abbrev a15 : S1024.Idx → EReal := m ((c : Thread nD τ).loc main_arg15)

set_option maxHeartbeats 2000000 in
/-- The input as prepared. -/
theorem host0 : (V (F := Ideal) m c main_v0 : S65536x1024.Idx → EReal) = shapeCast S65536x1024 (a0 m c) shapeCasts_S8x8192x1024_S65536x1024 := by
  show StableHlo.after hostOps0 (fun b => m (c, b)) (Proc.devRef .tc main_v0) = _
  after_results <;> rfl

set_option maxHeartbeats 2000000 in
/-- The attention output as prepared. -/
theorem host1 : (V (F := Ideal) m c main_v2 : S65536x512.Idx → EReal) = (truncf .bf16 (shapeCast S65536x512 (a1 m c) shapeCasts_S8x8192x512_S65536x512 : FVec Ideal S65536x512 .f32) bitsLt_bf16_f32 : FVec Ideal S65536x512 .bf16) := by
  show StableHlo.after hostOps0 (fun b => m (c, b)) (Proc.devRef .tc main_v2) = _
  after_results <;> rfl

set_option maxHeartbeats 2000000 in
/-- The forward scan as prepared. -/
theorem host2 : (V (F := Ideal) m c main_v4 : S65536x512.Idx → EReal) = (truncf .bf16 (shapeCast S65536x512 (a2 m c) shapeCasts_S8x8192x512_S65536x512 : FVec Ideal S65536x512 .f32) bitsLt_bf16_f32 : FVec Ideal S65536x512 .bf16) := by
  show StableHlo.after hostOps0 (fun b => m (c, b)) (Proc.devRef .tc main_v4) = _
  after_results <;> rfl

set_option maxHeartbeats 2000000 in
/-- The backward scan as prepared. -/
theorem host3 : (V (F := Ideal) m c main_v6 : S65536x512.Idx → EReal) = (truncf .bf16 (shapeCast S65536x512 (a3 m c) shapeCasts_S8x8192x512_S65536x512 : FVec Ideal S65536x512 .f32) bitsLt_bf16_f32 : FVec Ideal S65536x512 .bf16) := by
  show StableHlo.after hostOps0 (fun b => m (c, b)) (Proc.devRef .tc main_v6) = _
  after_results <;> rfl

set_option maxHeartbeats 2000000 in
/-- The gate as prepared. -/
theorem host4 : (V (F := Ideal) m c main_v8 : S65536x512.Idx → EReal) = (truncf .bf16 (shapeCast S65536x512 (a4 m c) shapeCasts_S8x8192x512_S65536x512 : FVec Ideal S65536x512 .f32) bitsLt_bf16_f32 : FVec Ideal S65536x512 .bf16) := by
  show StableHlo.after hostOps0 (fun b => m (c, b)) (Proc.devRef .tc main_v8) = _
  after_results <;> rfl

set_option maxHeartbeats 2000000 in
/-- The per-layer embedding as prepared. -/
theorem host5 : (V (F := Ideal) m c main_v10 : S65536x256.Idx → EReal) = shapeCast S65536x256 (shapeCast S8x8192x256 (a5 m c) shapeCasts_S1x8x8192x256_S8x8192x256) shapeCasts_S8x8192x256_S65536x256 := by
  show StableHlo.after hostOps0 (fun b => m (c, b)) (Proc.devRef .tc main_v10) = _
  after_results <;> rfl

set_option maxHeartbeats 2000000 in
/-- The head gain as prepared. -/
theorem host6 : (V (F := Ideal) m c main_v12 : S1x128.Idx → EReal) = broadcastInDim S1x128 ![1] bcast_S128_S1x128_1 (shapeCast S128 (a6 m c) shapeCasts_S1x128_S128) := by
  show StableHlo.after hostOps0 (fun b => m (c, b)) (Proc.devRef .tc main_v12) = _
  after_results <;> rfl

set_option maxHeartbeats 2000000 in
/-- The out-projection as prepared. -/
theorem host7 : (V (F := Ideal) m c main_v14 : S1024x1024.Idx → EReal) = (truncf .bf16 (shapeCast S1024x1024 (a7 m c) shapeCasts_S1x1024x1024_S1024x1024 : FVec Ideal S1024x1024 .f32) bitsLt_bf16_f32 : FVec Ideal S1024x1024 .bf16) := by
  show StableHlo.after hostOps0 (fun b => m (c, b)) (Proc.devRef .tc main_v14) = _
  after_results <;> rfl

set_option maxHeartbeats 2000000 in
/-- The gain before the SwiGLU as prepared. -/
theorem host8 : (V (F := Ideal) m c main_v16 : S1x1024.Idx → EReal) = broadcastInDim S1x1024 ![1] bcast_S1024_S1x1024_1 (shapeCast S1024 (a8 m c) shapeCasts_S1x1024_S1024) := by
  show StableHlo.after hostOps0 (fun b => m (c, b)) (Proc.devRef .tc main_v16) = _
  after_results <;> rfl

set_option maxHeartbeats 2000000 in
/-- The gate projection as prepared. -/
theorem host9 : (V (F := Ideal) m c main_v18 : S1024x2816.Idx → EReal) = (truncf .bf16 (shapeCast S1024x2816 (a9 m c) shapeCasts_S1x1024x2816_S1024x2816 : FVec Ideal S1024x2816 .f32) bitsLt_bf16_f32 : FVec Ideal S1024x2816 .bf16) := by
  show StableHlo.after hostOps0 (fun b => m (c, b)) (Proc.devRef .tc main_v18) = _
  after_results <;> rfl

set_option maxHeartbeats 2000000 in
/-- The up-projection as prepared. -/
theorem host10 : (V (F := Ideal) m c main_v20 : S1024x2816.Idx → EReal) = (truncf .bf16 (shapeCast S1024x2816 (a10 m c) shapeCasts_S1x1024x2816_S1024x2816 : FVec Ideal S1024x2816 .f32) bitsLt_bf16_f32 : FVec Ideal S1024x2816 .bf16) := by
  show StableHlo.after hostOps0 (fun b => m (c, b)) (Proc.devRef .tc main_v20) = _
  after_results <;> rfl

set_option maxHeartbeats 2000000 in
/-- The down-projection as prepared. -/
theorem host11 : (V (F := Ideal) m c main_v22 : S2816x1024.Idx → EReal) = (truncf .bf16 (shapeCast S2816x1024 (a11 m c) shapeCasts_S1x2816x1024_S2816x1024 : FVec Ideal S2816x1024 .f32) bitsLt_bf16_f32 : FVec Ideal S2816x1024 .bf16) := by
  show StableHlo.after hostOps0 (fun b => m (c, b)) (Proc.devRef .tc main_v22) = _
  after_results <;> rfl

set_option maxHeartbeats 2000000 in
/-- The gain before the per-layer embedding as prepared. -/
theorem host12 : (V (F := Ideal) m c main_v24 : S1x1024.Idx → EReal) = broadcastInDim S1x1024 ![1] bcast_S1024_S1x1024_1 (shapeCast S1024 (a12 m c) shapeCasts_S1x1024_S1024) := by
  show StableHlo.after hostOps0 (fun b => m (c, b)) (Proc.devRef .tc main_v24) = _
  after_results <;> rfl

set_option maxHeartbeats 2000000 in
/-- The per-layer embedding's gate as prepared. -/
theorem host13 : (V (F := Ideal) m c main_v26 : S1024x1024.Idx → EReal) = (truncf .bf16 (shapeCast S1024x1024 (a13 m c) shapeCasts_S1x1024x1024_S1024x1024 : FVec Ideal S1024x1024 .f32) bitsLt_bf16_f32 : FVec Ideal S1024x1024 .bf16) := by
  show StableHlo.after hostOps0 (fun b => m (c, b)) (Proc.devRef .tc main_v26) = _
  after_results <;> rfl

set_option maxHeartbeats 2000000 in
/-- Its projection as prepared. -/
theorem host14 : (V (F := Ideal) m c main_v28 : S256x1024.Idx → EReal) = (truncf .bf16 (shapeCast S256x1024 (a14 m c) shapeCasts_S1x256x1024_S256x1024 : FVec Ideal S256x1024 .f32) bitsLt_bf16_f32 : FVec Ideal S256x1024 .bf16) := by
  show StableHlo.after hostOps0 (fun b => m (c, b)) (Proc.devRef .tc main_v28) = _
  after_results <;> rfl

set_option maxHeartbeats 2000000 in
/-- The last gain as prepared. -/
theorem host15 : (V (F := Ideal) m c main_v29 : S1x1024.Idx → EReal) = broadcastInDim S1x1024 ![1] bcast_S1024_S1x1024_1 (a15 m c) := by
  show StableHlo.after hostOps0 (fun b => m (c, b)) (Proc.devRef .tc main_v29) = _
  after_results <;> rfl

/-! ## Grid points and blocks -/

/-- The batch of a grid point. -/
def bat (t : Fin grid0.N) : Fin 8 := ⟨t.val / 16, by have := t.isLt; have e : grid0.N = 128 := N_0; omega⟩
/-- The position of row `r` of a grid point's block. -/
def pos (t : Fin grid0.N) (r : Fin 512) : Fin 8192 := ⟨512 * (t.val % 16) + r.val, by omega⟩
/-- The row of the prepared arrays that is row `r` of a grid point's block. -/
def row (t : Fin grid0.N) (r : Fin 512) : Fin 65536 := ⟨512 * t.val + r.val, by have := t.isLt; have e : grid0.N = 128 := N_0; omega⟩

/-- The row is the position in its batch. -/
theorem row_val (t : Fin grid0.N) (r : Fin 512) : (row t r).val = 8192 * (bat t).val + (pos t r).val := by
  show 512 * t.val + r.val = 8192 * (t.val / 16) + (512 * (t.val % 16) + r.val)
  omega

/-- Where a grid point reads or writes window 0. -/
theorem map0 (t : Fin grid0.N) : cc0_transform_0 (grid0.coords t) = ![t.val, 0] := by
  revert t
  decide +kernel
/-- Where a grid point reads or writes window 1. -/
theorem map1 (t : Fin grid0.N) : cc0_transform_1 (grid0.coords t) = ![t.val, 0] := by
  revert t
  decide +kernel
/-- Where a grid point reads or writes window 2. -/
theorem map2 (t : Fin grid0.N) : cc0_transform_2 (grid0.coords t) = ![t.val, 0] := by
  revert t
  decide +kernel
/-- Where a grid point reads or writes window 3. -/
theorem map3 (t : Fin grid0.N) : cc0_transform_3 (grid0.coords t) = ![t.val, 0] := by
  revert t
  decide +kernel
/-- Where a grid point reads or writes window 4. -/
theorem map4 (t : Fin grid0.N) : cc0_transform_4 (grid0.coords t) = ![t.val, 0] := by
  revert t
  decide +kernel
/-- Where a grid point reads or writes window 5. -/
theorem map5 (t : Fin grid0.N) : cc0_transform_5 (grid0.coords t) = ![t.val, 0] := by
  revert t
  decide +kernel
/-- Where a grid point reads or writes window 6. -/
theorem map6 (t : Fin grid0.N) : cc0_transform_6 (grid0.coords t) = ![0, 0] := by
  revert t
  decide +kernel
/-- Where a grid point reads or writes window 7. -/
theorem map7 (t : Fin grid0.N) : cc0_transform_7 (grid0.coords t) = ![0, 0] := by
  revert t
  decide +kernel
/-- Where a grid point reads or writes window 8. -/
theorem map8 (t : Fin grid0.N) : cc0_transform_8 (grid0.coords t) = ![0, 0] := by
  revert t
  decide +kernel
/-- Where a grid point reads or writes window 9. -/
theorem map9 (t : Fin grid0.N) : cc0_transform_9 (grid0.coords t) = ![0, 0] := by
  revert t
  decide +kernel
/-- Where a grid point reads or writes window 10. -/
theorem map10 (t : Fin grid0.N) : cc0_transform_10 (grid0.coords t) = ![0, 0] := by
  revert t
  decide +kernel
/-- Where a grid point reads or writes window 11. -/
theorem map11 (t : Fin grid0.N) : cc0_transform_11 (grid0.coords t) = ![0, 0] := by
  revert t
  decide +kernel
/-- Where a grid point reads or writes window 12. -/
theorem map12 (t : Fin grid0.N) : cc0_transform_12 (grid0.coords t) = ![0, 0] := by
  revert t
  decide +kernel
/-- Where a grid point reads or writes window 13. -/
theorem map13 (t : Fin grid0.N) : cc0_transform_13 (grid0.coords t) = ![0, 0] := by
  revert t
  decide +kernel
/-- Where a grid point reads or writes window 14. -/
theorem map14 (t : Fin grid0.N) : cc0_transform_14 (grid0.coords t) = ![0, 0] := by
  revert t
  decide +kernel
/-- Where a grid point reads or writes window 15. -/
theorem map15 (t : Fin grid0.N) : cc0_transform_15 (grid0.coords t) = ![0, 0] := by
  revert t
  decide +kernel
/-- Where a grid point reads or writes window 16. -/
theorem map16 (t : Fin grid0.N) : cc0_transform_16 (grid0.coords t) = ![t.val, 0] := by
  revert t
  decide +kernel

/-- The input, the block of a grid point. -/
def xb0 (t : Fin grid0.N) : S512x1024.Idx → EReal := iblk m c 0 t
/-- The attention output, the block of a grid point. -/
def xb1 (t : Fin grid0.N) : S512x512.Idx → EReal := iblk m c 1 t
/-- The forward scan, the block of a grid point. -/
def xb2 (t : Fin grid0.N) : S512x512.Idx → EReal := iblk m c 2 t
/-- The backward scan, the block of a grid point. -/
def xb3 (t : Fin grid0.N) : S512x512.Idx → EReal := iblk m c 3 t
/-- The gate, the block of a grid point. -/
def xb4 (t : Fin grid0.N) : S512x512.Idx → EReal := iblk m c 4 t
/-- The per-layer embedding, the block of a grid point. -/
def xb5 (t : Fin grid0.N) : S512x256.Idx → EReal := iblk m c 5 t
/-- The head gain, the block of a grid point. -/
def xb6 (t : Fin grid0.N) : S1x128.Idx → EReal := iblk m c 6 t
/-- The out-projection, the block of a grid point. -/
def xb7 (t : Fin grid0.N) : S1024x1024.Idx → EReal := iblk m c 7 t
/-- The gain before the SwiGLU, the block of a grid point. -/
def xb8 (t : Fin grid0.N) : S1x1024.Idx → EReal := iblk m c 8 t
/-- The gate projection, the block of a grid point. -/
def xb9 (t : Fin grid0.N) : S1024x2816.Idx → EReal := iblk m c 9 t
/-- The up-projection, the block of a grid point. -/
def xb10 (t : Fin grid0.N) : S1024x2816.Idx → EReal := iblk m c 10 t
/-- The down-projection, the block of a grid point. -/
def xb11 (t : Fin grid0.N) : S2816x1024.Idx → EReal := iblk m c 11 t
/-- The gain before the per-layer embedding, the block of a grid point. -/
def xb12 (t : Fin grid0.N) : S1x1024.Idx → EReal := iblk m c 12 t
/-- The per-layer embedding's gate, the block of a grid point. -/
def xb13 (t : Fin grid0.N) : S1024x1024.Idx → EReal := iblk m c 13 t
/-- Its projection, the block of a grid point. -/
def xb14 (t : Fin grid0.N) : S256x1024.Idx → EReal := iblk m c 14 t
/-- The last gain, the block of a grid point. -/
def xb15 (t : Fin grid0.N) : S1x1024.Idx → EReal := iblk m c 15 t

/-- The block of window 0. -/
theorem block0 (t : Fin grid0.N) (r : Fin 512) (j : Fin 1024) :
    xb0 m c t (ix2 r j) = (V (F := Ideal) m c main_v0 : S65536x1024.Idx → EReal) (ix2 (row t r) j) := by
  show (V (F := Ideal) m c main_v0 : S65536x1024.Idx → EReal) (((cfg0.win 0).blk t).view.emb (ix2 r j)) = _
  refine congrArg _ (funext fun a => Fin.ext ?_)
  match a with
  | ⟨0, _⟩ => show cc0_transform_0 (grid0.coords t) 0 * 512 + 1 * r.val = 512 * t.val + r.val; rw [map0]; show t.val * 512 + 1 * r.val = _; omega
  | ⟨1, _⟩ => show cc0_transform_0 (grid0.coords t) 1 * 1024 + 1 * j.val = j.val; rw [map0]; show 0 * 1024 + 1 * j.val = _; omega

/-- The block of window 1. -/
theorem block1 (t : Fin grid0.N) (r : Fin 512) (j : Fin 512) :
    xb1 m c t (ix2 r j) = (V (F := Ideal) m c main_v2 : S65536x512.Idx → EReal) (ix2 (row t r) j) := by
  show (V (F := Ideal) m c main_v2 : S65536x512.Idx → EReal) (((cfg0.win 1).blk t).view.emb (ix2 r j)) = _
  refine congrArg _ (funext fun a => Fin.ext ?_)
  match a with
  | ⟨0, _⟩ => show cc0_transform_1 (grid0.coords t) 0 * 512 + 1 * r.val = 512 * t.val + r.val; rw [map1]; show t.val * 512 + 1 * r.val = _; omega
  | ⟨1, _⟩ => show cc0_transform_1 (grid0.coords t) 1 * 512 + 1 * j.val = j.val; rw [map1]; show 0 * 512 + 1 * j.val = _; omega

/-- The block of window 2. -/
theorem block2 (t : Fin grid0.N) (r : Fin 512) (j : Fin 512) :
    xb2 m c t (ix2 r j) = (V (F := Ideal) m c main_v4 : S65536x512.Idx → EReal) (ix2 (row t r) j) := by
  show (V (F := Ideal) m c main_v4 : S65536x512.Idx → EReal) (((cfg0.win 2).blk t).view.emb (ix2 r j)) = _
  refine congrArg _ (funext fun a => Fin.ext ?_)
  match a with
  | ⟨0, _⟩ => show cc0_transform_2 (grid0.coords t) 0 * 512 + 1 * r.val = 512 * t.val + r.val; rw [map2]; show t.val * 512 + 1 * r.val = _; omega
  | ⟨1, _⟩ => show cc0_transform_2 (grid0.coords t) 1 * 512 + 1 * j.val = j.val; rw [map2]; show 0 * 512 + 1 * j.val = _; omega

/-- The block of window 3. -/
theorem block3 (t : Fin grid0.N) (r : Fin 512) (j : Fin 512) :
    xb3 m c t (ix2 r j) = (V (F := Ideal) m c main_v6 : S65536x512.Idx → EReal) (ix2 (row t r) j) := by
  show (V (F := Ideal) m c main_v6 : S65536x512.Idx → EReal) (((cfg0.win 3).blk t).view.emb (ix2 r j)) = _
  refine congrArg _ (funext fun a => Fin.ext ?_)
  match a with
  | ⟨0, _⟩ => show cc0_transform_3 (grid0.coords t) 0 * 512 + 1 * r.val = 512 * t.val + r.val; rw [map3]; show t.val * 512 + 1 * r.val = _; omega
  | ⟨1, _⟩ => show cc0_transform_3 (grid0.coords t) 1 * 512 + 1 * j.val = j.val; rw [map3]; show 0 * 512 + 1 * j.val = _; omega

/-- The block of window 4. -/
theorem block4 (t : Fin grid0.N) (r : Fin 512) (j : Fin 512) :
    xb4 m c t (ix2 r j) = (V (F := Ideal) m c main_v8 : S65536x512.Idx → EReal) (ix2 (row t r) j) := by
  show (V (F := Ideal) m c main_v8 : S65536x512.Idx → EReal) (((cfg0.win 4).blk t).view.emb (ix2 r j)) = _
  refine congrArg _ (funext fun a => Fin.ext ?_)
  match a with
  | ⟨0, _⟩ => show cc0_transform_4 (grid0.coords t) 0 * 512 + 1 * r.val = 512 * t.val + r.val; rw [map4]; show t.val * 512 + 1 * r.val = _; omega
  | ⟨1, _⟩ => show cc0_transform_4 (grid0.coords t) 1 * 512 + 1 * j.val = j.val; rw [map4]; show 0 * 512 + 1 * j.val = _; omega

/-- The block of window 5. -/
theorem block5 (t : Fin grid0.N) (r : Fin 512) (j : Fin 256) :
    xb5 m c t (ix2 r j) = (V (F := Ideal) m c main_v10 : S65536x256.Idx → EReal) (ix2 (row t r) j) := by
  show (V (F := Ideal) m c main_v10 : S65536x256.Idx → EReal) (((cfg0.win 5).blk t).view.emb (ix2 r j)) = _
  refine congrArg _ (funext fun a => Fin.ext ?_)
  match a with
  | ⟨0, _⟩ => show cc0_transform_5 (grid0.coords t) 0 * 512 + 1 * r.val = 512 * t.val + r.val; rw [map5]; show t.val * 512 + 1 * r.val = _; omega
  | ⟨1, _⟩ => show cc0_transform_5 (grid0.coords t) 1 * 256 + 1 * j.val = j.val; rw [map5]; show 0 * 256 + 1 * j.val = _; omega

/-- The block of window 6. -/
theorem block6 (t : Fin grid0.N) (r : Fin 1) (j : Fin 128) :
    xb6 m c t (ix2 r j) = (V (F := Ideal) m c main_v12 : S1x128.Idx → EReal) (ix2 r j) := by
  show (V (F := Ideal) m c main_v12 : S1x128.Idx → EReal) (((cfg0.win 6).blk t).view.emb (ix2 r j)) = _
  refine congrArg _ (funext fun a => Fin.ext ?_)
  match a with
  | ⟨0, _⟩ => show cc0_transform_6 (grid0.coords t) 0 * 1 + 1 * r.val = r.val; rw [map6]; show 0 * 1 + 1 * r.val = _; omega
  | ⟨1, _⟩ => show cc0_transform_6 (grid0.coords t) 1 * 128 + 1 * j.val = j.val; rw [map6]; show 0 * 128 + 1 * j.val = _; omega

/-- The block of window 7. -/
theorem block7 (t : Fin grid0.N) (r : Fin 1024) (j : Fin 1024) :
    xb7 m c t (ix2 r j) = (V (F := Ideal) m c main_v14 : S1024x1024.Idx → EReal) (ix2 r j) := by
  show (V (F := Ideal) m c main_v14 : S1024x1024.Idx → EReal) (((cfg0.win 7).blk t).view.emb (ix2 r j)) = _
  refine congrArg _ (funext fun a => Fin.ext ?_)
  match a with
  | ⟨0, _⟩ => show cc0_transform_7 (grid0.coords t) 0 * 1024 + 1 * r.val = r.val; rw [map7]; show 0 * 1024 + 1 * r.val = _; omega
  | ⟨1, _⟩ => show cc0_transform_7 (grid0.coords t) 1 * 1024 + 1 * j.val = j.val; rw [map7]; show 0 * 1024 + 1 * j.val = _; omega

/-- The block of window 8. -/
theorem block8 (t : Fin grid0.N) (r : Fin 1) (j : Fin 1024) :
    xb8 m c t (ix2 r j) = (V (F := Ideal) m c main_v16 : S1x1024.Idx → EReal) (ix2 r j) := by
  show (V (F := Ideal) m c main_v16 : S1x1024.Idx → EReal) (((cfg0.win 8).blk t).view.emb (ix2 r j)) = _
  refine congrArg _ (funext fun a => Fin.ext ?_)
  match a with
  | ⟨0, _⟩ => show cc0_transform_8 (grid0.coords t) 0 * 1 + 1 * r.val = r.val; rw [map8]; show 0 * 1 + 1 * r.val = _; omega
  | ⟨1, _⟩ => show cc0_transform_8 (grid0.coords t) 1 * 1024 + 1 * j.val = j.val; rw [map8]; show 0 * 1024 + 1 * j.val = _; omega

/-- The block of window 9. -/
theorem block9 (t : Fin grid0.N) (r : Fin 1024) (j : Fin 2816) :
    xb9 m c t (ix2 r j) = (V (F := Ideal) m c main_v18 : S1024x2816.Idx → EReal) (ix2 r j) := by
  show (V (F := Ideal) m c main_v18 : S1024x2816.Idx → EReal) (((cfg0.win 9).blk t).view.emb (ix2 r j)) = _
  refine congrArg _ (funext fun a => Fin.ext ?_)
  match a with
  | ⟨0, _⟩ => show cc0_transform_9 (grid0.coords t) 0 * 1024 + 1 * r.val = r.val; rw [map9]; show 0 * 1024 + 1 * r.val = _; omega
  | ⟨1, _⟩ => show cc0_transform_9 (grid0.coords t) 1 * 2816 + 1 * j.val = j.val; rw [map9]; show 0 * 2816 + 1 * j.val = _; omega

/-- The block of window 10. -/
theorem block10 (t : Fin grid0.N) (r : Fin 1024) (j : Fin 2816) :
    xb10 m c t (ix2 r j) = (V (F := Ideal) m c main_v20 : S1024x2816.Idx → EReal) (ix2 r j) := by
  show (V (F := Ideal) m c main_v20 : S1024x2816.Idx → EReal) (((cfg0.win 10).blk t).view.emb (ix2 r j)) = _
  refine congrArg _ (funext fun a => Fin.ext ?_)
  match a with
  | ⟨0, _⟩ => show cc0_transform_10 (grid0.coords t) 0 * 1024 + 1 * r.val = r.val; rw [map10]; show 0 * 1024 + 1 * r.val = _; omega
  | ⟨1, _⟩ => show cc0_transform_10 (grid0.coords t) 1 * 2816 + 1 * j.val = j.val; rw [map10]; show 0 * 2816 + 1 * j.val = _; omega

/-- The block of window 11. -/
theorem block11 (t : Fin grid0.N) (r : Fin 2816) (j : Fin 1024) :
    xb11 m c t (ix2 r j) = (V (F := Ideal) m c main_v22 : S2816x1024.Idx → EReal) (ix2 r j) := by
  show (V (F := Ideal) m c main_v22 : S2816x1024.Idx → EReal) (((cfg0.win 11).blk t).view.emb (ix2 r j)) = _
  refine congrArg _ (funext fun a => Fin.ext ?_)
  match a with
  | ⟨0, _⟩ => show cc0_transform_11 (grid0.coords t) 0 * 2816 + 1 * r.val = r.val; rw [map11]; show 0 * 2816 + 1 * r.val = _; omega
  | ⟨1, _⟩ => show cc0_transform_11 (grid0.coords t) 1 * 1024 + 1 * j.val = j.val; rw [map11]; show 0 * 1024 + 1 * j.val = _; omega

/-- The block of window 12. -/
theorem block12 (t : Fin grid0.N) (r : Fin 1) (j : Fin 1024) :
    xb12 m c t (ix2 r j) = (V (F := Ideal) m c main_v24 : S1x1024.Idx → EReal) (ix2 r j) := by
  show (V (F := Ideal) m c main_v24 : S1x1024.Idx → EReal) (((cfg0.win 12).blk t).view.emb (ix2 r j)) = _
  refine congrArg _ (funext fun a => Fin.ext ?_)
  match a with
  | ⟨0, _⟩ => show cc0_transform_12 (grid0.coords t) 0 * 1 + 1 * r.val = r.val; rw [map12]; show 0 * 1 + 1 * r.val = _; omega
  | ⟨1, _⟩ => show cc0_transform_12 (grid0.coords t) 1 * 1024 + 1 * j.val = j.val; rw [map12]; show 0 * 1024 + 1 * j.val = _; omega

/-- The block of window 13. -/
theorem block13 (t : Fin grid0.N) (r : Fin 1024) (j : Fin 1024) :
    xb13 m c t (ix2 r j) = (V (F := Ideal) m c main_v26 : S1024x1024.Idx → EReal) (ix2 r j) := by
  show (V (F := Ideal) m c main_v26 : S1024x1024.Idx → EReal) (((cfg0.win 13).blk t).view.emb (ix2 r j)) = _
  refine congrArg _ (funext fun a => Fin.ext ?_)
  match a with
  | ⟨0, _⟩ => show cc0_transform_13 (grid0.coords t) 0 * 1024 + 1 * r.val = r.val; rw [map13]; show 0 * 1024 + 1 * r.val = _; omega
  | ⟨1, _⟩ => show cc0_transform_13 (grid0.coords t) 1 * 1024 + 1 * j.val = j.val; rw [map13]; show 0 * 1024 + 1 * j.val = _; omega

/-- The block of window 14. -/
theorem block14 (t : Fin grid0.N) (r : Fin 256) (j : Fin 1024) :
    xb14 m c t (ix2 r j) = (V (F := Ideal) m c main_v28 : S256x1024.Idx → EReal) (ix2 r j) := by
  show (V (F := Ideal) m c main_v28 : S256x1024.Idx → EReal) (((cfg0.win 14).blk t).view.emb (ix2 r j)) = _
  refine congrArg _ (funext fun a => Fin.ext ?_)
  match a with
  | ⟨0, _⟩ => show cc0_transform_14 (grid0.coords t) 0 * 256 + 1 * r.val = r.val; rw [map14]; show 0 * 256 + 1 * r.val = _; omega
  | ⟨1, _⟩ => show cc0_transform_14 (grid0.coords t) 1 * 1024 + 1 * j.val = j.val; rw [map14]; show 0 * 1024 + 1 * j.val = _; omega

/-- The block of window 15. -/
theorem block15 (t : Fin grid0.N) (r : Fin 1) (j : Fin 1024) :
    xb15 m c t (ix2 r j) = (V (F := Ideal) m c main_v29 : S1x1024.Idx → EReal) (ix2 r j) := by
  show (V (F := Ideal) m c main_v29 : S1x1024.Idx → EReal) (((cfg0.win 15).blk t).view.emb (ix2 r j)) = _
  refine congrArg _ (funext fun a => Fin.ext ?_)
  match a with
  | ⟨0, _⟩ => show cc0_transform_15 (grid0.coords t) 0 * 1 + 1 * r.val = r.val; rw [map15]; show 0 * 1 + 1 * r.val = _; omega
  | ⟨1, _⟩ => show cc0_transform_15 (grid0.coords t) 1 * 1024 + 1 * j.val = j.val; rw [map15]; show 0 * 1024 + 1 * j.val = _; omega

/-- The input at a grid point, from the arguments. -/
theorem entry0 (t : Fin grid0.N) (r : Fin 512) (j : Fin 1024) : xb0 m c t (ix2 r j) = a0 m c (ix3 (bat t) (pos t r) j) :=
  (block0 m c t r j).trans ((congrFun (host0 m c) _).trans (rows (a0 m c) _ _ _ _ _ (row_val t r)))

/-- The attention output at a grid point, from the arguments. -/
theorem entry1 (t : Fin grid0.N) (r : Fin 512) (j : Fin 512) : xb1 m c t (ix2 r j) = a1 m c (ix3 (bat t) (pos t r) j) :=
  (block1 m c t r j).trans ((congrFun (host1 m c) _).trans (rows (a1 m c) _ _ _ _ _ (row_val t r)))

/-- The forward scan at a grid point, from the arguments. -/
theorem entry2 (t : Fin grid0.N) (r : Fin 512) (j : Fin 512) : xb2 m c t (ix2 r j) = a2 m c (ix3 (bat t) (pos t r) j) :=
  (block2 m c t r j).trans ((congrFun (host2 m c) _).trans (rows (a2 m c) _ _ _ _ _ (row_val t r)))

/-- The backward scan at a grid point, from the arguments. -/
theorem entry3 (t : Fin grid0.N) (r : Fin 512) (j : Fin 512) : xb3 m c t (ix2 r j) = a3 m c (ix3 (bat t) (pos t r) j) :=
  (block3 m c t r j).trans ((congrFun (host3 m c) _).trans (rows (a3 m c) _ _ _ _ _ (row_val t r)))

/-- The gate at a grid point, from the arguments. -/
theorem entry4 (t : Fin grid0.N) (r : Fin 512) (j : Fin 512) : xb4 m c t (ix2 r j) = a4 m c (ix3 (bat t) (pos t r) j) :=
  (block4 m c t r j).trans ((congrFun (host4 m c) _).trans (rows (a4 m c) _ _ _ _ _ (row_val t r)))

/-- The per-layer embedding at a grid point, from the arguments. -/
theorem entry5 (t : Fin grid0.N) (r : Fin 512) (j : Fin 256) : xb5 m c t (ix2 r j) = a5 m c (ix4 0 (bat t) (pos t r) j) :=
  (block5 m c t r j).trans ((congrFun (host5 m c) _).trans ((rows (shapeCast S8x8192x256 (a5 m c) shapeCasts_S1x8x8192x256_S8x8192x256) _ _ _ _ _ (row_val t r)).trans (drop_four (a5 m c) _ _ _ _)))

/-- The head gain at a grid point, from the arguments. -/
theorem entry6 (t : Fin grid0.N)  (j : Fin 128) : xb6 m c t (ix2 0 j) = a6 m c (ix2 0 j) :=
  (block6 m c t 0 j).trans ((congrFun (host6 m c) _).trans ((as_row (shapeCast S128 (a6 m c) shapeCasts_S1x128_S128) bcast_S128_S1x128_1 0 j).trans (of_row (a6 m c) _ j)))

/-- The out-projection at a grid point, from the arguments. -/
theorem entry7 (t : Fin grid0.N) (r : Fin 1024) (j : Fin 1024) : xb7 m c t (ix2 r j) = a7 m c (ix3 0 r j) :=
  (block7 m c t r j).trans ((congrFun (host7 m c) _).trans (At.drop1 (a7 m c) _ r j))

/-- The gain before the SwiGLU at a grid point, from the arguments. -/
theorem entry8 (t : Fin grid0.N)  (j : Fin 1024) : xb8 m c t (ix2 0 j) = a8 m c (ix2 0 j) :=
  (block8 m c t 0 j).trans ((congrFun (host8 m c) _).trans ((as_row (shapeCast S1024 (a8 m c) shapeCasts_S1x1024_S1024) bcast_S1024_S1x1024_1 0 j).trans (of_row (a8 m c) _ j)))

/-- The gate projection at a grid point, from the arguments. -/
theorem entry9 (t : Fin grid0.N) (r : Fin 1024) (j : Fin 2816) : xb9 m c t (ix2 r j) = a9 m c (ix3 0 r j) :=
  (block9 m c t r j).trans ((congrFun (host9 m c) _).trans (At.drop1 (a9 m c) _ r j))

/-- The up-projection at a grid point, from the arguments. -/
theorem entry10 (t : Fin grid0.N) (r : Fin 1024) (j : Fin 2816) : xb10 m c t (ix2 r j) = a10 m c (ix3 0 r j) :=
  (block10 m c t r j).trans ((congrFun (host10 m c) _).trans (At.drop1 (a10 m c) _ r j))

/-- The down-projection at a grid point, from the arguments. -/
theorem entry11 (t : Fin grid0.N) (r : Fin 2816) (j : Fin 1024) : xb11 m c t (ix2 r j) = a11 m c (ix3 0 r j) :=
  (block11 m c t r j).trans ((congrFun (host11 m c) _).trans (At.drop1 (a11 m c) _ r j))

/-- The gain before the per-layer embedding at a grid point, from the arguments. -/
theorem entry12 (t : Fin grid0.N)  (j : Fin 1024) : xb12 m c t (ix2 0 j) = a12 m c (ix2 0 j) :=
  (block12 m c t 0 j).trans ((congrFun (host12 m c) _).trans ((as_row (shapeCast S1024 (a12 m c) shapeCasts_S1x1024_S1024) bcast_S1024_S1x1024_1 0 j).trans (of_row (a12 m c) _ j)))

/-- The per-layer embedding's gate at a grid point, from the arguments. -/
theorem entry13 (t : Fin grid0.N) (r : Fin 1024) (j : Fin 1024) : xb13 m c t (ix2 r j) = a13 m c (ix3 0 r j) :=
  (block13 m c t r j).trans ((congrFun (host13 m c) _).trans (At.drop1 (a13 m c) _ r j))

/-- Its projection at a grid point, from the arguments. -/
theorem entry14 (t : Fin grid0.N) (r : Fin 256) (j : Fin 1024) : xb14 m c t (ix2 r j) = a14 m c (ix3 0 r j) :=
  (block14 m c t r j).trans ((congrFun (host14 m c) _).trans (At.drop1 (a14 m c) _ r j))

/-- The last gain at a grid point, from the arguments. -/
theorem entry15 (t : Fin grid0.N)  (j : Fin 1024) : xb15 m c t (ix2 0 j) = a15 m c (ix1 j) :=
  (block15 m c t 0 j).trans ((congrFun (host15 m c) _).trans (as_row (a15 m c) bcast_S1024_S1x1024_1 0 j))

/-! ## The result array -/

/-- The reference's result, as the contents of the result array. -/
abbrev result : S65536x1024.Idx → EReal := Cert.Reference2Ideal.Read.val_main_v87 (F := Ideal) (a0 m c) (a1 m c) (a2 m c) (a3 m c) (a4 m c) (a5 m c) (a6 m c) (a7 m c) (a8 m c) (a9 m c) (a10 m c) (a11 m c) (a12 m c) (a13 m c) (a14 m c) (a15 m c)

/-- What a grid point computes, entry by entry. -/
theorem outs_at (t : Fin grid0.N) (r : Fin 512) (j : Fin 1024) :
    out0_16 (F := Ideal) (xb0 m c t) (xb1 m c t) (xb2 m c t) (xb3 m c t) (xb4 m c t) (xb5 m c t) (xb6 m c t) (xb7 m c t) (xb8 m c t) (xb9 m c t) (xb10 m c t) (xb11 m c t) (xb12 m c t) (xb13 m c t) (xb14 m c t) (xb15 m c t) (ix2 r j) = result m c (ix2 (row t r) j) := by
  refine (Cert.PostBlock.out_at (xb0 m c t) (xb1 m c t) (xb2 m c t) (xb3 m c t) (xb4 m c t) (xb5 m c t) (xb6 m c t) (xb7 m c t) (xb8 m c t) (xb9 m c t) (xb10 m c t) (xb11 m c t) (xb12 m c t) (xb13 m c t) (xb14 m c t) (xb15 m c t) r j).trans ?_
  refine Eq.trans ?_ (Cert.PostRef.result_at (a0 m c) (a1 m c) (a2 m c) (a3 m c) (a4 m c) (a5 m c) (a6 m c) (a7 m c) (a8 m c) (a9 m c) (a10 m c) (a11 m c) (a12 m c) (a13 m c) (a14 m c) (a15 m c) (bat t) (pos t r) j (row t r) (row_val t r)).symm
  rw [show (fun k => xb0 m c t (ix2 r k)) = _ from funext fun k => entry0 m c t r k, show (fun k => xb1 m c t (ix2 r k)) = _ from funext fun k => entry1 m c t r k, show (fun k => xb4 m c t (ix2 r k)) = _ from funext fun k => entry4 m c t r k, show (fun k => xb5 m c t (ix2 r k)) = _ from funext fun k => entry5 m c t r k, show (fun k => xb6 m c t (ix2 0 k)) = _ from funext fun k => entry6 m c t k, show (fun i k => xb7 m c t (ix2 i k)) = _ from funext fun i => funext fun k => entry7 m c t i k, show (fun k => xb8 m c t (ix2 0 k)) = _ from funext fun k => entry8 m c t k, show (fun i k => xb9 m c t (ix2 i k)) = _ from funext fun i => funext fun k => entry9 m c t i k, show (fun i k => xb10 m c t (ix2 i k)) = _ from funext fun i => funext fun k => entry10 m c t i k, show (fun i k => xb11 m c t (ix2 i k)) = _ from funext fun i => funext fun k => entry11 m c t i k, show (fun k => xb12 m c t (ix2 0 k)) = _ from funext fun k => entry12 m c t k, show (fun i k => xb13 m c t (ix2 i k)) = _ from funext fun i => funext fun k => entry13 m c t i k, show (fun i k => xb14 m c t (ix2 i k)) = _ from funext fun i => funext fun k => entry14 m c t i k, show (fun k => xb15 m c t (ix2 0 k)) = _ from funext fun k => entry15 m c t k,
    show (fun k => (xb2 m c t (ix2 r k) + xb3 m c t (ix2 r k) : EReal)) = _ from funext fun k => congrArg₂ (· + ·) (entry2 m c t r k) (entry3 m c t r k)]

/-- What a grid point writes back is its block of the reference's result. -/
theorem flushed_eq (t : Fin grid0.N) : (dats m 0 c).flushed 16 t = ((cfg0.win 16).blk t).view.read (Elt Ideal) (result m c) := by
  show (cfg0.win 16).cut (grid0.coords t) ((dats m 0 c).after 16 t) = _
  rw [after0_16]
  refine funext fun (z : S512x1024.Idx) => ?_
  obtain ⟨r, j, rfl⟩ : ∃ (r : Fin 512) (j : Fin 1024), z = ix2 r j := ⟨z 0, z 1, eq_ix2 z⟩
  show out0_16 (F := Ideal) (xb0 m c t) (xb1 m c t) (xb2 m c t) (xb3 m c t) (xb4 m c t) (xb5 m c t) (xb6 m c t) (xb7 m c t) (xb8 m c t) (xb9 m c t) (xb10 m c t) (xb11 m c t) (xb12 m c t) (xb13 m c t) (xb14 m c t) (xb15 m c t) (ix2 r j) = result m c (((cfg0.win 16).blk t).view.emb (ix2 r j))
  rw [outs_at m c t r j]
  refine congrArg (result m c) ?_
  funext a
  apply Fin.ext
  match a with
  | ⟨0, _⟩ => show 512 * t.val + r.val = cc0_transform_16 (grid0.coords t) 0 * 512 + 1 * r.val; rw [map16]; show _ = t.val * 512 + 1 * r.val; omega
  | ⟨1, _⟩ => show j.val = cc0_transform_16 (grid0.coords t) 1 * 1024 + 1 * j.val; rw [map16]; show _ = 0 * 1024 + 1 * j.val; omega

/-- Where a box of the result array lies. -/
theorem mem_box (off size : Fin 2 → ℕ) (inb) (i : main_v30.ty.Idx) (h : ∀ a, off a ≤ (i a).val ∧ (i a).val < off a + size a) :
    i ∈ ((View.whole main_v30).slice (Rect.unit (s := main_v30.ty.shape) off size inb)).set := by
  rw [View.set_slice_whole, Rect.mem_set_unit]
  exact h

/-- After the run the result array is the reference's result. -/
theorem final : (dats m 0 c).arrAt 16 cfg0.N = result m c :=
  (dats m 0 c).arrAt_eq_of_cover 16 (result m c) (fun t _ => flushed_eq m c t) fun (i : S65536x1024.Idx) => by
    have h0 : (i 0 : Nat) < 65536 := (i 0).isLt
    have h1 : (i 1 : Nat) < 1024 := (i 1).isLt
    have e : grid0.N = 128 := N_0
    obtain ⟨t, ht⟩ : ∃ t : Fin grid0.N, t.val = (i 0 : Nat) / 512 := ⟨⟨(i 0 : Nat) / 512, by omega⟩, rfl⟩
    refine ⟨t, flush0_16 _, ?_⟩
    refine mem_box _ _ _ i fun a => ?_
    match a with
    | ⟨0, _⟩ =>
      show cc0_transform_16 (grid0.coords t) 0 * 512 ≤ (i 0 : Nat) ∧ (i 0 : Nat) < cc0_transform_16 (grid0.coords t) 0 * 512 + 512
      rw [map16]
      show t.val * 512 ≤ (i 0 : Nat) ∧ (i 0 : Nat) < t.val * 512 + 512
      omega
    | ⟨1, _⟩ =>
      show cc0_transform_16 (grid0.coords t) 1 * 1024 ≤ (i 1 : Nat) ∧ (i 1 : Nat) < cc0_transform_16 (grid0.coords t) 1 * 1024 + 1024
      rw [map16]
      show 0 * 1024 ≤ (i 1 : Nat) ∧ (i 1 : Nat) < 0 * 1024 + 1024
      omega

end Cert.PostValue

end
-- ==== Proof.PostClaim.lean ====
/-
  The claims about the call after the token mixers: it runs and keeps its arguments, and so does the reference,
  and it ends with what the reference ends with, whatever the arguments.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.PostValue
public import Idealize.ShloMosaic.Lib.Claim

@[expose] public section

noncomputable section

namespace Cert.PostClaim

open Idealize.ShloMosaic Idealize.ShloMosaic.TcCoe Idealize.SL.Sem

/-- The call's frame. -/
theorem frame_k : Cert.quiescent_Kernel2 (hKernel2 := Cert.Kernel2.Gen.facts) := fun m ρ _ => Cert.Kernel2.Gen.frame m ρ
/-- The frame of its idealization. -/
theorem frame_ki : Cert.quiescent_Kernel2Ideal (hKernel2Ideal := Cert.Kernel2Ideal.Gen.facts) := fun m ρ _ => Cert.Kernel2Ideal.Gen.frame m ρ
/-- The reference's frame. -/
theorem frame_r : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run (F := Ideal) m ρ)

/-- The call's run, read: the result array at the reference's result, the arguments as launched. -/
theorem run_value (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ (fun r => ∀ c : Dev Cert.Kernel2Ideal.nD,
      r.2.mem ((c.tc : Thread Cert.Kernel2Ideal.nD Cert.Kernel2Ideal.τ).loc Cert.Kernel2Ideal.main_v30) = Cert.PostValue.result m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)) := by
  refine (θ_run Cert.Kernel2Ideal.defs _ _).mono (fun _ hr c => ⟨?_, hr.1 c⟩) (θ_run_and (Cert.Kernel2Ideal.Gen.unchanged m ρ) (Cert.Kernel2Ideal.Gen.run_main m ρ))
  exact ((hr.2 c).1 16).trans (Cert.PostValue.final m c)

/-- The call after the token mixers and the reference end with equal results. -/
theorem value : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.PostValue.result m c, run_value m ρ, ?_⟩
  refine (θ_run Cert.Reference2Ideal.defs _ _).mono (fun r h c => ⟨?_, (h c).2⟩) (Cert.Reference2Ideal.Value.run (F := Ideal) m' ρ')
  refine (h c).1.trans ((Cert.Reference2Ideal.Read.val_main_v87_eq (F := Ideal) (StableHlo.launchContents m' c)).trans ?_)
  obtain ⟨h0, h1, h2, h3, h4, h5, h6, h7, h8, h9, h10, h11, h12, h13, h14, h15⟩ := hagree c
  show Cert.Reference2Ideal.Read.val_main_v87 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) = _
  rw [h0, h1, h2, h3, h4, h5, h6, h7, h8, h9, h10, h11, h12, h13, h14, h15]

end Cert.PostClaim

end
-- ==== Proof.InSpec.lean ====
/-
  One token's row of the in-projection as functions of its row: the norm, the product, and for a head of queries or keys the
  norm of the head and the rotation of its lanes by the angles of the token's row and column. And the same rotation as it is
  taken for two heads side by side.
-/
module

public import proofs.«01_k».proof.Proof.PostSpec

@[expose] public section

noncomputable section

namespace Cert.In

open Idealize.ShloMosaic Idealize.ShloMosaic.ValueIdx Cert.Post
open scoped BigOperators

/-- The word of 64. -/
abbrev n64 : EReal := Ideal.ofBits .f32 0x42800000#32
/-- The word of one sixty-fourth. -/
abbrev i64 : EReal := Ideal.ofBits .f32 0x3C800000#32

/-- A head's lanes rotated in pairs sixteen apart. -/
def turn (cs sn : Fin 64 → EReal) (f : Fin 64 → EReal) (d : Fin 64) : EReal :=
  if d.val % 32 < 16 then f d * cs d - f ⟨(d.val + 16) % 64, Nat.mod_lt _ (by decide)⟩ * sn d
  else f d * cs d + f ⟨(d.val + 48) % 64, Nat.mod_lt _ (by decide)⟩ * sn d

/-- A head normed and rotated. -/
def head (cs sn : Fin 64 → EReal) (f g : Fin 64 → EReal) : Fin 64 → EReal := turn cs sn (rms n64 f g)

/-- The table of a head: the first half of the lanes by the row, the second by the column. -/
def axial (r c : Fin 16 → EReal) (d : Fin 64) : EReal :=
  if d.val < 32 then r ⟨d.val % 16, Nat.mod_lt _ (by decide)⟩ else c ⟨d.val % 16, Nat.mod_lt _ (by decide)⟩

/-- A token's row of the in-projection. -/
def proj {N : ℕ} (x g : Fin 1024 → EReal) (w : Fin 1024 → Fin N → EReal) : Fin N → EReal := mat (rms n1024 x g) w

/-- The word of 64 is 64. -/
theorem n64_eq : n64 = ((64 : ℝ) : EReal) := by
  simp [n64, Ideal.ofBits, Ideal.ieee]
  rw [← EReal.coe_mul]
  norm_num

/-- The word of one sixty-fourth is one sixty-fourth. -/
theorem i64_eq : i64 = ((1 / 64 : ℝ) : EReal) := by
  simp [i64, Ideal.ofBits, Ideal.ieee]
  norm_num
  rw [← EReal.coe_mul]
  norm_num

/-- A division by 64 is a product with one sixty-fourth. -/
theorem div64 (x : EReal) : Ideal.div x n64 = x * i64 := by
  rw [n64_eq, i64_eq, Ideal.div_coe (by norm_num)]

/-- Two heads side by side. -/
def lanes : Fin 2 × Fin 64 ≃ Fin 128 where
  toFun p := ⟨64 * p.1.val + p.2.val, by omega⟩
  invFun t := (⟨t.val / 64, by omega⟩, ⟨t.val % 64, Nat.mod_lt _ (by decide)⟩)
  left_inv p := by
    refine Prod.ext (Fin.ext ?_) (Fin.ext ?_)
    · show (64 * p.1.val + p.2.val) / 64 = p.1.val
      omega
    · show (64 * p.1.val + p.2.val) % 64 = p.2.val
      omega
  right_inv t := Fin.ext (by
    show 64 * (t.val / 64) + t.val % 64 = t.val
    omega)

/-- Head `h` of a pair. -/
abbrev half {α : Type} (f : Fin 128 → α) (h : Fin 2) (k : Fin 64) : α := f ⟨64 * h.val + k.val, by omega⟩

/-- A sum over a pair of heads with the second left out. -/
theorem sum_first (y : Fin 128 → EReal) : ∑ k : Fin 128, (if k.val < 64 then y k else 0) = ∑ k : Fin 64, half y 0 k := by
  rw [← Equiv.sum_comp lanes, Fintype.sum_prod_type, Fin.sum_univ_two]
  refine (congrArg₂ (· + ·) (Finset.sum_congr rfl fun k _ => if_pos (by show 64 * 0 + k.val < 64; omega))
    (Finset.sum_eq_zero fun k _ => if_neg (by show ¬64 * 1 + k.val < 64; omega))).trans (add_zero _)

/-- A sum over a pair of heads with the first left out. -/
theorem sum_second (y : Fin 128 → EReal) : ∑ k : Fin 128, (if k.val < 64 then 0 else y k) = ∑ k : Fin 64, half y 1 k := by
  rw [← Equiv.sum_comp lanes, Fintype.sum_prod_type, Fin.sum_univ_two]
  refine (congrArg₂ (· + ·) (Finset.sum_eq_zero fun k _ => if_pos (by show 64 * 0 + k.val < 64; omega))
    (Finset.sum_congr rfl fun k _ => if_neg (by show ¬64 * 1 + k.val < 64; omega))).trans (zero_add _)

/-- A pair of heads normed, each by its own lanes. -/
def norm2 (t g : Fin 128 → EReal) (l : Fin 128) : EReal :=
  t l * (if l.val < 64 then Ideal.rsqrt ((∑ k : Fin 128, if k.val < 64 then t k * t k else 0) * i64 + eps)
    else Ideal.rsqrt ((∑ k : Fin 128, if k.val < 64 then 0 else t k * t k) * i64 + eps)) * g l

/-- A pair normed is each head normed. -/
theorem norm2_eq (t g : Fin 128 → EReal) (g' : Fin 64 → EReal) (hg : ∀ h k, half g h k = g' k) (h : Fin 2) (d : Fin 64) :
    half (norm2 t g) h d = rms n64 (half t h) g' d := by
  have e := hg h d
  unfold half at e
  unfold norm2 rms half
  beta_reduce
  rw [sum_first, sum_second, div64, e]
  match h with
  | 0 => rw [if_pos (by show 64 * 0 + d.val < 64; omega)]
  | 1 => rw [if_neg (by show ¬64 * 1 + d.val < 64; omega)]

/-- A pair of heads normed and rotated, with signed tables. -/
def pair (cT sT t g : Fin 128 → EReal) (l : Fin 128) : EReal :=
  norm2 t g l * cT l + (if l.val % 32 < 16 then norm2 t g ⟨(l.val + 16) % 128, Nat.mod_lt _ (by decide)⟩ else norm2 t g ⟨(l.val + 112) % 128, Nat.mod_lt _ (by decide)⟩) * sT l

/-- A pair rotated is each head rotated. -/
theorem pair_eq (cT sT t g : Fin 128 → EReal) (cs sn g' : Fin 64 → EReal) (hg : ∀ h k, half g h k = g' k) (hc : ∀ h k, half cT h k = cs k)
    (hs : ∀ h k, half sT h k = if k.val % 32 < 16 then -sn k else sn k) (h : Fin 2) (d : Fin 64) :
    half (pair cT sT t g) h d = head cs sn (half t h) g' d := by
  have hd := d.isLt
  have hh := h.isLt
  have n := norm2_eq t g g' hg h
  have e1 := hc h d
  have e2 := hs h d
  unfold pair head turn half
  unfold half at e1 e2 n
  beta_reduce
  rw [e1, e2, n d]
  by_cases c : d.val % 32 < 16
  · rw [if_pos (show (64 * h.val + d.val) % 32 < 16 by omega), if_pos c, if_pos c,
      show (⟨(64 * h.val + d.val + 16) % 128, Nat.mod_lt _ (by decide)⟩ : Fin 128) = ⟨64 * h.val + (⟨(d.val + 16) % 64, Nat.mod_lt _ (by decide)⟩ : Fin 64).val, by omega⟩ from
        Fin.ext (by show (64 * h.val + d.val + 16) % 128 = 64 * h.val + (d.val + 16) % 64; omega), n, mul_neg, ← sub_eq_add_neg]
  · rw [if_neg (show ¬(64 * h.val + d.val) % 32 < 16 by omega), if_neg c, if_neg c,
      show (⟨(64 * h.val + d.val + 112) % 128, Nat.mod_lt _ (by decide)⟩ : Fin 128) = ⟨64 * h.val + (⟨(d.val + 48) % 64, Nat.mod_lt _ (by decide)⟩ : Fin 64).val, by omega⟩ from
        Fin.ext (by show (64 * h.val + d.val + 112) % 128 = 64 * h.val + (d.val + 48) % 64; omega), n]

end Cert.In

end
-- ==== Proof.InBlock.lean ====
/-
  What the in-projection computes for a block of 512 tokens, entry by entry: the mathematics of one token's row. The weights
  come in one array of 2944 columns, of which the bands are taken one after the other; the heads of queries and keys are
  taken two at a time.
-/
module

public import proofs.«01_k».proof.Proof.InSpec
public import proofs.«01_k».proof.Proof.Gen.Kernel3Ideal.Frame
public import Idealize.ShloMosaic.Lib.KernelVsHost

@[expose] public section

set_option maxRecDepth 16384

noncomputable section

namespace Cert.InBlock

open Cert.Kernel3Ideal Cert.Kernel3Ideal.Gen Cert.Post Cert.In
open Idealize.ShloMosaic Idealize.ShloMosaic.TcCoe Idealize.ShloMosaic.ValueIdx
open scoped BigOperators

/-! ## The masks of the lanes -/

/-- The lanes' numbers. -/
abbrev laneF : IVec S512x128 32 := iota .tc S512x128 32 [1] iota_S512x128_d1_w32

/-- A lane's number. -/
theorem lane_at (r : Fin 512) (l : Fin 128) : laneF (ix2 r l) = BitVec.ofNat 32 l.val :=
  iota_single_apply .tc S512x128 32 1 iota_S512x128_d1_w32 (ix2 r l)

/-- The lanes of the first head. -/
theorem first_at (r : Fin 512) (l : Fin 128) : k0_pay11 laneF 64#32 (ix2 r l) = if l.val < 64 then 1#1 else 0#1 := by
  show IntOp.cmpi .slt (laneF (ix2 r l)) 64#32 = _
  rw [lane_at]
  revert l
  decide +kernel

/-- A remainder by 32 compared with 16, as the body takes it. -/
def lowW (w : BitVec 32) : BitVec 1 :=
  IntOp.cmpi .slt (Scalar.select (IntOp.andi (IntOp.xori (IntOp.cmpi .slt (IntOp.remsi .vector w (Scalar.select (Scalar.cmpi .eq 32#32 0#32) 1#32 32#32)) 0#32)
      (Scalar.cmpi .slt (Scalar.select (Scalar.cmpi .eq 32#32 0#32) 1#32 32#32) 0#32))
    (IntOp.cmpi .ne (IntOp.remsi .vector w (Scalar.select (Scalar.cmpi .eq 32#32 0#32) 1#32 32#32)) 0#32))
    (IntOp.addi (IntOp.remsi .vector w (Scalar.select (Scalar.cmpi .eq 32#32 0#32) 1#32 32#32)) (Scalar.select (Scalar.cmpi .eq 32#32 0#32) 1#32 32#32))
    (IntOp.remsi .vector w (Scalar.select (Scalar.cmpi .eq 32#32 0#32) 1#32 32#32))) 16#32

/-- The lower sixteen of each thirty-two lanes. -/
theorem low_at (r : Fin 512) (l : Fin 128) : k0_pay10 (ix2 r l) = if l.val % 32 < 16 then 1#1 else 0#1 := by
  show lowW (laneF (ix2 r l)) = _
  rw [lane_at]
  revert l
  decide +kernel

/-! ## Two heads -/

/-- A product with itself. -/
abbrev sqF (t : FVec Ideal S512x128 .f32) : FVec Ideal S512x128 .f32 := mulf t t
/-- Zeros. -/
abbrev zF : FVec Ideal S512x128 .f32 := broadcast S512x128 (Scalar.ofBits (F := Ideal) .f32 0x00000000#32)

/-- The inverse norm of rows of squares. -/
def invF (s : FVec Ideal S512x128 .f32) : FVec Ideal S512x128 .f32 :=
  broadcastTo S512x128 (shapeCast S512x1 (rsqrt (addf (mulf (shapeCast S512x1 (multiReduction .add [1] S512 s 0x00000000#32 reduces_S512x128_S512 (.inl rfl) rfl) shapeCasts_S512_S512x1)
    (broadcast S512x1 (Scalar.ofBits (F := Ideal) .f32 0x3C800000#32))) (broadcast S512x1 (Scalar.ofBits (F := Ideal) .f32 0x358637BD#32)))) shapeCasts_S512x1_S512x1) broadcasts_S512x1_S512x128

/-- It at an entry. -/
theorem invF_at (s : FVec Ideal S512x128 .f32) (r : Fin 512) (l : Fin 128) :
    invF s (ix2 r l) = Ideal.rsqrt ((∑ k : Fin 128, s (ix2 r k)) * i64 + eps) := by
  unfold invF
  rw [At.bcast_col, shapeCast_self]
  exact congrArg (fun y => Ideal.rsqrt (y * i64 + eps)) ((At.col1 _ _ r 0).trans (At.rowSum s _ _ _ _ r))

/-- Two heads normed, as the body computes it. -/
def normF (f : IVec S512x128 1) (t : FVec Ideal S512x128 .f32) (g : FVec Ideal S1x128 .f32) : FVec Ideal S512x128 .f32 :=
  mulf (mulf t (select f (invF (select f (sqF t) zF)) (invF (select f zF (sqF t))))) (broadcastTo S512x128 g broadcasts_S1x128_S512x128)

/-- A selection by the first head's lanes. -/
theorem sel_first (x y : FVec Ideal S512x128 .f32) (r : Fin 512) (l : Fin 128) :
    select (k0_pay11 laneF 64#32) x y (ix2 r l) = if l.val < 64 then x (ix2 r l) else y (ix2 r l) := by
  show Scalar.select (k0_pay11 laneF 64#32 (ix2 r l)) (x (ix2 r l)) (y (ix2 r l)) = _
  rw [first_at]
  by_cases h : l.val < 64
  · rw [if_pos h, if_pos h]; rfl
  · rw [if_neg h, if_neg h]; rfl

/-- A selection by the lower lanes. -/
theorem sel_low (x y : FVec Ideal S512x128 .f32) (r : Fin 512) (l : Fin 128) :
    select k0_pay10 x y (ix2 r l) = if l.val % 32 < 16 then x (ix2 r l) else y (ix2 r l) := by
  show Scalar.select (k0_pay10 (ix2 r l)) (x (ix2 r l)) (y (ix2 r l)) = _
  rw [low_at]
  by_cases h : l.val % 32 < 16
  · rw [if_pos h, if_pos h]; rfl
  · rw [if_neg h, if_neg h]; rfl

/-- A zero. -/
theorem zF_at (i : S512x128.Idx) : zF i = 0 := Ideal.ofBits_zero_f32

/-- Two heads normed, at an entry. -/
theorem normF_at (t : FVec Ideal S512x128 .f32) (g : FVec Ideal S1x128 .f32) (r : Fin 512) (l : Fin 128) :
    normF (k0_pay11 laneF 64#32) t g (ix2 r l) = norm2 (fun k => t (ix2 r k)) (fun k => g (ix2 0 k)) l := by
  unfold normF
  rw [mulf_apply, mulf_apply, At.bcast_row, sel_first, invF_at, invF_at]
  unfold norm2
  refine congrArg₂ (fun a b => t (ix2 r l) * (if l.val < 64 then Ideal.rsqrt (a * i64 + eps) else Ideal.rsqrt (b * i64 + eps)) * g (ix2 0 l)) ?_ ?_
  · refine Finset.sum_congr rfl fun k _ => (sel_first _ _ r k).trans ?_
    rw [zF_at]; rfl
  · refine Finset.sum_congr rfl fun k _ => (sel_first _ _ r k).trans ?_
    rw [zF_at]; rfl

/-- Lanes turned round by `n`. -/
theorem turn_at (n : BitVec 32) (m : ℕ) (hm : m + n.toNat = 128) (hn : 0 < n.toNat) (x : FVec Ideal S512x128 .f32) (r : Fin 512) (l : Fin 128) :
    dynamicRotate 1 n none x rotates_S512x128_d1 (ix2 r l) = x (ix2 r ⟨(l.val + m) % 128, Nat.mod_lt _ (by decide)⟩) := by
  refine dynamicRotate_apply 1 n x _ _ _ fun b => ?_
  match b with
  | ⟨0, _⟩ => rfl
  | ⟨1, _⟩ =>
    show (l.val + m) % 128 = (l.val + 128 - n.toNat % 128) % 128
    by_cases h : m = 0
    · rw [show n.toNat = 128 by omega, h]; omega
    · rw [Nat.mod_eq_of_lt (show n.toNat < 128 by omega), show l.val + 128 - n.toNat = l.val + m by omega]

/-- Two heads normed and rotated, as the body computes it. -/
def ropeF (c s : FVec Ideal S512x128 .f32) (lo f : IVec S512x128 1) (t : FVec Ideal S512x128 .f32) (g : FVec Ideal S1x128 .f32) : FVec Ideal S512x128 .f32 :=
  addf (mulf (normF f t g) c) (mulf (select lo (dynamicRotate 1 112#32 none (normF f t g) rotates_S512x128_d1) (dynamicRotate 1 16#32 none (normF f t g) rotates_S512x128_d1)) s)

/-- Two heads normed and rotated, at an entry. -/
theorem ropeF_at (c s t : FVec Ideal S512x128 .f32) (g : FVec Ideal S1x128 .f32) (r : Fin 512) (l : Fin 128) :
    ropeF c s k0_pay10 (k0_pay11 laneF 64#32) t g (ix2 r l)
      = pair (fun k => c (ix2 r k)) (fun k => s (ix2 r k)) (fun k => t (ix2 r k)) (fun k => g (ix2 0 k)) l := by
  unfold ropeF pair
  rw [addf_apply, mulf_apply, mulf_apply, sel_low, turn_at 112#32 16 rfl (by decide), turn_at 16#32 112 rfl (by decide), normF_at, normF_at, normF_at]

/-- The queries' scale. -/
abbrev scale : EReal := Named.named (F := Ideal) Cert.Kernel3Ideal.κ "q_scale" (φ := .f32) 0x3E38AA3B#32

/-- Two heads of queries. -/
def qF (c s : FVec Ideal S512x128 .f32) (lo f : IVec S512x128 1) (t : FVec Ideal S512x128 .f32) (g : FVec Ideal S1x128 .f32) : FVec Ideal S512x128 .bf16 :=
  truncf .bf16 (mulf (ropeF c s lo f t g) (broadcast S512x128 scale)) bitsLt_bf16_f32

variable (v16 : FVec Ideal S512x1024 .bf16) (c s : FVec Ideal S512x128 .f32) (lo f : IVec S512x128 1) (p : FVec Ideal S512x512 .f32) (t : FVec Ideal S512x128 .f32) (g : Vec Ideal S1x128 .f32)

/-- The first two heads of queries. -/
theorem pay13_eq (w : Vec Ideal S1024x512 .bf16) (ln : IVec S512x128 32) (n : BitVec 32) : k0_pay13 (F := Ideal) v16 c s ln lo n w g
    = qF c s lo (k0_pay11 ln n) (extractStridedSlice S512x128 ![0, 0] (k0_pay12 (F := Ideal) v16 w) slices_S512x512_o0_0_S512x128) (shapeCast S1x128 g shapeCasts_S1x128_S1x128) := rfl
/-- The second two heads of queries. -/
theorem pay14_eq : k0_pay14 (F := Ideal) c s lo f p g = qF c s lo f (extractStridedSlice S512x128 ![0, 128] p slices_S512x512_o0_128_S512x128) (shapeCast S1x128 g shapeCasts_S1x128_S1x128) := rfl
/-- The third two heads of queries. -/
theorem pay15_eq : k0_pay15 (F := Ideal) c s lo f p g = qF c s lo f (extractStridedSlice S512x128 ![0, 256] p slices_S512x512_o0_256_S512x128) (shapeCast S1x128 g shapeCasts_S1x128_S1x128) := rfl
/-- The fourth two heads of queries. -/
theorem pay17_eq : k0_pay17 (F := Ideal) c s lo f (k0_pay16 (F := Ideal) p) g = qF c s lo f (extractStridedSlice S512x128 ![0, 384] p slices_S512x512_o0_384_S512x128) (shapeCast S1x128 g shapeCasts_S1x128_S1x128) := rfl
/-- The two heads of keys. -/
theorem pay20_eq : k0_pay20 (F := Ideal) c s lo f t g = truncf .bf16 (ropeF c s lo f t (shapeCast S1x128 g shapeCasts_S1x128_S1x128)) bitsLt_bf16_f32 := rfl

/-- A block's norm, as the body computes it. -/
def rowsF (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))) broadcasts_S512x1_S512x1024))
      (broadcastTo S512x1024 g broadcasts_S1x1024_S512x1024)

/-- A block's norm. -/
theorem pay7_eq (x : Vec Ideal S512x1024 .f32) (g : Vec Ideal S1x1024 .f32) : k0_pay7 (F := Ideal) x g
    = truncf .bf16 (rowsF (shapeCast S512x1024 x shapeCasts_S512x1024_S512x1024) (shapeCast S1x1024 g shapeCasts_S1x1024_S1x1024)) bitsLt_bf16_f32 := rfl

/-- A load of a whole block reads it. -/
theorem ld_all {a b : ℕ} {e : EltTy} (x : Vec Ideal ⟨2, ![a, b]⟩ e) (inb) :
    View.ld x (Rect.unit (s := ⟨2, ![a, b]⟩) ![0, 0] (⟨2, ![a, b]⟩ : Shape).size inb) = x :=
  View.ld_unit_zero (funext fun z => by match z with | ⟨0, _⟩ => rfl | ⟨1, _⟩ => rfl) inb x

/-! ## The block -/

variable (x0 : Vec Ideal S512x1024 .f32) (x1 : Vec Ideal S1x1024 .f32) (x2 : Vec Ideal S1024x2944 .bf16) (x3 x4 : Vec Ideal S512x128 .f32) (x5 x6 : Vec Ideal S1x128 .f32)

/-- A row of the block's projection onto all the columns. -/
abbrev wide (r : Fin 512) : Fin 2944 → EReal := proj (fun k => x0 (ix2 r k)) (fun k => x1 (ix2 0 k)) (fun i k => x2 (ix2 i k))

/-- The normed block at an entry. -/
theorem pay25_at (r : Fin 512) (k : Fin 1024) : k0_pay25 (F := Ideal) x0 x1 x2 x3 x4 x5 x6 (ix2 r k) = rms n1024 (fun k => x0 (ix2 r k)) (fun k => x1 (ix2 0 k)) k := by
  unfold k0_pay25
  rw [ld_all x0, ld_all x1, pay7_eq, shapeCast_self x0, shapeCast_self x1]
  exact rms_at 0x44800000#32 x0 x1 reduces_S512x1024_S512 shapeCasts_S512_S512x1 broadcasts_S512x1_S512x1024 broadcasts_S1x1024_S512x1024 r k

/-- A band of the projection. -/
theorem band_at {n : ℕ} (o : ℕ) (D : DotDims ⟨2, ![512, 1024]⟩ ⟨2, ![1024, n]⟩ ⟨2, ![512, n]⟩) (hD : D = DotDims.plain 512 1024 n)
    (inb : ∀ a, (![0, o] : Fin 2 → ℕ) a + (⟨2, ![1024, n]⟩ : Shape).size a ≤ S1024x2944.size a) (hc : (⟨2, ![1024, n]⟩ : Shape).ShapeCasts ⟨2, ![1024, n]⟩)
    (r : Fin 512) (j : Fin n) (q : Fin 2944) (hq : q.val = o + j.val) :
    matmul D none (k0_pay25 (F := Ideal) x0 x1 x2 x3 x4 x5 x6 : FVec Ideal ⟨2, ![512, 1024]⟩ .bf16)
        (shapeCast ⟨2, ![1024, n]⟩ (View.ld x2 (Rect.unit (s := S1024x2944) ![0, o] (⟨2, ![1024, n]⟩ : Shape).size inb)) hc : FVec Ideal ⟨2, ![1024, n]⟩ .bf16) (constant ⟨2, ![512, n]⟩ .f32 0x00000000#32) (ix2 r j)
      = wide x0 x1 x2 r q := by
  have e : ∀ k : Fin 1024, shapeCast ⟨2, ![1024, n]⟩ (View.ld x2 (Rect.unit (s := S1024x2944) ![0, o] (⟨2, ![1024, n]⟩ : Shape).size inb)) hc (ix2 k j) = x2 (ix2 k q) := fun k => by
    refine (congrFun (shapeCast_self _ hc) (ix2 k j)).trans ?_
    exact View.ld_unit_apply_of x2 _ _ inb _ _ fun a => by
      match a with
      | ⟨0, _⟩ => show k.val = 0 + k.val; omega
      | ⟨1, _⟩ => exact hq
  refine Eq.trans (b := ∑ k : Fin 1024, rms n1024 (fun k => x0 (ix2 r k)) (fun k => x1 (ix2 0 k)) k * x2 (ix2 k q)) ?_ rfl
  exact (mat_at D hD _ _ r j).trans (Finset.sum_congr rfl fun k _ => congrArg₂ (· * ·) (pay25_at x0 x1 x2 x3 x4 x5 x6 r k) (e k))

/-- The band of the queries. -/
theorem pay30_at (r : Fin 512) (j : Fin 512) (q : Fin 2944) (hq : q.val = 0 + j.val) : k0_pay30 (F := Ideal) x0 x1 x2 x3 x4 x5 x6 (ix2 r j) = wide x0 x1 x2 r q :=
  band_at x0 x1 x2 x3 x4 x5 x6 0 dot_S512x1024_S1024x512_S512x512_1_0_0_1_n_n rfl inb_S1024x2944_S1024x512_0_0 shapeCasts_S1024x512_S1024x512 r j q hq
/-- The band of the keys and values. -/
theorem pay31_at (r : Fin 512) (j : Fin 256) (q : Fin 2944) (hq : q.val = 512 + j.val) : k0_pay31 (F := Ideal) x0 x1 x2 x3 x4 x5 x6 (ix2 r j) = wide x0 x1 x2 r q :=
  band_at x0 x1 x2 x3 x4 x5 x6 512 dot_S512x1024_S1024x256_S512x256_1_0_0_1_n_n rfl inb_S1024x2944_S1024x256_0_512 shapeCasts_S1024x256_S1024x256 r j q hq
/-- The band of the DeltaNet's queries, keys and values. -/
theorem pay3_at (r : Fin 512) (j : Fin 1536) (q : Fin 2944) (hq : q.val = 768 + j.val) : k0_pay3 (F := Ideal) (k0_pay25 (F := Ideal) x0 x1 x2 x3 x4 x5 x6) (View.ld x2 r0_11) (ix2 r j) = wide x0 x1 x2 r q :=
  band_at x0 x1 x2 x3 x4 x5 x6 768 dot_S512x1024_S1024x1536_S512x1536_1_0_0_1_n_n rfl inb_S1024x2944_S1024x1536_0_768 shapeCasts_S1024x1536_S1024x1536 r j q hq
/-- The last band. -/
theorem pay4_at (r : Fin 512) (j : Fin 640) (q : Fin 2944) (hq : q.val = 2304 + j.val) : k0_pay4 (F := Ideal) (k0_pay25 (F := Ideal) x0 x1 x2 x3 x4 x5 x6) (View.ld x2 r0_13) (ix2 r j) = wide x0 x1 x2 r q :=
  band_at x0 x1 x2 x3 x4 x5 x6 2304 dot_S512x1024_S1024x640_S512x640_1_0_0_1_n_n rfl inb_S1024x2944_S1024x640_0_2304 shapeCasts_S1024x640_S1024x640 r j q hq

/-- The masks and tables of the block. -/
theorem tabs : k0_pay24 (F := Ideal) x0 x1 x2 x3 x4 x5 x6 = laneF ∧ k0_pay26 (F := Ideal) x0 x1 x2 x3 x4 x5 x6 = x3 ∧ k0_pay27 (F := Ideal) x0 x1 x2 x3 x4 x5 x6 = x4 ∧ k0_pay28 (F := Ideal) x0 x1 x2 x3 x4 x5 x6 = k0_pay10
    ∧ k0_pay29 (F := Ideal) x0 x1 x2 x3 x4 x5 x6 = k0_pay11 laneF 64#32 := by
  refine ⟨rfl, ?_, ?_, rfl, rfl⟩
  · unfold k0_pay26
    rw [ld_all x3]
    exact shapeCast_self x3 _
  · unfold k0_pay27
    rw [ld_all x4]
    exact shapeCast_self x4 _

/-- Two heads of the block normed and rotated. -/
abbrev two (gn : Fin 128 → EReal) (o : ℕ) (ho : o + 128 ≤ 2944) (r : Fin 512) (l : Fin 128) : EReal :=
  pair (fun k => x3 (ix2 r k)) (fun k => x4 (ix2 r k)) (fun k => wide x0 x1 x2 r ⟨o + k.val, by omega⟩) gn l

/-- A block of queries. -/
def qBlock (y : S512x512.Idx) : EReal :=
  two x0 x1 x2 x3 x4 (fun k => x5 (ix2 0 k)) (128 * ((y 1).val / 128)) (by have : (y 1).val < 512 := (y 1).isLt; omega) (y 0) ⟨(y 1).val % 128, Nat.mod_lt _ (by decide)⟩ * scale

/-- Two heads of queries of the block are where they are stored. -/
theorem q_at (o : ℕ) (h : o = 128 * (o / 128)) (ho : o + 128 ≤ 512) (hs : S512x512.Slices ![0, o] S512x128) (inb : ∀ a, (![0, o] : Fin 2 → ℕ) a + S512x128.size a ≤ S512x512.size a) (x : S512x128.Idx) :
    qF x3 x4 k0_pay10 (k0_pay11 laneF 64#32) (extractStridedSlice S512x128 ![0, o] (k0_pay30 (F := Ideal) x0 x1 x2 x3 x4 x5 x6) hs) (shapeCast S1x128 x5 shapeCasts_S1x128_S1x128) x
      = qBlock x0 x1 x2 x3 x4 x5 ((Rect.unit (s := S512x512) ![0, o] S512x128.size inb).emb x) := by
  have hx0 : (x 0).val < 512 := (x 0).isLt
  have hx1 : (x 1).val < 128 := (x 1).isLt
  obtain ⟨r, l, rfl⟩ : ∃ (r : Fin 512) (l : Fin 128), x = ix2 r l := ⟨x 0, x 1, funext fun a => by match a with | ⟨0, _⟩ => rfl | ⟨1, _⟩ => rfl⟩
  have hl := l.isLt
  rw [shapeCast_self]
  show ropeF x3 x4 k0_pay10 (k0_pay11 laneF 64#32) _ x5 (ix2 r l) * scale = _
  rw [ropeF_at]
  have e : (Rect.unit (s := S512x512) ![0, o] S512x128.size inb).emb (ix2 r l) = ix2 r (⟨o + l.val, by omega⟩ : Fin 512) := funext fun a => Fin.ext (by
    match a with
    | ⟨0, _⟩ => show 0 + 1 * r.val = r.val; omega
    | ⟨1, _⟩ => show o + 1 * l.val = o + l.val; omega)
  rw [e]
  show _ = pair _ _ (fun k => wide x0 x1 x2 r ⟨128 * ((o + l.val) / 128) + k.val, _⟩) _ (⟨(o + l.val) % 128, _⟩ : Fin 128) * scale
  rw [show (⟨(o + l.val) % 128, Nat.mod_lt _ (by decide)⟩ : Fin 128) = l from Fin.ext (by show (o + l.val) % 128 = l.val; omega)]
  refine congrArg (fun f => pair _ _ f _ l * scale) (funext fun k => ?_)
  refine (At.cut _ hs r k r ⟨o + k.val, by omega⟩ (Nat.zero_add _).symm rfl).trans ?_
  exact pay30_at x0 x1 x2 x3 x4 x5 x6 r _ _ (by show 128 * ((o + l.val) / 128) + k.val = 0 + (o + k.val); omega)

/-- A block of queries. -/
theorem out7_at (y : S512x512.Idx) : out0_7 (F := Ideal) x0 x1 x2 x3 x4 x5 x6 y = qBlock x0 x1 x2 x3 x4 x5 y := by
  obtain ⟨e24, e26, e27, e28, e29⟩ := tabs x0 x1 x2 x3 x4 x5 x6
  unfold out0_7
  rw [e24, e26, e27, e28, e29, ld_all x5, pay17_eq, pay15_eq, pay14_eq, pay13_eq]
  refine View.canon_apply_of_pieces (Val := Elt Ideal) (e := .bf16) (qBlock x0 x1 x2 x3 x4 x5) _ ?_ y (cover0_7 _ _ _ _ y)
  intro pc hpc x
  rcases List.mem_cons.mp hpc with rfl | hpc
  · exact q_at x0 x1 x2 x3 x4 x5 x6 384 rfl (by omega) _ inb_S512x512_S512x128_0_384 x
  rcases List.mem_cons.mp hpc with rfl | hpc
  · exact q_at x0 x1 x2 x3 x4 x5 x6 256 rfl (by omega) _ inb_S512x512_S512x128_0_256 x
  rcases List.mem_cons.mp hpc with rfl | hpc
  · exact q_at x0 x1 x2 x3 x4 x5 x6 128 rfl (by omega) _ inb_S512x512_S512x128_0_128 x
  rcases List.mem_cons.mp hpc with rfl | hpc
  · exact q_at x0 x1 x2 x3 x4 x5 x6 0 rfl (by omega) _ inb_S512x512_S512x128_0_0 x
  exact absurd hpc List.not_mem_nil

/-- A block of keys. -/
theorem out8_at (r : Fin 512) (l : Fin 128) : out0_8 (F := Ideal) x0 x1 x2 x3 x4 x5 x6 (ix2 r l) = two x0 x1 x2 x3 x4 (fun k => x6 (ix2 0 k)) 512 (by omega) r l := by
  obtain ⟨e24, e26, e27, e28, e29⟩ := tabs x0 x1 x2 x3 x4 x5 x6
  unfold out0_8
  rw [View.canon_cons_unit_zero (funext fun z => by match z with | ⟨0, _⟩ => rfl | ⟨1, _⟩ => rfl), e26, e27, e28, e29, ld_all x6, pay20_eq, shapeCast_self x6]
  refine (ropeF_at x3 x4 _ x6 r l).trans (congrArg (fun f => pair _ _ f _ l) (funext fun k => ?_))
  refine (At.cut (k0_pay31 (F := Ideal) x0 x1 x2 x3 x4 x5 x6) slices_S512x256_o0_0_S512x128 r k r ⟨k.val, by omega⟩ (Nat.zero_add _).symm (Nat.zero_add _).symm).trans ?_
  exact pay31_at x0 x1 x2 x3 x4 x5 x6 r _ _ rfl

/-- The values' band, as the body takes it. -/
theorem pay21_eq (v : FVec Ideal S512x256 .f32) : k0_pay21 (F := Ideal) v
    = transpose S128x512 [1, 0] (extractStridedSlice S512x128 ![0, 128] v slices_S512x256_o0_128_S512x128) transposes_S512x128_p1_0_S128x512 := rfl
/-- The first head of values, as the body stores it. -/
theorem pay1_eq (v : FVec Ideal S512x256 .f32) : k0_pay1 (F := Ideal) (k0_pay23 (F := Ideal) v)
    = shapeCast S1x80x512 (concatenate S80x512 0 [⟨S64x512, extractStridedSlice S64x512 ![0, 0] (k0_pay21 (F := Ideal) v) slices_S128x512_o0_0_S64x512⟩, ⟨S16x512, k0_pay22 (F := Ideal)⟩]
        concatenates_S64x512_S16x512_S80x512_d0) shapeCasts_S80x512_S1x80x512 := rfl
/-- The second head of values, as the body stores it. -/
theorem pay2_eq (v : FVec Ideal S128x512 .f32) : k0_pay2 (F := Ideal) v (k0_pay22 (F := Ideal))
    = shapeCast S1x80x512 (concatenate S80x512 0 [⟨S64x512, extractStridedSlice S64x512 ![64, 0] v slices_S128x512_o64_0_S64x512⟩, ⟨S16x512, k0_pay22 (F := Ideal)⟩]
        concatenates_S64x512_S16x512_S80x512_d0) shapeCasts_S80x512_S1x80x512 := rfl
/-- The DeltaNet's gate, as the body stores it. -/
theorem pay5_eq (w : Vec Ideal S1024x640 .bf16) : k0_pay5 (F := Ideal) v16 w = extractStridedSlice S512x512 ![0, 0] (k0_pay4 (F := Ideal) v16 w) slices_S512x640_o0_0_S512x512 := rfl
/-- The DeltaNet's decays and strengths, as the body stores them. -/
theorem pay6_eq (w : Vec Ideal S1024x640 .bf16) : k0_pay6 (F := Ideal) v16 w = extractStridedSlice S512x128 ![0, 512] (k0_pay4 (F := Ideal) v16 w) slices_S512x640_o0_512_S512x128 := rfl

/-- The values' band on its side. -/
theorem pay21_at (d : Fin 128) (r : Fin 512) (q : Fin 2944) (hq : q.val = 640 + d.val) : k0_pay21 (F := Ideal) (k0_pay31 (F := Ideal) x0 x1 x2 x3 x4 x5 x6) (ix2 d r) = wide x0 x1 x2 r q := by
  rw [pay21_eq]
  refine (At.transp _ transposes_S512x128_p1_0_S128x512 d r).trans ?_
  refine (At.cut _ slices_S512x256_o0_128_S512x128 r d r ⟨128 + d.val, by omega⟩ (Nat.zero_add _).symm rfl).trans ?_
  exact pay31_at x0 x1 x2 x3 x4 x5 x6 r _ q (by show q.val = 512 + (128 + d.val); omega)

/-- A block of the first head of values, above the ones. -/
theorem out9_at (z : Fin 1) (d : Fin 80) (r : Fin 512) (hd : d.val < 64) (q : Fin 2944) (hq : q.val = 640 + d.val) : out0_9 (F := Ideal) x0 x1 x2 x3 x4 x5 x6 (ix3 z d r) = wide x0 x1 x2 r q := by
  unfold out0_9
  rw [View.canon_cons_unit_zero (funext fun z => by match z with | ⟨0, _⟩ => rfl | ⟨1, _⟩ => rfl | ⟨2, _⟩ => rfl), pay1_eq]
  refine (At.add1 _ shapeCasts_S80x512_S1x80x512 z d r).trans ?_
  refine (At.above _ _ concatenates_S64x512_S16x512_S80x512_d0 d r hd).trans ?_
  refine (At.cut _ slices_S128x512_o0_0_S64x512 ⟨d.val, hd⟩ r ⟨d.val, by omega⟩ r (Nat.zero_add _).symm (Nat.zero_add _).symm).trans ?_
  exact pay21_at x0 x1 x2 x3 x4 x5 x6 _ r q hq

/-- A block of the second head of values, above the ones. -/
theorem out10_at (z : Fin 1) (d : Fin 80) (r : Fin 512) (hd : d.val < 64) (q : Fin 2944) (hq : q.val = 704 + d.val) : out0_10 (F := Ideal) x0 x1 x2 x3 x4 x5 x6 (ix3 z d r) = wide x0 x1 x2 r q := by
  unfold out0_10
  rw [View.canon_cons_unit_zero (funext fun z => by match z with | ⟨0, _⟩ => rfl | ⟨1, _⟩ => rfl | ⟨2, _⟩ => rfl), pay2_eq]
  refine (At.add1 _ shapeCasts_S80x512_S1x80x512 z d r).trans ?_
  refine (At.above _ _ concatenates_S64x512_S16x512_S80x512_d0 d r hd).trans ?_
  refine (At.cut _ slices_S128x512_o64_0_S64x512 ⟨d.val, hd⟩ r ⟨64 + d.val, by omega⟩ r rfl (Nat.zero_add _).symm).trans ?_
  exact pay21_at x0 x1 x2 x3 x4 x5 x6 _ r q (by show q.val = 640 + (64 + d.val); omega)

/-- A block of the DeltaNet's queries, keys and values. -/
theorem out11_at (r : Fin 512) (j : Fin 1536) (q : Fin 2944) (hq : q.val = 768 + j.val) : out0_11 (F := Ideal) x0 x1 x2 x3 x4 x5 x6 (ix2 r j) = wide x0 x1 x2 r q := by
  unfold out0_11
  rw [View.canon_cons_unit_zero (funext fun z => by match z with | ⟨0, _⟩ => rfl | ⟨1, _⟩ => rfl)]
  exact pay3_at x0 x1 x2 x3 x4 x5 x6 r j q hq

/-- A block of the DeltaNet's gate. -/
theorem out12_at (r : Fin 512) (j : Fin 512) (q : Fin 2944) (hq : q.val = 2304 + j.val) : out0_12 (F := Ideal) x0 x1 x2 x3 x4 x5 x6 (ix2 r j) = wide x0 x1 x2 r q := by
  unfold out0_12
  rw [View.canon_cons_unit_zero (funext fun z => by match z with | ⟨0, _⟩ => rfl | ⟨1, _⟩ => rfl), pay5_eq]
  refine (At.cut _ slices_S512x640_o0_0_S512x512 r j r ⟨j.val, by omega⟩ (Nat.zero_add _).symm (Nat.zero_add _).symm).trans ?_
  exact pay4_at x0 x1 x2 x3 x4 x5 x6 r _ q hq

/-- A block of the DeltaNet's decays and strengths. -/
theorem out13_at (r : Fin 512) (j : Fin 128) (q : Fin 2944) (hq : q.val = 2816 + j.val) : out0_13 (F := Ideal) x0 x1 x2 x3 x4 x5 x6 (ix2 r j) = wide x0 x1 x2 r q := by
  unfold out0_13
  rw [View.canon_cons_unit_zero (funext fun z => by match z with | ⟨0, _⟩ => rfl | ⟨1, _⟩ => rfl), pay6_eq]
  refine (At.cut _ slices_S512x640_o0_512_S512x128 r j r ⟨512 + j.val, by omega⟩ (Nat.zero_add _).symm rfl).trans ?_
  exact pay4_at x0 x1 x2 x3 x4 x5 x6 r _ q (by show q.val = 2304 + (512 + j.val); omega)

end Cert.InBlock

end
-- ==== Proof.InRef.lean ====
/-
  The reference of the in-projection read entry by entry: every entry of its results is the mathematics of one token at the
  token's row and the angles of its position.
-/
module

public import proofs.«01_k».proof.Proof.InSpec
public import proofs.«01_k».proof.Proof.Gen.Reference3Ideal.Read
public import Idealize.ShloMosaic.Lib.KernelVsHost
public import Idealize.ShloMosaic.Lib.ValueIdx

@[expose] public section

set_option maxRecDepth 16384

noncomputable section

namespace Cert.InRef

open Cert.Reference3Ideal Cert.Reference3Ideal.Gen Cert.Reference3Ideal.Read Cert.Post Cert.In
open Idealize.ShloMosaic Idealize.ShloMosaic.TcCoe Idealize.ShloMosaic.ValueIdx
open scoped BigOperators

variable (x0 : (⟨S8x8192x1024, .f32⟩ : BufTy).Contents (Elt Ideal)) (x1 : (⟨S1x1024, .f32⟩ : BufTy).Contents (Elt Ideal)) (x2 : (⟨S1x1024x2832, .f32⟩ : BufTy).Contents (Elt Ideal)) (x3 : (⟨S1x64, .f32⟩ : BufTy).Contents (Elt Ideal)) (x4 : (⟨S1x64, .f32⟩ : BufTy).Contents (Elt Ideal))

/-- The cosines of a position's row. -/
abbrev cosR (s : Fin 8192) (e : Fin 16) : EReal := FloatOps.hostUnary (F := Ideal) (φ := .f32) .cos (val_main_v22 (F := Ideal) (ix2 s e))
/-- The sines of a position's row. -/
abbrev sinR (s : Fin 8192) (e : Fin 16) : EReal := FloatOps.hostUnary (F := Ideal) (φ := .f32) .sin (val_main_v22 (F := Ideal) (ix2 s e))
/-- The cosines of a position's column. -/
abbrev cosC (s : Fin 8192) (e : Fin 16) : EReal := FloatOps.hostUnary (F := Ideal) (φ := .f32) .cos (val_main_v27 (F := Ideal) (ix2 s e))
/-- The sines of a position's column. -/
abbrev sinC (s : Fin 8192) (e : Fin 16) : EReal := FloatOps.hostUnary (F := Ideal) (φ := .f32) .sin (val_main_v27 (F := Ideal) (ix2 s e))

/-- A head normed and rotated to its position. -/
abbrev seat (s : Fin 8192) (f g : Fin 64 → EReal) : Fin 64 → EReal := head (axial (cosR s) (cosC s)) (axial (sinR s) (sinC s)) f g

/-- A token's row of the in-projection. -/
abbrev line (b : Fin 8) (s : Fin 8192) : Fin 2832 → EReal := proj (fun k => x0 (ix3 b s k)) (fun k => x1 (ix2 0 k)) (fun i k => x2 (ix3 0 i k))

/-- The norm before the projection. -/
theorem v41_at (b : Fin 8) (s : Fin 8192) (j : Fin 1024) :
    val_main_v41 (F := Ideal) x0 x1 (ix3 b s j) = rms n1024 (fun k => x0 (ix3 b s k)) (fun k => x1 (ix2 0 k)) j := by
  rw [val_main_v41_apply, val_main_v38_apply, val_main_v37_apply, val_main_v36_apply, val_main_v35_apply, val_main_v33_apply, val_main_v34_apply, val_main_v32_apply, val_main_v31_apply, val_main_v30_apply, val_main_v40_apply, val_main_v39_apply, val_main_v28_apply, val_main_cst_3_apply,
    show idx_main_v28 (idx_main_v39 (idx_main_v40 (ix3 b s j))) = ix2 (0 : Fin 1) j from funext fun a => Fin.ext (by match a with | ⟨0, _⟩ => rfl | ⟨1, _⟩ => show j.val % 1024 = j.val; omega),
    Finset.sum_congr rfl fun k _ => (congrArg (val_main_v29 (F := Ideal) x0) (show idx_main_v30 (idx_main_v31 (idx_main_v37 (ix3 b s j))) k = ix3 b s k from funext fun a => Fin.ext (by match a with | ⟨0, _⟩ => rfl | ⟨1, _⟩ => rfl | ⟨2, _⟩ => rfl))).trans (val_main_v29_apply x0 (ix3 b s k))]
  generalize x0 = y
  show (y (ix3 b s j) : EReal) * Ideal.rsqrt (Ideal.div (Ideal.ofBits .f32 0x00000000#32 + ∑ k : Fin 1024, (y (ix3 b s k) * y (ix3 b s k) : EReal)) n1024 + eps) * _ = _
  rw [Ideal.ofBits_zero_f32, zero_add]
  rfl

/-- The in-projection. -/
theorem v43_at (b : Fin 8) (s : Fin 8192) (j : Fin 2832) : val_main_v43 (F := Ideal) x0 x1 x2 (ix3 b s j) = line x0 x1 x2 b s j := by
  rw [val_main_v43_apply]
  refine Eq.trans (b := ∑ k : Fin 1024, rms n1024 (fun k => x0 (ix3 b s k)) (fun k => x1 (ix2 0 k)) k * x2 (ix3 0 k j)) (Finset.sum_congr rfl fun k _ => ?_) rfl
  rw [val_main_v42_apply, show lidx_main_v43 (ix3 b s j) k = ix3 b s k from funext fun a => Fin.ext (by match a with | ⟨0, _⟩ => rfl | ⟨1, _⟩ => rfl | ⟨2, _⟩ => rfl),
    show idx_main_v42 (ridx_main_v43 (ix3 b s j) k) = ix3 (0 : Fin 1) k j from funext fun a => Fin.ext (by match a with | ⟨0, _⟩ => rfl | ⟨1, _⟩ => show (k.val * 2832 + j.val) / 2832 % 1024 = k.val; omega | ⟨2, _⟩ => show (k.val * 2832 + j.val) % 2832 = j.val; omega), v41_at]

/-- The queries, by head. -/
theorem v51_at (b : Fin 8) (s : Fin 8192) (h : Fin 8) (j : Fin 64) : val_main_v51 (F := Ideal) x0 x1 x2 (ix4 b s h j) = line x0 x1 x2 b s (⟨0 + 64 * h.val + j.val, by omega⟩ : Fin 2832) := by
  rw [val_main_v51_apply, val_main_v44_apply, show idx_main_v44 (idx_main_v51 (ix4 b s h j)) = ix3 b s (⟨0 + 64 * h.val + j.val, by omega⟩ : Fin 2832) from funext fun a => Fin.ext (by match a with | ⟨0, _⟩ => show (((b.val * 8192 + s.val) * 8 + h.val) * 64 + j.val) / 4194304 = b.val; omega | ⟨1, _⟩ => show (((b.val * 8192 + s.val) * 8 + h.val) * 64 + j.val) / 512 % 8192 = s.val; omega | ⟨2, _⟩ => show (((b.val * 8192 + s.val) * 8 + h.val) * 64 + j.val) % 512 = 0 + 64 * h.val + j.val; omega), v43_at]

/-- The queries' norm. -/
theorem v65_at (b : Fin 8) (s : Fin 8192) (h : Fin 8) (j : Fin 64) :
    val_main_v65 (F := Ideal) x0 x1 x2 x3 (ix4 b s h j) = rms n64 (fun k => val_main_v51 (F := Ideal) x0 x1 x2 (ix4 b s h k)) (fun k => x3 (ix2 0 k)) j := by
  rw [val_main_v65_apply, val_main_v62_apply, val_main_v61_apply, val_main_v60_apply, val_main_v59_apply, val_main_v57_apply, val_main_v58_apply, val_main_v56_apply, val_main_v55_apply, val_main_v54_apply, val_main_v64_apply, val_main_v63_apply, val_main_v52_apply, val_main_cst_6_apply,
    show idx_main_v52 (idx_main_v63 (idx_main_v64 (ix4 b s h j))) = ix2 (0 : Fin 1) j from funext fun a => Fin.ext (by match a with | ⟨0, _⟩ => rfl | ⟨1, _⟩ => show j.val % 64 = j.val; omega),
    Finset.sum_congr rfl fun k _ => (congrArg (val_main_v53 (F := Ideal) x0 x1 x2) (show idx_main_v54 (idx_main_v55 (idx_main_v61 (ix4 b s h j))) k = ix4 b s h k from funext fun a => Fin.ext (by match a with | ⟨0, _⟩ => rfl | ⟨1, _⟩ => rfl | ⟨2, _⟩ => rfl | ⟨3, _⟩ => rfl))).trans (val_main_v53_apply x0 x1 x2 (ix4 b s h k))]
  generalize val_main_v51 (F := Ideal) x0 x1 x2 = y
  show (y (ix4 b s h j) : EReal) * Ideal.rsqrt (Ideal.div (Ideal.ofBits .f32 0x00000000#32 + ∑ k : Fin 64, (y (ix4 b s h k) * y (ix4 b s h k) : EReal)) n64 + eps) * _ = _
  rw [Ideal.ofBits_zero_f32, zero_add]
  rfl

/-- The first quarter of the first half of the queries. -/
theorem v79_at (b : Fin 8) (s : Fin 8192) (h : Fin 8) (d : Fin 64) (h1 : 0 ≤ d.val) (h2 : d.val < 16) : val_main_v79 (F := Ideal) x0 x1 x2 x3 (ix4 b s h (⟨d.val - 0, by omega⟩ : Fin 16))
    = (val_main_v65 (F := Ideal) x0 x1 x2 x3 (ix4 b s h d) * cosR s ⟨d.val % 16, Nat.mod_lt _ (by decide)⟩ - val_main_v65 (F := Ideal) x0 x1 x2 x3 (ix4 b s h ⟨(d.val + 16) % 64, Nat.mod_lt _ (by decide)⟩) * sinR s ⟨d.val % 16, Nat.mod_lt _ (by decide)⟩ : EReal) := by
  rw [val_main_v79_apply, val_main_v75_apply, val_main_v78_apply, val_main_v74_apply, val_main_v73_apply, val_main_v77_apply, val_main_v76_apply, val_main_v71_apply, val_main_v72_apply, val_main_v66_apply, val_main_v66_apply, val_main_v68_apply, val_main_v70_apply, val_main_v67_apply, val_main_v69_apply,
    show idx_main_v66 (idx_main_v71 (ix4 b s h (⟨d.val - 0, by omega⟩ : Fin 16))) = ix4 b s h (d : Fin 64) from funext fun a => Fin.ext (by match a with | ⟨0, _⟩ => rfl | ⟨1, _⟩ => rfl | ⟨2, _⟩ => rfl | ⟨3, _⟩ => show d.val - 0 = d.val; omega),
    show idx_main_v66 (idx_main_v72 (ix4 b s h (⟨d.val - 0, by omega⟩ : Fin 16))) = ix4 b s h (⟨(d.val + 16) % 64, Nat.mod_lt _ (by decide)⟩ : Fin 64) from funext fun a => Fin.ext (by match a with | ⟨0, _⟩ => rfl | ⟨1, _⟩ => rfl | ⟨2, _⟩ => rfl | ⟨3, _⟩ => show 16 + (d.val - 0) = (d.val + 16) % 64; omega),
    show idx_main_v68 (idx_main_v73 (idx_main_v74 (ix4 b s h (⟨d.val - 0, by omega⟩ : Fin 16)))) = ix2 s (⟨d.val % 16, Nat.mod_lt _ (by decide)⟩ : Fin 16) from funext fun a => Fin.ext (by match a with | ⟨0, _⟩ => rfl | ⟨1, _⟩ => show d.val - 0 = d.val % 16; omega),
    show idx_main_v70 (idx_main_v76 (idx_main_v77 (ix4 b s h (⟨d.val - 0, by omega⟩ : Fin 16)))) = ix2 s (⟨d.val % 16, Nat.mod_lt _ (by decide)⟩ : Fin 16) from funext fun a => Fin.ext (by match a with | ⟨0, _⟩ => rfl | ⟨1, _⟩ => show d.val - 0 = d.val % 16; omega)]
  rfl

/-- The other quarter of the first half of the queries. -/
theorem v86_at (b : Fin 8) (s : Fin 8192) (h : Fin 8) (d : Fin 64) (h1 : 16 ≤ d.val) (h2 : d.val < 32) : val_main_v86 (F := Ideal) x0 x1 x2 x3 (ix4 b s h (⟨d.val - 16, by omega⟩ : Fin 16))
    = (val_main_v65 (F := Ideal) x0 x1 x2 x3 (ix4 b s h d) * cosR s ⟨d.val % 16, Nat.mod_lt _ (by decide)⟩ + val_main_v65 (F := Ideal) x0 x1 x2 x3 (ix4 b s h ⟨(d.val + 48) % 64, Nat.mod_lt _ (by decide)⟩) * sinR s ⟨d.val % 16, Nat.mod_lt _ (by decide)⟩ : EReal) := by
  rw [val_main_v86_apply, val_main_v82_apply, val_main_v85_apply, val_main_v81_apply, val_main_v80_apply, val_main_v84_apply, val_main_v83_apply, val_main_v71_apply, val_main_v72_apply, val_main_v66_apply, val_main_v66_apply, val_main_v68_apply, val_main_v70_apply, val_main_v67_apply, val_main_v69_apply,
    show idx_main_v66 (idx_main_v72 (ix4 b s h (⟨d.val - 16, by omega⟩ : Fin 16))) = ix4 b s h (d : Fin 64) from funext fun a => Fin.ext (by match a with | ⟨0, _⟩ => rfl | ⟨1, _⟩ => rfl | ⟨2, _⟩ => rfl | ⟨3, _⟩ => show 16 + (d.val - 16) = d.val; omega),
    show idx_main_v66 (idx_main_v71 (ix4 b s h (⟨d.val - 16, by omega⟩ : Fin 16))) = ix4 b s h (⟨(d.val + 48) % 64, Nat.mod_lt _ (by decide)⟩ : Fin 64) from funext fun a => Fin.ext (by match a with | ⟨0, _⟩ => rfl | ⟨1, _⟩ => rfl | ⟨2, _⟩ => rfl | ⟨3, _⟩ => show d.val - 16 = (d.val + 48) % 64; omega),
    show idx_main_v68 (idx_main_v80 (idx_main_v81 (ix4 b s h (⟨d.val - 16, by omega⟩ : Fin 16)))) = ix2 s (⟨d.val % 16, Nat.mod_lt _ (by decide)⟩ : Fin 16) from funext fun a => Fin.ext (by match a with | ⟨0, _⟩ => rfl | ⟨1, _⟩ => show d.val - 16 = d.val % 16; omega),
    show idx_main_v70 (idx_main_v83 (idx_main_v84 (ix4 b s h (⟨d.val - 16, by omega⟩ : Fin 16)))) = ix2 s (⟨d.val % 16, Nat.mod_lt _ (by decide)⟩ : Fin 16) from funext fun a => Fin.ext (by match a with | ⟨0, _⟩ => rfl | ⟨1, _⟩ => show d.val - 16 = d.val % 16; omega)]
  rfl

/-- The second quarter of the second half of the queries. -/
theorem v101_at (b : Fin 8) (s : Fin 8192) (h : Fin 8) (d : Fin 64) (h1 : 32 ≤ d.val) (h2 : d.val < 48) : val_main_v101 (F := Ideal) x0 x1 x2 x3 (ix4 b s h (⟨d.val - 32, by omega⟩ : Fin 16))
    = (val_main_v65 (F := Ideal) x0 x1 x2 x3 (ix4 b s h d) * cosC s ⟨d.val % 16, Nat.mod_lt _ (by decide)⟩ - val_main_v65 (F := Ideal) x0 x1 x2 x3 (ix4 b s h ⟨(d.val + 16) % 64, Nat.mod_lt _ (by decide)⟩) * sinC s ⟨d.val % 16, Nat.mod_lt _ (by decide)⟩ : EReal) := by
  rw [val_main_v101_apply, val_main_v97_apply, val_main_v100_apply, val_main_v96_apply, val_main_v95_apply, val_main_v99_apply, val_main_v98_apply, val_main_v93_apply, val_main_v94_apply, val_main_v88_apply, val_main_v88_apply, val_main_v90_apply, val_main_v92_apply, val_main_v89_apply, val_main_v91_apply,
    show idx_main_v88 (idx_main_v93 (ix4 b s h (⟨d.val - 32, by omega⟩ : Fin 16))) = ix4 b s h (d : Fin 64) from funext fun a => Fin.ext (by match a with | ⟨0, _⟩ => rfl | ⟨1, _⟩ => rfl | ⟨2, _⟩ => rfl | ⟨3, _⟩ => show 32 + (d.val - 32) = d.val; omega),
    show idx_main_v88 (idx_main_v94 (ix4 b s h (⟨d.val - 32, by omega⟩ : Fin 16))) = ix4 b s h (⟨(d.val + 16) % 64, Nat.mod_lt _ (by decide)⟩ : Fin 64) from funext fun a => Fin.ext (by match a with | ⟨0, _⟩ => rfl | ⟨1, _⟩ => rfl | ⟨2, _⟩ => rfl | ⟨3, _⟩ => show 32 + (16 + (d.val - 32)) = (d.val + 16) % 64; omega),
    show idx_main_v90 (idx_main_v95 (idx_main_v96 (ix4 b s h (⟨d.val - 32, by omega⟩ : Fin 16)))) = ix2 s (⟨d.val % 16, Nat.mod_lt _ (by decide)⟩ : Fin 16) from funext fun a => Fin.ext (by match a with | ⟨0, _⟩ => rfl | ⟨1, _⟩ => show d.val - 32 = d.val % 16; omega),
    show idx_main_v92 (idx_main_v98 (idx_main_v99 (ix4 b s h (⟨d.val - 32, by omega⟩ : Fin 16)))) = ix2 s (⟨d.val % 16, Nat.mod_lt _ (by decide)⟩ : Fin 16) from funext fun a => Fin.ext (by match a with | ⟨0, _⟩ => rfl | ⟨1, _⟩ => show d.val - 32 = d.val % 16; omega)]
  rfl

/-- The other quarter of the second half of the queries. -/
theorem v108_at (b : Fin 8) (s : Fin 8192) (h : Fin 8) (d : Fin 64) (h1 : 48 ≤ d.val) (h2 : d.val < 64) : val_main_v108 (F := Ideal) x0 x1 x2 x3 (ix4 b s h (⟨d.val - 48, by omega⟩ : Fin 16))
    = (val_main_v65 (F := Ideal) x0 x1 x2 x3 (ix4 b s h d) * cosC s ⟨d.val % 16, Nat.mod_lt _ (by decide)⟩ + val_main_v65 (F := Ideal) x0 x1 x2 x3 (ix4 b s h ⟨(d.val + 48) % 64, Nat.mod_lt _ (by decide)⟩) * sinC s ⟨d.val % 16, Nat.mod_lt _ (by decide)⟩ : EReal) := by
  rw [val_main_v108_apply, val_main_v104_apply, val_main_v107_apply, val_main_v103_apply, val_main_v102_apply, val_main_v106_apply, val_main_v105_apply, val_main_v93_apply, val_main_v94_apply, val_main_v88_apply, val_main_v88_apply, val_main_v90_apply, val_main_v92_apply, val_main_v89_apply, val_main_v91_apply,
    show idx_main_v88 (idx_main_v94 (ix4 b s h (⟨d.val - 48, by omega⟩ : Fin 16))) = ix4 b s h (d : Fin 64) from funext fun a => Fin.ext (by match a with | ⟨0, _⟩ => rfl | ⟨1, _⟩ => rfl | ⟨2, _⟩ => rfl | ⟨3, _⟩ => show 32 + (16 + (d.val - 48)) = d.val; omega),
    show idx_main_v88 (idx_main_v93 (ix4 b s h (⟨d.val - 48, by omega⟩ : Fin 16))) = ix4 b s h (⟨(d.val + 48) % 64, Nat.mod_lt _ (by decide)⟩ : Fin 64) from funext fun a => Fin.ext (by match a with | ⟨0, _⟩ => rfl | ⟨1, _⟩ => rfl | ⟨2, _⟩ => rfl | ⟨3, _⟩ => show 32 + (d.val - 48) = (d.val + 48) % 64; omega),
    show idx_main_v90 (idx_main_v102 (idx_main_v103 (ix4 b s h (⟨d.val - 48, by omega⟩ : Fin 16)))) = ix2 s (⟨d.val % 16, Nat.mod_lt _ (by decide)⟩ : Fin 16) from funext fun a => Fin.ext (by match a with | ⟨0, _⟩ => rfl | ⟨1, _⟩ => show d.val - 48 = d.val % 16; omega),
    show idx_main_v92 (idx_main_v105 (idx_main_v106 (ix4 b s h (⟨d.val - 48, by omega⟩ : Fin 16)))) = ix2 s (⟨d.val % 16, Nat.mod_lt _ (by decide)⟩ : Fin 16) from funext fun a => Fin.ext (by match a with | ⟨0, _⟩ => rfl | ⟨1, _⟩ => show d.val - 48 = d.val % 16; omega)]
  rfl

/-- The queries rotated. -/
theorem v110_at (b : Fin 8) (s : Fin 8192) (h : Fin 8) (d : Fin 64) : val_main_v110 (F := Ideal) x0 x1 x2 x3 (ix4 b s h d)
    = turn (axial (cosR s) (cosC s)) (axial (sinR s) (sinC s)) (fun k => val_main_v65 (F := Ideal) x0 x1 x2 x3 (ix4 b s h k)) d := by
  have hd := d.isLt
  unfold val_main_v110 turn axial
  by_cases h1 : d.val < 32
  · rw [if_pos h1, if_pos h1]
    by_cases h2 : d.val % 32 < 16
    · rw [if_pos h2]
      refine (concatenate_apply_piece (t := S8x8192x8x64) 3 _ _ (ix4 b s h d) 0 (by show 0 < 2; omega) S8x8192x8x32 (val_main_v87 (F := Ideal) x0 x1 x2 x3) rfl rfl 0 rfl (ix4 b s h (⟨d.val - 0, by omega⟩ : Fin 32)) (fun b hb => by match b with | ⟨0, _⟩ => rfl | ⟨1, _⟩ => rfl | ⟨2, _⟩ => rfl | ⟨3, _⟩ => exact absurd rfl hb) (by show 0 + (d.val - 0) = d.val; omega)).trans ?_
      unfold val_main_v87
      refine (concatenate_apply_piece (t := S8x8192x8x32) 3 _ _ (ix4 b s h (⟨d.val - 0, by omega⟩ : Fin 32)) 0 (by show 0 < 2; omega) S8x8192x8x16 (val_main_v79 (F := Ideal) x0 x1 x2 x3) rfl rfl 0 rfl (ix4 b s h (⟨d.val - 0, by omega⟩ : Fin 16)) (fun b hb => by match b with | ⟨0, _⟩ => rfl | ⟨1, _⟩ => rfl | ⟨2, _⟩ => rfl | ⟨3, _⟩ => exact absurd rfl hb) (by show 0 + (d.val - 0) = d.val - 0; omega)).trans ?_
      exact v79_at x0 x1 x2 x3 b s h d (by omega) (by omega)
    · rw [if_neg h2]
      refine (concatenate_apply_piece (t := S8x8192x8x64) 3 _ _ (ix4 b s h d) 0 (by show 0 < 2; omega) S8x8192x8x32 (val_main_v87 (F := Ideal) x0 x1 x2 x3) rfl rfl 0 rfl (ix4 b s h (⟨d.val - 0, by omega⟩ : Fin 32)) (fun b hb => by match b with | ⟨0, _⟩ => rfl | ⟨1, _⟩ => rfl | ⟨2, _⟩ => rfl | ⟨3, _⟩ => exact absurd rfl hb) (by show 0 + (d.val - 0) = d.val; omega)).trans ?_
      unfold val_main_v87
      refine (concatenate_apply_piece (t := S8x8192x8x32) 3 _ _ (ix4 b s h (⟨d.val - 0, by omega⟩ : Fin 32)) 1 (by show 1 < 2; omega) S8x8192x8x16 (val_main_v86 (F := Ideal) x0 x1 x2 x3) rfl rfl 16 rfl (ix4 b s h (⟨d.val - 16, by omega⟩ : Fin 16)) (fun b hb => by match b with | ⟨0, _⟩ => rfl | ⟨1, _⟩ => rfl | ⟨2, _⟩ => rfl | ⟨3, _⟩ => exact absurd rfl hb) (by show 16 + (d.val - 16) = d.val - 0; omega)).trans ?_
      exact v86_at x0 x1 x2 x3 b s h d (by omega) (by omega)
  · rw [if_neg h1, if_neg h1]
    by_cases h2 : d.val % 32 < 16
    · rw [if_pos h2]
      refine (concatenate_apply_piece (t := S8x8192x8x64) 3 _ _ (ix4 b s h d) 1 (by show 1 < 2; omega) S8x8192x8x32 (val_main_v109 (F := Ideal) x0 x1 x2 x3) rfl rfl 32 rfl (ix4 b s h (⟨d.val - 32, by omega⟩ : Fin 32)) (fun b hb => by match b with | ⟨0, _⟩ => rfl | ⟨1, _⟩ => rfl | ⟨2, _⟩ => rfl | ⟨3, _⟩ => exact absurd rfl hb) (by show 32 + (d.val - 32) = d.val; omega)).trans ?_
      unfold val_main_v109
      refine (concatenate_apply_piece (t := S8x8192x8x32) 3 _ _ (ix4 b s h (⟨d.val - 32, by omega⟩ : Fin 32)) 0 (by show 0 < 2; omega) S8x8192x8x16 (val_main_v101 (F := Ideal) x0 x1 x2 x3) rfl rfl 0 rfl (ix4 b s h (⟨d.val - 32, by omega⟩ : Fin 16)) (fun b hb => by match b with | ⟨0, _⟩ => rfl | ⟨1, _⟩ => rfl | ⟨2, _⟩ => rfl | ⟨3, _⟩ => exact absurd rfl hb) (by show 0 + (d.val - 32) = d.val - 32; omega)).trans ?_
      exact v101_at x0 x1 x2 x3 b s h d (by omega) (by omega)
    · rw [if_neg h2]
      refine (concatenate_apply_piece (t := S8x8192x8x64) 3 _ _ (ix4 b s h d) 1 (by show 1 < 2; omega) S8x8192x8x32 (val_main_v109 (F := Ideal) x0 x1 x2 x3) rfl rfl 32 rfl (ix4 b s h (⟨d.val - 32, by omega⟩ : Fin 32)) (fun b hb => by match b with | ⟨0, _⟩ => rfl | ⟨1, _⟩ => rfl | ⟨2, _⟩ => rfl | ⟨3, _⟩ => exact absurd rfl hb) (by show 32 + (d.val - 32) = d.val; omega)).trans ?_
      unfold val_main_v109
      refine (concatenate_apply_piece (t := S8x8192x8x32) 3 _ _ (ix4 b s h (⟨d.val - 32, by omega⟩ : Fin 32)) 1 (by show 1 < 2; omega) S8x8192x8x16 (val_main_v108 (F := Ideal) x0 x1 x2 x3) rfl rfl 16 rfl (ix4 b s h (⟨d.val - 48, by omega⟩ : Fin 16)) (fun b hb => by match b with | ⟨0, _⟩ => rfl | ⟨1, _⟩ => rfl | ⟨2, _⟩ => rfl | ⟨3, _⟩ => exact absurd rfl hb) (by show 16 + (d.val - 48) = d.val - 32; omega)).trans ?_
      exact v108_at x0 x1 x2 x3 b s h d (by omega) (by omega)

/-- The keys, by head. -/
theorem v111_at (b : Fin 8) (s : Fin 8192) (h : Fin 2) (j : Fin 64) : val_main_v111 (F := Ideal) x0 x1 x2 (ix4 b s h j) = line x0 x1 x2 b s (⟨512 + 64 * h.val + j.val, by omega⟩ : Fin 2832) := by
  rw [val_main_v111_apply, val_main_v45_apply, show idx_main_v45 (idx_main_v111 (ix4 b s h j)) = ix3 b s (⟨512 + 64 * h.val + j.val, by omega⟩ : Fin 2832) from funext fun a => Fin.ext (by match a with | ⟨0, _⟩ => show (((b.val * 8192 + s.val) * 2 + h.val) * 64 + j.val) / 1048576 = b.val; omega | ⟨1, _⟩ => show (((b.val * 8192 + s.val) * 2 + h.val) * 64 + j.val) / 128 % 8192 = s.val; omega | ⟨2, _⟩ => show 512 + (((b.val * 8192 + s.val) * 2 + h.val) * 64 + j.val) % 128 = 512 + 64 * h.val + j.val; omega), v43_at]

/-- The keys' norm. -/
theorem v125_at (b : Fin 8) (s : Fin 8192) (h : Fin 2) (j : Fin 64) :
    val_main_v125 (F := Ideal) x0 x1 x2 x4 (ix4 b s h j) = rms n64 (fun k => val_main_v111 (F := Ideal) x0 x1 x2 (ix4 b s h k)) (fun k => x4 (ix2 0 k)) j := by
  rw [val_main_v125_apply, val_main_v122_apply, val_main_v121_apply, val_main_v120_apply, val_main_v119_apply, val_main_v117_apply, val_main_v118_apply, val_main_v116_apply, val_main_v115_apply, val_main_v114_apply, val_main_v124_apply, val_main_v123_apply, val_main_v112_apply, val_main_cst_9_apply,
    show idx_main_v112 (idx_main_v123 (idx_main_v124 (ix4 b s h j))) = ix2 (0 : Fin 1) j from funext fun a => Fin.ext (by match a with | ⟨0, _⟩ => rfl | ⟨1, _⟩ => show j.val % 64 = j.val; omega),
    Finset.sum_congr rfl fun k _ => (congrArg (val_main_v113 (F := Ideal) x0 x1 x2) (show idx_main_v114 (idx_main_v115 (idx_main_v121 (ix4 b s h j))) k = ix4 b s h k from funext fun a => Fin.ext (by match a with | ⟨0, _⟩ => rfl | ⟨1, _⟩ => rfl | ⟨2, _⟩ => rfl | ⟨3, _⟩ => rfl))).trans (val_main_v113_apply x0 x1 x2 (ix4 b s h k))]
  generalize val_main_v111 (F := Ideal) x0 x1 x2 = y
  show (y (ix4 b s h j) : EReal) * Ideal.rsqrt (Ideal.div (Ideal.ofBits .f32 0x00000000#32 + ∑ k : Fin 64, (y (ix4 b s h k) * y (ix4 b s h k) : EReal)) n64 + eps) * _ = _
  rw [Ideal.ofBits_zero_f32, zero_add]
  rfl

/-- The first quarter of the first half of the keys. -/
theorem v139_at (b : Fin 8) (s : Fin 8192) (h : Fin 2) (d : Fin 64) (h1 : 0 ≤ d.val) (h2 : d.val < 16) : val_main_v139 (F := Ideal) x0 x1 x2 x4 (ix4 b s h (⟨d.val - 0, by omega⟩ : Fin 16))
    = (val_main_v125 (F := Ideal) x0 x1 x2 x4 (ix4 b s h d) * cosR s ⟨d.val % 16, Nat.mod_lt _ (by decide)⟩ - val_main_v125 (F := Ideal) x0 x1 x2 x4 (ix4 b s h ⟨(d.val + 16) % 64, Nat.mod_lt _ (by decide)⟩) * sinR s ⟨d.val % 16, Nat.mod_lt _ (by decide)⟩ : EReal) := by
  rw [val_main_v139_apply, val_main_v135_apply, val_main_v138_apply, val_main_v134_apply, val_main_v133_apply, val_main_v137_apply, val_main_v136_apply, val_main_v131_apply, val_main_v132_apply, val_main_v126_apply, val_main_v126_apply, val_main_v128_apply, val_main_v130_apply, val_main_v127_apply, val_main_v129_apply,
    show idx_main_v126 (idx_main_v131 (ix4 b s h (⟨d.val - 0, by omega⟩ : Fin 16))) = ix4 b s h (d : Fin 64) from funext fun a => Fin.ext (by match a with | ⟨0, _⟩ => rfl | ⟨1, _⟩ => rfl | ⟨2, _⟩ => rfl | ⟨3, _⟩ => show d.val - 0 = d.val; omega),
    show idx_main_v126 (idx_main_v132 (ix4 b s h (⟨d.val - 0, by omega⟩ : Fin 16))) = ix4 b s h (⟨(d.val + 16) % 64, Nat.mod_lt _ (by decide)⟩ : Fin 64) from funext fun a => Fin.ext (by match a with | ⟨0, _⟩ => rfl | ⟨1, _⟩ => rfl | ⟨2, _⟩ => rfl | ⟨3, _⟩ => show 16 + (d.val - 0) = (d.val + 16) % 64; omega),
    show idx_main_v128 (idx_main_v133 (idx_main_v134 (ix4 b s h (⟨d.val - 0, by omega⟩ : Fin 16)))) = ix2 s (⟨d.val % 16, Nat.mod_lt _ (by decide)⟩ : Fin 16) from funext fun a => Fin.ext (by match a with | ⟨0, _⟩ => rfl | ⟨1, _⟩ => show d.val - 0 = d.val % 16; omega),
    show idx_main_v130 (idx_main_v136 (idx_main_v137 (ix4 b s h (⟨d.val - 0, by omega⟩ : Fin 16)))) = ix2 s (⟨d.val % 16, Nat.mod_lt _ (by decide)⟩ : Fin 16) from funext fun a => Fin.ext (by match a with | ⟨0, _⟩ => rfl | ⟨1, _⟩ => show d.val - 0 = d.val % 16; omega)]
  rfl

/-- The other quarter of the first half of the keys. -/
theorem v146_at (b : Fin 8) (s : Fin 8192) (h : Fin 2) (d : Fin 64) (h1 : 16 ≤ d.val) (h2 : d.val < 32) : val_main_v146 (F := Ideal) x0 x1 x2 x4 (ix4 b s h (⟨d.val - 16, by omega⟩ : Fin 16))
    = (val_main_v125 (F := Ideal) x0 x1 x2 x4 (ix4 b s h d) * cosR s ⟨d.val % 16, Nat.mod_lt _ (by decide)⟩ + val_main_v125 (F := Ideal) x0 x1 x2 x4 (ix4 b s h ⟨(d.val + 48) % 64, Nat.mod_lt _ (by decide)⟩) * sinR s ⟨d.val % 16, Nat.mod_lt _ (by decide)⟩ : EReal) := by
  rw [val_main_v146_apply, val_main_v142_apply, val_main_v145_apply, val_main_v141_apply, val_main_v140_apply, val_main_v144_apply, val_main_v143_apply, val_main_v131_apply, val_main_v132_apply, val_main_v126_apply, val_main_v126_apply, val_main_v128_apply, val_main_v130_apply, val_main_v127_apply, val_main_v129_apply,
    show idx_main_v126 (idx_main_v132 (ix4 b s h (⟨d.val - 16, by omega⟩ : Fin 16))) = ix4 b s h (d : Fin 64) from funext fun a => Fin.ext (by match a with | ⟨0, _⟩ => rfl | ⟨1, _⟩ => rfl | ⟨2, _⟩ => rfl | ⟨3, _⟩ => show 16 + (d.val - 16) = d.val; omega),
    show idx_main_v126 (idx_main_v131 (ix4 b s h (⟨d.val - 16, by omega⟩ : Fin 16))) = ix4 b s h (⟨(d.val + 48) % 64, Nat.mod_lt _ (by decide)⟩ : Fin 64) from funext fun a => Fin.ext (by match a with | ⟨0, _⟩ => rfl | ⟨1, _⟩ => rfl | ⟨2, _⟩ => rfl | ⟨3, _⟩ => show d.val - 16 = (d.val + 48) % 64; omega),
    show idx_main_v128 (idx_main_v140 (idx_main_v141 (ix4 b s h (⟨d.val - 16, by omega⟩ : Fin 16)))) = ix2 s (⟨d.val % 16, Nat.mod_lt _ (by decide)⟩ : Fin 16) from funext fun a => Fin.ext (by match a with | ⟨0, _⟩ => rfl | ⟨1, _⟩ => show d.val - 16 = d.val % 16; omega),
    show idx_main_v130 (idx_main_v143 (idx_main_v144 (ix4 b s h (⟨d.val - 16, by omega⟩ : Fin 16)))) = ix2 s (⟨d.val % 16, Nat.mod_lt _ (by decide)⟩ : Fin 16) from funext fun a => Fin.ext (by match a with | ⟨0, _⟩ => rfl | ⟨1, _⟩ => show d.val - 16 = d.val % 16; omega)]
  rfl

/-- The second quarter of the second half of the keys. -/
theorem v161_at (b : Fin 8) (s : Fin 8192) (h : Fin 2) (d : Fin 64) (h1 : 32 ≤ d.val) (h2 : d.val < 48) : val_main_v161 (F := Ideal) x0 x1 x2 x4 (ix4 b s h (⟨d.val - 32, by omega⟩ : Fin 16))
    = (val_main_v125 (F := Ideal) x0 x1 x2 x4 (ix4 b s h d) * cosC s ⟨d.val % 16, Nat.mod_lt _ (by decide)⟩ - val_main_v125 (F := Ideal) x0 x1 x2 x4 (ix4 b s h ⟨(d.val + 16) % 64, Nat.mod_lt _ (by decide)⟩) * sinC s ⟨d.val % 16, Nat.mod_lt _ (by decide)⟩ : EReal) := by
  rw [val_main_v161_apply, val_main_v157_apply, val_main_v160_apply, val_main_v156_apply, val_main_v155_apply, val_main_v159_apply, val_main_v158_apply, val_main_v153_apply, val_main_v154_apply, val_main_v148_apply, val_main_v148_apply, val_main_v150_apply, val_main_v152_apply, val_main_v149_apply, val_main_v151_apply,
    show idx_main_v148 (idx_main_v153 (ix4 b s h (⟨d.val - 32, by omega⟩ : Fin 16))) = ix4 b s h (d : Fin 64) from funext fun a => Fin.ext (by match a with | ⟨0, _⟩ => rfl | ⟨1, _⟩ => rfl | ⟨2, _⟩ => rfl | ⟨3, _⟩ => show 32 + (d.val - 32) = d.val; omega),
    show idx_main_v148 (idx_main_v154 (ix4 b s h (⟨d.val - 32, by omega⟩ : Fin 16))) = ix4 b s h (⟨(d.val + 16) % 64, Nat.mod_lt _ (by decide)⟩ : Fin 64) from funext fun a => Fin.ext (by match a with | ⟨0, _⟩ => rfl | ⟨1, _⟩ => rfl | ⟨2, _⟩ => rfl | ⟨3, _⟩ => show 32 + (16 + (d.val - 32)) = (d.val + 16) % 64; omega),
    show idx_main_v150 (idx_main_v155 (idx_main_v156 (ix4 b s h (⟨d.val - 32, by omega⟩ : Fin 16)))) = ix2 s (⟨d.val % 16, Nat.mod_lt _ (by decide)⟩ : Fin 16) from funext fun a => Fin.ext (by match a with | ⟨0, _⟩ => rfl | ⟨1, _⟩ => show d.val - 32 = d.val % 16; omega),
    show idx_main_v152 (idx_main_v158 (idx_main_v159 (ix4 b s h (⟨d.val - 32, by omega⟩ : Fin 16)))) = ix2 s (⟨d.val % 16, Nat.mod_lt _ (by decide)⟩ : Fin 16) from funext fun a => Fin.ext (by match a with | ⟨0, _⟩ => rfl | ⟨1, _⟩ => show d.val - 32 = d.val % 16; omega)]
  rfl

/-- The other quarter of the second half of the keys. -/
theorem v168_at (b : Fin 8) (s : Fin 8192) (h : Fin 2) (d : Fin 64) (h1 : 48 ≤ d.val) (h2 : d.val < 64) : val_main_v168 (F := Ideal) x0 x1 x2 x4 (ix4 b s h (⟨d.val - 48, by omega⟩ : Fin 16))
    = (val_main_v125 (F := Ideal) x0 x1 x2 x4 (ix4 b s h d) * cosC s ⟨d.val % 16, Nat.mod_lt _ (by decide)⟩ + val_main_v125 (F := Ideal) x0 x1 x2 x4 (ix4 b s h ⟨(d.val + 48) % 64, Nat.mod_lt _ (by decide)⟩) * sinC s ⟨d.val % 16, Nat.mod_lt _ (by decide)⟩ : EReal) := by
  rw [val_main_v168_apply, val_main_v164_apply, val_main_v167_apply, val_main_v163_apply, val_main_v162_apply, val_main_v166_apply, val_main_v165_apply, val_main_v153_apply, val_main_v154_apply, val_main_v148_apply, val_main_v148_apply, val_main_v150_apply, val_main_v152_apply, val_main_v149_apply, val_main_v151_apply,
    show idx_main_v148 (idx_main_v154 (ix4 b s h (⟨d.val - 48, by omega⟩ : Fin 16))) = ix4 b s h (d : Fin 64) from funext fun a => Fin.ext (by match a with | ⟨0, _⟩ => rfl | ⟨1, _⟩ => rfl | ⟨2, _⟩ => rfl | ⟨3, _⟩ => show 32 + (16 + (d.val - 48)) = d.val; omega),
    show idx_main_v148 (idx_main_v153 (ix4 b s h (⟨d.val - 48, by omega⟩ : Fin 16))) = ix4 b s h (⟨(d.val + 48) % 64, Nat.mod_lt _ (by decide)⟩ : Fin 64) from funext fun a => Fin.ext (by match a with | ⟨0, _⟩ => rfl | ⟨1, _⟩ => rfl | ⟨2, _⟩ => rfl | ⟨3, _⟩ => show 32 + (d.val - 48) = (d.val + 48) % 64; omega),
    show idx_main_v150 (idx_main_v162 (idx_main_v163 (ix4 b s h (⟨d.val - 48, by omega⟩ : Fin 16)))) = ix2 s (⟨d.val % 16, Nat.mod_lt _ (by decide)⟩ : Fin 16) from funext fun a => Fin.ext (by match a with | ⟨0, _⟩ => rfl | ⟨1, _⟩ => show d.val - 48 = d.val % 16; omega),
    show idx_main_v152 (idx_main_v165 (idx_main_v166 (ix4 b s h (⟨d.val - 48, by omega⟩ : Fin 16)))) = ix2 s (⟨d.val % 16, Nat.mod_lt _ (by decide)⟩ : Fin 16) from funext fun a => Fin.ext (by match a with | ⟨0, _⟩ => rfl | ⟨1, _⟩ => show d.val - 48 = d.val % 16; omega)]
  rfl

/-- The keys rotated. -/
theorem v170_at (b : Fin 8) (s : Fin 8192) (h : Fin 2) (d : Fin 64) : val_main_v170 (F := Ideal) x0 x1 x2 x4 (ix4 b s h d)
    = turn (axial (cosR s) (cosC s)) (axial (sinR s) (sinC s)) (fun k => val_main_v125 (F := Ideal) x0 x1 x2 x4 (ix4 b s h k)) d := by
  have hd := d.isLt
  unfold val_main_v170 turn axial
  by_cases h1 : d.val < 32
  · rw [if_pos h1, if_pos h1]
    by_cases h2 : d.val % 32 < 16
    · rw [if_pos h2]
      refine (concatenate_apply_piece (t := S8x8192x2x64) 3 _ _ (ix4 b s h d) 0 (by show 0 < 2; omega) S8x8192x2x32 (val_main_v147 (F := Ideal) x0 x1 x2 x4) rfl rfl 0 rfl (ix4 b s h (⟨d.val - 0, by omega⟩ : Fin 32)) (fun b hb => by match b with | ⟨0, _⟩ => rfl | ⟨1, _⟩ => rfl | ⟨2, _⟩ => rfl | ⟨3, _⟩ => exact absurd rfl hb) (by show 0 + (d.val - 0) = d.val; omega)).trans ?_
      unfold val_main_v147
      refine (concatenate_apply_piece (t := S8x8192x2x32) 3 _ _ (ix4 b s h (⟨d.val - 0, by omega⟩ : Fin 32)) 0 (by show 0 < 2; omega) S8x8192x2x16 (val_main_v139 (F := Ideal) x0 x1 x2 x4) rfl rfl 0 rfl (ix4 b s h (⟨d.val - 0, by omega⟩ : Fin 16)) (fun b hb => by match b with | ⟨0, _⟩ => rfl | ⟨1, _⟩ => rfl | ⟨2, _⟩ => rfl | ⟨3, _⟩ => exact absurd rfl hb) (by show 0 + (d.val - 0) = d.val - 0; omega)).trans ?_
      exact v139_at x0 x1 x2 x4 b s h d (by omega) (by omega)
    · rw [if_neg h2]
      refine (concatenate_apply_piece (t := S8x8192x2x64) 3 _ _ (ix4 b s h d) 0 (by show 0 < 2; omega) S8x8192x2x32 (val_main_v147 (F := Ideal) x0 x1 x2 x4) rfl rfl 0 rfl (ix4 b s h (⟨d.val - 0, by omega⟩ : Fin 32)) (fun b hb => by match b with | ⟨0, _⟩ => rfl | ⟨1, _⟩ => rfl | ⟨2, _⟩ => rfl | ⟨3, _⟩ => exact absurd rfl hb) (by show 0 + (d.val - 0) = d.val; omega)).trans ?_
      unfold val_main_v147
      refine (concatenate_apply_piece (t := S8x8192x2x32) 3 _ _ (ix4 b s h (⟨d.val - 0, by omega⟩ : Fin 32)) 1 (by show 1 < 2; omega) S8x8192x2x16 (val_main_v146 (F := Ideal) x0 x1 x2 x4) rfl rfl 16 rfl (ix4 b s h (⟨d.val - 16, by omega⟩ : Fin 16)) (fun b hb => by match b with | ⟨0, _⟩ => rfl | ⟨1, _⟩ => rfl | ⟨2, _⟩ => rfl | ⟨3, _⟩ => exact absurd rfl hb) (by show 16 + (d.val - 16) = d.val - 0; omega)).trans ?_
      exact v146_at x0 x1 x2 x4 b s h d (by omega) (by omega)
  · rw [if_neg h1, if_neg h1]
    by_cases h2 : d.val % 32 < 16
    · rw [if_pos h2]
      refine (concatenate_apply_piece (t := S8x8192x2x64) 3 _ _ (ix4 b s h d) 1 (by show 1 < 2; omega) S8x8192x2x32 (val_main_v169 (F := Ideal) x0 x1 x2 x4) rfl rfl 32 rfl (ix4 b s h (⟨d.val - 32, by omega⟩ : Fin 32)) (fun b hb => by match b with | ⟨0, _⟩ => rfl | ⟨1, _⟩ => rfl | ⟨2, _⟩ => rfl | ⟨3, _⟩ => exact absurd rfl hb) (by show 32 + (d.val - 32) = d.val; omega)).trans ?_
      unfold val_main_v169
      refine (concatenate_apply_piece (t := S8x8192x2x32) 3 _ _ (ix4 b s h (⟨d.val - 32, by omega⟩ : Fin 32)) 0 (by show 0 < 2; omega) S8x8192x2x16 (val_main_v161 (F := Ideal) x0 x1 x2 x4) rfl rfl 0 rfl (ix4 b s h (⟨d.val - 32, by omega⟩ : Fin 16)) (fun b hb => by match b with | ⟨0, _⟩ => rfl | ⟨1, _⟩ => rfl | ⟨2, _⟩ => rfl | ⟨3, _⟩ => exact absurd rfl hb) (by show 0 + (d.val - 32) = d.val - 32; omega)).trans ?_
      exact v161_at x0 x1 x2 x4 b s h d (by omega) (by omega)
    · rw [if_neg h2]
      refine (concatenate_apply_piece (t := S8x8192x2x64) 3 _ _ (ix4 b s h d) 1 (by show 1 < 2; omega) S8x8192x2x32 (val_main_v169 (F := Ideal) x0 x1 x2 x4) rfl rfl 32 rfl (ix4 b s h (⟨d.val - 32, by omega⟩ : Fin 32)) (fun b hb => by match b with | ⟨0, _⟩ => rfl | ⟨1, _⟩ => rfl | ⟨2, _⟩ => rfl | ⟨3, _⟩ => exact absurd rfl hb) (by show 32 + (d.val - 32) = d.val; omega)).trans ?_
      unfold val_main_v169
      refine (concatenate_apply_piece (t := S8x8192x2x32) 3 _ _ (ix4 b s h (⟨d.val - 32, by omega⟩ : Fin 32)) 1 (by show 1 < 2; omega) S8x8192x2x16 (val_main_v168 (F := Ideal) x0 x1 x2 x4) rfl rfl 16 rfl (ix4 b s h (⟨d.val - 48, by omega⟩ : Fin 16)) (fun b hb => by match b with | ⟨0, _⟩ => rfl | ⟨1, _⟩ => rfl | ⟨2, _⟩ => rfl | ⟨3, _⟩ => exact absurd rfl hb) (by show 16 + (d.val - 48) = d.val - 32; omega)).trans ?_
      exact v168_at x0 x1 x2 x4 b s h d (by omega) (by omega)

/-- The queries' scale. -/
theorem scale_at (i : S8x8192x8x64.Idx) : val_main_v173 (F := Ideal) i = (((8 * Real.log 2)⁻¹ : ℝ) : EReal) := by
  rw [val_main_v173_apply, val_main_v172_apply, val_main_v171_apply, val_main_cst_12_apply, val_main_cst_13_apply]
  show Ideal.div (Ideal.ofBits .f32 0x3E000000#32) (Ideal.log (Ideal.ofBits .f32 0x40000000#32)) = _
  have h2 : Ideal.ofBits .f32 0x40000000#32 = ((2 : ℝ) : EReal) := by
    simp [Ideal.ofBits, Ideal.ieee]
    rw [← EReal.coe_mul]
    norm_num
  have h8 : Ideal.ofBits .f32 0x3E000000#32 = ((1 / 8 : ℝ) : EReal) := by
    simp [Ideal.ofBits, Ideal.ieee]
    norm_num
    rw [← EReal.coe_mul]
    norm_num
  have hp : (0 : ℝ) < Real.log 2 := Real.log_pos (by norm_num)
  have hl : Ideal.log ((2 : ℝ) : EReal) = ((Real.log 2 : ℝ) : EReal) := by
    rw [Ideal.log_coe, if_neg (by norm_num)]
  rw [h2, h8, hl, Ideal.div_coe hp.ne', ← EReal.coe_mul]
  congr 1
  rw [mul_inv]
  ring

variable (b : Fin 8) (s : Fin 8192) (t : Fin 65536) (ht : t.val = 8192 * b.val + s.val)

include ht

/-- The queries. -/
theorem q_at (c : Fin 512) : val_main_v176 (F := Ideal) x0 x1 x2 x3 (ix2 t c)
    = seat s (fun k => line x0 x1 x2 b s (⟨64 * (c.val / 64) + k.val, by omega⟩ : Fin 2832)) (fun k => x3 (ix2 0 k)) (⟨c.val % 64, Nat.mod_lt _ (by decide)⟩ : Fin 64) * (((8 * Real.log 2)⁻¹ : ℝ) : EReal) := by
  rw [val_main_v176_apply, val_main_v175_apply, val_main_v174_apply, show idx_main_v175 (ix2 t c) = ix4 b s (⟨c.val / 64, by omega⟩ : Fin 8) (⟨c.val % 64, Nat.mod_lt _ (by decide)⟩ : Fin 64) from funext fun a => Fin.ext (by match a with | ⟨0, _⟩ => show (t.val * 512 + c.val) / 4194304 = b.val; omega | ⟨1, _⟩ => show (t.val * 512 + c.val) / 512 % 8192 = s.val; omega | ⟨2, _⟩ => show (t.val * 512 + c.val) / 64 % 8 = c.val / 64; omega | ⟨3, _⟩ => show (t.val * 512 + c.val) % 64 = c.val % 64; omega),
    scale_at, v110_at]
  refine congrArg (fun f => turn _ _ f (⟨c.val % 64, Nat.mod_lt _ (by decide)⟩ : Fin 64) * (((8 * Real.log 2)⁻¹ : ℝ) : EReal)) (funext fun k => ?_)
  refine (v65_at x0 x1 x2 x3 b s _ k).trans (congrArg (fun f => rms n64 f _ k) (funext fun l => ?_))
  refine (v51_at x0 x1 x2 b s _ l).trans (congrArg (line x0 x1 x2 b s) (Fin.ext ?_))
  show 0 + 64 * (c.val / 64) + l.val = 64 * (c.val / 64) + l.val
  omega

/-- The keys. -/
theorem k_at (c : Fin 128) : val_main_v178 (F := Ideal) x0 x1 x2 x4 (ix2 t c)
    = seat s (fun k => line x0 x1 x2 b s (⟨512 + 64 * (c.val / 64) + k.val, by omega⟩ : Fin 2832)) (fun k => x4 (ix2 0 k)) (⟨c.val % 64, Nat.mod_lt _ (by decide)⟩ : Fin 64) := by
  rw [val_main_v178_apply, val_main_v177_apply, show idx_main_v177 (ix2 t c) = ix4 b s (⟨c.val / 64, by omega⟩ : Fin 2) (⟨c.val % 64, Nat.mod_lt _ (by decide)⟩ : Fin 64) from funext fun a => Fin.ext (by match a with | ⟨0, _⟩ => show (t.val * 128 + c.val) / 1048576 = b.val; omega | ⟨1, _⟩ => show (t.val * 128 + c.val) / 128 % 8192 = s.val; omega | ⟨2, _⟩ => show (t.val * 128 + c.val) / 64 % 2 = c.val / 64; omega | ⟨3, _⟩ => show (t.val * 128 + c.val) % 64 = c.val % 64; omega)]
  refine (v170_at x0 x1 x2 x4 b s _ _).trans ?_
  refine congrArg (fun f => turn _ _ f (⟨c.val % 64, Nat.mod_lt _ (by decide)⟩ : Fin 64)) (funext fun k => ?_)
  refine (v125_at x0 x1 x2 x4 b s _ k).trans (congrArg (fun f => rms n64 f _ k) (funext fun l => ?_))
  exact v111_at x0 x1 x2 b s _ l

/-- The values. -/
theorem v_at (c : Fin 128) : val_main_v180 (F := Ideal) x0 x1 x2 (ix2 t c) = line x0 x1 x2 b s (⟨640 + c.val, by omega⟩ : Fin 2832) := by
  rw [val_main_v180_apply, val_main_v179_apply, val_main_v46_apply, show idx_main_v46 (idx_main_v179 (ix2 t c)) = ix3 b s (⟨640 + c.val, by omega⟩ : Fin 2832) from funext fun a => Fin.ext (by match a with | ⟨0, _⟩ => show (t.val * 128 + c.val) / 1048576 = b.val; omega | ⟨1, _⟩ => show (t.val * 128 + c.val) / 128 % 8192 = s.val; omega | ⟨2, _⟩ => show 640 + (t.val * 128 + c.val) % 128 = 640 + c.val; omega)]
  exact v43_at x0 x1 x2 b s _

/-- The DeltaNet's queries, keys and values. -/
theorem dqkv_at (c : Fin 1536) : val_main_v182 (F := Ideal) x0 x1 x2 (ix2 t c) = line x0 x1 x2 b s (⟨768 + c.val, by omega⟩ : Fin 2832) := by
  rw [val_main_v182_apply, val_main_v181_apply, val_main_v47_apply, show idx_main_v47 (idx_main_v181 (ix2 t c)) = ix3 b s (⟨768 + c.val, by omega⟩ : Fin 2832) from funext fun a => Fin.ext (by match a with | ⟨0, _⟩ => show (t.val * 1536 + c.val) / 12582912 = b.val; omega | ⟨1, _⟩ => show (t.val * 1536 + c.val) / 1536 % 8192 = s.val; omega | ⟨2, _⟩ => show 768 + (t.val * 1536 + c.val) % 1536 = 768 + c.val; omega)]
  exact v43_at x0 x1 x2 b s _

/-- The DeltaNet's gate. -/
theorem dz_at (c : Fin 512) : val_main_v184 (F := Ideal) x0 x1 x2 (ix2 t c) = line x0 x1 x2 b s (⟨2304 + c.val, by omega⟩ : Fin 2832) := by
  rw [val_main_v184_apply, val_main_v183_apply, val_main_v48_apply, show idx_main_v48 (idx_main_v183 (ix2 t c)) = ix3 b s (⟨2304 + c.val, by omega⟩ : Fin 2832) from funext fun a => Fin.ext (by match a with | ⟨0, _⟩ => show (t.val * 512 + c.val) / 4194304 = b.val; omega | ⟨1, _⟩ => show (t.val * 512 + c.val) / 512 % 8192 = s.val; omega | ⟨2, _⟩ => show 2304 + (t.val * 512 + c.val) % 512 = 2304 + c.val; omega)]
  exact v43_at x0 x1 x2 b s _

/-- The DeltaNet's decays and strengths. -/
theorem ba_at (c : Fin 16) : val_main_v186 (F := Ideal) x0 x1 x2 (ix2 t c) = line x0 x1 x2 b s (⟨2816 + c.val, by omega⟩ : Fin 2832) := by
  rw [val_main_v186_apply, show idx_main_v186 (ix2 t c) = ix3 b s c from funext fun a => Fin.ext (by match a with | ⟨0, _⟩ => show (t.val * 16 + c.val) / 131072 = b.val; omega | ⟨1, _⟩ => show (t.val * 16 + c.val) / 16 % 8192 = s.val; omega | ⟨2, _⟩ => show (t.val * 16 + c.val) % 16 = c.val; omega)]
  unfold val_main_v185
  by_cases h : c.val < 8
  · refine (concatenate_apply_piece (t := S8x8192x16) 2 _ _ (ix3 b s c) 0 (by show 0 < 2; omega) S8x8192x8 (val_main_v49 (F := Ideal) x0 x1 x2) rfl rfl 0 rfl (ix3 b s (⟨c.val, h⟩ : Fin 8)) (fun b hb => by match b with | ⟨0, _⟩ => rfl | ⟨1, _⟩ => rfl | ⟨2, _⟩ => exact absurd rfl hb) (Nat.zero_add _)).trans ?_
    rw [val_main_v49_apply, show idx_main_v49 (ix3 b s (⟨c.val, h⟩ : Fin 8)) = ix3 b s (⟨2816 + c.val, by omega⟩ : Fin 2832) from funext fun a => Fin.ext (by match a with | ⟨0, _⟩ => rfl | ⟨1, _⟩ => rfl | ⟨2, _⟩ => rfl)]
    exact v43_at x0 x1 x2 b s _
  · refine (concatenate_apply_piece (t := S8x8192x16) 2 _ _ (ix3 b s c) 1 (by show 1 < 2; omega) S8x8192x8 (val_main_v50 (F := Ideal) x0 x1 x2) rfl rfl 8 rfl (ix3 b s (⟨c.val - 8, by omega⟩ : Fin 8)) (fun b hb => by match b with | ⟨0, _⟩ => rfl | ⟨1, _⟩ => rfl | ⟨2, _⟩ => exact absurd rfl hb) (by show 8 + (c.val - 8) = c.val; omega)).trans ?_
    rw [val_main_v50_apply, show idx_main_v50 (ix3 b s (⟨c.val - 8, by omega⟩ : Fin 8)) = ix3 b s (⟨2816 + c.val, by omega⟩ : Fin 2832) from funext fun a => Fin.ext (by match a with | ⟨0, _⟩ => rfl | ⟨1, _⟩ => rfl | ⟨2, _⟩ => show 2824 + (c.val - 8) = 2816 + c.val; omega)]
    exact v43_at x0 x1 x2 b s _

end Cert.InRef

end
-- ==== Proof.InHost.lean ====
/-
  The arrays that the host prepares for the in-projection, entry by entry at the blocks of a grid point. The arguments are
  arbitrary.
-/
module

public import proofs.«01_k».proof.Proof.InBlock
public import proofs.«01_k».proof.Proof.InRef
public import proofs.«01_k».proof.Proof.PostValue
public import proofs.«01_k».proof.Proof.Gen.Kernel3Ideal.Frame
public import Idealize.ShloMosaic.Lib.StableHlo.Run
public import Idealize.ShloMosaic.Lib.Pipeline.Value
public import Idealize.ShloMosaic.Lib.Claim

@[expose] public section

set_option maxRecDepth 16384

noncomputable section

namespace Cert.InHost

open Cert.Kernel3Ideal Cert.Kernel3Ideal.Gen Cert.Post Cert.In Cert.InRef
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-- The input as launched. -/
abbrev a0 : S8x8192x1024.Idx → EReal := m ((c : Thread nD τ).loc main_arg0)
/-- The gain before the projection as launched. -/
abbrev a1 : S1x1024.Idx → EReal := m ((c : Thread nD τ).loc main_arg1)
/-- The projection as launched. -/
abbrev a2 : S1x1024x2832.Idx → EReal := m ((c : Thread nD τ).loc main_arg2)
/-- The queries' gain as launched. -/
abbrev a3 : S1x64.Idx → EReal := m ((c : Thread nD τ).loc main_arg3)
/-- The keys' gain as launched. -/
abbrev a4 : S1x64.Idx → EReal := m ((c : Thread nD τ).loc main_arg4)

/-- The angles of the rows. -/
abbrev angR : FVec Ideal S8192x16 .f32 := Cert.Reference3Ideal.Read.val_main_v22 (F := Ideal)
/-- The angles of the columns. -/
abbrev angC : FVec Ideal S8192x16 .f32 := Cert.Reference3Ideal.Read.val_main_v27 (F := Ideal)

/-- Eight arrays side by side. -/
def eight (u0 u1 u2 u3 u4 u5 u6 u7 : FVec Ideal S8192x16 .f32) : FVec Ideal S8192x128 .f32 :=
  concatenate S8192x128 1 [⟨S8192x16, u0⟩, ⟨S8192x16, u1⟩, ⟨S8192x16, u2⟩, ⟨S8192x16, u3⟩, ⟨S8192x16, u4⟩, ⟨S8192x16, u5⟩, ⟨S8192x16, u6⟩, ⟨S8192x16, u7⟩]
    concatenates_S8192x16_S8192x16_S8192x16_S8192x16_S8192x16_S8192x16_S8192x16_S8192x16_S8192x128_d1

/-- A gain of a head laid out for two heads. -/
def twice (g : FVec Ideal S1x64 .f32) : FVec Ideal S1x128 .f32 :=
  broadcastInDim S1x128 ![1] bcast_S128_S1x128_1 (shapeCast S128 (broadcastInDim S2x64 ![0, 1] bcast_S1x64_S2x64_0_1 (shapeCast S1x64 (shapeCast S64 g shapeCasts_S1x64_S64) shapeCasts_S64_S1x64)) shapeCasts_S2x64_S128)

set_option maxHeartbeats 4000000 in
/-- The input as prepared. -/
theorem host0 : (V (F := Ideal) m c main_v38 : S65536x1024.Idx → EReal) = shapeCast S65536x1024 (a0 m c) shapeCasts_S8x8192x1024_S65536x1024 := by
  show StableHlo.after (List.flatten [hostOps0, hostOps0_1, hostOps0_2]) (fun b => m (c, b)) (Proc.devRef .tc main_v38) = _
  simp only [hostOps0, hostOps0_1, hostOps0_2, List.flatten_cons, List.flatten_nil, List.append_nil, List.cons_append, List.nil_append]
  after_results <;> rfl

set_option maxHeartbeats 4000000 in
/-- The gain before the projection as prepared. -/
theorem host1 : (V (F := Ideal) m c main_v53 : S1x1024.Idx → EReal) = broadcastInDim S1x1024 ![1] bcast_S1024_S1x1024_1 (shapeCast S1024 (a1 m c) shapeCasts_S1x1024_S1024) := by
  show StableHlo.after (List.flatten [hostOps0, hostOps0_1, hostOps0_2]) (fun b => m (c, b)) (Proc.devRef .tc main_v53) = _
  simp only [hostOps0, hostOps0_1, hostOps0_2, List.flatten_cons, List.flatten_nil, List.append_nil, List.cons_append, List.nil_append]
  after_results <;> rfl

set_option maxHeartbeats 4000000 in
/-- The projection as prepared. -/
theorem host2 : (V (F := Ideal) m c main_v41 : S1024x2944.Idx → EReal) = (pad S1024x2944 ![0, 0] ![0, 112] ![0, 0] (truncf .bf16 (shapeCast S1024x2832 (a2 m c) shapeCasts_S1x1024x2832_S1024x2832 : FVec Ideal S1024x2832 .f32) bitsLt_bf16_f32 : FVec Ideal S1024x2832 .bf16)
      (sitofp .bf16 (constantI S_ 32 0#32) : FVec Ideal S_ .bf16) pads_S1024x2832_S1024x2944_000_01120 h_S_ : FVec Ideal S1024x2944 .bf16) := by
  show StableHlo.after (List.flatten [hostOps0, hostOps0_1, hostOps0_2]) (fun b => m (c, b)) (Proc.devRef .tc main_v41) = _
  simp only [hostOps0, hostOps0_1, hostOps0_2, List.flatten_cons, List.flatten_nil, List.append_nil, List.cons_append, List.nil_append]
  after_results <;> rfl

set_option maxHeartbeats 4000000 in
/-- The cosines as prepared. -/
theorem host3 : (V (F := Ideal) m c main_v32 : S8192x128.Idx → EReal) = eight (Host.cos angR) (Host.cos angR) (Host.cos angC) (Host.cos angC) (Host.cos angR) (Host.cos angR) (Host.cos angC) (Host.cos angC) := by
  show StableHlo.after (List.flatten [hostOps0, hostOps0_1, hostOps0_2]) (fun b => m (c, b)) (Proc.devRef .tc main_v32) = _
  simp only [hostOps0, hostOps0_1, hostOps0_2, List.flatten_cons, List.flatten_nil, List.append_nil, List.cons_append, List.nil_append]
  after_results <;> rfl

set_option maxHeartbeats 4000000 in
/-- The sines as prepared. -/
theorem host4 : (V (F := Ideal) m c main_v37 : S8192x128.Idx → EReal) = eight (Host.negf (Host.sin angR)) (Host.sin angR) (Host.negf (Host.sin angC)) (Host.sin angC) (Host.negf (Host.sin angR)) (Host.sin angR) (Host.negf (Host.sin angC)) (Host.sin angC) := by
  show StableHlo.after (List.flatten [hostOps0, hostOps0_1, hostOps0_2]) (fun b => m (c, b)) (Proc.devRef .tc main_v37) = _
  simp only [hostOps0, hostOps0_1, hostOps0_2, List.flatten_cons, List.flatten_nil, List.append_nil, List.cons_append, List.nil_append]
  after_results <;> rfl

set_option maxHeartbeats 4000000 in
/-- The queries' gain as prepared. -/
theorem host5 : (V (F := Ideal) m c main_v46 : S1x128.Idx → EReal) = twice (a3 m c) := by
  show StableHlo.after (List.flatten [hostOps0, hostOps0_1, hostOps0_2]) (fun b => m (c, b)) (Proc.devRef .tc main_v46) = _
  simp only [hostOps0, hostOps0_1, hostOps0_2, List.flatten_cons, List.flatten_nil, List.append_nil, List.cons_append, List.nil_append]
  after_results <;> rfl

set_option maxHeartbeats 4000000 in
/-- The keys' gain as prepared. -/
theorem host6 : (V (F := Ideal) m c main_v51 : S1x128.Idx → EReal) = twice (a4 m c) := by
  show StableHlo.after (List.flatten [hostOps0, hostOps0_1, hostOps0_2]) (fun b => m (c, b)) (Proc.devRef .tc main_v51) = _
  simp only [hostOps0, hostOps0_1, hostOps0_2, List.flatten_cons, List.flatten_nil, List.append_nil, List.cons_append, List.nil_append]
  after_results <;> rfl

/-! ## Their entries -/

/-- Eight arrays side by side, at an entry. -/
theorem eight_at (u0 u1 u2 u3 u4 u5 u6 u7 : FVec Ideal S8192x16 .f32) (s : Fin 8192) (l : Fin 128) (i : Fin 8) (e : Fin 16) (hl : l.val = 16 * i.val + e.val) :
    eight u0 u1 u2 u3 u4 u5 u6 u7 (ix2 s l) = (![u0, u1, u2, u3, u4, u5, u6, u7] i : FVec Ideal S8192x16 .f32) (ix2 s e) := by
  unfold eight
  match i, hl with
  | ⟨0, _⟩, hl =>
    have hl' : l.val = 16 * 0 + e.val := hl
    exact concatenate_apply_piece (t := S8192x128) 1 _ _ (ix2 s l) 0 (by show 0 < 8; omega) S8192x16 u0 rfl rfl 0 rfl (ix2 s e) (fun b hb => by match b with | ⟨0, _⟩ => rfl | ⟨1, _⟩ => exact absurd rfl hb) (by show 0 + e.val = l.val; omega)
  | ⟨1, _⟩, hl =>
    have hl' : l.val = 16 * 1 + e.val := hl
    exact concatenate_apply_piece (t := S8192x128) 1 _ _ (ix2 s l) 1 (by show 1 < 8; omega) S8192x16 u1 rfl rfl 16 rfl (ix2 s e) (fun b hb => by match b with | ⟨0, _⟩ => rfl | ⟨1, _⟩ => exact absurd rfl hb) (by show 16 + e.val = l.val; omega)
  | ⟨2, _⟩, hl =>
    have hl' : l.val = 16 * 2 + e.val := hl
    exact concatenate_apply_piece (t := S8192x128) 1 _ _ (ix2 s l) 2 (by show 2 < 8; omega) S8192x16 u2 rfl rfl 32 rfl (ix2 s e) (fun b hb => by match b with | ⟨0, _⟩ => rfl | ⟨1, _⟩ => exact absurd rfl hb) (by show 32 + e.val = l.val; omega)
  | ⟨3, _⟩, hl =>
    have hl' : l.val = 16 * 3 + e.val := hl
    exact concatenate_apply_piece (t := S8192x128) 1 _ _ (ix2 s l) 3 (by show 3 < 8; omega) S8192x16 u3 rfl rfl 48 rfl (ix2 s e) (fun b hb => by match b with | ⟨0, _⟩ => rfl | ⟨1, _⟩ => exact absurd rfl hb) (by show 48 + e.val = l.val; omega)
  | ⟨4, _⟩, hl =>
    have hl' : l.val = 16 * 4 + e.val := hl
    exact concatenate_apply_piece (t := S8192x128) 1 _ _ (ix2 s l) 4 (by show 4 < 8; omega) S8192x16 u4 rfl rfl 64 rfl (ix2 s e) (fun b hb => by match b with | ⟨0, _⟩ => rfl | ⟨1, _⟩ => exact absurd rfl hb) (by show 64 + e.val = l.val; omega)
  | ⟨5, _⟩, hl =>
    have hl' : l.val = 16 * 5 + e.val := hl
    exact concatenate_apply_piece (t := S8192x128) 1 _ _ (ix2 s l) 5 (by show 5 < 8; omega) S8192x16 u5 rfl rfl 80 rfl (ix2 s e) (fun b hb => by match b with | ⟨0, _⟩ => rfl | ⟨1, _⟩ => exact absurd rfl hb) (by show 80 + e.val = l.val; omega)
  | ⟨6, _⟩, hl =>
    have hl' : l.val = 16 * 6 + e.val := hl
    exact concatenate_apply_piece (t := S8192x128) 1 _ _ (ix2 s l) 6 (by show 6 < 8; omega) S8192x16 u6 rfl rfl 96 rfl (ix2 s e) (fun b hb => by match b with | ⟨0, _⟩ => rfl | ⟨1, _⟩ => exact absurd rfl hb) (by show 96 + e.val = l.val; omega)
  | ⟨7, _⟩, hl =>
    have hl' : l.val = 16 * 7 + e.val := hl
    exact concatenate_apply_piece (t := S8192x128) 1 _ _ (ix2 s l) 7 (by show 7 < 8; omega) S8192x16 u7 rfl rfl 112 rfl (ix2 s e) (fun b hb => by match b with | ⟨0, _⟩ => rfl | ⟨1, _⟩ => exact absurd rfl hb) (by show 112 + e.val = l.val; omega)

/-- The cosines of a position, for either of two heads. -/
theorem cos_at (s : Fin 8192) (h : Fin 2) (k : Fin 64) :
    half (fun l => (V (F := Ideal) m c main_v32 : S8192x128.Idx → EReal) (ix2 s l)) h k = axial (cosR s) (cosC s) k := by
  have hk := k.isLt
  have hh := h.isLt
  obtain ⟨i, hi⟩ : ∃ i : Fin 8, i.val = 4 * h.val + k.val / 16 := ⟨⟨4 * h.val + k.val / 16, by omega⟩, rfl⟩
  show (V (F := Ideal) m c main_v32 : S8192x128.Idx → EReal) (ix2 s _) = _
  rw [host3 m c, eight_at _ _ _ _ _ _ _ _ s _ i ⟨k.val % 16, Nat.mod_lt _ (by decide)⟩ (by show 64 * h.val + k.val = 16 * i.val + k.val % 16; omega)]
  unfold axial
  match i, hi with
  | ⟨0, _⟩, hi =>
    have hi' : 0 = 4 * h.val + k.val / 16 := hi
    rw [if_pos (by omega)]
    rfl
  | ⟨1, _⟩, hi =>
    have hi' : 1 = 4 * h.val + k.val / 16 := hi
    rw [if_pos (by omega)]
    rfl
  | ⟨2, _⟩, hi =>
    have hi' : 2 = 4 * h.val + k.val / 16 := hi
    rw [if_neg (by omega)]
    rfl
  | ⟨3, _⟩, hi =>
    have hi' : 3 = 4 * h.val + k.val / 16 := hi
    rw [if_neg (by omega)]
    rfl
  | ⟨4, _⟩, hi =>
    have hi' : 4 = 4 * h.val + k.val / 16 := hi
    rw [if_pos (by omega)]
    rfl
  | ⟨5, _⟩, hi =>
    have hi' : 5 = 4 * h.val + k.val / 16 := hi
    rw [if_pos (by omega)]
    rfl
  | ⟨6, _⟩, hi =>
    have hi' : 6 = 4 * h.val + k.val / 16 := hi
    rw [if_neg (by omega)]
    rfl
  | ⟨7, _⟩, hi =>
    have hi' : 7 = 4 * h.val + k.val / 16 := hi
    rw [if_neg (by omega)]
    rfl

/-- The sines of a position, for either of two heads: those of the first sixteen lanes of each thirty-two negated. -/
theorem sin_at (s : Fin 8192) (h : Fin 2) (k : Fin 64) :
    half (fun l => (V (F := Ideal) m c main_v37 : S8192x128.Idx → EReal) (ix2 s l)) h k
      = if k.val % 32 < 16 then -axial (sinR s) (sinC s) k else axial (sinR s) (sinC s) k := by
  have hk := k.isLt
  have hh := h.isLt
  obtain ⟨i, hi⟩ : ∃ i : Fin 8, i.val = 4 * h.val + k.val / 16 := ⟨⟨4 * h.val + k.val / 16, by omega⟩, rfl⟩
  show (V (F := Ideal) m c main_v37 : S8192x128.Idx → EReal) (ix2 s _) = _
  rw [host4 m c, eight_at _ _ _ _ _ _ _ _ s _ i ⟨k.val % 16, Nat.mod_lt _ (by decide)⟩ (by show 64 * h.val + k.val = 16 * i.val + k.val % 16; omega)]
  unfold axial
  match i, hi with
  | ⟨0, _⟩, hi =>
    have hi' : 0 = 4 * h.val + k.val / 16 := hi
    rw [if_pos (by omega), if_pos (by omega)]
    rfl
  | ⟨1, _⟩, hi =>
    have hi' : 1 = 4 * h.val + k.val / 16 := hi
    rw [if_neg (by omega), if_pos (by omega)]
    rfl
  | ⟨2, _⟩, hi =>
    have hi' : 2 = 4 * h.val + k.val / 16 := hi
    rw [if_pos (by omega), if_neg (by omega)]
    rfl
  | ⟨3, _⟩, hi =>
    have hi' : 3 = 4 * h.val + k.val / 16 := hi
    rw [if_neg (by omega), if_neg (by omega)]
    rfl
  | ⟨4, _⟩, hi =>
    have hi' : 4 = 4 * h.val + k.val / 16 := hi
    rw [if_pos (by omega), if_pos (by omega)]
    rfl
  | ⟨5, _⟩, hi =>
    have hi' : 5 = 4 * h.val + k.val / 16 := hi
    rw [if_neg (by omega), if_pos (by omega)]
    rfl
  | ⟨6, _⟩, hi =>
    have hi' : 6 = 4 * h.val + k.val / 16 := hi
    rw [if_pos (by omega), if_neg (by omega)]
    rfl
  | ⟨7, _⟩, hi =>
    have hi' : 7 = 4 * h.val + k.val / 16 := hi
    rw [if_neg (by omega), if_neg (by omega)]
    rfl

/-- A gain laid out for two heads is the gain at either. -/
theorem twice_at (g : FVec Ideal S1x64 .f32) (h : Fin 2) (k : Fin 64) : half (fun l => twice g (ix2 0 l)) h k = g (ix2 0 k) := by
  show twice g (ix2 0 _) = _
  unfold twice
  refine (Cert.PostValue.as_row _ bcast_S128_S1x128_1 0 _).trans ?_
  refine (shapeCast_apply _ shapeCasts_S2x64_S128 _ (ix2 h k) ?_).trans ?_
  · rw [Shape.rowMajor_val_two, Shape.rowMajor_val_one]
    show h.val * 64 + k.val = 64 * h.val + k.val
    omega
  refine (broadcastInDim_apply _ bcast_S1x64_S2x64_0_1 _ _ (ix2 0 k) fun a => ?_).trans ?_
  · match a with
    | ⟨0, _⟩ => rfl
    | ⟨1, _⟩ => rfl
  refine (shapeCast_apply _ shapeCasts_S64_S1x64 _ (ix1 k) ?_).trans ?_
  · rw [Shape.rowMajor_val_two, Shape.rowMajor_val_one]
    show k.val = 0 * 64 + k.val
    omega
  exact Cert.PostValue.of_row g shapeCasts_S1x64_S64 k

/-- The prepared input at an entry. -/
theorem at0 (t : Fin 65536) (j : Fin 1024) (b : Fin 8) (s : Fin 8192) (ht : t.val = 8192 * b.val + s.val) :
    (V (F := Ideal) m c main_v38 : S65536x1024.Idx → EReal) (ix2 t j) = a0 m c (ix3 b s j) :=
  (congrFun (host0 m c) _).trans (Cert.PostValue.rows (a0 m c) shapeCasts_S8x8192x1024_S65536x1024 t j b s ht)

/-- The prepared gain at an entry. -/
theorem at1 (j : Fin 1024) : (V (F := Ideal) m c main_v53 : S1x1024.Idx → EReal) (ix2 0 j) = a1 m c (ix2 0 j) :=
  (congrFun (host1 m c) _).trans ((Cert.PostValue.as_row _ bcast_S1024_S1x1024_1 0 j).trans (Cert.PostValue.of_row (a1 m c) shapeCasts_S1x1024_S1024 j))

/-- The prepared projection at an entry: past its last column it is filled up. -/
theorem at2 (i : Fin 1024) (q : Fin 2832) (q' : Fin 2944) (hq : q'.val = q.val) :
    (V (F := Ideal) m c main_v41 : S1024x2944.Idx → EReal) (ix2 i q') = a2 m c (ix3 0 i q) := by
  refine (congrFun (host2 m c) _).trans ?_
  refine (pad_apply_of_inside ![0, 0] ![0, 112] ![0, 0] _ _ pads_S1024x2832_S1024x2944_000_01120 h_S_ (ix2 i q') (ix2 i q) fun a => ?_).trans ?_
  · match a with
    | ⟨0, _⟩ => show i.val = 0 + i.val * (0 + 1); omega
    | ⟨1, _⟩ => show q'.val = 0 + q.val * (0 + 1); omega
  exact At.drop1 (a2 m c) shapeCasts_S1x1024x2832_S1024x2832 i q

/-! ## The blocks of a grid point -/

/-- The batch of a grid point. -/
def bat (t : Fin grid0.N) : Fin 8 := ⟨t.val / 16, by have := t.isLt; have e : grid0.N = 128 := N_0; omega⟩
/-- The position of row `r` of a grid point's block. -/
def pos (t : Fin grid0.N) (r : Fin 512) : Fin 8192 := ⟨512 * (t.val % 16) + r.val, by omega⟩
/-- The row of the prepared arrays that is row `r` of a grid point's block. -/
def row (t : Fin grid0.N) (r : Fin 512) : Fin 65536 := ⟨512 * t.val + r.val, by have := t.isLt; have e : grid0.N = 128 := N_0; omega⟩

/-- The row is the position in its batch. -/
theorem row_val (t : Fin grid0.N) (r : Fin 512) : (row t r).val = 8192 * (bat t).val + (pos t r).val := by
  show 512 * t.val + r.val = 8192 * (t.val / 16) + (512 * (t.val % 16) + r.val)
  omega

/-- Where a grid point reads or writes window 0. -/
theorem map0 (t : Fin grid0.N) : cc0_transform_0 (grid0.coords t) = ![t.val, 0] := by
  revert t
  decide +kernel
/-- Where a grid point reads or writes window 1. -/
theorem map1 (t : Fin grid0.N) : cc0_transform_1 (grid0.coords t) = ![0, 0] := by
  revert t
  decide +kernel
/-- Where a grid point reads or writes window 2. -/
theorem map2 (t : Fin grid0.N) : cc0_transform_2 (grid0.coords t) = ![0, 0] := by
  revert t
  decide +kernel
/-- Where a grid point reads or writes window 3. -/
theorem map3 (t : Fin grid0.N) : cc0_transform_3 (grid0.coords t) = ![t.val % 16, 0] := by
  revert t
  decide +kernel
/-- Where a grid point reads or writes window 4. -/
theorem map4 (t : Fin grid0.N) : cc0_transform_4 (grid0.coords t) = ![t.val % 16, 0] := by
  revert t
  decide +kernel
/-- Where a grid point reads or writes window 5. -/
theorem map5 (t : Fin grid0.N) : cc0_transform_5 (grid0.coords t) = ![0, 0] := by
  revert t
  decide +kernel
/-- Where a grid point reads or writes window 6. -/
theorem map6 (t : Fin grid0.N) : cc0_transform_6 (grid0.coords t) = ![0, 0] := by
  revert t
  decide +kernel
/-- Where a grid point reads or writes window 7. -/
theorem map7 (t : Fin grid0.N) : cc0_transform_7 (grid0.coords t) = ![t.val, 0] := by
  revert t
  decide +kernel
/-- Where a grid point reads or writes window 8. -/
theorem map8 (t : Fin grid0.N) : cc0_transform_8 (grid0.coords t) = ![t.val, 0] := by
  revert t
  decide +kernel
/-- Where a grid point reads or writes window 9. -/
theorem map9 (t : Fin grid0.N) : cc0_transform_9 (grid0.coords t) = ![t.val, 0, 0] := by
  revert t
  decide +kernel
/-- Where a grid point reads or writes window 10. -/
theorem map10 (t : Fin grid0.N) : cc0_transform_10 (grid0.coords t) = ![t.val, 0, 0] := by
  revert t
  decide +kernel
/-- Where a grid point reads or writes window 11. -/
theorem map11 (t : Fin grid0.N) : cc0_transform_11 (grid0.coords t) = ![t.val, 0] := by
  revert t
  decide +kernel
/-- Where a grid point reads or writes window 12. -/
theorem map12 (t : Fin grid0.N) : cc0_transform_12 (grid0.coords t) = ![t.val, 0] := by
  revert t
  decide +kernel
/-- Where a grid point reads or writes window 13. -/
theorem map13 (t : Fin grid0.N) : cc0_transform_13 (grid0.coords t) = ![t.val, 0] := by
  revert t
  decide +kernel

/-- The input, the block of a grid point. -/
def xb0 (t : Fin grid0.N) : S512x1024.Idx → EReal := iblk m c 0 t
/-- The gain, the block of a grid point. -/
def xb1 (t : Fin grid0.N) : S1x1024.Idx → EReal := iblk m c 1 t
/-- The projection, the block of a grid point. -/
def xb2 (t : Fin grid0.N) : S1024x2944.Idx → EReal := iblk m c 2 t
/-- The cosines, the block of a grid point. -/
def xb3 (t : Fin grid0.N) : S512x128.Idx → EReal := iblk m c 3 t
/-- The sines, the block of a grid point. -/
def xb4 (t : Fin grid0.N) : S512x128.Idx → EReal := iblk m c 4 t
/-- The queries' gain, the block of a grid point. -/
def xb5 (t : Fin grid0.N) : S1x128.Idx → EReal := iblk m c 5 t
/-- The keys' gain, the block of a grid point. -/
def xb6 (t : Fin grid0.N) : S1x128.Idx → EReal := iblk m c 6 t

/-- The input's block at an entry. -/
theorem block0 (t : Fin grid0.N) (r : Fin 512) (j : Fin 1024) :
    xb0 m c t (ix2 r j) = (V (F := Ideal) m c main_v38 : S65536x1024.Idx → EReal) (ix2 (row t r) j) := by
  show (V (F := Ideal) m c main_v38 : S65536x1024.Idx → EReal) (((cfg0.win 0).blk t).view.emb (ix2 r j)) = _
  refine congrArg _ (funext fun a => Fin.ext ?_)
  match a with
  | ⟨0, _⟩ => show cc0_transform_0 (grid0.coords t) 0 * 512 + 1 * r.val = 512 * t.val + r.val; rw [map0]; show t.val * 512 + 1 * r.val = _; omega
  | ⟨1, _⟩ => show cc0_transform_0 (grid0.coords t) 1 * 1024 + 1 * j.val = j.val; rw [map0]; show 0 * 1024 + 1 * j.val = _; omega

/-- The gain's block at an entry. -/
theorem block1 (t : Fin grid0.N) (r : Fin 1) (j : Fin 1024) :
    xb1 m c t (ix2 r j) = (V (F := Ideal) m c main_v53 : S1x1024.Idx → EReal) (ix2 (r) j) := by
  show (V (F := Ideal) m c main_v53 : S1x1024.Idx → EReal) (((cfg0.win 1).blk t).view.emb (ix2 r j)) = _
  refine congrArg _ (funext fun a => Fin.ext ?_)
  match a with
  | ⟨0, _⟩ => show cc0_transform_1 (grid0.coords t) 0 * 1 + 1 * r.val = r.val; rw [map1]; show 0 * 1 + 1 * r.val = _; omega
  | ⟨1, _⟩ => show cc0_transform_1 (grid0.coords t) 1 * 1024 + 1 * j.val = j.val; rw [map1]; show 0 * 1024 + 1 * j.val = _; omega

/-- The projection's block at an entry. -/
theorem block2 (t : Fin grid0.N) (r : Fin 1024) (j : Fin 2944) :
    xb2 m c t (ix2 r j) = (V (F := Ideal) m c main_v41 : S1024x2944.Idx → EReal) (ix2 (r) j) := by
  show (V (F := Ideal) m c main_v41 : S1024x2944.Idx → EReal) (((cfg0.win 2).blk t).view.emb (ix2 r j)) = _
  refine congrArg _ (funext fun a => Fin.ext ?_)
  match a with
  | ⟨0, _⟩ => show cc0_transform_2 (grid0.coords t) 0 * 1024 + 1 * r.val = r.val; rw [map2]; show 0 * 1024 + 1 * r.val = _; omega
  | ⟨1, _⟩ => show cc0_transform_2 (grid0.coords t) 1 * 2944 + 1 * j.val = j.val; rw [map2]; show 0 * 2944 + 1 * j.val = _; omega

/-- The cosines's block at an entry. -/
theorem block3 (t : Fin grid0.N) (r : Fin 512) (j : Fin 128) :
    xb3 m c t (ix2 r j) = (V (F := Ideal) m c main_v32 : S8192x128.Idx → EReal) (ix2 (pos t r) j) := by
  show (V (F := Ideal) m c main_v32 : S8192x128.Idx → EReal) (((cfg0.win 3).blk t).view.emb (ix2 r j)) = _
  refine congrArg _ (funext fun a => Fin.ext ?_)
  match a with
  | ⟨0, _⟩ => show cc0_transform_3 (grid0.coords t) 0 * 512 + 1 * r.val = 512 * (t.val % 16) + r.val; rw [map3]; show t.val % 16 * 512 + 1 * r.val = _; omega
  | ⟨1, _⟩ => show cc0_transform_3 (grid0.coords t) 1 * 128 + 1 * j.val = j.val; rw [map3]; show 0 * 128 + 1 * j.val = _; omega

/-- The sines's block at an entry. -/
theorem block4 (t : Fin grid0.N) (r : Fin 512) (j : Fin 128) :
    xb4 m c t (ix2 r j) = (V (F := Ideal) m c main_v37 : S8192x128.Idx → EReal) (ix2 (pos t r) j) := by
  show (V (F := Ideal) m c main_v37 : S8192x128.Idx → EReal) (((cfg0.win 4).blk t).view.emb (ix2 r j)) = _
  refine congrArg _ (funext fun a => Fin.ext ?_)
  match a with
  | ⟨0, _⟩ => show cc0_transform_4 (grid0.coords t) 0 * 512 + 1 * r.val = 512 * (t.val % 16) + r.val; rw [map4]; show t.val % 16 * 512 + 1 * r.val = _; omega
  | ⟨1, _⟩ => show cc0_transform_4 (grid0.coords t) 1 * 128 + 1 * j.val = j.val; rw [map4]; show 0 * 128 + 1 * j.val = _; omega

/-- The queries' gain's block at an entry. -/
theorem block5 (t : Fin grid0.N) (r : Fin 1) (j : Fin 128) :
    xb5 m c t (ix2 r j) = (V (F := Ideal) m c main_v46 : S1x128.Idx → EReal) (ix2 (r) j) := by
  show (V (F := Ideal) m c main_v46 : S1x128.Idx → EReal) (((cfg0.win 5).blk t).view.emb (ix2 r j)) = _
  refine congrArg _ (funext fun a => Fin.ext ?_)
  match a with
  | ⟨0, _⟩ => show cc0_transform_5 (grid0.coords t) 0 * 1 + 1 * r.val = r.val; rw [map5]; show 0 * 1 + 1 * r.val = _; omega
  | ⟨1, _⟩ => show cc0_transform_5 (grid0.coords t) 1 * 128 + 1 * j.val = j.val; rw [map5]; show 0 * 128 + 1 * j.val = _; omega

/-- The keys' gain's block at an entry. -/
theorem block6 (t : Fin grid0.N) (r : Fin 1) (j : Fin 128) :
    xb6 m c t (ix2 r j) = (V (F := Ideal) m c main_v51 : S1x128.Idx → EReal) (ix2 (r) j) := by
  show (V (F := Ideal) m c main_v51 : S1x128.Idx → EReal) (((cfg0.win 6).blk t).view.emb (ix2 r j)) = _
  refine congrArg _ (funext fun a => Fin.ext ?_)
  match a with
  | ⟨0, _⟩ => show cc0_transform_6 (grid0.coords t) 0 * 1 + 1 * r.val = r.val; rw [map6]; show 0 * 1 + 1 * r.val = _; omega
  | ⟨1, _⟩ => show cc0_transform_6 (grid0.coords t) 1 * 128 + 1 * j.val = j.val; rw [map6]; show 0 * 128 + 1 * j.val = _; omega

/-- The angles' cosines for a block's row. -/
theorem cosB (t : Fin grid0.N) (r : Fin 512) (h : Fin 2) (k : Fin 64) : half (fun l => xb3 m c t (ix2 r l)) h k = axial (cosR (pos t r)) (cosC (pos t r)) k :=
  (block3 m c t r _).trans (cos_at m c (pos t r) h k)
/-- The angles' sines for a block's row. -/
theorem sinB (t : Fin grid0.N) (r : Fin 512) (h : Fin 2) (k : Fin 64) : half (fun l => xb4 m c t (ix2 r l)) h k
    = if k.val % 32 < 16 then -axial (sinR (pos t r)) (sinC (pos t r)) k else axial (sinR (pos t r)) (sinC (pos t r)) k :=
  (block4 m c t r _).trans (sin_at m c (pos t r) h k)
/-- The queries' gain at either of two heads. -/
theorem qgB (t : Fin grid0.N) (h : Fin 2) (k : Fin 64) : half (fun l => xb5 m c t (ix2 0 l)) h k = a3 m c (ix2 0 k) :=
  (block5 m c t 0 _).trans ((congrFun (host5 m c) _).trans (twice_at (a3 m c) h k))
/-- The keys' gain at either of two heads. -/
theorem kgB (t : Fin grid0.N) (h : Fin 2) (k : Fin 64) : half (fun l => xb6 m c t (ix2 0 l)) h k = a4 m c (ix2 0 k) :=
  (block6 m c t 0 _).trans ((congrFun (host6 m c) _).trans (twice_at (a4 m c) h k))

/-- A row of the block's projection is the token's. -/
theorem wide_at (t : Fin grid0.N) (r : Fin 512) (q : Fin 2832) (q' : Fin 2944) (hq : q'.val = q.val) :
    Cert.InBlock.wide (xb0 m c t) (xb1 m c t) (xb2 m c t) r q' = line (a0 m c) (a1 m c) (a2 m c) (bat t) (pos t r) q := by
  show mat (rms n1024 (fun k => xb0 m c t (ix2 r k)) (fun k => xb1 m c t (ix2 0 k))) (fun i k => xb2 m c t (ix2 i k)) q'
    = mat (rms n1024 (fun k => a0 m c (ix3 (bat t) (pos t r) k)) (fun k => a1 m c (ix2 0 k))) (fun i k => a2 m c (ix3 0 i k)) q
  rw [show (fun k => xb0 m c t (ix2 r k)) = _ from funext fun k => (block0 m c t r k).trans (at0 m c (row t r) k (bat t) (pos t r) (row_val t r)),
    show (fun k => xb1 m c t (ix2 0 k)) = _ from funext fun k => (block1 m c t 0 k).trans (at1 m c k)]
  unfold mat
  exact Finset.sum_congr rfl fun i _ => congrArg _ ((block2 m c t i q').trans (at2 m c i q q' hq))

/-- Two heads of a block's row, at a lane: its head of the token's row, normed and rotated. -/
theorem two_at (t : Fin grid0.N) (r : Fin 512) (gn : Fin 128 → EReal) (g : Fin 64 → EReal) (hg : ∀ h k, half gn h k = g k) (o : ℕ) (ho : o + 128 ≤ 2832) (h : Fin 2) (d : Fin 64)
    (f : Fin 64 → EReal) (hf : ∀ k : Fin 64, f k = line (a0 m c) (a1 m c) (a2 m c) (bat t) (pos t r) ⟨o + (64 * h.val + k.val), by omega⟩) :
    half (Cert.InBlock.two (xb0 m c t) (xb1 m c t) (xb2 m c t) (xb3 m c t) (xb4 m c t) gn o (by omega) r) h d = seat (pos t r) f g d := by
  refine (pair_eq _ _ _ gn _ _ g hg (cosB m c t r) (sinB m c t r) h d).trans ?_
  refine congrArg (fun f => head _ _ f g d) (funext fun k => ?_)
  exact (wide_at m c t r ⟨o + (64 * h.val + k.val), by omega⟩ _ rfl).trans (hf k).symm

end Cert.InHost

end
-- ==== Proof.InValue.lean ====
/-
  What the in-projection leaves in its result arrays: block by block the mathematics of a token at the rows that the host
  prepares, and after the host's last reshapes what the reference computes. The arguments are arbitrary.
-/
module

public import proofs.«01_k».proof.Proof.InHost

@[expose] public section

set_option maxRecDepth 16384

noncomputable section

namespace Cert.InValue

open Cert.Kernel3Ideal Cert.Kernel3Ideal.Gen Cert.Post Cert.In Cert.InRef Cert.InHost
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-- The reference's queries. -/
abbrev resQ : S65536x512.Idx → EReal := Cert.Reference3Ideal.Read.val_main_v176 (F := Ideal) (a0 m c) (a1 m c) (a2 m c) (a3 m c)
/-- The reference's keys. -/
abbrev resK : S65536x128.Idx → EReal := Cert.Reference3Ideal.Read.val_main_v178 (F := Ideal) (a0 m c) (a1 m c) (a2 m c) (a4 m c)
/-- The reference's values. -/
abbrev resV : S65536x128.Idx → EReal := Cert.Reference3Ideal.Read.val_main_v180 (F := Ideal) (a0 m c) (a1 m c) (a2 m c)
/-- The reference's queries, keys and values of the DeltaNet. -/
abbrev resD : S65536x1536.Idx → EReal := Cert.Reference3Ideal.Read.val_main_v182 (F := Ideal) (a0 m c) (a1 m c) (a2 m c)
/-- The reference's gate of the DeltaNet. -/
abbrev resZ : S65536x512.Idx → EReal := Cert.Reference3Ideal.Read.val_main_v184 (F := Ideal) (a0 m c) (a1 m c) (a2 m c)
/-- The reference's rates. -/
abbrev resB : S65536x16.Idx → EReal := Cert.Reference3Ideal.Read.val_main_v186 (F := Ideal) (a0 m c) (a1 m c) (a2 m c)

/-- The grid point of a block of rows. -/
def at128 (i : Fin 128) : Fin grid0.N := ⟨i.val, by have e : grid0.N = 128 := N_0; omega⟩

/-- What a grid point computes of the first half of the values. -/
def cell9 (t : Fin grid0.N) : S1x80x512.Idx → EReal := out0_9 (F := Ideal) (xb0 m c t) (xb1 m c t) (xb2 m c t) (xb3 m c t) (xb4 m c t) (xb5 m c t) (xb6 m c t)
/-- What a grid point computes of the second half of the values. -/
def cell10 (t : Fin grid0.N) : S1x80x512.Idx → EReal := out0_10 (F := Ideal) (xb0 m c t) (xb1 m c t) (xb2 m c t) (xb3 m c t) (xb4 m c t) (xb5 m c t) (xb6 m c t)
/-- What a grid point computes of the rates. -/
def cell13 (t : Fin grid0.N) : S512x128.Idx → EReal := out0_13 (F := Ideal) (xb0 m c t) (xb1 m c t) (xb2 m c t) (xb3 m c t) (xb4 m c t) (xb5 m c t) (xb6 m c t)
/-- The first half of the values, as the call lays it out. -/
def midA (i : S128x80x512.Idx) : EReal := cell9 m c (at128 (i 0)) (ix3 0 (i 1) (i 2))
/-- The second half of the values, as the call lays it out. -/
def midB (i : S128x80x512.Idx) : EReal := cell10 m c (at128 (i 0)) (ix3 0 (i 1) (i 2))
/-- The rates, as the call lays them out. -/
def midR (i : S65536x128.Idx) : EReal :=
  cell13 m c (at128 ⟨(i 0).val / 512, by have h : (i 0).val < 65536 := (i 0).isLt; omega⟩) (ix2 ⟨(i 0).val % 512, Nat.mod_lt _ (by decide)⟩ (i 1))

/-- The first half at an entry. -/
theorem midA_at (p : Fin grid0.N) (i : Fin 128) (hi : i.val = p.val) (d : Fin 80) (r : Fin 512) : midA m c (ix3 i d r) = cell9 m c p (ix3 0 d r) :=
  congrArg (fun t => cell9 m c t (ix3 0 d r)) (show at128 i = p from Fin.ext hi)
/-- The second half at an entry. -/
theorem midB_at (p : Fin grid0.N) (i : Fin 128) (hi : i.val = p.val) (d : Fin 80) (r : Fin 512) : midB m c (ix3 i d r) = cell10 m c p (ix3 0 d r) :=
  congrArg (fun t => cell10 m c t (ix3 0 d r)) (show at128 i = p from Fin.ext hi)
/-- The rates at an entry. -/
theorem midR_at (p : Fin grid0.N) (r : Fin 512) (j : Fin 128) : midR m c (ix2 (row p r) j) = cell13 m c p (ix2 r j) := by
  have hr := r.isLt
  have h := (row p r).isLt
  exact congrArg₂ (fun (t : Fin grid0.N) (r : Fin 512) => cell13 m c t (ix2 r j))
    (show at128 ⟨(row p r).val / 512, by omega⟩ = p from Fin.ext (by show (512 * p.val + r.val) / 512 = p.val; omega))
    (show (⟨(row p r).val % 512, Nat.mod_lt _ (by decide)⟩ : Fin 512) = r from Fin.ext (by show (512 * p.val + r.val) % 512 = r.val; omega))

attribute [irreducible] midA midB midR

/-- A block of queries. -/
theorem outs7 (t : Fin grid0.N) (r : Fin 512) (j : Fin 512) : out0_7 (F := Ideal) (xb0 m c t) (xb1 m c t) (xb2 m c t) (xb3 m c t) (xb4 m c t) (xb5 m c t) (xb6 m c t) (ix2 r j) = resQ m c (ix2 (row t r) j) := by
  have hj := j.isLt
  refine (Cert.InBlock.out7_at (xb0 m c t) (xb1 m c t) (xb2 m c t) (xb3 m c t) (xb4 m c t) (xb5 m c t) (xb6 m c t) (ix2 r j)).trans ?_
  refine Eq.trans ?_ (Cert.InRef.q_at (a0 m c) (a1 m c) (a2 m c) (a3 m c) (bat t) (pos t r) (row t r) (row_val t r) j).symm
  unfold Cert.InBlock.qBlock
  refine congrArg₂ (· * ·) ?_ (IdealRules.named_const.ideal_named_scalar _ _ _ _ rfl)
  refine Eq.trans (congrArg _ ?_) (two_at m c t r (fun k => xb5 m c t (ix2 0 k)) (fun k => a3 m c (ix2 0 k)) (qgB m c t) (128 * (j.val / 128)) (by omega)
    ⟨j.val % 128 / 64, by omega⟩ ⟨j.val % 64, Nat.mod_lt _ (by decide)⟩ (fun k => line (a0 m c) (a1 m c) (a2 m c) (bat t) (pos t r) ⟨64 * (j.val / 64) + k.val, by omega⟩) (fun k => ?_))
  · refine Fin.ext ?_
    show j.val % 128 = 64 * (j.val % 128 / 64) + j.val % 64
    omega
  · refine congrArg _ (Fin.ext ?_)
    show 64 * (j.val / 64) + k.val = 128 * (j.val / 128) + (64 * (j.val % 128 / 64) + k.val)
    omega

/-- A block of keys. -/
theorem outs8 (t : Fin grid0.N) (r : Fin 512) (j : Fin 128) : out0_8 (F := Ideal) (xb0 m c t) (xb1 m c t) (xb2 m c t) (xb3 m c t) (xb4 m c t) (xb5 m c t) (xb6 m c t) (ix2 r j) = resK m c (ix2 (row t r) j) := by
  have hj := j.isLt
  refine (Cert.InBlock.out8_at (xb0 m c t) (xb1 m c t) (xb2 m c t) (xb3 m c t) (xb4 m c t) (xb5 m c t) (xb6 m c t) r j).trans ?_
  refine Eq.trans ?_ (Cert.InRef.k_at (a0 m c) (a1 m c) (a2 m c) (a4 m c) (bat t) (pos t r) (row t r) (row_val t r) j).symm
  refine Eq.trans (congrArg _ ?_) (two_at m c t r (fun k => xb6 m c t (ix2 0 k)) (fun k => a4 m c (ix2 0 k)) (kgB m c t) 512 (by omega)
    ⟨j.val / 64, by omega⟩ ⟨j.val % 64, Nat.mod_lt _ (by decide)⟩ (fun k => line (a0 m c) (a1 m c) (a2 m c) (bat t) (pos t r) ⟨512 + 64 * (j.val / 64) + k.val, by omega⟩) (fun k => ?_))
  · refine Fin.ext ?_
    show j.val = 64 * (j.val / 64) + j.val % 64
    omega
  · refine congrArg _ (Fin.ext ?_)
    show 512 + 64 * (j.val / 64) + k.val = 512 + (64 * (j.val / 64) + k.val)
    omega

/-- A block of the DeltaNet's queries, keys and values. -/
theorem outs11 (t : Fin grid0.N) (r : Fin 512) (j : Fin 1536) : out0_11 (F := Ideal) (xb0 m c t) (xb1 m c t) (xb2 m c t) (xb3 m c t) (xb4 m c t) (xb5 m c t) (xb6 m c t) (ix2 r j) = resD m c (ix2 (row t r) j) := by
  refine (Cert.InBlock.out11_at (xb0 m c t) (xb1 m c t) (xb2 m c t) (xb3 m c t) (xb4 m c t) (xb5 m c t) (xb6 m c t) r j ⟨768 + j.val, by omega⟩ rfl).trans ?_
  exact (wide_at m c t r ⟨768 + j.val, by omega⟩ _ rfl).trans (Cert.InRef.dqkv_at (a0 m c) (a1 m c) (a2 m c) (bat t) (pos t r) (row t r) (row_val t r) j).symm

/-- A block of the gate. -/
theorem outs12 (t : Fin grid0.N) (r : Fin 512) (j : Fin 512) : out0_12 (F := Ideal) (xb0 m c t) (xb1 m c t) (xb2 m c t) (xb3 m c t) (xb4 m c t) (xb5 m c t) (xb6 m c t) (ix2 r j) = resZ m c (ix2 (row t r) j) := by
  refine (Cert.InBlock.out12_at (xb0 m c t) (xb1 m c t) (xb2 m c t) (xb3 m c t) (xb4 m c t) (xb5 m c t) (xb6 m c t) r j ⟨2304 + j.val, by omega⟩ rfl).trans ?_
  exact (wide_at m c t r ⟨2304 + j.val, by omega⟩ _ rfl).trans (Cert.InRef.dz_at (a0 m c) (a1 m c) (a2 m c) (bat t) (pos t r) (row t r) (row_val t r) j).symm

/-- A block of the rates, as it is laid out. -/
theorem outs13 (t : Fin grid0.N) (r : Fin 512) (j : Fin 128) : out0_13 (F := Ideal) (xb0 m c t) (xb1 m c t) (xb2 m c t) (xb3 m c t) (xb4 m c t) (xb5 m c t) (xb6 m c t) (ix2 r j) = midR m c (ix2 (row t r) j) := (midR_at m c t r j).symm

/-- The queries: what a grid point writes back is its block of them. -/
theorem flushed7 (t : Fin grid0.N) : (dats m 0 c).flushed 7 t = ((cfg0.win 7).blk t).view.read (Elt Ideal) (resQ m c) := by
  show (cfg0.win 7).cut (grid0.coords t) ((dats m 0 c).after 7 t) = _
  rw [after0_7]
  refine funext fun (z : S512x512.Idx) => ?_
  obtain ⟨r, j, rfl⟩ : ∃ (r : Fin 512) (j : Fin 512), z = ix2 r j := ⟨z 0, z 1, eq_ix2 z⟩
  show out0_7 (F := Ideal) (xb0 m c t) (xb1 m c t) (xb2 m c t) (xb3 m c t) (xb4 m c t) (xb5 m c t) (xb6 m c t) (ix2 r j) = resQ m c (((cfg0.win 7).blk t).view.emb (ix2 r j))
  rw [outs7 m c t r j]
  refine congrArg (resQ m c) ?_
  funext a
  apply Fin.ext
  match a with
  | ⟨0, _⟩ => show 512 * t.val + r.val = cc0_transform_7 (grid0.coords t) 0 * 512 + 1 * r.val; rw [map7]; show _ = t.val * 512 + 1 * r.val; omega
  | ⟨1, _⟩ => show j.val = cc0_transform_7 (grid0.coords t) 1 * 512 + 1 * j.val; rw [map7]; show _ = 0 * 512 + 1 * j.val; omega

/-- Where a box of their array lies. -/
theorem box7 (off size : Fin 2 → ℕ) (inb) (i : main_v54_0.ty.Idx) (h : ∀ a, off a ≤ (i a).val ∧ (i a).val < off a + size a) :
    i ∈ ((View.whole main_v54_0).slice (Rect.unit (s := main_v54_0.ty.shape) off size inb)).set := by
  rw [View.set_slice_whole, Rect.mem_set_unit]
  exact h

/-- The queries, after the run. -/
theorem final7 : (dats m 0 c).arrAt 7 cfg0.N = resQ m c :=
  (dats m 0 c).arrAt_eq_of_cover 7 (resQ m c) (fun t _ => flushed7 m c t) fun (i : S65536x512.Idx) => by
    have h0 : (i 0 : Nat) < 65536 := (i 0).isLt
    have h1 : (i 1 : Nat) < 512 := (i 1).isLt
    have e : grid0.N = 128 := N_0
    obtain ⟨t, ht⟩ : ∃ t : Fin grid0.N, t.val = (i 0 : Nat) / 512 := ⟨⟨(i 0 : Nat) / 512, by omega⟩, rfl⟩
    refine ⟨t, flush0_7 _, ?_⟩
    refine box7 _ _ _ i fun a => ?_
    match a with
    | ⟨0, _⟩ =>
      show cc0_transform_7 (grid0.coords t) 0 * 512 ≤ (i 0 : Nat) ∧ (i 0 : Nat) < cc0_transform_7 (grid0.coords t) 0 * 512 + 512
      rw [map7]
      show t.val * 512 ≤ (i 0 : Nat) ∧ (i 0 : Nat) < t.val * 512 + 512
      omega
    | ⟨1, _⟩ =>
      show cc0_transform_7 (grid0.coords t) 1 * 512 ≤ (i 1 : Nat) ∧ (i 1 : Nat) < cc0_transform_7 (grid0.coords t) 1 * 512 + 512
      rw [map7]
      show 0 * 512 ≤ (i 1 : Nat) ∧ (i 1 : Nat) < 0 * 512 + 512
      omega

/-- The keys: what a grid point writes back is its block of them. -/
theorem flushed8 (t : Fin grid0.N) : (dats m 0 c).flushed 8 t = ((cfg0.win 8).blk t).view.read (Elt Ideal) (resK m c) := by
  show (cfg0.win 8).cut (grid0.coords t) ((dats m 0 c).after 8 t) = _
  rw [after0_8]
  refine funext fun (z : S512x128.Idx) => ?_
  obtain ⟨r, j, rfl⟩ : ∃ (r : Fin 512) (j : Fin 128), z = ix2 r j := ⟨z 0, z 1, eq_ix2 z⟩
  show out0_8 (F := Ideal) (xb0 m c t) (xb1 m c t) (xb2 m c t) (xb3 m c t) (xb4 m c t) (xb5 m c t) (xb6 m c t) (ix2 r j) = resK m c (((cfg0.win 8).blk t).view.emb (ix2 r j))
  rw [outs8 m c t r j]
  refine congrArg (resK m c) ?_
  funext a
  apply Fin.ext
  match a with
  | ⟨0, _⟩ => show 512 * t.val + r.val = cc0_transform_8 (grid0.coords t) 0 * 512 + 1 * r.val; rw [map8]; show _ = t.val * 512 + 1 * r.val; omega
  | ⟨1, _⟩ => show j.val = cc0_transform_8 (grid0.coords t) 1 * 128 + 1 * j.val; rw [map8]; show _ = 0 * 128 + 1 * j.val; omega

/-- Where a box of their array lies. -/
theorem box8 (off size : Fin 2 → ℕ) (inb) (i : main_v54_1.ty.Idx) (h : ∀ a, off a ≤ (i a).val ∧ (i a).val < off a + size a) :
    i ∈ ((View.whole main_v54_1).slice (Rect.unit (s := main_v54_1.ty.shape) off size inb)).set := by
  rw [View.set_slice_whole, Rect.mem_set_unit]
  exact h

/-- The keys, after the run. -/
theorem final8 : (dats m 0 c).arrAt 8 cfg0.N = resK m c :=
  (dats m 0 c).arrAt_eq_of_cover 8 (resK m c) (fun t _ => flushed8 m c t) fun (i : S65536x128.Idx) => by
    have h0 : (i 0 : Nat) < 65536 := (i 0).isLt
    have h1 : (i 1 : Nat) < 128 := (i 1).isLt
    have e : grid0.N = 128 := N_0
    obtain ⟨t, ht⟩ : ∃ t : Fin grid0.N, t.val = (i 0 : Nat) / 512 := ⟨⟨(i 0 : Nat) / 512, by omega⟩, rfl⟩
    refine ⟨t, flush0_8 _, ?_⟩
    refine box8 _ _ _ i fun a => ?_
    match a with
    | ⟨0, _⟩ =>
      show cc0_transform_8 (grid0.coords t) 0 * 512 ≤ (i 0 : Nat) ∧ (i 0 : Nat) < cc0_transform_8 (grid0.coords t) 0 * 512 + 512
      rw [map8]
      show t.val * 512 ≤ (i 0 : Nat) ∧ (i 0 : Nat) < t.val * 512 + 512
      omega
    | ⟨1, _⟩ =>
      show cc0_transform_8 (grid0.coords t) 1 * 128 ≤ (i 1 : Nat) ∧ (i 1 : Nat) < cc0_transform_8 (grid0.coords t) 1 * 128 + 128
      rw [map8]
      show 0 * 128 ≤ (i 1 : Nat) ∧ (i 1 : Nat) < 0 * 128 + 128
      omega

/-- The DeltaNet's queries, keys and values: what a grid point writes back is its block of them. -/
theorem flushed11 (t : Fin grid0.N) : (dats m 0 c).flushed 11 t = ((cfg0.win 11).blk t).view.read (Elt Ideal) (resD m c) := by
  show (cfg0.win 11).cut (grid0.coords t) ((dats m 0 c).after 11 t) = _
  rw [after0_11]
  refine funext fun (z : S512x1536.Idx) => ?_
  obtain ⟨r, j, rfl⟩ : ∃ (r : Fin 512) (j : Fin 1536), z = ix2 r j := ⟨z 0, z 1, eq_ix2 z⟩
  show out0_11 (F := Ideal) (xb0 m c t) (xb1 m c t) (xb2 m c t) (xb3 m c t) (xb4 m c t) (xb5 m c t) (xb6 m c t) (ix2 r j) = resD m c (((cfg0.win 11).blk t).view.emb (ix2 r j))
  rw [outs11 m c t r j]
  refine congrArg (resD m c) ?_
  funext a
  apply Fin.ext
  match a with
  | ⟨0, _⟩ => show 512 * t.val + r.val = cc0_transform_11 (grid0.coords t) 0 * 512 + 1 * r.val; rw [map11]; show _ = t.val * 512 + 1 * r.val; omega
  | ⟨1, _⟩ => show j.val = cc0_transform_11 (grid0.coords t) 1 * 1536 + 1 * j.val; rw [map11]; show _ = 0 * 1536 + 1 * j.val; omega

/-- Where a box of their array lies. -/
theorem box11 (off size : Fin 2 → ℕ) (inb) (i : main_v54_4.ty.Idx) (h : ∀ a, off a ≤ (i a).val ∧ (i a).val < off a + size a) :
    i ∈ ((View.whole main_v54_4).slice (Rect.unit (s := main_v54_4.ty.shape) off size inb)).set := by
  rw [View.set_slice_whole, Rect.mem_set_unit]
  exact h

/-- The DeltaNet's queries, keys and values, after the run. -/
theorem final11 : (dats m 0 c).arrAt 11 cfg0.N = resD m c :=
  (dats m 0 c).arrAt_eq_of_cover 11 (resD m c) (fun t _ => flushed11 m c t) fun (i : S65536x1536.Idx) => by
    have h0 : (i 0 : Nat) < 65536 := (i 0).isLt
    have h1 : (i 1 : Nat) < 1536 := (i 1).isLt
    have e : grid0.N = 128 := N_0
    obtain ⟨t, ht⟩ : ∃ t : Fin grid0.N, t.val = (i 0 : Nat) / 512 := ⟨⟨(i 0 : Nat) / 512, by omega⟩, rfl⟩
    refine ⟨t, flush0_11 _, ?_⟩
    refine box11 _ _ _ i fun a => ?_
    match a with
    | ⟨0, _⟩ =>
      show cc0_transform_11 (grid0.coords t) 0 * 512 ≤ (i 0 : Nat) ∧ (i 0 : Nat) < cc0_transform_11 (grid0.coords t) 0 * 512 + 512
      rw [map11]
      show t.val * 512 ≤ (i 0 : Nat) ∧ (i 0 : Nat) < t.val * 512 + 512
      omega
    | ⟨1, _⟩ =>
      show cc0_transform_11 (grid0.coords t) 1 * 1536 ≤ (i 1 : Nat) ∧ (i 1 : Nat) < cc0_transform_11 (grid0.coords t) 1 * 1536 + 1536
      rw [map11]
      show 0 * 1536 ≤ (i 1 : Nat) ∧ (i 1 : Nat) < 0 * 1536 + 1536
      omega

/-- The gate: what a grid point writes back is its block of them. -/
theorem flushed12 (t : Fin grid0.N) : (dats m 0 c).flushed 12 t = ((cfg0.win 12).blk t).view.read (Elt Ideal) (resZ m c) := by
  show (cfg0.win 12).cut (grid0.coords t) ((dats m 0 c).after 12 t) = _
  rw [after0_12]
  refine funext fun (z : S512x512.Idx) => ?_
  obtain ⟨r, j, rfl⟩ : ∃ (r : Fin 512) (j : Fin 512), z = ix2 r j := ⟨z 0, z 1, eq_ix2 z⟩
  show out0_12 (F := Ideal) (xb0 m c t) (xb1 m c t) (xb2 m c t) (xb3 m c t) (xb4 m c t) (xb5 m c t) (xb6 m c t) (ix2 r j) = resZ m c (((cfg0.win 12).blk t).view.emb (ix2 r j))
  rw [outs12 m c t r j]
  refine congrArg (resZ m c) ?_
  funext a
  apply Fin.ext
  match a with
  | ⟨0, _⟩ => show 512 * t.val + r.val = cc0_transform_12 (grid0.coords t) 0 * 512 + 1 * r.val; rw [map12]; show _ = t.val * 512 + 1 * r.val; omega
  | ⟨1, _⟩ => show j.val = cc0_transform_12 (grid0.coords t) 1 * 512 + 1 * j.val; rw [map12]; show _ = 0 * 512 + 1 * j.val; omega

/-- Where a box of their array lies. -/
theorem box12 (off size : Fin 2 → ℕ) (inb) (i : main_v54_5.ty.Idx) (h : ∀ a, off a ≤ (i a).val ∧ (i a).val < off a + size a) :
    i ∈ ((View.whole main_v54_5).slice (Rect.unit (s := main_v54_5.ty.shape) off size inb)).set := by
  rw [View.set_slice_whole, Rect.mem_set_unit]
  exact h

/-- The gate, after the run. -/
theorem final12 : (dats m 0 c).arrAt 12 cfg0.N = resZ m c :=
  (dats m 0 c).arrAt_eq_of_cover 12 (resZ m c) (fun t _ => flushed12 m c t) fun (i : S65536x512.Idx) => by
    have h0 : (i 0 : Nat) < 65536 := (i 0).isLt
    have h1 : (i 1 : Nat) < 512 := (i 1).isLt
    have e : grid0.N = 128 := N_0
    obtain ⟨t, ht⟩ : ∃ t : Fin grid0.N, t.val = (i 0 : Nat) / 512 := ⟨⟨(i 0 : Nat) / 512, by omega⟩, rfl⟩
    refine ⟨t, flush0_12 _, ?_⟩
    refine box12 _ _ _ i fun a => ?_
    match a with
    | ⟨0, _⟩ =>
      show cc0_transform_12 (grid0.coords t) 0 * 512 ≤ (i 0 : Nat) ∧ (i 0 : Nat) < cc0_transform_12 (grid0.coords t) 0 * 512 + 512
      rw [map12]
      show t.val * 512 ≤ (i 0 : Nat) ∧ (i 0 : Nat) < t.val * 512 + 512
      omega
    | ⟨1, _⟩ =>
      show cc0_transform_12 (grid0.coords t) 1 * 512 ≤ (i 1 : Nat) ∧ (i 1 : Nat) < cc0_transform_12 (grid0.coords t) 1 * 512 + 512
      rw [map12]
      show 0 * 512 ≤ (i 1 : Nat) ∧ (i 1 : Nat) < 0 * 512 + 512
      omega

/-- The rates, as they are laid out: what a grid point writes back is its block of them. -/
theorem flushed13 (t : Fin grid0.N) : (dats m 0 c).flushed 13 t = ((cfg0.win 13).blk t).view.read (Elt Ideal) (midR m c) := by
  show (cfg0.win 13).cut (grid0.coords t) ((dats m 0 c).after 13 t) = _
  rw [after0_13]
  refine funext fun (z : S512x128.Idx) => ?_
  obtain ⟨r, j, rfl⟩ : ∃ (r : Fin 512) (j : Fin 128), z = ix2 r j := ⟨z 0, z 1, eq_ix2 z⟩
  show out0_13 (F := Ideal) (xb0 m c t) (xb1 m c t) (xb2 m c t) (xb3 m c t) (xb4 m c t) (xb5 m c t) (xb6 m c t) (ix2 r j) = midR m c (((cfg0.win 13).blk t).view.emb (ix2 r j))
  rw [outs13 m c t r j]
  refine congrArg (midR m c) ?_
  funext a
  apply Fin.ext
  match a with
  | ⟨0, _⟩ => show 512 * t.val + r.val = cc0_transform_13 (grid0.coords t) 0 * 512 + 1 * r.val; rw [map13]; show _ = t.val * 512 + 1 * r.val; omega
  | ⟨1, _⟩ => show j.val = cc0_transform_13 (grid0.coords t) 1 * 128 + 1 * j.val; rw [map13]; show _ = 0 * 128 + 1 * j.val; omega

/-- Where a box of their array lies. -/
theorem box13 (off size : Fin 2 → ℕ) (inb) (i : main_v54_6.ty.Idx) (h : ∀ a, off a ≤ (i a).val ∧ (i a).val < off a + size a) :
    i ∈ ((View.whole main_v54_6).slice (Rect.unit (s := main_v54_6.ty.shape) off size inb)).set := by
  rw [View.set_slice_whole, Rect.mem_set_unit]
  exact h

/-- The rates, as they are laid out, after the run. -/
theorem final13 : (dats m 0 c).arrAt 13 cfg0.N = midR m c :=
  (dats m 0 c).arrAt_eq_of_cover 13 (midR m c) (fun t _ => flushed13 m c t) fun (i : S65536x128.Idx) => by
    have h0 : (i 0 : Nat) < 65536 := (i 0).isLt
    have h1 : (i 1 : Nat) < 128 := (i 1).isLt
    have e : grid0.N = 128 := N_0
    obtain ⟨t, ht⟩ : ∃ t : Fin grid0.N, t.val = (i 0 : Nat) / 512 := ⟨⟨(i 0 : Nat) / 512, by omega⟩, rfl⟩
    refine ⟨t, flush0_13 _, ?_⟩
    refine box13 _ _ _ i fun a => ?_
    match a with
    | ⟨0, _⟩ =>
      show cc0_transform_13 (grid0.coords t) 0 * 512 ≤ (i 0 : Nat) ∧ (i 0 : Nat) < cc0_transform_13 (grid0.coords t) 0 * 512 + 512
      rw [map13]
      show t.val * 512 ≤ (i 0 : Nat) ∧ (i 0 : Nat) < t.val * 512 + 512
      omega
    | ⟨1, _⟩ =>
      show cc0_transform_13 (grid0.coords t) 1 * 128 ≤ (i 1 : Nat) ∧ (i 1 : Nat) < cc0_transform_13 (grid0.coords t) 1 * 128 + 128
      rw [map13]
      show 0 * 128 ≤ (i 1 : Nat) ∧ (i 1 : Nat) < 0 * 128 + 128
      omega

/-- The first half of the values, as it is laid out: what a grid point writes back is its block of it. -/
theorem flushed9 (t : Fin grid0.N) : (dats m 0 c).flushed 9 t = ((cfg0.win 9).blk t).view.read (Elt Ideal) (midA m c) := by
  show (cfg0.win 9).cut (grid0.coords t) ((dats m 0 c).after 9 t) = _
  rw [after0_9]
  refine funext fun (z : S1x80x512.Idx) => ?_
  have e : grid0.N = 128 := N_0
  have ht := t.isLt
  obtain ⟨o, d, r, rfl⟩ : ∃ (o : Fin 1) (d : Fin 80) (r : Fin 512), z = ix3 o d r := ⟨z 0, z 1, z 2, eq_ix3 z⟩
  have ho : o = 0 := Subsingleton.elim _ _
  subst ho
  show out0_9 (F := Ideal) (xb0 m c t) (xb1 m c t) (xb2 m c t) (xb3 m c t) (xb4 m c t) (xb5 m c t) (xb6 m c t) (ix3 0 d r) = midA m c (((cfg0.win 9).blk t).view.emb (ix3 0 d r))
  refine (midA_at m c t ⟨t.val, by omega⟩ rfl d r).symm.trans (congrArg (midA m c) ?_)
  funext a
  apply Fin.ext
  match a with
  | ⟨0, _⟩ => show t.val = cc0_transform_9 (grid0.coords t) 0 * 1 + 1 * 0; rw [map9]; show _ = t.val * 1 + 1 * 0; omega
  | ⟨1, _⟩ => show d.val = cc0_transform_9 (grid0.coords t) 1 * 80 + 1 * d.val; rw [map9]; show _ = 0 * 80 + 1 * d.val; omega
  | ⟨2, _⟩ => show r.val = cc0_transform_9 (grid0.coords t) 2 * 512 + 1 * r.val; rw [map9]; show _ = 0 * 512 + 1 * r.val; omega

/-- Where a box of its array lies. -/
theorem box9 (off size : Fin 3 → ℕ) (inb) (i : main_v54_2.ty.Idx) (h : ∀ a, off a ≤ (i a).val ∧ (i a).val < off a + size a) :
    i ∈ ((View.whole main_v54_2).slice (Rect.unit (s := main_v54_2.ty.shape) off size inb)).set := by
  rw [View.set_slice_whole, Rect.mem_set_unit]
  exact h

/-- The first half of the values, as it is laid out, after the run. -/
theorem final9 : (dats m 0 c).arrAt 9 cfg0.N = midA m c :=
  (dats m 0 c).arrAt_eq_of_cover 9 (midA m c) (fun t _ => flushed9 m c t) fun (i : S128x80x512.Idx) => by
    have h0 : (i 0 : Nat) < 128 := (i 0).isLt
    have h1 : (i 1 : Nat) < 80 := (i 1).isLt
    have h2 : (i 2 : Nat) < 512 := (i 2).isLt
    have e : grid0.N = 128 := N_0
    obtain ⟨t, ht⟩ : ∃ t : Fin grid0.N, t.val = (i 0 : Nat) := ⟨⟨(i 0 : Nat), by omega⟩, rfl⟩
    refine ⟨t, flush0_9 _, ?_⟩
    refine box9 _ _ _ i fun a => ?_
    match a with
    | ⟨0, _⟩ =>
      show cc0_transform_9 (grid0.coords t) 0 * 1 ≤ (i 0 : Nat) ∧ (i 0 : Nat) < cc0_transform_9 (grid0.coords t) 0 * 1 + 1
      rw [map9]
      show t.val * 1 ≤ (i 0 : Nat) ∧ (i 0 : Nat) < t.val * 1 + 1
      omega
    | ⟨1, _⟩ =>
      show cc0_transform_9 (grid0.coords t) 1 * 80 ≤ (i 1 : Nat) ∧ (i 1 : Nat) < cc0_transform_9 (grid0.coords t) 1 * 80 + 80
      rw [map9]
      show 0 * 80 ≤ (i 1 : Nat) ∧ (i 1 : Nat) < 0 * 80 + 80
      omega
    | ⟨2, _⟩ =>
      show cc0_transform_9 (grid0.coords t) 2 * 512 ≤ (i 2 : Nat) ∧ (i 2 : Nat) < cc0_transform_9 (grid0.coords t) 2 * 512 + 512
      rw [map9]
      show 0 * 512 ≤ (i 2 : Nat) ∧ (i 2 : Nat) < 0 * 512 + 512
      omega

/-- The second half of the values, as it is laid out: what a grid point writes back is its block of it. -/
theorem flushed10 (t : Fin grid0.N) : (dats m 0 c).flushed 10 t = ((cfg0.win 10).blk t).view.read (Elt Ideal) (midB m c) := by
  show (cfg0.win 10).cut (grid0.coords t) ((dats m 0 c).after 10 t) = _
  rw [after0_10]
  refine funext fun (z : S1x80x512.Idx) => ?_
  have e : grid0.N = 128 := N_0
  have ht := t.isLt
  obtain ⟨o, d, r, rfl⟩ : ∃ (o : Fin 1) (d : Fin 80) (r : Fin 512), z = ix3 o d r := ⟨z 0, z 1, z 2, eq_ix3 z⟩
  have ho : o = 0 := Subsingleton.elim _ _
  subst ho
  show out0_10 (F := Ideal) (xb0 m c t) (xb1 m c t) (xb2 m c t) (xb3 m c t) (xb4 m c t) (xb5 m c t) (xb6 m c t) (ix3 0 d r) = midB m c (((cfg0.win 10).blk t).view.emb (ix3 0 d r))
  refine (midB_at m c t ⟨t.val, by omega⟩ rfl d r).symm.trans (congrArg (midB m c) ?_)
  funext a
  apply Fin.ext
  match a with
  | ⟨0, _⟩ => show t.val = cc0_transform_10 (grid0.coords t) 0 * 1 + 1 * 0; rw [map10]; show _ = t.val * 1 + 1 * 0; omega
  | ⟨1, _⟩ => show d.val = cc0_transform_10 (grid0.coords t) 1 * 80 + 1 * d.val; rw [map10]; show _ = 0 * 80 + 1 * d.val; omega
  | ⟨2, _⟩ => show r.val = cc0_transform_10 (grid0.coords t) 2 * 512 + 1 * r.val; rw [map10]; show _ = 0 * 512 + 1 * r.val; omega

/-- Where a box of its array lies. -/
theorem box10 (off size : Fin 3 → ℕ) (inb) (i : main_v54_3.ty.Idx) (h : ∀ a, off a ≤ (i a).val ∧ (i a).val < off a + size a) :
    i ∈ ((View.whole main_v54_3).slice (Rect.unit (s := main_v54_3.ty.shape) off size inb)).set := by
  rw [View.set_slice_whole, Rect.mem_set_unit]
  exact h

/-- The second half of the values, as it is laid out, after the run. -/
theorem final10 : (dats m 0 c).arrAt 10 cfg0.N = midB m c :=
  (dats m 0 c).arrAt_eq_of_cover 10 (midB m c) (fun t _ => flushed10 m c t) fun (i : S128x80x512.Idx) => by
    have h0 : (i 0 : Nat) < 128 := (i 0).isLt
    have h1 : (i 1 : Nat) < 80 := (i 1).isLt
    have h2 : (i 2 : Nat) < 512 := (i 2).isLt
    have e : grid0.N = 128 := N_0
    obtain ⟨t, ht⟩ : ∃ t : Fin grid0.N, t.val = (i 0 : Nat) := ⟨⟨(i 0 : Nat), by omega⟩, rfl⟩
    refine ⟨t, flush0_10 _, ?_⟩
    refine box10 _ _ _ i fun a => ?_
    match a with
    | ⟨0, _⟩ =>
      show cc0_transform_10 (grid0.coords t) 0 * 1 ≤ (i 0 : Nat) ∧ (i 0 : Nat) < cc0_transform_10 (grid0.coords t) 0 * 1 + 1
      rw [map10]
      show t.val * 1 ≤ (i 0 : Nat) ∧ (i 0 : Nat) < t.val * 1 + 1
      omega
    | ⟨1, _⟩ =>
      show cc0_transform_10 (grid0.coords t) 1 * 80 ≤ (i 1 : Nat) ∧ (i 1 : Nat) < cc0_transform_10 (grid0.coords t) 1 * 80 + 80
      rw [map10]
      show 0 * 80 ≤ (i 1 : Nat) ∧ (i 1 : Nat) < 0 * 80 + 80
      omega
    | ⟨2, _⟩ =>
      show cc0_transform_10 (grid0.coords t) 2 * 512 ≤ (i 2 : Nat) ∧ (i 2 : Nat) < cc0_transform_10 (grid0.coords t) 2 * 512 + 512
      rw [map10]
      show 0 * 512 ≤ (i 2 : Nat) ∧ (i 2 : Nat) < 0 * 512 + 512
      omega

/-! ## The host's last reshapes -/

/-- What the buffers hold when the host goes on. -/
abbrev left : Valuation τ sig (Elt Ideal) := Pipeline.withArrays (cfgs 0).spec c (V0 (F := Ideal) m c) fun w => (dats m 0 c).arrAt w (cfgs 0).N

/-- The values' two halves put together, position by position. -/
def joined (u v : FVec Ideal S128x80x512 .bf16) : FVec Ideal S65536x128 .bf16 :=
  shapeCast S65536x128 (transpose S128x512x128 [0, 2, 1] (concatenate S128x128x512 1 [⟨S128x64x512, extractStridedSlice S128x64x512 ![0, 0, 0] u slices_S128x80x512_S128x64x512_0_0_0⟩,
    ⟨S128x64x512, extractStridedSlice S128x64x512 ![0, 0, 0] v slices_S128x80x512_S128x64x512_0_0_0⟩] concatenates_S128x64x512_S128x64x512_S128x128x512_d1) transposes_S128x128x512_S128x512x128_0_2_1) shapeCasts_S128x512x128_S65536x128

/-- The values, from what the call leaves. -/
theorem tailV (W : Valuation τ sig (Elt Ideal)) :
    (StableHlo.after (List.flatten [hostOps1 (F := Ideal)]) W (Proc.devRef .tc main_v59) : S65536x128.Idx → EReal) = joined (W (Proc.devRef .tc main_v54_2)) (W (Proc.devRef .tc main_v54_3)) := by
  simp only [hostOps1, List.flatten_cons, List.flatten_nil, List.append_nil]
  after_results <;> rfl

/-- The rates, from what the call leaves. -/
theorem tailB (W : Valuation τ sig (Elt Ideal)) :
    (StableHlo.after (List.flatten [hostOps1 (F := Ideal)]) W (Proc.devRef .tc main_v60) : S65536x16.Idx → EReal)
      = extractStridedSlice S65536x16 ![0, 0] (W (Proc.devRef .tc main_v54_6) : S65536x128.Idx → EReal) slices_S65536x128_S65536x16_0_0 := by
  simp only [hostOps1, List.flatten_cons, List.flatten_nil, List.append_nil]
  after_results <;> rfl

/-- The first half of the values is there. -/
theorem left9 : (left m c (Proc.devRef .tc main_v54_2) : S128x80x512.Idx → EReal) = midA m c :=
  (Pipeline.withArrays_arr spec0 winFacts0.arr_inj c (V0 (F := Ideal) m c) (fun w => (dats m 0 c).arrAt w cfg0.N) 9).trans (final9 m c)
/-- The second half of the values is there. -/
theorem left10 : (left m c (Proc.devRef .tc main_v54_3) : S128x80x512.Idx → EReal) = midB m c :=
  (Pipeline.withArrays_arr spec0 winFacts0.arr_inj c (V0 (F := Ideal) m c) (fun w => (dats m 0 c).arrAt w cfg0.N) 10).trans (final10 m c)
/-- The rates are there. -/
theorem left13 : (left m c (Proc.devRef .tc main_v54_6) : S65536x128.Idx → EReal) = midR m c :=
  (Pipeline.withArrays_arr spec0 winFacts0.arr_inj c (V0 (F := Ideal) m c) (fun w => (dats m 0 c).arrAt w cfg0.N) 13).trans (final13 m c)

/-- The halves put together, at an entry. -/
theorem joined_at (u v : FVec Ideal S128x80x512 .bf16) (i : Fin 128) (r : Fin 512) (j : Fin 128) (t : Fin 65536) (ht : t.val = 512 * i.val + r.val) :
    joined u v (ix2 t j) = if h : j.val < 64 then u (ix3 i ⟨j.val, by omega⟩ r) else v (ix3 i ⟨j.val - 64, by omega⟩ r) := by
  have hj := j.isLt
  unfold joined
  refine (shapeCast_apply _ shapeCasts_S128x512x128_S65536x128 _ (ix3 i r j) ?_).trans ?_
  · rw [Shape.rowMajor_val_three, Shape.rowMajor_val_two]
    show (i.val * 512 + r.val) * 128 + j.val = t.val * 128 + j.val
    omega
  refine (transpose_apply [0, 2, 1] _ transposes_S128x128x512_S128x512x128_0_2_1 _ (ix3 i j r) fun a => ?_).trans ?_
  · match a with
    | ⟨0, _⟩ => rfl
    | ⟨1, _⟩ => rfl
    | ⟨2, _⟩ => rfl
  by_cases h : j.val < 64
  · rw [dif_pos h]
    refine (concatenate_apply_piece (t := S128x128x512) 1 _ _ (ix3 i j r) 0 (by show 0 < 2; omega) S128x64x512 _ rfl rfl 0 rfl (ix3 i (⟨j.val, h⟩ : Fin 64) r)
      (fun b hb => by match b with | ⟨0, _⟩ => rfl | ⟨1, _⟩ => exact absurd rfl hb | ⟨2, _⟩ => rfl) (by show 0 + j.val = j.val; omega)).trans ?_
    refine extractStridedSlice_apply _ u _ _ _ fun a => ?_
    match a with
    | ⟨0, _⟩ => show i.val = 0 + i.val; omega
    | ⟨1, _⟩ => show j.val = 0 + j.val; omega
    | ⟨2, _⟩ => show r.val = 0 + r.val; omega
  · rw [dif_neg h]
    refine (concatenate_apply_piece (t := S128x128x512) 1 _ _ (ix3 i j r) 1 (by show 1 < 2; omega) S128x64x512 _ rfl rfl 64 rfl (ix3 i (⟨j.val - 64, by omega⟩ : Fin 64) r)
      (fun b hb => by match b with | ⟨0, _⟩ => rfl | ⟨1, _⟩ => exact absurd rfl hb | ⟨2, _⟩ => rfl) (by show 64 + (j.val - 64) = j.val; omega)).trans ?_
    refine extractStridedSlice_apply _ v _ _ _ fun a => ?_
    match a with
    | ⟨0, _⟩ => show i.val = 0 + i.val; omega
    | ⟨1, _⟩ => show j.val - 64 = 0 + (j.val - 64); omega
    | ⟨2, _⟩ => show r.val = 0 + r.val; omega

/-- The values, after the host's last reshapes. -/
theorem finalV : Pipeline.afterTail₀ cfgs (dats m) 0 (V0 (F := Ideal) m) [hostOps1] c main_v59 = resV m c := by
  refine (tailV (left m c)).trans ?_
  rw [left9, left10]
  refine funext fun (z : S65536x128.Idx) => ?_
  obtain ⟨t, j, rfl⟩ : ∃ (t : Fin 65536) (j : Fin 128), z = ix2 t j := ⟨z 0, z 1, eq_ix2 z⟩
  obtain ⟨p, r, rfl⟩ : ∃ (p : Fin grid0.N) (r : Fin 512), t = row p r := ⟨at128 ⟨t.val / 512, by omega⟩, ⟨t.val % 512, Nat.mod_lt _ (by decide)⟩, Fin.ext (by show t.val = 512 * (t.val / 512) + t.val % 512; omega)⟩
  have e : grid0.N = 128 := N_0
  have hp := p.isLt
  have hj := j.isLt
  refine (joined_at (midA m c) (midB m c) ⟨p.val, by omega⟩ r j (row p r) rfl).trans ?_
  refine Eq.trans ?_ (Cert.InRef.v_at (a0 m c) (a1 m c) (a2 m c) (bat p) (pos p r) (row p r) (row_val p r) j).symm
  refine Eq.trans ?_ (wide_at m c p r ⟨640 + j.val, by omega⟩ ⟨640 + j.val, by omega⟩ rfl)
  by_cases h : j.val < 64
  · rw [dif_pos h]
    refine (midA_at m c p _ rfl _ r).trans ?_
    exact Cert.InBlock.out9_at (xb0 m c p) (xb1 m c p) (xb2 m c p) (xb3 m c p) (xb4 m c p) (xb5 m c p) (xb6 m c p) 0 ⟨j.val, by omega⟩ r h _ rfl
  · rw [dif_neg h]
    refine (midB_at m c p _ rfl _ r).trans ?_
    exact Cert.InBlock.out10_at (xb0 m c p) (xb1 m c p) (xb2 m c p) (xb3 m c p) (xb4 m c p) (xb5 m c p) (xb6 m c p) 0 ⟨j.val - 64, by omega⟩ r (by show j.val - 64 < 64; omega) _ (by show 640 + j.val = 704 + (j.val - 64); omega)

/-- The rates, after the host's last reshapes. -/
theorem finalB : Pipeline.afterTail₀ cfgs (dats m) 0 (V0 (F := Ideal) m) [hostOps1] c main_v60 = resB m c := by
  refine (tailB (left m c)).trans ?_
  rw [left13]
  refine funext fun (z : S65536x16.Idx) => ?_
  obtain ⟨t, j, rfl⟩ : ∃ (t : Fin 65536) (j : Fin 16), z = ix2 t j := ⟨z 0, z 1, eq_ix2 z⟩
  obtain ⟨p, r, rfl⟩ : ∃ (p : Fin grid0.N) (r : Fin 512), t = row p r := ⟨at128 ⟨t.val / 512, by omega⟩, ⟨t.val % 512, Nat.mod_lt _ (by decide)⟩, Fin.ext (by show t.val = 512 * (t.val / 512) + t.val % 512; omega)⟩
  have hj := j.isLt
  refine (At.cut (midR m c) slices_S65536x128_S65536x16_0_0 (row p r) j (row p r) ⟨j.val, by omega⟩ (Nat.zero_add _).symm (Nat.zero_add _).symm).trans ?_
  refine (outs13 m c p r ⟨j.val, by omega⟩).symm.trans ?_
  refine (Cert.InBlock.out13_at (xb0 m c p) (xb1 m c p) (xb2 m c p) (xb3 m c p) (xb4 m c p) (xb5 m c p) (xb6 m c p) r ⟨j.val, by omega⟩ ⟨2816 + j.val, by omega⟩ rfl).trans ?_
  exact (wide_at m c p r ⟨2816 + j.val, by omega⟩ _ rfl).trans (Cert.InRef.ba_at (a0 m c) (a1 m c) (a2 m c) (bat p) (pos p r) (row p r) (row_val p r) j).symm

end Cert.InValue

end
-- ==== Proof.InClaim.lean ====
/-
  The claims about the in-projection: it runs and keeps its arguments, and so does the reference, its named constant is what
  the kernel's literal rounds, and it ends with what the reference ends with, whatever the arguments.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.InValue
public import Idealize.ShloMosaic.Lib.Claim

@[expose] public section

noncomputable section

namespace Cert.InClaim

open Idealize.ShloMosaic Idealize.ShloMosaic.TcCoe Idealize.SL.Sem

/-- The in-projection's frame. -/
theorem frame_k : Cert.quiescent_Kernel3 (hKernel3 := Cert.Kernel3.Gen.facts) := fun m ρ _ => Cert.Kernel3.Gen.frame m ρ
/-- The frame of its idealization. -/
theorem frame_ki : Cert.quiescent_Kernel3Ideal (hKernel3Ideal := Cert.Kernel3Ideal.Gen.facts) := fun m ρ _ => Cert.Kernel3Ideal.Gen.frame m ρ
/-- The reference's frame. -/
theorem frame_r : Cert.quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems (by decide) r.2⟩) (Cert.Reference3Ideal.Value.run (F := Ideal) m ρ)

/-- The queries' scale, named: one over eight times the logarithm of two, which the kernel's literal rounds. -/
theorem kept : Cert.preserves_Kernel3_Kernel3Ideal :=
  IdealRules.named_const.statement Cert.Kernel3Ideal.κ "q_scale" .f32 0x3E38AA3B#32 (((8 * (Real.log 2))⁻¹ : ℝ) : EReal) rfl

/-- The in-projection's run, read: its results are the reference's, the arguments as launched. -/
theorem run_value (m : (ℓ : Loc Cert.Kernel3Ideal.nD Cert.Kernel3Ideal.τ Cert.Kernel3Ideal.sig) → Buf (Elt Ideal) ℓ) (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩ (fun r => ∀ c : Dev Cert.Kernel3Ideal.nD,
      r.2.mem ((c.tc : Thread Cert.Kernel3Ideal.nD Cert.Kernel3Ideal.τ).loc Cert.Kernel3Ideal.main_v54_0) = Cert.InValue.resQ m c
      ∧ r.2.mem ((c.tc : Thread Cert.Kernel3Ideal.nD Cert.Kernel3Ideal.τ).loc Cert.Kernel3Ideal.main_v54_1) = Cert.InValue.resK m c
      ∧ r.2.mem ((c.tc : Thread Cert.Kernel3Ideal.nD Cert.Kernel3Ideal.τ).loc Cert.Kernel3Ideal.main_v59) = Cert.InValue.resV m c
      ∧ r.2.mem ((c.tc : Thread Cert.Kernel3Ideal.nD Cert.Kernel3Ideal.τ).loc Cert.Kernel3Ideal.main_v54_4) = Cert.InValue.resD m c
      ∧ r.2.mem ((c.tc : Thread Cert.Kernel3Ideal.nD Cert.Kernel3Ideal.τ).loc Cert.Kernel3Ideal.main_v54_5) = Cert.InValue.resZ m c
      ∧ r.2.mem ((c.tc : Thread Cert.Kernel3Ideal.nD Cert.Kernel3Ideal.τ).loc Cert.Kernel3Ideal.main_v60) = Cert.InValue.resB m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)) := by
  refine (θ_run Cert.Kernel3Ideal.defs _ _).mono (fun _ hr c => ⟨?_, ?_, ?_, ?_, ?_, ?_, hr.1 c⟩) (θ_run_and (Cert.Kernel3Ideal.Gen.unchanged m ρ) (Cert.Kernel3Ideal.Gen.run_main m ρ))
  · exact ((hr.2 c).1 7).trans (Cert.InValue.final7 m c)
  · exact ((hr.2 c).1 8).trans (Cert.InValue.final8 m c)
  · exact ((hr.2 c).2 Cert.Kernel3Ideal.main_v59 (by decide)).trans (Cert.InValue.finalV m c)
  · exact ((hr.2 c).1 11).trans (Cert.InValue.final11 m c)
  · exact ((hr.2 c).1 12).trans (Cert.InValue.final12 m c)
  · exact ((hr.2 c).2 Cert.Kernel3Ideal.main_v60 (by decide)).trans (Cert.InValue.finalB m c)

/-- The in-projection and the reference end with equal results. -/
theorem value : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.InValue.resQ m c, fun c => Cert.InValue.resK m c, fun c => Cert.InValue.resV m c, fun c => Cert.InValue.resD m c, fun c => Cert.InValue.resZ m c, fun c => Cert.InValue.resB m c, run_value m ρ, ?_⟩
  refine (θ_run Cert.Reference3Ideal.defs _ _).mono (fun r h c => ⟨?_, ?_, ?_, ?_, ?_, ?_, (h c).2.2.2.2.2.2⟩) (Cert.Reference3Ideal.Value.run (F := Ideal) m' ρ')
  · refine (h c).1.trans ((Cert.Reference3Ideal.Read.val_main_v176_eq (F := Ideal) (StableHlo.launchContents m' c)).trans ?_)
    obtain ⟨h0, h1, h2, h3, h4⟩ := hagree c
    show Cert.Reference3Ideal.Read.val_main_v176 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
  · refine (h c).2.1.trans ((Cert.Reference3Ideal.Read.val_main_v178_eq (F := Ideal) (StableHlo.launchContents m' c)).trans ?_)
    obtain ⟨h0, h1, h2, h3, h4⟩ := hagree c
    show Cert.Reference3Ideal.Read.val_main_v178 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) = _
    rw [h0, h1, h2, h4]
  · refine (h c).2.2.1.trans ((Cert.Reference3Ideal.Read.val_main_v180_eq (F := Ideal) (StableHlo.launchContents m' c)).trans ?_)
    obtain ⟨h0, h1, h2, h3, h4⟩ := hagree c
    show Cert.Reference3Ideal.Read.val_main_v180 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
  · refine (h c).2.2.2.1.trans ((Cert.Reference3Ideal.Read.val_main_v182_eq (F := Ideal) (StableHlo.launchContents m' c)).trans ?_)
    obtain ⟨h0, h1, h2, h3, h4⟩ := hagree c
    show Cert.Reference3Ideal.Read.val_main_v182 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
  · refine (h c).2.2.2.2.1.trans ((Cert.Reference3Ideal.Read.val_main_v184_eq (F := Ideal) (StableHlo.launchContents m' c)).trans ?_)
    obtain ⟨h0, h1, h2, h3, h4⟩ := hagree c
    show Cert.Reference3Ideal.Read.val_main_v184 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
  · refine (h c).2.2.2.2.2.1.trans ((Cert.Reference3Ideal.Read.val_main_v186_eq (F := Ideal) (StableHlo.launchContents m' c)).trans ?_)
    obtain ⟨h0, h1, h2, h3, h4⟩ := hagree c
    show Cert.Reference3Ideal.Read.val_main_v186 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]

end Cert.InClaim

end
-- ==== Proof.lean ====
/-
  The certificate's claim: frames, idealization and value of the attention call, of the call after the token mixers, and
  of the in-projection.
-/
module

public import proofs.«01_k».proof.Defs
public import proofs.«01_k».proof.Proof.AttnClaim
public import proofs.«01_k».proof.Proof.PostClaim
public import proofs.«01_k».proof.Proof.InClaim

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    Cert.AttnClaim.frame_k, Cert.AttnClaim.frame_ki, Cert.AttnClaim.frame_kip, Cert.AttnClaim.frame_r, Cert.AttnClaim.frame_rp,
    Cert.PostClaim.frame_k, Cert.PostClaim.frame_ki, Cert.PostClaim.frame_r,
    Cert.InClaim.frame_k, Cert.InClaim.frame_ki, Cert.InClaim.frame_r,
    trivial, Cert.AttnClaim.value, trivial, Cert.PostClaim.value, Cert.InClaim.kept, Cert.InClaim.value⟩

end Cert.Proof

end
